-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7)
      ∧ r.2.mem ((c.tc : Thread Cert.FfnSRefIdeal.nD Cert.FfnSRefIdeal.τ).loc Cert.FfnSRefIdeal.main_arg8) = m ((c.tc : Thread Cert.FfnSRefIdeal.nD Cert.FfnSRefIdeal.τ).loc Cert.FfnSRefIdeal.main_arg8))
      ∧ r.2.sem = fun _ => 0)

def preserves_Attn_AttnIdeal : Prop :=
  IdealRules.named_const.Statement Cert.AttnIdeal.κ "neg_inf" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v12)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v34) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v13_0)) (v1 : (c : Dev Cert.FfnIdeal.nD) → Buf (Elt Ideal) ((c.tc : Thread Cert.FfnIdeal.nD Cert.FfnIdeal.τ).loc Cert.FfnIdeal.main_v13_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13_0) = v0 c
          ∧ r.2.mem ((c.tc : Thread Cert.FfnIdeal.nD Cert.FfnIdeal.τ).loc Cert.FfnIdeal.main_v13_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v81) = v0 c
          ∧ r.2.mem ((c.tc : Thread Cert.FfnRefIdeal.nD Cert.FfnRefIdeal.τ).loc Cert.FfnRefIdeal.main_v82) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v18_4)) (v5 : (c : Dev Cert.ProjIdeal.nD) → Buf (Elt Ideal) ((c.tc : Thread Cert.ProjIdeal.nD Cert.ProjIdeal.τ).loc Cert.ProjIdeal.main_v18_5)) (v6 : (c : Dev Cert.ProjIdeal.nD) → Buf (Elt Ideal) ((c.tc : Thread Cert.ProjIdeal.nD Cert.ProjIdeal.τ).loc Cert.ProjIdeal.main_v18_6)) (v7 : (c : Dev Cert.ProjIdeal.nD) → Buf (Elt Ideal) ((c.tc : Thread Cert.ProjIdeal.nD Cert.ProjIdeal.τ).loc Cert.ProjIdeal.main_v18_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_v18_3) = v3 c
          ∧ r.2.mem ((c.tc : Thread Cert.ProjIdeal.nD Cert.ProjIdeal.τ).loc Cert.ProjIdeal.main_v18_4) = v4 c
          ∧ r.2.mem ((c.tc : Thread Cert.ProjIdeal.nD Cert.ProjIdeal.τ).loc Cert.ProjIdeal.main_v18_5) = v5 c
          ∧ r.2.mem ((c.tc : Thread Cert.ProjIdeal.nD Cert.ProjIdeal.τ).loc Cert.ProjIdeal.main_v18_6) = v6 c
          ∧ r.2.mem ((c.tc : Thread Cert.ProjIdeal.nD Cert.ProjIdeal.τ).loc Cert.ProjIdeal.main_v18_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v18) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_v6) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v20) = v4 c
          ∧ r.2.mem ((c.tc : Thread Cert.ProjRefIdeal.nD Cert.ProjRefIdeal.τ).loc Cert.ProjRefIdeal.main_v12) = v5 c
          ∧ r.2.mem ((c.tc : Thread Cert.ProjRefIdeal.nD Cert.ProjRefIdeal.τ).loc Cert.ProjRefIdeal.main_v15) = v6 c
          ∧ r.2.mem ((c.tc : Thread Cert.ProjRefIdeal.nD Cert.ProjRefIdeal.τ).loc Cert.ProjRefIdeal.main_v21) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v17_0)) (v1 : (c : Dev Cert.ProjSIdeal.nD) → Buf (Elt Ideal) ((c.tc : Thread Cert.ProjSIdeal.nD Cert.ProjSIdeal.τ).loc Cert.ProjSIdeal.main_v17_1)) (v2 : (c : Dev Cert.ProjSIdeal.nD) → Buf (Elt Ideal) ((c.tc : Thread Cert.ProjSIdeal.nD Cert.ProjSIdeal.τ).loc Cert.ProjSIdeal.main_v17_2)) (v3 : (c : Dev Cert.ProjSIdeal.nD) → Buf (Elt Ideal) ((c.tc : Thread Cert.ProjSIdeal.nD Cert.ProjSIdeal.τ).loc Cert.ProjSIdeal.main_v17_3)) (v4 : (c : Dev Cert.ProjSIdeal.nD) → Buf (Elt Ideal) ((c.tc : Thread Cert.ProjSIdeal.nD Cert.ProjSIdeal.τ).loc Cert.ProjSIdeal.main_v17_4)) (v5 : (c : Dev Cert.ProjSIdeal.nD) → Buf (Elt Ideal) ((c.tc : Thread Cert.ProjSIdeal.nD Cert.ProjSIdeal.τ).loc Cert.ProjSIdeal.main_v17_5)) (v6 : (c : Dev Cert.ProjSIdeal.nD) → Buf (Elt Ideal) ((c.tc : Thread Cert.ProjSIdeal.nD Cert.ProjSIdeal.τ).loc Cert.ProjSIdeal.main_v17_6)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v17_0) = v0 c
          ∧ r.2.mem ((c.tc : Thread Cert.ProjSIdeal.nD Cert.ProjSIdeal.τ).loc Cert.ProjSIdeal.main_v17_1) = v1 c
          ∧ r.2.mem ((c.tc : Thread Cert.ProjSIdeal.nD Cert.ProjSIdeal.τ).loc Cert.ProjSIdeal.main_v17_2) = v2 c
          ∧ r.2.mem ((c.tc : Thread Cert.ProjSIdeal.nD Cert.ProjSIdeal.τ).loc Cert.ProjSIdeal.main_v17_3) = v3 c
          ∧ r.2.mem ((c.tc : Thread Cert.ProjSIdeal.nD Cert.ProjSIdeal.τ).loc Cert.ProjSIdeal.main_v17_4) = v4 c
          ∧ r.2.mem ((c.tc : Thread Cert.ProjSIdeal.nD Cert.ProjSIdeal.τ).loc Cert.ProjSIdeal.main_v17_5) = v5 c
          ∧ r.2.mem ((c.tc : Thread Cert.ProjSIdeal.nD Cert.ProjSIdeal.τ).loc Cert.ProjSIdeal.main_v17_6) = v6 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v16) = v0 c
          ∧ r.2.mem ((c.tc : Thread Cert.ProjSRefIdeal.nD Cert.ProjSRefIdeal.τ).loc Cert.ProjSRefIdeal.main_v4) = v1 c
          ∧ r.2.mem ((c.tc : Thread Cert.ProjSRefIdeal.nD Cert.ProjSRefIdeal.τ).loc Cert.ProjSRefIdeal.main_v5) = v2 c
          ∧ r.2.mem ((c.tc : Thread Cert.ProjSRefIdeal.nD Cert.ProjSRefIdeal.τ).loc Cert.ProjSRefIdeal.main_v17) = v3 c
          ∧ r.2.mem ((c.tc : Thread Cert.ProjSRefIdeal.nD Cert.ProjSRefIdeal.τ).loc Cert.ProjSRefIdeal.main_v18) = v4 c
          ∧ r.2.mem ((c.tc : Thread Cert.ProjSRefIdeal.nD Cert.ProjSRefIdeal.τ).loc Cert.ProjSRefIdeal.main_v11) = v5 c
          ∧ r.2.mem ((c.tc : Thread Cert.ProjSRefIdeal.nD Cert.ProjSRefIdeal.τ).loc Cert.ProjSRefIdeal.main_v13) = v6 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)
      ∧ m' ((c.tc : Thread Cert.FfnSRefIdeal.nD Cert.FfnSRefIdeal.τ).loc Cert.FfnSRefIdeal.main_arg8) = m ((c.tc : Thread Cert.FfnSIdeal.nD Cert.FfnSIdeal.τ).loc Cert.FfnSIdeal.main_arg8)) →
    ∃ (v0 : (c : Dev Cert.FfnSIdeal.nD) → Buf (Elt Ideal) ((c.tc : Thread Cert.FfnSIdeal.nD Cert.FfnSIdeal.τ).loc Cert.FfnSIdeal.main_v14_0)) (v1 : (c : Dev Cert.FfnSIdeal.nD) → Buf (Elt Ideal) ((c.tc : Thread Cert.FfnSIdeal.nD Cert.FfnSIdeal.τ).loc Cert.FfnSIdeal.main_v14_1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v14_0) = v0 c
          ∧ r.2.mem ((c.tc : Thread Cert.FfnSIdeal.nD Cert.FfnSIdeal.τ).loc Cert.FfnSIdeal.main_v14_1) = v1 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v83) = v0 c
          ∧ r.2.mem ((c.tc : Thread Cert.FfnSRefIdeal.nD Cert.FfnSRefIdeal.τ).loc Cert.FfnSRefIdeal.main_v84) = v1 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7)
          ∧ r.2.mem ((c.tc : Thread Cert.FfnSRefIdeal.nD Cert.FfnSRefIdeal.τ).loc Cert.FfnSRefIdeal.main_arg8) = m' ((c.tc : Thread Cert.FfnSRefIdeal.nD Cert.FfnSRefIdeal.τ).loc Cert.FfnSRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hFfnS : Cert.FfnS.Facts) (hFfnSIdeal : Cert.FfnSIdeal.Facts) (hFfnSRefIdeal : Cert.FfnSRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_FfnS_FfnSIdeal
    ∧ algebraic_FfnSIdeal_FfnSRefIdeal (hFfnSIdeal := hFfnSIdeal) (hFfnSRefIdeal := hFfnSRefIdeal)
-- ==== Pre_finite_scores.lean ====
abbrev S8x2048x8x64 : Shape := ⟨4, ![8, 2048, 8, 64]⟩
abbrev S8x2048x8 : Shape := ⟨3, ![8, 2048, 8]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : FVec F S8x2048x8x64 .f32) (main_arg1 : FVec F S8x2048x8x64 .f32) (main_arg2 : FVec F S8x2048x8x64 .f32) (main_arg3 : FVec F S8x2048x8 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x2048x8 .f32 := Host.absf main_arg3
  let main_cst_2 : FVec F S_ .f32 := constant S_ .f32 0x7F800000#32
  let main_v10 : FVec F S8x2048x8 .f32 := broadcastInDim S8x2048x8 ![] bcast_S_S8x2048x8 main_cst_2
  let main_v11 : IVec S8x2048x8 1 := cmpf .olt main_v9 main_v10
  let main_c_3 : IVec S_ 1 := constantI S_ 1 1#1
  let main_v12 : IVec S_ 1 := (fun x v => Host.reduce IntOp.andi x v reducesTo_S8x2048x8_S_d0_1_2 h_S_) main_v11 main_c_3
  let main_v13 : IVec S_ 1 := andi main_v8 main_v12
  main_v13
-- ==== Attn.lean ====
abbrev S8x2048x8x64 : Shape := ⟨4, ![8, 2048, 8, 64]⟩
abbrev S8x2048x8 : Shape := ⟨3, ![8, 2048, 8]⟩
abbrev S8x2048x512 : Shape := ⟨3, ![8, 2048, 512]⟩
abbrev S_ : Shape := ⟨0, ![]⟩
abbrev S8x2048x128 : Shape := ⟨3, ![8, 2048, 128]⟩
abbrev S8x8x2048 : Shape := ⟨3, ![8, 8, 2048]⟩
abbrev S8x8x64x2048 : Shape := ⟨4, ![8, 8, 64, 2048]⟩
abbrev S8x512x2048 : Shape := ⟨3, ![8, 512, 2048]⟩
abbrev S1x256x512 : Shape := ⟨3, ![1, 256, 512]⟩
abbrev S1x512x2048 : Shape := ⟨3, ![1, 512, 2048]⟩
abbrev S1x2048x128 : Shape := ⟨3, ![1, 2048, 128]⟩
abbrev S1x8x2048 : Shape := ⟨3, ![1, 8, 2048]⟩
abbrev S2048x128 : Shape := ⟨2, ![2048, 128]⟩
abbrev S8x2048 : Shape := ⟨2, ![8, 2048]⟩
abbrev S256x128 : Shape := ⟨2, ![256, 128]⟩
abbrev S1x128 : Shape := ⟨2, ![1, 128]⟩
abbrev S256x256 : Shape := ⟨2, ![256, 256]⟩
abbrev S1x256x128 : Shape := ⟨3, ![1, 256, 128]⟩
abbrev S256x1 : Shape := ⟨2, ![256, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S8x2048x512, .f32⟩
  | .hbm, ⟨5, _⟩ => ⟨S_, .f32⟩
  | .hbm, ⟨6, _⟩ => ⟨S8x2048x512, .f32⟩
  | .hbm, ⟨7, _⟩ => ⟨S8x2048x512, .f32⟩
  | .hbm, ⟨8, _⟩ => ⟨S8x2048x512, .bf16⟩
  | .hbm, ⟨9, _⟩ => ⟨S_, .i32⟩
  | .hbm, ⟨10, _⟩ => ⟨S_, .f32⟩
  | .hbm, ⟨11, _⟩ => ⟨S8x2048x128, .f32⟩
  | .hbm, ⟨12, _⟩ => ⟨S8x8x2048, .f32⟩
  | .hbm, ⟨13, _⟩ => ⟨S8x8x64x2048, .f32⟩
  | .hbm, ⟨14, _⟩ => ⟨S8x512x2048, .f32⟩
  | .hbm, ⟨15, _⟩ => ⟨S8x512x2048, .bf16⟩
  | .hbm, ⟨16, _⟩ => ⟨S8x8x64x2048, .f32⟩
  | .hbm, ⟨17, _⟩ => ⟨S8x512x2048, .f32⟩
  | .hbm, ⟨18, _⟩ => ⟨S8x512x2048, .bf16⟩
  | .hbm, ⟨19, _⟩ => ⟨S8x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x128, .f32⟩
  | .local _ .vmem, ⟨7, _⟩ => ⟨S1x2048x128, .f32⟩
  | .local _ .vmem, ⟨8, _⟩ => ⟨S1x8x2048, .f32⟩
  | .local _ .vmem, ⟨9, _⟩ => ⟨S1x8x2048, .f32⟩
  | .local _ .vmem, ⟨10, _⟩ => ⟨S1x256x512, .bf16⟩
  | .local _ .vmem, ⟨11, _⟩ => ⟨S1x256x512, .bf16⟩
  | .local _ .vmem, ⟨12, _⟩ => ⟨S2048x128, .f32⟩
  | .local _ .vmem, ⟨13, _⟩ => ⟨S8x2048, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
@[reducible] def k0_t1_loop (i : grid0.Coords) : Scf.Loop 32 :=
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let c1_i32_10 : BitVec 32 := 1#32
  ⟨c0_i32_9, v33, c1_i32_10⟩
def k0_mult2 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c256_i32_121 : BitVec 32 := 256#32
  let v405 : BitVec 32 := Scalar.muli arg10 c256_i32_121
  v405
def k0_off2 (i : grid0.Coords) (k0_t1 : Fin (k0_t1_loop i).trips) : Fin 3 → Nat :=
  let c0_122 : Index := 0#32
  let c0_123 : Index := 0#32
  let c0_i32_9 : BitVec 32 := 0#32
  let c1_i32_10 : BitVec 32 := 1#32
  let arg10 : BitVec 32 := Scf.iv c0_i32_9 c1_i32_10 k0_t1
  let c256_i32_121 : BitVec 32 := 256#32
  let v405 : BitVec 32 := Scalar.muli arg10 c256_i32_121
  let v406 : BitVec 32 := v405
  let v407 : Index := Scalar.indexCast v406
  ![0, 0, v407.toNat]
def k0_off3 (i : grid0.Coords) (k0_t1 : Fin (k0_t1_loop i).trips) : Fin 2 → Nat :=
  let c0_127 : Index := 0#32
  let c0_i32_9 : BitVec 32 := 0#32
  let c1_i32_10 : BitVec 32 := 1#32
  let arg10 : BitVec 32 := Scf.iv c0_i32_9 c1_i32_10 k0_t1
  let c256_i32_121 : BitVec 32 := 256#32
  let v405 : BitVec 32 := Scalar.muli arg10 c256_i32_121
  let v406 : BitVec 32 := v405
  let v416 : Index := Scalar.indexCast v406
  ![0, v416.toNat]
def k0_off4 (i : grid0.Coords) (k0_t1 : Fin (k0_t1_loop i).trips) : Fin 2 → Nat :=
  let c1_132 : Index := 1#32
  let c0_i32_9 : BitVec 32 := 0#32
  let c1_i32_10 : BitVec 32 := 1#32
  let arg10 : BitVec 32 := Scf.iv c0_i32_9 c1_i32_10 k0_t1
  let c256_i32_121 : BitVec 32 := 256#32
  let v405 : BitVec 32 := Scalar.muli arg10 c256_i32_121
  let v406 : BitVec 32 := v405
  let v440 : Index := Scalar.indexCast v406
  ![1, v440.toNat]
@[reducible] def k0_t2_loop (i : grid0.Coords) : Scf.Loop 32 :=
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let v30 : BitVec 32 := Scalar.addi c0_i32_9 v29
  let c1_i32_11 : BitVec 32 := 1#32
  ⟨v33, v30, c1_i32_11⟩
def k0_mult3 (i : grid0.Coords) (k0_t2 : Fin (k0_t2_loop i).trips) : BitVec 32 :=
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let c1_i32_11 : BitVec 32 := 1#32
  let arg10 : BitVec 32 := Scf.iv v33 c1_i32_11 k0_t2
  let c256_i32_121 : BitVec 32 := 256#32
  let v405 : BitVec 32 := Scalar.muli arg10 c256_i32_121
  v405
def k0_off5 (i : grid0.Coords) (k0_t2 : Fin (k0_t2_loop i).trips) : Fin 3 → Nat :=
  let c0_122 : Index := 0#32
  let c0_123 : Index := 0#32
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let c1_i32_11 : BitVec 32 := 1#32
  let arg10 : BitVec 32 := Scf.iv v33 c1_i32_11 k0_t2
  let c256_i32_121 : BitVec 32 := 256#32
  let v405 : BitVec 32 := Scalar.muli arg10 c256_i32_121
  let v406 : BitVec 32 := v405
  let v407 : Index := Scalar.indexCast v406
  ![0, 0, v407.toNat]
def k0_off6 (i : grid0.Coords) (k0_t2 : Fin (k0_t2_loop i).trips) : Fin 2 → Nat :=
  let c0_127 : Index := 0#32
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let c1_i32_11 : BitVec 32 := 1#32
  let arg10 : BitVec 32 := Scf.iv v33 c1_i32_11 k0_t2
  let c256_i32_121 : BitVec 32 := 256#32
  let v405 : BitVec 32 := Scalar.muli arg10 c256_i32_121
  let v406 : BitVec 32 := v405
  let v416 : Index := Scalar.indexCast v406
  ![0, v416.toNat]
def k0_off7 (i : grid0.Coords) (k0_t2 : Fin (k0_t2_loop i).trips) : Fin 2 → Nat :=
  let c1_132 : Index := 1#32
  let c0_i32_9 : BitVec 32 := 0#32
  let arg1 : BitVec 32 := BitVec.ofNat 32 (i 1).val
  let v29 : BitVec 32 := Scalar.subi arg1 c0_i32_9
  let c1_i32 : BitVec 32 := 1#32
  let v31 : BitVec 32 := Scalar.divsi v29 c1_i32
  let v32 : BitVec 32 := Scalar.muli v31 c1_i32
  let v33 : BitVec 32 := Scalar.addi c0_i32_9 v32
  let c1_i32_11 : BitVec 32 := 1#32
  let arg10 : BitVec 32 := Scf.iv v33 c1_i32_11 k0_t2
  let c256_i32_121 : BitVec 32 := 256#32
  let v405 : BitVec 32 := Scalar.muli arg10 c256_i32_121
  let v406 : BitVec 32 := v405
  let v440 : Index := Scalar.indexCast v406
  ![1, v440.toNat]
def k0_mult4 (i : grid0.Coords) : BitVec 32 :=
  let arg1 : BitVec 32 := BitVec.ofNat 32 (i 1).val
  let c256_i32_12 : BitVec 32 := 256#32
  let v36 : BitVec 32 := Scalar.muli arg1 c256_i32_12
  v36
def k0_off8 (i : grid0.Coords) : Fin 3 → Nat :=
  let c0_13 : Index := 0#32
  let c0_14 : Index := 0#32
  let arg1 : BitVec 32 := BitVec.ofNat 32 (i 1).val
  let c256_i32_12 : BitVec 32 := 256#32
  let v36 : BitVec 32 := Scalar.muli arg1 c256_i32_12
  let v37 : BitVec 32 := v36
  let v38 : Index := Scalar.indexCast v37
  ![0, 0, v38.toNat]
def k0_off9 (i : grid0.Coords) : Fin 2 → Nat :=
  let c0_18 : Index := 0#32
  let arg1 : BitVec 32 := BitVec.ofNat 32 (i 1).val
  let c256_i32_12 : BitVec 32 := 256#32
  let v36 : BitVec 32 := Scalar.muli arg1 c256_i32_12
  let v37 : BitVec 32 := v36
  let v47 : Index := Scalar.indexCast v37
  ![0, v47.toNat]
def k0_off10 (i : grid0.Coords) : Fin 2 → Nat :=
  let c1 : Index := 1#32
  let arg1 : BitVec 32 := BitVec.ofNat 32 (i 1).val
  let c256_i32_12 : BitVec 32 := 256#32
  let v36 : BitVec 32 := Scalar.muli arg1 c256_i32_12
  let v37 : BitVec 32 := v36
  let v73 : Index := Scalar.indexCast v37
  ![1, v73.toNat]
@[reducible] def k0_t3_loop (i : grid0.Coords) : Scf.Loop 32 :=
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let c1_i32_41 : BitVec 32 := 1#32
  ⟨c0_i32_39, v131, c1_i32_41⟩
def k0_mult5 (i : grid0.Coords) (k0_t3 : Fin (k0_t3_loop i).trips) : BitVec 32 :=
  let c0_i32_39 : BitVec 32 := 0#32
  let c1_i32_41 : BitVec 32 := 1#32
  let arg10 : BitVec 32 := Scf.iv c0_i32_39 c1_i32_41 k0_t3
  let c256_i32_121 : BitVec 32 := 256#32
  let v405 : BitVec 32 := Scalar.muli arg10 c256_i32_121
  v405
def k0_off11 (i : grid0.Coords) (k0_t3 : Fin (k0_t3_loop i).trips) : Fin 3 → Nat :=
  let c0_122 : Index := 0#32
  let c128_123 : Index := 128#32
  let c0_i32_39 : BitVec 32 := 0#32
  let c1_i32_41 : BitVec 32 := 1#32
  let arg10 : BitVec 32 := Scf.iv c0_i32_39 c1_i32_41 k0_t3
  let c256_i32_121 : BitVec 32 := 256#32
  let v405 : BitVec 32 := Scalar.muli arg10 c256_i32_121
  let v406 : BitVec 32 := v405
  let v407 : Index := Scalar.indexCast v406
  ![0, 128, v407.toNat]
def k0_off12 (i : grid0.Coords) (k0_t3 : Fin (k0_t3_loop i).trips) : Fin 2 → Nat :=
  let c2_127 : Index := 2#32
  let c0_i32_39 : BitVec 32 := 0#32
  let c1_i32_41 : BitVec 32 := 1#32
  let arg10 : BitVec 32 := Scf.iv c0_i32_39 c1_i32_41 k0_t3
  let c256_i32_121 : BitVec 32 := 256#32
  let v405 : BitVec 32 := Scalar.muli arg10 c256_i32_121
  let v406 : BitVec 32 := v405
  let v416 : Index := Scalar.indexCast v406
  ![2, v416.toNat]
def k0_off13 (i : grid0.Coords) (k0_t3 : Fin (k0_t3_loop i).trips) : Fin 2 → Nat :=
  let c3_132 : Index := 3#32
  let c0_i32_39 : BitVec 32 := 0#32
  let c1_i32_41 : BitVec 32 := 1#32
  let arg10 : BitVec 32 := Scf.iv c0_i32_39 c1_i32_41 k0_t3
  let c256_i32_121 : BitVec 32 := 256#32
  let v405 : BitVec 32 := Scalar.muli arg10 c256_i32_121
  let v406 : BitVec 32 := v405
  let v440 : Index := Scalar.indexCast v406
  ![3, v440.toNat]
@[reducible] def k0_t4_loop (i : grid0.Coords) : Scf.Loop 32 :=
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let v128 : BitVec 32 := Scalar.addi c0_i32_39 v127
  let c1_i32_42 : BitVec 32 := 1#32
  ⟨v131, v128, c1_i32_42⟩
def k0_mult6 (i : grid0.Coords) (k0_t4 : Fin (k0_t4_loop i).trips) : BitVec 32 :=
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let c1_i32_42 : BitVec 32 := 1#32
  let arg10 : BitVec 32 := Scf.iv v131 c1_i32_42 k0_t4
  let c256_i32_121 : BitVec 32 := 256#32
  let v405 : BitVec 32 := Scalar.muli arg10 c256_i32_121
  v405
def k0_off14 (i : grid0.Coords) (k0_t4 : Fin (k0_t4_loop i).trips) : Fin 3 → Nat :=
  let c0_122 : Index := 0#32
  let c128_123 : Index := 128#32
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let c1_i32_42 : BitVec 32 := 1#32
  let arg10 : BitVec 32 := Scf.iv v131 c1_i32_42 k0_t4
  let c256_i32_121 : BitVec 32 := 256#32
  let v405 : BitVec 32 := Scalar.muli arg10 c256_i32_121
  let v406 : BitVec 32 := v405
  let v407 : Index := Scalar.indexCast v406
  ![0, 128, v407.toNat]
def k0_off15 (i : grid0.Coords) (k0_t4 : Fin (k0_t4_loop i).trips) : Fin 2 → Nat :=
  let c2_127 : Index := 2#32
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let c1_i32_42 : BitVec 32 := 1#32
  let arg10 : BitVec 32 := Scf.iv v131 c1_i32_42 k0_t4
  let c256_i32_121 : BitVec 32 := 256#32
  let v405 : BitVec 32 := Scalar.muli arg10 c256_i32_121
  let v406 : BitVec 32 := v405
  let v416 : Index := Scalar.indexCast v406
  ![2, v416.toNat]
def k0_off16 (i : grid0.Coords) (k0_t4 : Fin (k0_t4_loop i).trips) : Fin 2 → Nat :=
  let c3_132 : Index := 3#32
  let c0_i32_39 : BitVec 32 := 0#32
  let arg1 : BitVec 32 := BitVec.ofNat 32 (i 1).val
  let v127 : BitVec 32 := Scalar.subi arg1 c0_i32_39
  let c1_i32_40 : BitVec 32 := 1#32
  let v129 : BitVec 32 := Scalar.divsi v127 c1_i32_40
  let v130 : BitVec 32 := Scalar.muli v129 c1_i32_40
  let v131 : BitVec 32 := Scalar.addi c0_i32_39 v130
  let c1_i32_42 : BitVec 32 := 1#32
  let arg10 : BitVec 32 := Scf.iv v131 c1_i32_42 k0_t4
  let c256_i32_121 : BitVec 32 := 256#32
  let v405 : BitVec 32 := Scalar.muli arg10 c256_i32_121
  let v406 : BitVec 32 := v405
  let v440 : Index := Scalar.indexCast v406
  ![3, v440.toNat]
def k0_mult7 (i : grid0.Coords) : BitVec 32 :=
  let arg1 : BitVec 32 := BitVec.ofNat 32 (i 1).val
  let c256_i32_43 : BitVec 32 := 256#32
  let v134 : BitVec 32 := Scalar.muli arg1 c256_i32_43
  v134
def k0_off17 (i : grid0.Coords) : Fin 3 → Nat :=
  let c0_44 : Index := 0#32
  let c128_45 : Index := 128#32
  let arg1 : BitVec 32 := BitVec.ofNat 32 (i 1).val
  let c256_i32_43 : BitVec 32 := 256#32
  let v134 : BitVec 32 := Scalar.muli arg1 c256_i32_43
  let v135 : BitVec 32 := v134
  let v136 : Index := Scalar.indexCast v135
  ![0, 128, v136.toNat]
def k0_off18 (i : grid0.Coords) : Fin 2 → Nat :=
  let c2 : Index := 2#32
  let arg1 : BitVec 32 := BitVec.ofNat 32 (i 1).val
  let c256_i32_43 : BitVec 32 := 256#32
  let v134 : BitVec 32 := Scalar.muli arg1 c256_i32_43
  let v135 : BitVec 32 := v134
  let v145 : Index := Scalar.indexCast v135
  ![2, v145.toNat]
def k0_off19 (i : grid0.Coords) : Fin 2 → Nat :=
  let c3 : Index := 3#32
  let arg1 : BitVec 32 := BitVec.ofNat 32 (i 1).val
  let c256_i32_43 : BitVec 32 := 256#32
  let v134 : BitVec 32 := Scalar.muli arg1 c256_i32_43
  let v135 : BitVec 32 := v134
  let v171 : Index := Scalar.indexCast v135
  ![3, v171.toNat]
@[reducible] def k0_t5_loop (i : grid0.Coords) : Scf.Loop 32 :=
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let c1_i32_71 : BitVec 32 := 1#32
  ⟨c0_i32_69, v229, c1_i32_71⟩
def k0_mult8 (i : grid0.Coords) (k0_t5 : Fin (k0_t5_loop i).trips) : BitVec 32 :=
  let c0_i32_69 : BitVec 32 := 0#32
  let c1_i32_71 : BitVec 32 := 1#32
  let arg10 : BitVec 32 := Scf.iv c0_i32_69 c1_i32_71 k0_t5
  let c256_i32_121 : BitVec 32 := 256#32
  let v405 : BitVec 32 := Scalar.muli arg10 c256_i32_121
  v405
def k0_off20 (i : grid0.Coords) (k0_t5 : Fin (k0_t5_loop i).trips) : Fin 3 → Nat :=
  let c0_122 : Index := 0#32
  let c256_123 : Index := 256#32
  let c0_i32_69 : BitVec 32 := 0#32
  let c1_i32_71 : BitVec 32 := 1#32
  let arg10 : BitVec 32 := Scf.iv c0_i32_69 c1_i32_71 k0_t5
  let c256_i32_121 : BitVec 32 := 256#32
  let v405 : BitVec 32 := Scalar.muli arg10 c256_i32_121
  let v406 : BitVec 32 := v405
  let v407 : Index := Scalar.indexCast v406
  ![0, 256, v407.toNat]
def k0_off21 (i : grid0.Coords) (k0_t5 : Fin (k0_t5_loop i).trips) : Fin 2 → Nat :=
  let c4_127 : Index := 4#32
  let c0_i32_69 : BitVec 32 := 0#32
  let c1_i32_71 : BitVec 32 := 1#32
  let arg10 : BitVec 32 := Scf.iv c0_i32_69 c1_i32_71 k0_t5
  let c256_i32_121 : BitVec 32 := 256#32
  let v405 : BitVec 32 := Scalar.muli arg10 c256_i32_121
  let v406 : BitVec 32 := v405
  let v416 : Index := Scalar.indexCast v406
  ![4, v416.toNat]
def k0_off22 (i : grid0.Coords) (k0_t5 : Fin (k0_t5_loop i).trips) : Fin 2 → Nat :=
  let c5_132 : Index := 5#32
  let c0_i32_69 : BitVec 32 := 0#32
  let c1_i32_71 : BitVec 32 := 1#32
  let arg10 : BitVec 32 := Scf.iv c0_i32_69 c1_i32_71 k0_t5
  let c256_i32_121 : BitVec 32 := 256#32
  let v405 : BitVec 32 := Scalar.muli arg10 c256_i32_121
  let v406 : BitVec 32 := v405
  let v440 : Index := Scalar.indexCast v406
  ![5, v440.toNat]
@[reducible] def k0_t6_loop (i : grid0.Coords) : Scf.Loop 32 :=
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let v226 : BitVec 32 := Scalar.addi c0_i32_69 v225
  let c1_i32_72 : BitVec 32 := 1#32
  ⟨v229, v226, c1_i32_72⟩
def k0_mult9 (i : grid0.Coords) (k0_t6 : Fin (k0_t6_loop i).trips) : BitVec 32 :=
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let c1_i32_72 : BitVec 32 := 1#32
  let arg10 : BitVec 32 := Scf.iv v229 c1_i32_72 k0_t6
  let c256_i32_121 : BitVec 32 := 256#32
  let v405 : BitVec 32 := Scalar.muli arg10 c256_i32_121
  v405
def k0_off23 (i : grid0.Coords) (k0_t6 : Fin (k0_t6_loop i).trips) : Fin 3 → Nat :=
  let c0_122 : Index := 0#32
  let c256_123 : Index := 256#32
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let c1_i32_72 : BitVec 32 := 1#32
  let arg10 : BitVec 32 := Scf.iv v229 c1_i32_72 k0_t6
  let c256_i32_121 : BitVec 32 := 256#32
  let v405 : BitVec 32 := Scalar.muli arg10 c256_i32_121
  let v406 : BitVec 32 := v405
  let v407 : Index := Scalar.indexCast v406
  ![0, 256, v407.toNat]
def k0_off24 (i : grid0.Coords) (k0_t6 : Fin (k0_t6_loop i).trips) : Fin 2 → Nat :=
  let c4_127 : Index := 4#32
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let c1_i32_72 : BitVec 32 := 1#32
  let arg10 : BitVec 32 := Scf.iv v229 c1_i32_72 k0_t6
  let c256_i32_121 : BitVec 32 := 256#32
  let v405 : BitVec 32 := Scalar.muli arg10 c256_i32_121
  let v406 : BitVec 32 := v405
  let v416 : Index := Scalar.indexCast v406
  ![4, v416.toNat]
def k0_off25 (i : grid0.Coords) (k0_t6 : Fin (k0_t6_loop i).trips) : Fin 2 → Nat :=
  let c5_132 : Index := 5#32
  let c0_i32_69 : BitVec 32 := 0#32
  let arg1 : BitVec 32 := BitVec.ofNat 32 (i 1).val
  let v225 : BitVec 32 := Scalar.subi arg1 c0_i32_69
  let c1_i32_70 : BitVec 32 := 1#32
  let v227 : BitVec 32 := Scalar.divsi v225 c1_i32_70
  let v228 : BitVec 32 := Scalar.muli v227 c1_i32_70
  let v229 : BitVec 32 := Scalar.addi c0_i32_69 v228
  let c1_i32_72 : BitVec 32 := 1#32
  let arg10 : BitVec 32 := Scf.iv v229 c1_i32_72 k0_t6
  let c256_i32_121 : BitVec 32 := 256#32
  let v405 : BitVec 32 := Scalar.muli arg10 c256_i32_121
  let v406 : BitVec 32 := v405
  let v440 : Index := Scalar.indexCast v406
  ![5, v440.toNat]
def k0_mult10 (i : grid0.Coords) : BitVec 32 :=
  let arg1 : BitVec 32 := BitVec.ofNat 32 (i 1).val
  let c256_i32_73 : BitVec 32 := 256#32
  let v232 : BitVec 32 := Scalar.muli arg1 c256_i32_73
  v232
def k0_off26 (i : grid0.Coords) : Fin 3 → Nat :=
  let c0_74 : Index := 0#32
  let c256_75 : Index := 256#32
  let arg1 : BitVec 32 := BitVec.ofNat 32 (i 1).val
  let c256_i32_73 : BitVec 32 := 256#32
  let v232 : BitVec 32 := Scalar.muli arg1 c256_i32_73
  let v233 : BitVec 32 := v232
  let v234 : Index := Scalar.indexCast v233
  ![0, 256, v234.toNat]
def k0_off27 (i : grid0.Coords) : Fin 2 → Nat :=
  let c4 : Index := 4#32
  let arg1 : BitVec 32 := BitVec.ofNat 32 (i 1).val
  let c256_i32_73 : BitVec 32 := 256#32
  let v232 : BitVec 32 := Scalar.muli arg1 c256_i32_73
  let v233 : BitVec 32 := v232
  let v243 : Index := Scalar.indexCast v233
  ![4, v243.toNat]
def k0_off28 (i : grid0.Coords) : Fin 2 → Nat :=
  let c5 : Index := 5#32
  let arg1 : BitVec 32 := BitVec.ofNat 32 (i 1).val
  let c256_i32_73 : BitVec 32 := 256#32
  let v232 : BitVec 32 := Scalar.muli arg1 c256_i32_73
  let v233 : BitVec 32 := v232
  let v269 : Index := Scalar.indexCast v233
  ![5, v269.toNat]
@[reducible] def k0_t7_loop (i : grid0.Coords) : Scf.Loop 32 :=
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let c1_i32_101 : BitVec 32 := 1#32
  ⟨c0_i32_99, v327, c1_i32_101⟩
def k0_mult11 (i : grid0.Coords) (k0_t7 : Fin (k0_t7_loop i).trips) : BitVec 32 :=
  let c0_i32_99 : BitVec 32 := 0#32
  let c1_i32_101 : BitVec 32 := 1#32
  let arg10 : BitVec 32 := Scf.iv c0_i32_99 c1_i32_101 k0_t7
  let c256_i32_121 : BitVec 32 := 256#32
  let v405 : BitVec 32 := Scalar.muli arg10 c256_i32_121
  v405
def k0_off29 (i : grid0.Coords) (k0_t7 : Fin (k0_t7_loop i).trips) : Fin 3 → Nat :=
  let c0_122 : Index := 0#32
  let c384_123 : Index := 384#32
  let c0_i32_99 : BitVec 32 := 0#32
  let c1_i32_101 : BitVec 32 := 1#32
  let arg10 : BitVec 32 := Scf.iv c0_i32_99 c1_i32_101 k0_t7
  let c256_i32_121 : BitVec 32 := 256#32
  let v405 : BitVec 32 := Scalar.muli arg10 c256_i32_121
  let v406 : BitVec 32 := v405
  let v407 : Index := Scalar.indexCast v406
  ![0, 384, v407.toNat]
def k0_off30 (i : grid0.Coords) (k0_t7 : Fin (k0_t7_loop i).trips) : Fin 2 → Nat :=
  let c6_127 : Index := 6#32
  let c0_i32_99 : BitVec 32 := 0#32
  let c1_i32_101 : BitVec 32 := 1#32
  let arg10 : BitVec 32 := Scf.iv c0_i32_99 c1_i32_101 k0_t7
  let c256_i32_121 : BitVec 32 := 256#32
  let v405 : BitVec 32 := Scalar.muli arg10 c256_i32_121
  let v406 : BitVec 32 := v405
  let v416 : Index := Scalar.indexCast v406
  ![6, v416.toNat]
def k0_off31 (i : grid0.Coords) (k0_t7 : Fin (k0_t7_loop i).trips) : Fin 2 → Nat :=
  let c7_132 : Index := 7#32
  let c0_i32_99 : BitVec 32 := 0#32
  let c1_i32_101 : BitVec 32 := 1#32
  let arg10 : BitVec 32 := Scf.iv c0_i32_99 c1_i32_101 k0_t7
  let c256_i32_121 : BitVec 32 := 256#32
  let v405 : BitVec 32 := Scalar.muli arg10 c256_i32_121
  let v406 : BitVec 32 := v405
  let v440 : Index := Scalar.indexCast v406
  ![7, v440.toNat]
@[reducible] def k0_t8_loop (i : grid0.Coords) : Scf.Loop 32 :=
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let v324 : BitVec 32 := Scalar.addi c0_i32_99 v323
  let c1_i32_102 : BitVec 32 := 1#32
  ⟨v327, v324, c1_i32_102⟩
def k0_mult12 (i : grid0.Coords) (k0_t8 : Fin (k0_t8_loop i).trips) : BitVec 32 :=
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let c1_i32_102 : BitVec 32 := 1#32
  let arg10 : BitVec 32 := Scf.iv v327 c1_i32_102 k0_t8
  let c256_i32_121 : BitVec 32 := 256#32
  let v405 : BitVec 32 := Scalar.muli arg10 c256_i32_121
  v405
def k0_off32 (i : grid0.Coords) (k0_t8 : Fin (k0_t8_loop i).trips) : Fin 3 → Nat :=
  let c0_122 : Index := 0#32
  let c384_123 : Index := 384#32
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let c1_i32_102 : BitVec 32 := 1#32
  let arg10 : BitVec 32 := Scf.iv v327 c1_i32_102 k0_t8
  let c256_i32_121 : BitVec 32 := 256#32
  let v405 : BitVec 32 := Scalar.muli arg10 c256_i32_121
  let v406 : BitVec 32 := v405
  let v407 : Index := Scalar.indexCast v406
  ![0, 384, v407.toNat]
def k0_off33 (i : grid0.Coords) (k0_t8 : Fin (k0_t8_loop i).trips) : Fin 2 → Nat :=
  let c6_127 : Index := 6#32
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let c1_i32_102 : BitVec 32 := 1#32
  let arg10 : BitVec 32 := Scf.iv v327 c1_i32_102 k0_t8
  let c256_i32_121 : BitVec 32 := 256#32
  let v405 : BitVec 32 := Scalar.muli arg10 c256_i32_121
  let v406 : BitVec 32 := v405
  let v416 : Index := Scalar.indexCast v406
  ![6, v416.toNat]
def k0_off34 (i : grid0.Coords) (k0_t8 : Fin (k0_t8_loop i).trips) : Fin 2 → Nat :=
  let c7_132 : Index := 7#32
  let c0_i32_99 : BitVec 32 := 0#32
  let arg1 : BitVec 32 := BitVec.ofNat 32 (i 1).val
  let v323 : BitVec 32 := Scalar.subi arg1 c0_i32_99
  let c1_i32_100 : BitVec 32 := 1#32
  let v325 : BitVec 32 := Scalar.divsi v323 c1_i32_100
  let v326 : BitVec 32 := Scalar.muli v325 c1_i32_100
  let v327 : BitVec 32 := Scalar.addi c0_i32_99 v326
  let c1_i32_102 : BitVec 32 := 1#32
  let arg10 : BitVec 32 := Scf.iv v327 c1_i32_102 k0_t8
  let c256_i32_121 : BitVec 32 := 256#32
  let v405 : BitVec 32 := Scalar.muli arg10 c256_i32_121
  let v406 : BitVec 32 := v405
  let v440 : Index := Scalar.indexCast v406
  ![7, v440.toNat]
def k0_mult13 (i : grid0.Coords) : BitVec 32 :=
  let arg1 : BitVec 32 := BitVec.ofNat 32 (i 1).val
  let c256_i32_103 : BitVec 32 := 256#32
  let v330 : BitVec 32 := Scalar.muli arg1 c256_i32_103
  v330
def k0_off35 (i : grid0.Coords) : Fin 3 → Nat :=
  let c0_104 : Index := 0#32
  let c384_105 : Index := 384#32
  let arg1 : BitVec 32 := BitVec.ofNat 32 (i 1).val
  let c256_i32_103 : BitVec 32 := 256#32
  let v330 : BitVec 32 := Scalar.muli arg1 c256_i32_103
  let v331 : BitVec 32 := v330
  let v332 : Index := Scalar.indexCast v331
  ![0, 384, v332.toNat]
def k0_off36 (i : grid0.Coords) : Fin 2 → Nat :=
  let c6 : Index := 6#32
  let arg1 : BitVec 32 := BitVec.ofNat 32 (i 1).val
  let c256_i32_103 : BitVec 32 := 256#32
  let v330 : BitVec 32 := Scalar.muli arg1 c256_i32_103
  let v331 : BitVec 32 := v330
  let v341 : Index := Scalar.indexCast v331
  ![6, v341.toNat]
def k0_off37 (i : grid0.Coords) : Fin 2 → Nat :=
  let c7 : Index := 7#32
  let arg1 : BitVec 32 := BitVec.ofNat 32 (i 1).val
  let c256_i32_103 : BitVec 32 := 256#32
  let v330 : BitVec 32 := Scalar.muli arg1 c256_i32_103
  let v331 : BitVec 32 := v330
  let v367 : Index := Scalar.indexCast v331
  ![7, v367.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "neg_inf" => some ⊥
  | _ => none
-- ==== AttnRefIdeal.lean ====
abbrev S8x2048x8x64 : Shape := ⟨4, ![8, 2048, 8, 64]⟩
abbrev S8x2048x8 : Shape := ⟨3, ![8, 2048, 8]⟩
abbrev S_ : Shape := ⟨0, ![]⟩
abbrev S2048 : Shape := ⟨1, ![2048]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S8x8x1x2048 : Shape := ⟨4, ![8, 8, 1, 2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x64x2048 : Shape := ⟨4, ![8, 8, 64, 2048]⟩
abbrev S8x2048x512 : Shape := ⟨3, ![8, 2048, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S_, .f32⟩
  | .hbm, ⟨5, _⟩ => ⟨S_, .f32⟩
  | .hbm, ⟨6, _⟩ => ⟨S8x2048x8, .f32⟩
  | .hbm, ⟨7, _⟩ => ⟨S2048, .i32⟩
  | .hbm, ⟨8, _⟩ => ⟨S8x8x2048x2048, .f32⟩
  | .hbm, ⟨9, _⟩ => ⟨S_, .f32⟩
  | .hbm, ⟨10, _⟩ => ⟨S8x8x2048x2048, .f32⟩
  | .hbm, ⟨11, _⟩ => ⟨S8x8x2048x2048, .f32⟩
  | .hbm, ⟨12, _⟩ => ⟨S8x8x2048, .f32⟩
  | .hbm, ⟨13, _⟩ => ⟨S8x8x2048x1, .f32⟩
  | .hbm, ⟨14, _⟩ => ⟨S8x8x2048x2048, .f32⟩
  | .hbm, ⟨15, _⟩ => ⟨S8x8x2048x2048, .f32⟩
  | .hbm, ⟨16, _⟩ => ⟨S8x8x2048, .f32⟩
  | .hbm, ⟨17, _⟩ => ⟨S8x8x1x2048, .f32⟩
  | .hbm, ⟨18, _⟩ => ⟨S8x8x2048x2048, .f32⟩
  | .hbm, ⟨19, _⟩ => ⟨S8x8x2048x2048, .f32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x1x2048x2048, .i1⟩
  | .hbm, ⟨26, _⟩ => ⟨S_, .f32⟩
  | .hbm, ⟨27, _⟩ => ⟨S_, .f32⟩
  | .hbm, ⟨28, _⟩ => ⟨S8x8x2048x2048, .i1⟩
  | .hbm, ⟨29, _⟩ => ⟨S8x8x2048x2048, .f32⟩
  | .hbm, ⟨30, _⟩ => ⟨S8x8x2048x2048, .f32⟩
  | .hbm, ⟨31, _⟩ => ⟨S_, .f32⟩
  | .hbm, ⟨32, _⟩ => ⟨S8x8x2048, .f32⟩
  | .hbm, ⟨33, _⟩ => ⟨S_, .f32⟩
  | .hbm, ⟨34, _⟩ => ⟨S8x8x2048, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S_, .f32⟩
  | .hbm, ⟨41, _⟩ => ⟨S8x8x2048, .f32⟩
  | .hbm, ⟨42, _⟩ => ⟨S8x8x2048x1, .f32⟩
  | .hbm, ⟨43, _⟩ => ⟨S8x8x2048x2048, .f32⟩
  | .hbm, ⟨44, _⟩ => ⟨S8x8x2048x2048, .f32⟩
  | .hbm, ⟨45, _⟩ => ⟨S8x8x64x2048, .f32⟩
  | .hbm, ⟨46, _⟩ => ⟨S8x2048x8x64, .f32⟩
  | .hbm, ⟨47, _⟩ => ⟨S8x2048x512, .f32⟩
  | .hbm, ⟨48, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Ffn.lean ====
abbrev S8x2048x1024 : Shape := ⟨3, ![8, 2048, 1024]⟩
abbrev S1x1024x5632 : Shape := ⟨3, ![1, 1024, 5632]⟩
abbrev S1x5632 : Shape := ⟨2, ![1, 5632]⟩
abbrev S1x3x5632 : Shape := ⟨3, ![1, 3, 5632]⟩
abbrev S1x2816x1024 : Shape := ⟨3, ![1, 2816, 1024]⟩
abbrev S1x1024 : Shape := ⟨2, ![1, 1024]⟩
abbrev S1024x5632 : Shape := ⟨2, ![1024, 5632]⟩
abbrev S5632 : Shape := ⟨1, ![5632]⟩
abbrev S3x5632 : Shape := ⟨2, ![3, 5632]⟩
abbrev S2816x1024 : Shape := ⟨2, ![2816, 1024]⟩
abbrev S1024 : Shape := ⟨1, ![1024]⟩
abbrev S8x8x5632 : Shape := ⟨3, ![8, 8, 5632]⟩
abbrev S1x256x1024 : Shape := ⟨3, ![1, 256, 1024]⟩
abbrev S1x8x1024 : Shape := ⟨3, ![1, 8, 1024]⟩
abbrev S1x8x5632 : Shape := ⟨3, ![1, 8, 5632]⟩
abbrev S256x1024 : Shape := ⟨2, ![256, 1024]⟩
abbrev S8x1024 : Shape := ⟨2, ![8, 1024]⟩
abbrev S264x1024 : Shape := ⟨2, ![264, 1024]⟩
abbrev S264x1 : Shape := ⟨2, ![264, 1]⟩
abbrev S1024x256 : Shape := ⟨2, ![1024, 256]⟩
abbrev S264x256 : Shape := ⟨2, ![264, 256]⟩
abbrev S1x256 : Shape := ⟨2, ![1, 256]⟩
abbrev S8x256 : Shape := ⟨2, ![8, 256]⟩
abbrev S1x8x256 : Shape := ⟨3, ![1, 8, 256]⟩
abbrev S256x256 : Shape := ⟨2, ![256, 256]⟩
abbrev S256 : Shape := ⟨1, ![256]⟩
abbrev S256x1 : Shape := ⟨2, ![256, 1]⟩

abbrev nBuf : Space → Nat
  | .hbm => 23
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5632, .f32⟩
  | .hbm, ⟨2, _⟩ => ⟨S1x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S5632, .f32⟩
  | .hbm, ⟨11, _⟩ => ⟨S1x5632, .f32⟩
  | .hbm, ⟨12, _⟩ => ⟨S3x5632, .f32⟩
  | .hbm, ⟨13, _⟩ => ⟨S5632, .f32⟩
  | .hbm, ⟨14, _⟩ => ⟨S1x5632, .f32⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8x2048x1024, .f32⟩
  | .hbm, ⟨22, _⟩ => ⟨S8x8x5632, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x5632, .bf16⟩
  | .local _ .vmem, ⟨5, _⟩ => ⟨S1x5632, .f32⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x8x5632, .f32⟩
  | .local _ .vmem, ⟨14, _⟩ => ⟨S1x8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S8x2048x1024 : Shape := ⟨3, ![8, 2048, 1024]⟩
abbrev S1x1024x5632 : Shape := ⟨3, ![1, 1024, 5632]⟩
abbrev S1x5632 : Shape := ⟨2, ![1, 5632]⟩
abbrev S1x3x5632 : Shape := ⟨3, ![1, 3, 5632]⟩
abbrev S1x2816x1024 : Shape := ⟨3, ![1, 2816, 1024]⟩
abbrev S1x1024 : Shape := ⟨2, ![1, 1024]⟩
abbrev S1024x5632 : Shape := ⟨2, ![1024, 5632]⟩
abbrev S8x2048x5632 : Shape := ⟨3, ![8, 2048, 5632]⟩
abbrev S5632 : Shape := ⟨1, ![5632]⟩
abbrev S1x1x5632 : Shape := ⟨3, ![1, 1, 5632]⟩
abbrev S_ : Shape := ⟨0, ![]⟩
abbrev S8x2x5632 : Shape := ⟨3, ![8, 2, 5632]⟩
abbrev S8x2050x5632 : Shape := ⟨3, ![8, 2050, 5632]⟩
abbrev S3x5632 : Shape := ⟨2, ![3, 5632]⟩
abbrev S8x2048x2816 : Shape := ⟨3, ![8, 2048, 2816]⟩
abbrev S2816x1024 : Shape := ⟨2, ![2816, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x8x5632 : Shape := ⟨3, ![8, 8, 5632]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5632, .f32⟩
  | .hbm, ⟨2, _⟩ => ⟨S1x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S8x2048x5632, .f32⟩
  | .hbm, ⟨10, _⟩ => ⟨S5632, .f32⟩
  | .hbm, ⟨11, _⟩ => ⟨S1x1x5632, .f32⟩
  | .hbm, ⟨12, _⟩ => ⟨S8x2048x5632, .f32⟩
  | .hbm, ⟨13, _⟩ => ⟨S8x2048x5632, .f32⟩
  | .hbm, ⟨14, _⟩ => ⟨S_, .f32⟩
  | .hbm, ⟨15, _⟩ => ⟨S8x2x5632, .f32⟩
  | .hbm, ⟨16, _⟩ => ⟨S8x2050x5632, .f32⟩
  | .hbm, ⟨17, _⟩ => ⟨S5632, .f32⟩
  | .hbm, ⟨18, _⟩ => ⟨S8x2048x5632, .f32⟩
  | .hbm, ⟨19, _⟩ => ⟨S3x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S8x2048x5632, .f32⟩
  | .hbm, ⟨24, _⟩ => ⟨S8x2048x5632, .f32⟩
  | .hbm, ⟨25, _⟩ => ⟨S1x1x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S3x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S8x2048x5632, .f32⟩
  | .hbm, ⟨37, _⟩ => ⟨S3x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S_, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S_, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S2816x1024, .f32⟩
  | .hbm, ⟨65, _⟩ => ⟨S8x2048x1024, .f32⟩
  | .hbm, ⟨66, _⟩ => ⟨S_, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S_, .f32⟩
  | .hbm, ⟨80, _⟩ => ⟨S8x2048, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x1024, .f32⟩
  | .hbm, ⟨92, _⟩ => ⟨S8x2048x1024, .f32⟩
  | .hbm, ⟨93, _⟩ => ⟨S1024, .f32⟩
  | .hbm, ⟨94, _⟩ => ⟨S1x1x1024, .f32⟩
  | .hbm, ⟨95, _⟩ => ⟨S8x2048x1024, .f32⟩
  | .hbm, ⟨96, _⟩ => ⟨S8x2048x1024, .f32⟩
  | .hbm, ⟨97, _⟩ => ⟨S1024, .f32⟩
  | .hbm, ⟨98, _⟩ => ⟨S1x1x1024, .f32⟩
  | .hbm, ⟨99, _⟩ => ⟨S8x2048x1024, .f32⟩
  | .hbm, ⟨100, _⟩ => ⟨S8x2048x1024, .f32⟩
  | .hbm, ⟨101, _⟩ => ⟨S8x8x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024x2056 : Shape := ⟨3, ![1, 1024, 2056]⟩
abbrev S1x8 : Shape := ⟨2, ![1, 8]⟩
abbrev S1024x2056 : Shape := ⟨2, ![1024, 2056]⟩
abbrev S1024x8 : Shape := ⟨2, ![1024, 8]⟩
abbrev S1024x512 : Shape := ⟨2, ![1024, 512]⟩
abbrev S_ : Shape := ⟨0, ![]⟩
abbrev S1024x128 : Shape := ⟨2, ![1024, 128]⟩
abbrev S1024x1152 : Shape := ⟨2, ![1024, 1152]⟩
abbrev S1024x1024 : Shape := ⟨2, ![1024, 1024]⟩
abbrev S8x1024 : Shape := ⟨2, ![8, 1024]⟩
abbrev S16x1024 : Shape := ⟨2, ![16, 1024]⟩
abbrev S1040x1024 : Shape := ⟨2, ![1040, 1024]⟩
abbrev S8 : Shape := ⟨1, ![8]⟩
abbrev S128 : Shape := ⟨1, ![128]⟩
abbrev S1x128 : Shape := ⟨2, ![1, 128]⟩
abbrev S8x1 : Shape := ⟨2, ![8, 1]⟩
abbrev S8x2048x512 : Shape := ⟨3, ![8, 2048, 512]⟩
abbrev S8x512x2048 : Shape := ⟨3, ![8, 512, 2048]⟩
abbrev S8x2048x128 : Shape := ⟨3, ![8, 2048, 128]⟩
abbrev S8x8x2048 : Shape := ⟨3, ![8, 8, 2048]⟩
abbrev S1x512x1024 : Shape := ⟨3, ![1, 512, 1024]⟩
abbrev S1x512x512 : Shape := ⟨3, ![1, 512, 512]⟩
abbrev S1x512x128 : Shape := ⟨3, ![1, 512, 128]⟩
abbrev S1x8x512 : Shape := ⟨3, ![1, 8, 512]⟩
abbrev S512x1024 : Shape := ⟨2, ![512, 1024]⟩
abbrev S512x512 : Shape := ⟨2, ![512, 512]⟩
abbrev S512x128 : Shape := ⟨2, ![512, 128]⟩
abbrev S16x512 : Shape := ⟨2, ![16, 512]⟩
abbrev S8x512 : Shape := ⟨2, ![8, 512]⟩

abbrev nBuf : Space → Nat
  | .hbm => 35
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2056, .f32⟩
  | .hbm, ⟨2, _⟩ => ⟨S1x8, .f32⟩
  | .hbm, ⟨3, _⟩ => ⟨S1024x2056, .f32⟩
  | .hbm, ⟨4, _⟩ => ⟨S1024x8, .f32⟩
  | .hbm, ⟨5, _⟩ => ⟨S1024x512, .f32⟩
  | .hbm, ⟨6, _⟩ => ⟨S1024x512, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1152, .f32⟩
  | .hbm, ⟨11, _⟩ => ⟨S1024x1152, .bf16⟩
  | .hbm, ⟨12, _⟩ => ⟨S1024x1024, .f32⟩
  | .hbm, ⟨13, _⟩ => ⟨S1024x1024, .f32⟩
  | .hbm, ⟨14, _⟩ => ⟨S8x1024, .f32⟩
  | .hbm, ⟨15, _⟩ => ⟨S_, .i32⟩
  | .hbm, ⟨16, _⟩ => ⟨S_, .f32⟩
  | .hbm, ⟨17, _⟩ => ⟨S16x1024, .f32⟩
  | .hbm, ⟨18, _⟩ => ⟨S1040x1024, .f32⟩
  | .hbm, ⟨19, _⟩ => ⟨S1040x1024, .bf16⟩
  | .hbm, ⟨20, _⟩ => ⟨S8, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S8, .f32⟩
  | .hbm, ⟨26, _⟩ => ⟨S8x1, .f32⟩
  | .hbm, ⟨27, _⟩ => ⟨S8x2048x512, .bf16⟩
  | .hbm, ⟨28, _⟩ => ⟨S8x512x2048, .f32⟩
  | .hbm, ⟨29, _⟩ => ⟨S8x512x2048, .f32⟩
  | .hbm, ⟨30, _⟩ => ⟨S8x512x2048, .bf16⟩
  | .hbm, ⟨31, _⟩ => ⟨S8x512x2048, .bf16⟩
  | .hbm, ⟨32, _⟩ => ⟨S8x2048x512, .f32⟩
  | .hbm, ⟨33, _⟩ => ⟨S8x2048x128, .f32⟩
  | .hbm, ⟨34, _⟩ => ⟨S8x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1024x1152, .bf16⟩
  | .local _ .vmem, ⟨3, _⟩ => ⟨S1040x1024, .bf16⟩
  | .local _ .vmem, ⟨4, _⟩ => ⟨S1x128, .f32⟩
  | .local _ .vmem, ⟨5, _⟩ => ⟨S8x1, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x128, .f32⟩
  | .local _ .vmem, ⟨19, _⟩ => ⟨S1x512x128, .f32⟩
  | .local _ .vmem, ⟨20, _⟩ => ⟨S1x8x512, .f32⟩
  | .local _ .vmem, ⟨21, _⟩ => ⟨S1x8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1040x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S8x2048x1024 : Shape := ⟨3, ![8, 2048, 1024]⟩
abbrev S1x1024x2056 : Shape := ⟨3, ![1, 1024, 2056]⟩
abbrev S1x8 : Shape := ⟨2, ![1, 8]⟩
abbrev S1024x2056 : Shape := ⟨2, ![1024, 2056]⟩
abbrev S8x2048x2056 : Shape := ⟨3, ![8, 2048, 2056]⟩
abbrev S8x2048x512 : Shape := ⟨3, ![8, 2048, 512]⟩
abbrev S8x512x2048 : Shape := ⟨3, ![8, 512, 2048]⟩
abbrev S8x2048x8 : Shape := ⟨3, ![8, 2048, 8]⟩
abbrev S8 : Shape := ⟨1, ![8]⟩
abbrev S1x1x8 : Shape := ⟨3, ![1, 1, 8]⟩
abbrev S_ : Shape := ⟨0, ![]⟩
abbrev S8x2048x128 : Shape := ⟨3, ![8, 2048, 128]⟩
abbrev S8x8x2048 : Shape := ⟨3, ![8, 8, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x2056, .f32⟩
  | .hbm, ⟨2, _⟩ => ⟨S1x8, .f32⟩
  | .hbm, ⟨3, _⟩ => ⟨S1024x2056, .f32⟩
  | .hbm, ⟨4, _⟩ => ⟨S8x2048x2056, .f32⟩
  | .hbm, ⟨5, _⟩ => ⟨S8x2048x512, .f32⟩
  | .hbm, ⟨6, _⟩ => ⟨S8x2048x512, .f32⟩
  | .hbm, ⟨7, _⟩ => ⟨S8x512x2048, .f32⟩
  | .hbm, ⟨8, _⟩ => ⟨S8x2048x512, .f32⟩
  | .hbm, ⟨9, _⟩ => ⟨S8x512x2048, .f32⟩
  | .hbm, ⟨10, _⟩ => ⟨S8x2048x8, .f32⟩
  | .hbm, ⟨11, _⟩ => ⟨S8, .f32⟩
  | .hbm, ⟨12, _⟩ => ⟨S1x1x8, .f32⟩
  | .hbm, ⟨13, _⟩ => ⟨S8x2048x8, .f32⟩
  | .hbm, ⟨14, _⟩ => ⟨S8x2048x8, .f32⟩
  | .hbm, ⟨15, _⟩ => ⟨S8x2048x512, .f32⟩
  | .hbm, ⟨16, _⟩ => ⟨S8x2048x8, .f32⟩
  | .hbm, ⟨17, _⟩ => ⟨S_, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S8x2048x8, .f32⟩
  | .hbm, ⟨22, _⟩ => ⟨S8x2048x8, .i1⟩
  | .hbm, ⟨23, _⟩ => ⟨S8x2048x8, .f32⟩
  | .hbm, ⟨24, _⟩ => ⟨S8x2048x8, .f32⟩
  | .hbm, ⟨25, _⟩ => ⟨S8x2048x8, .f32⟩
  | .hbm, ⟨26, _⟩ => ⟨S8x2048x8, .f32⟩
  | .hbm, ⟨27, _⟩ => ⟨S8x2048x8, .f32⟩
  | .hbm, ⟨28, _⟩ => ⟨S8x2048x8, .f32⟩
  | .hbm, ⟨29, _⟩ => ⟨S8x2048x8, .f32⟩
  | .hbm, ⟨30, _⟩ => ⟨S8x2048x8, .f32⟩
  | .hbm, ⟨31, _⟩ => ⟨S8x2048x8, .f32⟩
  | .hbm, ⟨32, _⟩ => ⟨S_, .i32⟩
  | .hbm, ⟨33, _⟩ => ⟨S_, .f32⟩
  | .hbm, ⟨34, _⟩ => ⟨S8x2048x128, .f32⟩
  | .hbm, ⟨35, _⟩ => ⟨S8x2048x128, .f32⟩
  | .hbm, ⟨36, _⟩ => ⟨S_, .f32⟩
  | .hbm, ⟨37, _⟩ => ⟨S8x2048x128, .f32⟩
  | .hbm, ⟨38, _⟩ => ⟨S8x2048x128, .f32⟩
  | .hbm, ⟨39, _⟩ => ⟨S8x2048x128, .f32⟩
  | .hbm, ⟨40, _⟩ => ⟨S8x2048x128, .f32⟩
  | .hbm, ⟨41, _⟩ => ⟨S8x2048x128, .i1⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S8x2048x128, .f32⟩
  | .hbm, ⟨46, _⟩ => ⟨S8x2048x128, .f32⟩
  | .hbm, ⟨47, _⟩ => ⟨S8x2048x128, .f32⟩
  | .hbm, ⟨48, _⟩ => ⟨S8x2048x128, .f32⟩
  | .hbm, ⟨49, _⟩ => ⟨S8x2048x128, .f32⟩
  | .hbm, ⟨50, _⟩ => ⟨S8x2048x128, .f32⟩
  | .hbm, ⟨51, _⟩ => ⟨S_, .f32⟩
  | .hbm, ⟨52, _⟩ => ⟨S8x2048x512, .f32⟩
  | .hbm, ⟨53, _⟩ => ⟨S8x2048x512, .f32⟩
  | .hbm, ⟨54, _⟩ => ⟨S8x2048x512, .bf16⟩
  | .hbm, ⟨55, _⟩ => ⟨S8x512x2048, .bf16⟩
  | .hbm, ⟨56, _⟩ => ⟨S8x512x2048, .bf16⟩
  | .hbm, ⟨57, _⟩ => ⟨S8x8x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_call1_v0 : Ref sig .tc := ⟨.hbm, 33, rfl⟩
abbrev main_v14 : Ref sig .tc := ⟨.hbm, 34, rfl⟩
abbrev main_call2_v0 : Ref sig .tc := ⟨.hbm, 35, rfl⟩
abbrev main_call2_call0_cst : Ref sig .tc := ⟨.hbm, 36, rfl⟩
abbrev main_call2_call0_v0 : Ref sig .tc := ⟨.hbm, 37, rfl⟩
abbrev main_call2_call0_v1 : Ref sig .tc := ⟨.hbm, 38, rfl⟩
abbrev main_call2_call0_v2 : Ref sig .tc := ⟨.hbm, 39, rfl⟩
abbrev main_call2_call0_v3 : Ref sig .tc := ⟨.hbm, 40, rfl⟩
abbrev main_call2_call0_v4 : Ref sig .tc := ⟨.hbm, 41, rfl⟩
abbrev main_call2_call0_v5 : Ref sig .tc := ⟨.hbm, 42, rfl⟩
abbrev main_call2_call0_v6 : Ref sig .tc := ⟨.hbm, 43, rfl⟩
abbrev main_call2_call0_v7 : Ref sig .tc := ⟨.hbm, 44, rfl⟩
abbrev main_call2_call0_v8 : Ref sig .tc := ⟨.hbm, 45, rfl⟩
abbrev main_call2_call0_v9 : Ref sig .tc := ⟨.hbm, 46, rfl⟩
abbrev main_call2_call0_v10 : Ref sig .tc := ⟨.hbm, 47, rfl⟩
abbrev main_call2_call0_v11 : Ref sig .tc := ⟨.hbm, 48, rfl⟩
abbrev main_call2_v1 : Ref sig .tc := ⟨.hbm, 49, rfl⟩
abbrev main_v15 : Ref sig .tc := ⟨.hbm, 50, rfl⟩
abbrev main_cst : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩

abbrev nD : Nat := 1
abbrev τ : Topo := Topo.v7x

variable {F : FTy → Type} [FloatOps F]
-- ==== ProjS.lean ====
abbrev S32x8x1024 : Shape := ⟨3, ![32, 8, 1024]⟩
abbrev S1x1024x2056 : Shape := ⟨3, ![1, 1024, 2056]⟩
abbrev S1x8 : Shape := ⟨2, ![1, 8]⟩
abbrev S1024x2056 : Shape := ⟨2, ![1024, 2056]⟩
abbrev S1024x8 : Shape := ⟨2, ![1024, 8]⟩
abbrev S1024x512 : Shape := ⟨2, ![1024, 512]⟩
abbrev S_ : Shape := ⟨0, ![]⟩
abbrev S1024x128 : Shape := ⟨2, ![1024, 128]⟩
abbrev S1024x1152 : Shape := ⟨2, ![1024, 1152]⟩
abbrev S1024x1024 : Shape := ⟨2, ![1024, 1024]⟩
abbrev S8x1024 : Shape := ⟨2, ![8, 1024]⟩
abbrev S16x1024 : Shape := ⟨2, ![16, 1024]⟩
abbrev S1040x1024 : Shape := ⟨2, ![1040, 1024]⟩
abbrev S8 : Shape := ⟨1, ![8]⟩
abbrev S128 : Shape := ⟨1, ![128]⟩
abbrev S1x128 : Shape := ⟨2, ![1, 128]⟩
abbrev S256x1024 : Shape := ⟨2, ![256, 1024]⟩
abbrev S256x512 : Shape := ⟨2, ![256, 512]⟩
abbrev S256x128 : Shape := ⟨2, ![256, 128]⟩
abbrev S512x1024 : Shape := ⟨2, ![512, 1024]⟩

abbrev nBuf : Space → Nat
  | .hbm => 33
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S1x1024x2056, .f32⟩
  | .hbm, ⟨2, _⟩ => ⟨S1x8, .f32⟩
  | .hbm, ⟨3, _⟩ => ⟨S1024x2056, .f32⟩
  | .hbm, ⟨4, _⟩ => ⟨S1024x8, .f32⟩
  | .hbm, ⟨5, _⟩ => ⟨S1024x512, .f32⟩
  | .hbm, ⟨6, _⟩ => ⟨S1024x512, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1152, .f32⟩
  | .hbm, ⟨11, _⟩ => ⟨S1024x1152, .bf16⟩
  | .hbm, ⟨12, _⟩ => ⟨S1024x1024, .f32⟩
  | .hbm, ⟨13, _⟩ => ⟨S1024x1024, .f32⟩
  | .hbm, ⟨14, _⟩ => ⟨S8x1024, .f32⟩
  | .hbm, ⟨15, _⟩ => ⟨S_, .i32⟩
  | .hbm, ⟨16, _⟩ => ⟨S_, .f32⟩
  | .hbm, ⟨17, _⟩ => ⟨S16x1024, .f32⟩
  | .hbm, ⟨18, _⟩ => ⟨S1040x1024, .f32⟩
  | .hbm, ⟨19, _⟩ => ⟨S1040x1024, .bf16⟩
  | .hbm, ⟨20, _⟩ => ⟨S8, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S256x1024, .f32⟩
  | .hbm, ⟨26, _⟩ => ⟨S256x512, .bf16⟩
  | .hbm, ⟨27, _⟩ => ⟨S256x512, .f32⟩
  | .hbm, ⟨28, _⟩ => ⟨S256x512, .f32⟩
  | .hbm, ⟨29, _⟩ => ⟨S256x512, .bf16⟩
  | .hbm, ⟨30, _⟩ => ⟨S256x512, .bf16⟩
  | .hbm, ⟨31, _⟩ => ⟨S256x512, .f32⟩
  | .hbm, ⟨32, _⟩ => ⟨S256x128, .f32⟩
  | .local _ .vmem, ⟨0, _⟩ => ⟨S256x1024, .f32⟩
  | .local _ .vmem, ⟨1, _⟩ => ⟨S1024x1152, .bf16⟩
  | .local _ .vmem, ⟨2, _⟩ => ⟨S1040x1024, .bf16⟩
  | .local _ .vmem, ⟨3, _⟩ => ⟨S1x128, .f32⟩
  | .local _ .vmem, ⟨4, _⟩ => ⟨S256x512, .bf16⟩
  | .local _ .vmem, ⟨5, _⟩ => ⟨S256x512, .f32⟩
  | .local _ .vmem, ⟨6, _⟩ => ⟨S256x512, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1040x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ProjSRefIdeal.lean ====
abbrev S32x8x1024 : Shape := ⟨3, ![32, 8, 1024]⟩
abbrev S1x1024x2056 : Shape := ⟨3, ![1, 1024, 2056]⟩
abbrev S1x8 : Shape := ⟨2, ![1, 8]⟩
abbrev S1024x2056 : Shape := ⟨2, ![1024, 2056]⟩
abbrev S32x8x2056 : Shape := ⟨3, ![32, 8, 2056]⟩
abbrev S256x2056 : Shape := ⟨2, ![256, 2056]⟩
abbrev S256x512 : Shape := ⟨2, ![256, 512]⟩
abbrev S256x8 : Shape := ⟨2, ![256, 8]⟩
abbrev S8 : Shape := ⟨1, ![8]⟩
abbrev S_ : Shape := ⟨0, ![]⟩
abbrev S256x128 : Shape := ⟨2, ![256, 128]⟩

abbrev nBuf : Space → Nat
  | .hbm => 40
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x2056, .f32⟩
  | .hbm, ⟨2, _⟩ => ⟨S1x8, .f32⟩
  | .hbm, ⟨3, _⟩ => ⟨S1024x2056, .f32⟩
  | .hbm, ⟨4, _⟩ => ⟨S32x8x2056, .f32⟩
  | .hbm, ⟨5, _⟩ => ⟨S256x2056, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x8, .f32⟩
  | .hbm, ⟨10, _⟩ => ⟨S8, .f32⟩
  | .hbm, ⟨11, _⟩ => ⟨S1x8, .f32⟩
  | .hbm, ⟨12, _⟩ => ⟨S256x8, .f32⟩
  | .hbm, ⟨13, _⟩ => ⟨S256x8, .f32⟩
  | .hbm, ⟨14, _⟩ => ⟨S256x512, .f32⟩
  | .hbm, ⟨15, _⟩ => ⟨S_, .i32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S256x128, .i1⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x512, .f32⟩
  | .hbm, ⟨36, _⟩ => ⟨S256x512, .f32⟩
  | .hbm, ⟨37, _⟩ => ⟨S256x512, .bf16⟩
  | .hbm, ⟨38, _⟩ => ⟨S256x512, .bf16⟩
  | .hbm, ⟨39, _⟩ => ⟨S256x512, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_call1_v0 : Ref sig .tc := ⟨.hbm, 18, rfl⟩
abbrev main_call1_call0_cst : Ref sig .tc := ⟨.hbm, 19, rfl⟩
abbrev main_call1_call0_v0 : Ref sig .tc := ⟨.hbm, 20, rfl⟩
abbrev main_call1_call0_v1 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_v8 : Ref sig .tc := ⟨.hbm, 28, rfl⟩
abbrev main_call1_call0_v9 : Ref sig .tc := ⟨.hbm, 29, rfl⟩
abbrev main_call1_call0_v10 : Ref sig .tc := ⟨.hbm, 30, rfl⟩
abbrev main_call1_call0_v11 : Ref sig .tc := ⟨.hbm, 31, rfl⟩
abbrev main_call1_v1 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== FfnS.lean ====
abbrev S256x1024 : Shape := ⟨2, ![256, 1024]⟩
abbrev S1x32x2x5632 : Shape := ⟨4, ![1, 32, 2, 5632]⟩
abbrev S1x1024x5632 : Shape := ⟨3, ![1, 1024, 5632]⟩
abbrev S1x5632 : Shape := ⟨2, ![1, 5632]⟩
abbrev S1x3x5632 : Shape := ⟨3, ![1, 3, 5632]⟩
abbrev S1x2816x1024 : Shape := ⟨3, ![1, 2816, 1024]⟩
abbrev S1x1024 : Shape := ⟨2, ![1, 1024]⟩
abbrev S32x2x5632 : Shape := ⟨3, ![32, 2, 5632]⟩
abbrev S1024x5632 : Shape := ⟨2, ![1024, 5632]⟩
abbrev S5632 : Shape := ⟨1, ![5632]⟩
abbrev S3x5632 : Shape := ⟨2, ![3, 5632]⟩
abbrev S2816x1024 : Shape := ⟨2, ![2816, 1024]⟩
abbrev S1024 : Shape := ⟨1, ![1024]⟩
abbrev S256x5632 : Shape := ⟨2, ![256, 5632]⟩
abbrev S32x16x256 : Shape := ⟨3, ![32, 16, 256]⟩
abbrev S1024x256 : Shape := ⟨2, ![1024, 256]⟩
abbrev S256x256 : Shape := ⟨2, ![256, 256]⟩
abbrev S1x256 : Shape := ⟨2, ![1, 256]⟩
abbrev S32x2x256 : Shape := ⟨3, ![32, 2, 256]⟩
abbrev S32x8x256 : Shape := ⟨3, ![32, 8, 256]⟩
abbrev S256 : Shape := ⟨1, ![256]⟩
abbrev S256x1 : Shape := ⟨2, ![256, 1]⟩

abbrev nBuf : Space → Nat
  | .hbm => 25
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1x32x2x5632, .f32⟩
  | .hbm, ⟨2, _⟩ => ⟨S1x1024x5632, .f32⟩
  | .hbm, ⟨3, _⟩ => ⟨S1x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S32x2x5632, .f32⟩
  | .hbm, ⟨10, _⟩ => ⟨S1024x5632, .f32⟩
  | .hbm, ⟨11, _⟩ => ⟨S1024x5632, .bf16⟩
  | .hbm, ⟨12, _⟩ => ⟨S5632, .f32⟩
  | .hbm, ⟨13, _⟩ => ⟨S1x5632, .f32⟩
  | .hbm, ⟨14, _⟩ => ⟨S3x5632, .f32⟩
  | .hbm, ⟨15, _⟩ => ⟨S5632, .f32⟩
  | .hbm, ⟨16, _⟩ => ⟨S1x5632, .f32⟩
  | .hbm, ⟨17, _⟩ => ⟨S2816x1024, .f32⟩
  | .hbm, ⟨18, _⟩ => ⟨S2816x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x5632, .f32⟩
  | .local _ .vmem, ⟨0, _⟩ => ⟨S256x1024, .f32⟩
  | .local _ .vmem, ⟨1, _⟩ => ⟨S32x2x5632, .f32⟩
  | .local _ .vmem, ⟨2, _⟩ => ⟨S1024x5632, .bf16⟩
  | .local _ .vmem, ⟨3, _⟩ => ⟨S1x5632, .f32⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x5632, .f32⟩
  | .local _ .vmem, ⟨11, _⟩ => ⟨S32x16x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== FfnSRefIdeal.lean ====
abbrev S256x1024 : Shape := ⟨2, ![256, 1024]⟩
abbrev S1x32x2x5632 : Shape := ⟨4, ![1, 32, 2, 5632]⟩
abbrev S1x1024x5632 : Shape := ⟨3, ![1, 1024, 5632]⟩
abbrev S1x5632 : Shape := ⟨2, ![1, 5632]⟩
abbrev S1x3x5632 : Shape := ⟨3, ![1, 3, 5632]⟩
abbrev S1x2816x1024 : Shape := ⟨3, ![1, 2816, 1024]⟩
abbrev S1x1024 : Shape := ⟨2, ![1, 1024]⟩
abbrev S32x8x1024 : Shape := ⟨3, ![32, 8, 1024]⟩
abbrev S1024x5632 : Shape := ⟨2, ![1024, 5632]⟩
abbrev S32x8x5632 : Shape := ⟨3, ![32, 8, 5632]⟩
abbrev S5632 : Shape := ⟨1, ![5632]⟩
abbrev S1x1x5632 : Shape := ⟨3, ![1, 1, 5632]⟩
abbrev S32x2x5632 : Shape := ⟨3, ![32, 2, 5632]⟩
abbrev S32x10x5632 : Shape := ⟨3, ![32, 10, 5632]⟩
abbrev S3x5632 : Shape := ⟨2, ![3, 5632]⟩
abbrev S32x8x2816 : Shape := ⟨3, ![32, 8, 2816]⟩
abbrev S_ : Shape := ⟨0, ![]⟩
abbrev S2816x1024 : Shape := ⟨2, ![2816, 1024]⟩
abbrev S32x8 : Shape := ⟨2, ![32, 8]⟩
abbrev S32x8x1 : Shape := ⟨3, ![32, 8, 1]⟩
abbrev S1024 : Shape := ⟨1, ![1024]⟩
abbrev S1x1x1024 : Shape := ⟨3, ![1, 1, 1024]⟩
abbrev S256x5632 : Shape := ⟨2, ![256, 5632]⟩

abbrev nBuf : Space → Nat
  | .hbm => 104
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x32x2x5632, .f32⟩
  | .hbm, ⟨2, _⟩ => ⟨S1x1024x5632, .f32⟩
  | .hbm, ⟨3, _⟩ => ⟨S1x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1x1024, .f32⟩
  | .hbm, ⟨8, _⟩ => ⟨S1x1024, .f32⟩
  | .hbm, ⟨9, _⟩ => ⟨S32x8x1024, .f32⟩
  | .hbm, ⟨10, _⟩ => ⟨S1024x5632, .f32⟩
  | .hbm, ⟨11, _⟩ => ⟨S32x8x5632, .f32⟩
  | .hbm, ⟨12, _⟩ => ⟨S5632, .f32⟩
  | .hbm, ⟨13, _⟩ => ⟨S1x1x5632, .f32⟩
  | .hbm, ⟨14, _⟩ => ⟨S32x8x5632, .f32⟩
  | .hbm, ⟨15, _⟩ => ⟨S32x8x5632, .f32⟩
  | .hbm, ⟨16, _⟩ => ⟨S32x2x5632, .f32⟩
  | .hbm, ⟨17, _⟩ => ⟨S32x10x5632, .f32⟩
  | .hbm, ⟨18, _⟩ => ⟨S5632, .f32⟩
  | .hbm, ⟨19, _⟩ => ⟨S32x8x5632, .f32⟩
  | .hbm, ⟨20, _⟩ => ⟨S3x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S32x8x5632, .f32⟩
  | .hbm, ⟨25, _⟩ => ⟨S32x8x5632, .f32⟩
  | .hbm, ⟨26, _⟩ => ⟨S1x1x5632, .f32⟩
  | .hbm, ⟨27, _⟩ => ⟨S32x8x5632, .f32⟩
  | .hbm, ⟨28, _⟩ => ⟨S32x8x5632, .f32⟩
  | .hbm, ⟨29, _⟩ => ⟨S32x8x5632, .f32⟩
  | .hbm, ⟨30, _⟩ => ⟨S3x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S32x8x5632, .f32⟩
  | .hbm, ⟨35, _⟩ => ⟨S32x8x5632, .f32⟩
  | .hbm, ⟨36, _⟩ => ⟨S32x8x5632, .f32⟩
  | .hbm, ⟨37, _⟩ => ⟨S32x8x5632, .f32⟩
  | .hbm, ⟨38, _⟩ => ⟨S3x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S32x8x5632, .f32⟩
  | .hbm, ⟨43, _⟩ => ⟨S32x8x5632, .f32⟩
  | .hbm, ⟨44, _⟩ => ⟨S32x8x5632, .f32⟩
  | .hbm, ⟨45, _⟩ => ⟨S32x8x2816, .f32⟩
  | .hbm, ⟨46, _⟩ => ⟨S32x8x2816, .f32⟩
  | .hbm, ⟨47, _⟩ => ⟨S32x8x2816, .f32⟩
  | .hbm, ⟨48, _⟩ => ⟨S32x8x2816, .f32⟩
  | .hbm, ⟨49, _⟩ => ⟨S_, .f32⟩
  | .hbm, ⟨50, _⟩ => ⟨S32x8x2816, .f32⟩
  | .hbm, ⟨51, _⟩ => ⟨S32x8x2816, .f32⟩
  | .hbm, ⟨52, _⟩ => ⟨S32x8x2816, .f32⟩
  | .hbm, ⟨53, _⟩ => ⟨S_, .f32⟩
  | .hbm, ⟨54, _⟩ => ⟨S32x8x2816, .f32⟩
  | .hbm, ⟨55, _⟩ => ⟨S32x8x2816, .f32⟩
  | .hbm, ⟨56, _⟩ => ⟨S32x8x2816, .f32⟩
  | .hbm, ⟨57, _⟩ => ⟨S_, .f32⟩
  | .hbm, ⟨58, _⟩ => ⟨S32x8x2816, .f32⟩
  | .hbm, ⟨59, _⟩ => ⟨S32x8x2816, .f32⟩
  | .hbm, ⟨60, _⟩ => ⟨S_, .f32⟩
  | .hbm, ⟨61, _⟩ => ⟨S32x8x2816, .f32⟩
  | .hbm, ⟨62, _⟩ => ⟨S32x8x2816, .f32⟩
  | .hbm, ⟨63, _⟩ => ⟨S32x8x2816, .f32⟩
  | .hbm, ⟨64, _⟩ => ⟨S32x8x2816, .f32⟩
  | .hbm, ⟨65, _⟩ => ⟨S2816x1024, .f32⟩
  | .hbm, ⟨66, _⟩ => ⟨S32x8x1024, .f32⟩
  | .hbm, ⟨67, _⟩ => ⟨S_, .f32⟩
  | .hbm, ⟨68, _⟩ => ⟨S32x8x1024, .f32⟩
  | .hbm, ⟨69, _⟩ => ⟨S32x8x1024, .f32⟩
  | .hbm, ⟨70, _⟩ => ⟨S32x8x1024, .f32⟩
  | .hbm, ⟨71, _⟩ => ⟨S_, .f32⟩
  | .hbm, ⟨72, _⟩ => ⟨S32x8, .f32⟩
  | .hbm, ⟨73, _⟩ => ⟨S32x8x1, .f32⟩
  | .hbm, ⟨74, _⟩ => ⟨S_, .f32⟩
  | .hbm, ⟨75, _⟩ => ⟨S32x8x1, .f32⟩
  | .hbm, ⟨76, _⟩ => ⟨S32x8x1, .f32⟩
  | .hbm, ⟨77, _⟩ => ⟨S32x8x1024, .f32⟩
  | .hbm, ⟨78, _⟩ => ⟨S32x8x1024, .f32⟩
  | .hbm, ⟨79, _⟩ => ⟨S32x8x1024, .f32⟩
  | .hbm, ⟨80, _⟩ => ⟨S_, .f32⟩
  | .hbm, ⟨81, _⟩ => ⟨S32x8, .f32⟩
  | .hbm, ⟨82, _⟩ => ⟨S32x8x1, .f32⟩
  | .hbm, ⟨83, _⟩ => ⟨S_, .f32⟩
  | .hbm, ⟨84, _⟩ => ⟨S32x8x1, .f32⟩
  | .hbm, ⟨85, _⟩ => ⟨S32x8x1, .f32⟩
  | .hbm, ⟨86, _⟩ => ⟨S32x8x1024, .f32⟩
  | .hbm, ⟨87, _⟩ => ⟨S32x8x1024, .f32⟩
  | .hbm, ⟨88, _⟩ => ⟨S_, .f32⟩
  | .hbm, ⟨89, _⟩ => ⟨S32x8x1, .f32⟩
  | .hbm, ⟨90, _⟩ => ⟨S32x8x1, .f32⟩
  | .hbm, ⟨91, _⟩ => ⟨S32x8x1, .f32⟩
  | .hbm, ⟨92, _⟩ => ⟨S32x8x1024, .f32⟩
  | .hbm, ⟨93, _⟩ => ⟨S32x8x1024, .f32⟩
  | .hbm, ⟨94, _⟩ => ⟨S1024, .f32⟩
  | .hbm, ⟨95, _⟩ => ⟨S1x1x1024, .f32⟩
  | .hbm, ⟨96, _⟩ => ⟨S32x8x1024, .f32⟩
  | .hbm, ⟨97, _⟩ => ⟨S32x8x1024, .f32⟩
  | .hbm, ⟨98, _⟩ => ⟨S1024, .f32⟩
  | .hbm, ⟨99, _⟩ => ⟨S1x1x1024, .f32⟩
  | .hbm, ⟨100, _⟩ => ⟨S32x8x1024, .f32⟩
  | .hbm, ⟨101, _⟩ => ⟨S32x8x1024, .f32⟩
  | .hbm, ⟨102, _⟩ => ⟨S256x1024, .f32⟩
  | .hbm, ⟨103, _⟩ => ⟨S256x5632, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_0 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Proof.Online.lean ====
/-
The softmax of one row, kept as a running maximum, a running sum of exponentials and a running weighted sum, over the
extended reals. The keys are the natural numbers; a key the mask removes has the score ⊥.
-/
module

public import Idealize.ShloMosaic.Lib.Pipeline.ValueKit
public import Idealize.ShloMosaic.Lib.Pointwise
public import Idealize.ShloMosaic.Lib.Claim

@[expose] public section

noncomputable section

namespace Cert.Online

open Idealize.ShloMosaic Finset

/-- A sum times a nonnegative finite factor. -/
theorem mul_sum_of {ι : Type} (s : Finset ι) (f : ι → EReal) {a : EReal} (h0 : 0 ≤ a) (ht : a ≠ ⊤) :
    a * ∑ k ∈ s, f k = ∑ k ∈ s, a * f k := by
  classical
  induction s using Finset.induction_on with
  | empty => simp
  | insert x s hx ih =>
    rw [Finset.sum_insert hx, Finset.sum_insert hx, EReal.left_distrib_of_nonneg_of_ne_top h0 ht, ih]

theorem sum_mul_of {ι : Type} (s : Finset ι) (f : ι → EReal) {a : EReal} (h0 : 0 ≤ a) (ht : a ≠ ⊤) :
    (∑ k ∈ s, f k) * a = ∑ k ∈ s, f k * a := by
  rw [mul_comm, mul_sum_of s f h0 ht]; exact Finset.sum_congr rfl fun k _ => mul_comm _ _

/-- A sum of finite terms is finite. -/
theorem sum_coe {ι : Type} (s : Finset ι) (f : ι → ℝ) : (∑ k ∈ s, (f k : EReal)) = ((∑ k ∈ s, f k : ℝ) : EReal) := by
  classical
  induction s using Finset.induction_on with
  | empty => simp
  | insert x s hx ih => rw [Finset.sum_insert hx, Finset.sum_insert hx, ih, EReal.coe_add]

/-- The running maximum, the running sum and the running weighted sum over the first `n` keys. -/
def mx (S : ℕ → EReal) (n : ℕ) : EReal := (range n).sup S
def den (S : ℕ → EReal) (n : ℕ) : EReal := ∑ k ∈ range n, Ideal.exp (S k - mx S n)
def num (S V : ℕ → EReal) (n : ℕ) : EReal := ∑ k ∈ range n, Ideal.exp (S k - mx S n) * V k

variable {S V : ℕ → EReal}

@[simp] theorem mx_zero : mx S 0 = ⊥ := by simp [mx]
@[simp] theorem den_zero : den S 0 = 0 := by simp [den]
@[simp] theorem num_zero : num S V 0 = 0 := by simp [num]

/-- The maximum is finite once one key is, none being ⊤. -/
theorem mx_real (hT : ∀ k, S k ≠ ⊤) (hB : S 0 ≠ ⊥) {n : ℕ} (hn : 0 < n) : ∃ r : ℝ, mx S n = r := by
  have h1 : mx S n ≠ ⊤ := by
    have : mx S n < ⊤ := by
      rw [mx, Finset.sup_lt_iff (by simp)]
      exact fun k _ => lt_top_iff_ne_top.2 (hT k)
    exact this.ne
  have h2 : mx S n ≠ ⊥ := fun h => hB <| by
    have : S 0 ≤ mx S n := Finset.le_sup (f := S) (Finset.mem_range.2 hn)
    rw [h] at this; exact le_bot_iff.1 this
  exact ⟨(mx S n).toReal, (EReal.coe_toReal h1 h2).symm⟩

/-- An exponential of a nowhere-⊤ score against a finite maximum is nonnegative and finite. -/
theorem exp_nn {a : EReal} (ha : a ≠ ⊤) (M : ℝ) : ∃ r : ℝ, 0 ≤ r ∧ Ideal.exp (a - M) = r := by
  induction a with
  | bot => exact ⟨0, le_rfl, by rw [EReal.bot_sub]; simp⟩
  | top => exact absurd rfl ha
  | coe x => exact ⟨Real.exp (x - M), (Real.exp_pos _).le, by rw [← EReal.coe_sub, Ideal.exp_coe]⟩

theorem exp_shift {a : EReal} (ha : a ≠ ⊤) (M M' : ℝ) :
    Ideal.exp ((M : EReal) - M') * Ideal.exp (a - M) = Ideal.exp (a - M') := by
  induction a with
  | bot => rw [EReal.bot_sub, EReal.bot_sub]; simp
  | top => exact absurd rfl ha
  | coe x =>
    rw [← EReal.coe_sub, ← EReal.coe_sub, ← EReal.coe_sub, Ideal.exp_coe, Ideal.exp_coe, Ideal.exp_coe,
      ← EReal.coe_mul, ← Real.exp_add]
    congr 2; ring

theorem mx_add (n t : ℕ) : mx S (n + t) = max (mx S n) ((range t).sup fun k => S (n + k)) := by
  induction t with
  | zero => simp
  | succ t ih =>
    rw [← add_assoc, mx, Finset.range_add_one, Finset.sup_insert, Finset.range_add_one, Finset.sup_insert]
    rw [mx] at ih
    rw [ih]
    simp only [mx]
    change max _ (max _ _) = max _ (max _ _)
    rw [max_left_comm]

theorem sum_rescale (W : ℕ → EReal) (hT : ∀ k, S k ≠ ⊤) (hB : S 0 ≠ ⊥) (n t : ℕ) (ht : 0 < t) :
    Ideal.exp (mx S n - mx S (n + t)) * (∑ k ∈ range n, Ideal.exp (S k - mx S n) * W k)
      = ∑ k ∈ range n, Ideal.exp (S k - mx S (n + t)) * W k := by
  rcases Nat.eq_zero_or_pos n with rfl | hn
  · simp
  · obtain ⟨M, hM⟩ := mx_real hT hB hn
    obtain ⟨M', hM'⟩ := mx_real hT hB (show 0 < n + t by omega)
    rw [hM, hM']
    obtain ⟨r, hr, he⟩ := exp_nn (EReal.coe_ne_top M) M'
    rw [mul_sum_of _ _ (by rw [he]; exact_mod_cast hr) (by rw [he]; exact EReal.coe_ne_top _)]
    refine Finset.sum_congr rfl fun k _ => ?_
    rw [← mul_assoc, exp_shift (hT k)]

theorem num_step (hT : ∀ k, S k ≠ ⊤) (hB : S 0 ≠ ⊥) (n t : ℕ) (ht : 0 < t) :
    Ideal.exp (mx S n - mx S (n + t)) * num S V n
      + ∑ k ∈ range t, Ideal.exp (S (n + k) - mx S (n + t)) * V (n + k) = num S V (n + t) := by
  rw [num, sum_rescale V hT hB n t ht, num, Finset.sum_range_add]

theorem den_step (hT : ∀ k, S k ≠ ⊤) (hB : S 0 ≠ ⊥) (n t : ℕ) (ht : 0 < t) :
    Ideal.exp (mx S n - mx S (n + t)) * den S n
      + ∑ k ∈ range t, Ideal.exp (S (n + k) - mx S (n + t)) = den S (n + t) := by
  have := num_step (V := fun _ => 1) hT hB n t ht
  simpa only [num, den, mul_one] using this

/-- Keys from `n` on masked, the maximum over `n` of them is that over more. -/
theorem mx_ext {n N : ℕ} (h : n ≤ N) (hm : ∀ k, n ≤ k → S k = ⊥) : mx S N = mx S n := by
  obtain ⟨t, rfl⟩ := Nat.exists_eq_add_of_le h
  rw [mx_add]
  have : ((range t).sup fun k => S (n + k)) = ⊥ := by
    rw [Finset.sup_eq_bot_iff]; exact fun k _ => hm _ (by omega)
  rw [this]; simp

theorem num_ext {n N : ℕ} (hT : ∀ k, S k ≠ ⊤) (hB : S 0 ≠ ⊥) (hn : 0 < n) (h : n ≤ N)
    (hm : ∀ k, n ≤ k → S k = ⊥) : num S V N = num S V n := by
  have hx := mx_ext h hm
  obtain ⟨t, rfl⟩ := Nat.exists_eq_add_of_le h
  obtain ⟨M, hM⟩ := mx_real hT hB hn
  rw [num, num, hx, hM, Finset.sum_range_add]
  have : ∑ k ∈ range t, Ideal.exp (S (n + k) - (M : EReal)) * V (n + k) = 0 := by
    refine Finset.sum_eq_zero fun k _ => ?_
    rw [hm _ (by omega), EReal.bot_sub]; simp
  rw [this, add_zero]

theorem den_ext {n N : ℕ} (hT : ∀ k, S k ≠ ⊤) (hB : S 0 ≠ ⊥) (hn : 0 < n) (h : n ≤ N)
    (hm : ∀ k, n ≤ k → S k = ⊥) : den S N = den S n := by
  have := num_ext (V := fun _ => 1) hT hB hn h hm
  simpa only [num, den, mul_one] using this

/-- The sum of the exponentials is a positive real. -/
theorem den_pos (hT : ∀ k, S k ≠ ⊤) (hB : S 0 ≠ ⊥) {n : ℕ} (hn : 0 < n) : ∃ r : ℝ, 0 < r ∧ den S n = r := by
  obtain ⟨M, hM⟩ := mx_real hT hB hn
  choose e he0 he using fun k => exp_nn (hT k) M
  have hd : den S n = ((∑ k ∈ range n, e k : ℝ) : EReal) := by
    rw [den, hM, ← sum_coe]; exact Finset.sum_congr rfl fun k _ => he k
  refine ⟨_, ?_, hd⟩
  have hmem : (0 : ℕ) ∈ range n := Finset.mem_range.2 hn
  refine Finset.sum_pos' (fun k _ => he0 k) ⟨0, hmem, ?_⟩
  refine lt_of_le_of_ne (he0 0) fun h => ?_
  have h0 := he 0
  rw [← h] at h0
  have hx : ∃ x : ℝ, S 0 = x := ⟨(S 0).toReal, (EReal.coe_toReal (hT 0) hB).symm⟩
  obtain ⟨x, hx⟩ := hx
  rw [hx, ← EReal.coe_sub, Ideal.exp_coe] at h0
  exact (Real.exp_pos _).ne' (by exact_mod_cast h0)

/-- Dividing the weighted sum at the end is weighting with the divided exponentials. -/
theorem num_div (hT : ∀ k, S k ≠ ⊤) (hB : S 0 ≠ ⊥) {n : ℕ} (hn : 0 < n) :
    Ideal.div (num S V n) (den S n) = ∑ k ∈ range n, V k * Ideal.div (Ideal.exp (S k - mx S n)) (den S n) := by
  obtain ⟨r, hr, hd⟩ := den_pos hT hB hn
  have hne : (r : EReal) ≠ 0 := by exact_mod_cast hr.ne'
  have hdiv : ∀ x : EReal, Ideal.div x (r : EReal) = x * ((r⁻¹ : ℝ) : EReal) := fun x => by
    rw [Ideal.div, if_neg hne, EReal.coe_inv]
  rw [hd, hdiv, num, sum_mul_of _ _ (by exact_mod_cast (inv_pos.2 hr).le) (EReal.coe_ne_top _)]
  refine Finset.sum_congr rfl fun k _ => ?_
  rw [hdiv, mul_comm (V k), mul_right_comm]

end Cert.Online

end
-- ==== Proof.AttnVec.lean ====
/-
One tile of the attention as functions of whole blocks: the scores, the causal mask of the diagonal tile, the step of the
running softmax for a pair of heads, and the division at the end.
-/
module

public import proofs.«01_k».proof.Proof.Gen.AttnIdeal.Value
public import proofs.«01_k».proof.Proof.Online

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- What a pair of heads carries: per head the running maximum and the running sum, and the weighted sums of both. -/
abbrev Acc : Type := FVec Ideal S256x1 .f32 × FVec Ideal S256x1 .f32 × FVec Ideal S256x1 .f32 × FVec Ideal S256x1 .f32
  × FVec Ideal S256x128 .f32

/-- The lanes of the first head of a pair. -/
def lowV : IVec S256x128 1 :=
  broadcastTo S256x128 (shapeCast S1x128 k0_pay104 shapeCasts_S1x128_S1x128) broadcasts_S1x128_S256x128

def q0V (q : Vec Ideal S1x256x128 .bf16) : FVec Ideal S256x128 .bf16 :=
  select lowV (shapeCast S256x128 q shapeCasts_S1x256x128_S256x128) (broadcast S256x128 (Scalar.ofBits .bf16 0x0000#16))

def q1V (q : Vec Ideal S1x256x128 .bf16) : FVec Ideal S256x128 .bf16 :=
  select lowV (broadcast S256x128 (Scalar.ofBits .bf16 0x0000#16)) (shapeCast S256x128 q shapeCasts_S1x256x128_S256x128)

def scoreV (q : FVec Ideal S256x128 .bf16) (c : FVec Ideal S256x1 .f32) (k : FVec Ideal S128x256 .bf16)
    (ct : FVec Ideal S1x256 .f32) : FVec Ideal S256x256 .f32 :=
  subf (addf (matmul dot_S256x128_S128x256_S256x256_1_0_0_1_n_n none q k (constant S256x256 .f32 0x00000000#32))
    (broadcastTo S256x256 c broadcasts_S256x1_S256x256)) (broadcastTo S256x256 ct broadcasts_S1x256_S256x256)

def maskV (s : FVec Ideal S256x256 .f32) : FVec Ideal S256x256 .f32 :=
  select k0_pay105 s (broadcast S256x256 (Named.named κ "neg_inf" 0xF149F2CA#32))

def newM (m : FVec Ideal S256x1 .f32) (s : FVec Ideal S256x256 .f32) : FVec Ideal S256x1 .f32 :=
  maximumf m (shapeCast S256x1 (multiReduction .maximumf [1] S256 s 0xFF800000#32 reduces_S256x256_S256 (.inl rfl) rfl)
    shapeCasts_S256_S256x1)

def pV (m : FVec Ideal S256x1 .f32) (s : FVec Ideal S256x256 .f32) : FVec Ideal S256x256 .f32 :=
  exp (subf s (broadcastTo S256x256 (newM m s) broadcasts_S256x1_S256x256))

def newL (m l : FVec Ideal S256x1 .f32) (s : FVec Ideal S256x256 .f32) : FVec Ideal S256x1 .f32 :=
  addf (mulf (exp (subf m (newM m s))) l)
    (shapeCast S256x1 (multiReduction .add [1] S256 (pV m s) 0x00000000#32 reduces_S256x256_S256 (.inl rfl) rfl)
      shapeCasts_S256_S256x1)

def updV (m : FVec Ideal S256x1 .f32) (a : FVec Ideal S256x128 .f32) (s : FVec Ideal S256x256 .f32)
    (v : FVec Ideal S128x256 .bf16) : FVec Ideal S256x128 .f32 :=
  addf (mulf (broadcastTo S256x128 (exp (subf m (newM m s))) broadcasts_S256x1_S256x128) a)
    (matmul dot_S256x256_S128x256_S256x128_1_1_0_0_n_n none (truncf .bf16 (pV m s) bitsLt_bf16_f32) v
      (constant S256x128 .f32 0x00000000#32))

def stepV (s0 s1 : FVec Ideal S256x256 .f32) (v : FVec Ideal S128x256 .bf16) (acc : Acc) : Acc :=
  (newM acc.1 s0, newL acc.1 acc.2.1 s0, newM acc.2.2.1 s1, newL acc.2.2.1 acc.2.2.2.1 s1,
    select lowV (updV acc.1 acc.2.2.2.2 s0 v) (updV acc.2.2.1 acc.2.2.2.2 s1 v))

def initV : Acc :=
  (broadcast S256x1 (Named.named κ "neg_inf" 0xF149F2CA#32), broadcast S256x1 (Scalar.ofBits .f32 0x00000000#32),
   broadcast S256x1 (Named.named κ "neg_inf" 0xF149F2CA#32), broadcast S256x1 (Scalar.ofBits .f32 0x00000000#32),
   broadcast S256x128 (Scalar.ofBits .f32 0x00000000#32))

def finV (acc : Acc) : FVec Ideal S1x256x128 .bf16 :=
  shapeCast S1x256x128 (truncf .bf16 (divf acc.2.2.2.2 (select lowV
    (broadcastTo S256x128 (shapeCast S256x1 acc.2.1 shapeCasts_S256x1_S256x1) broadcasts_S256x1_S256x128)
    (broadcastTo S256x128 (shapeCast S256x1 acc.2.2.2.1 shapeCasts_S256x1_S256x1) broadcasts_S256x1_S256x128)))
      bitsLt_bf16_f32) shapeCasts_S256x128_S1x256x128

/-! ## Their entries -/

theorem neg_inf_val : (Named.named (F := Ideal) κ "neg_inf" (φ := .f32) 0xF149F2CA#32 : EReal) = ⊥ :=
  IdealRules.named_const.ideal_named_scalar _ _ _ _ rfl

theorem negInf_bits : Ideal.ofBits FTy.f32 0xFF800000#32 = (⊥ : EReal) := by
  simp [Ideal.ofBits, Ideal.ieee]

theorem low_iff (x : Fin 128) : IntOp.cmpi .slt (BitVec.ofNat 32 (x : ℕ)) 64#32 = 1#1 ↔ (x : ℕ) < 64 := by
  revert x; decide +kernel

theorem sge_iff (r κ : Fin 256) :
    IntOp.cmpi .sge (BitVec.ofNat 32 (r : ℕ)) (BitVec.ofNat 32 (κ : ℕ)) = 1#1 ↔ (κ : ℕ) ≤ (r : ℕ) := by
  rw [WordCmp.cmpi_sge_ofNat_eq_one_iff (by omega) (by omega)]

theorem lowV_apply (r : Fin 256) (x : Fin 128) :
    lowV (ix2 r x) = IntOp.cmpi .slt (BitVec.ofNat 32 (x : ℕ)) 64#32 := by
  unfold lowV k0_pay104
  pointwise!

theorem q0V_apply (q : Vec Ideal S1x256x128 .bf16) (r : Fin 256) (x : Fin 128) :
    q0V q (ix2 r x) = if (x : ℕ) < 64 then q (ix3 0 r x) else (0 : EReal) := by
  simp only [← low_iff, ← lowV_apply r x]
  unfold q0V
  pointwise
  rfl

theorem q1V_apply (q : Vec Ideal S1x256x128 .bf16) (r : Fin 256) (x : Fin 128) :
    q1V q (ix2 r x) = if (x : ℕ) < 64 then (0 : EReal) else q (ix3 0 r x) := by
  simp only [← low_iff, ← lowV_apply r x]
  unfold q1V
  pointwise
  rfl

theorem scoreV_apply (q : FVec Ideal S256x128 .bf16) (c : FVec Ideal S256x1 .f32) (k : FVec Ideal S128x256 .bf16)
    (ct : FVec Ideal S1x256 .f32) (r κ : Fin 256) :
    scoreV q c k ct (ix2 r κ) = ((∑ x : Fin 128, q (ix2 r x) * k (ix2 x κ) + c (ix2 r 0) - ct (ix2 0 κ) : EReal)) := by
  unfold scoreV
  pointwise

theorem maskV_apply (s : FVec Ideal S256x256 .f32) (r κ : Fin 256) :
    maskV s (ix2 r κ) = if (κ : ℕ) ≤ (r : ℕ) then s (ix2 r κ) else (⊥ : EReal) := by
  simp only [← sge_iff, ← neg_inf_val]
  unfold maskV k0_pay105
  pointwise
  rfl

theorem newM_apply (m : FVec Ideal S256x1 .f32) (s : FVec Ideal S256x256 .f32) (r : Fin 256) :
    newM m s (ix2 r 0) = max (m (ix2 r 0) : EReal) (Finset.univ.fold max ⊥ fun κ : Fin 256 => s (ix2 r κ)) := by
  unfold newM
  pointwise
  rw [negInf_bits]

theorem pV_apply (m : FVec Ideal S256x1 .f32) (s : FVec Ideal S256x256 .f32) (r κ : Fin 256) :
    pV m s (ix2 r κ) = Ideal.exp ((s (ix2 r κ) : EReal) - newM m s (ix2 r 0)) := by
  unfold pV
  pointwise

theorem newL_apply (m l : FVec Ideal S256x1 .f32) (s : FVec Ideal S256x256 .f32) (r : Fin 256) :
    newL m l s (ix2 r 0) = (Ideal.exp ((m (ix2 r 0) : EReal) - newM m s (ix2 r 0)) * l (ix2 r 0)
      + ∑ κ : Fin 256, Ideal.exp ((s (ix2 r κ) : EReal) - newM m s (ix2 r 0)) : EReal) := by
  simp only [← pV_apply]
  unfold newL
  pointwise

theorem updV_apply (m : FVec Ideal S256x1 .f32) (a : FVec Ideal S256x128 .f32) (s : FVec Ideal S256x256 .f32)
    (v : FVec Ideal S128x256 .bf16) (r : Fin 256) (x : Fin 128) :
    updV m a s v (ix2 r x) = (Ideal.exp ((m (ix2 r 0) : EReal) - newM m s (ix2 r 0)) * a (ix2 r x)
      + ∑ κ : Fin 256, Ideal.exp ((s (ix2 r κ) : EReal) - newM m s (ix2 r 0)) * v (ix2 x κ) : EReal) := by
  simp only [← pV_apply]
  unfold updV
  pointwise

theorem selV_apply (a b : FVec Ideal S256x128 .f32) (r : Fin 256) (x : Fin 128) :
    (select lowV a b (ix2 r x) : EReal) = if (x : ℕ) < 64 then a (ix2 r x) else b (ix2 r x) := by
  simp only [← low_iff, ← lowV_apply r x]
  pointwise
  rfl

theorem finV_apply (acc : Acc) (r : Fin 256) (x : Fin 128) :
    finV acc (ix3 0 r x) = Ideal.div (acc.2.2.2.2 (ix2 r x))
      (if (x : ℕ) < 64 then acc.2.1 (ix2 r 0) else acc.2.2.2.1 (ix2 r 0)) := by
  simp only [← low_iff, ← lowV_apply r x]
  unfold finV
  pointwise
  rfl

/-! ## One tile, on one row -/

theorem fold_sup (S : ℕ → EReal) (n : ℕ) : (Finset.univ.fold max ⊥ fun κ : Fin n => S κ) = (Finset.range n).sup S := by
  change Finset.univ.sup (fun κ : Fin n => S κ) = _
  refine le_antisymm (Finset.sup_le fun κ _ => Finset.le_sup (f := S) (Finset.mem_range.2 κ.2))
    (Finset.sup_le fun k hk => ?_)
  exact Finset.le_sup (f := fun κ : Fin n => S κ) (Finset.mem_univ (⟨k, Finset.mem_range.1 hk⟩ : Fin n))

section Row
open Cert.Online

variable {S W : ℕ → EReal} (hT : ∀ k, S k ≠ ⊤) (hB : S 0 ≠ ⊥)
variable {m l : FVec Ideal S256x1 .f32} {a : FVec Ideal S256x128 .f32} {s : FVec Ideal S256x256 .f32}
variable {v : FVec Ideal S128x256 .bf16} {r : Fin 256} {x : Fin 128} {n : ℕ}

include hT hB

theorem newM_row (hm : m (ix2 r 0) = mx S n) (hs : ∀ κ : Fin 256, s (ix2 r κ) = S (n + κ)) :
    newM m s (ix2 r 0) = mx S (n + 256) := by
  rw [newM_apply, mx_add, hm]
  simp only [hs]
  rw [fold_sup (fun k => S (n + k))]

theorem newL_row (hm : m (ix2 r 0) = mx S n) (hl : l (ix2 r 0) = den S n)
    (hs : ∀ κ : Fin 256, s (ix2 r κ) = S (n + κ)) : newL m l s (ix2 r 0) = den S (n + 256) := by
  rw [newL_apply, newM_row hT hB hm hs, ← den_step hT hB n 256 (by norm_num), hm, hl, Finset.sum_range]
  simp only [hs]

theorem updV_row (hm : m (ix2 r 0) = mx S n) (ha : a (ix2 r x) = num S W n)
    (hs : ∀ κ : Fin 256, s (ix2 r κ) = S (n + κ)) (hv : ∀ κ : Fin 256, v (ix2 x κ) = W (n + κ)) :
    updV m a s v (ix2 r x) = num S W (n + 256) := by
  rw [updV_apply, newM_row hT hB hm hs, ← num_step hT hB n 256 (by norm_num), hm, ha, Finset.sum_range]
  simp only [hs, hv]

end Row

/-! ## All tiles of a query block -/

variable (q0 q1 : FVec Ideal S256x128 .bf16) (c0 c1 : FVec Ideal S256x1 .f32)
variable (K V : ℕ → FVec Ideal S128x256 .bf16) (C0 C1 : ℕ → FVec Ideal S1x256 .f32)

/-- What the pair carries after its first `n` tiles. -/
def stV : ℕ → Acc
  | 0 => initV
  | n + 1 => stepV (scoreV q0 c0 (K n) (C0 n)) (scoreV q1 c1 (K n) (C1 n)) (V n) (stV n)

/-- What the pair writes, `n` tiles lying wholly below the diagonal one. -/
def outV (n : ℕ) : FVec Ideal S1x256x128 .bf16 :=
  finV (stepV (maskV (scoreV q0 c0 (K n) (C0 n))) (maskV (scoreV q1 c1 (K n) (C1 n))) (V n)
    (stV q0 q1 c0 c1 K V C0 C1 n))

open Cert.Online in
theorem outV_lo {S W : ℕ → EReal} (hT : ∀ k, S k ≠ ⊤) (hB : S 0 ≠ ⊥) {n : ℕ} {r : Fin 256} {x : Fin 128}
    (hx : (x : ℕ) < 64)
    (hs : ∀ j < n, ∀ κ : Fin 256, scoreV q0 c0 (K j) (C0 j) (ix2 r κ) = S (256 * j + κ))
    (hd : ∀ κ : Fin 256, maskV (scoreV q0 c0 (K n) (C0 n)) (ix2 r κ) = S (256 * n + κ))
    (hv : ∀ j ≤ n, ∀ κ : Fin 256, V j (ix2 x κ) = W (256 * j + κ)) :
    outV q0 q1 c0 c1 K V C0 C1 n (ix3 0 r x) = Ideal.div (num S W (256 * n + 256)) (den S (256 * n + 256)) := by
  have st : ∀ j ≤ n, (stV q0 q1 c0 c1 K V C0 C1 j).1 (ix2 r 0) = mx S (256 * j)
      ∧ (stV q0 q1 c0 c1 K V C0 C1 j).2.1 (ix2 r 0) = den S (256 * j)
      ∧ (stV q0 q1 c0 c1 K V C0 C1 j).2.2.2.2 (ix2 r x) = num S W (256 * j) := by
    intro j hj
    induction j with
    | zero =>
      simp only [stV, initV, mul_zero, mx_zero, den_zero, num_zero]
      refine ⟨neg_inf_val, ?_, ?_⟩ <;> pointwise
    | succ j ih =>
      obtain ⟨h1, h2, h3⟩ := ih (by omega)
      have hsj := hs j (by omega)
      refine ⟨newM_row hT hB h1 hsj, newL_row hT hB h1 h2 hsj, ?_⟩
      simp only [stV, stepV]
      rw [selV_apply, if_pos hx]
      exact updV_row hT hB h1 h3 hsj (hv j (by omega))
  obtain ⟨h1, h2, h3⟩ := st n le_rfl
  rw [outV, finV_apply, if_pos hx]
  simp only [stepV]
  rw [selV_apply, if_pos hx, newL_row hT hB h1 h2 hd, updV_row hT hB h1 h3 hd (hv n le_rfl)]

open Cert.Online in
theorem outV_hi {S W : ℕ → EReal} (hT : ∀ k, S k ≠ ⊤) (hB : S 0 ≠ ⊥) {n : ℕ} {r : Fin 256} {x : Fin 128}
    (hx : ¬ (x : ℕ) < 64)
    (hs : ∀ j < n, ∀ κ : Fin 256, scoreV q1 c1 (K j) (C1 j) (ix2 r κ) = S (256 * j + κ))
    (hd : ∀ κ : Fin 256, maskV (scoreV q1 c1 (K n) (C1 n)) (ix2 r κ) = S (256 * n + κ))
    (hv : ∀ j ≤ n, ∀ κ : Fin 256, V j (ix2 x κ) = W (256 * j + κ)) :
    outV q0 q1 c0 c1 K V C0 C1 n (ix3 0 r x) = Ideal.div (num S W (256 * n + 256)) (den S (256 * n + 256)) := by
  have st : ∀ j ≤ n, (stV q0 q1 c0 c1 K V C0 C1 j).2.2.1 (ix2 r 0) = mx S (256 * j)
      ∧ (stV q0 q1 c0 c1 K V C0 C1 j).2.2.2.1 (ix2 r 0) = den S (256 * j)
      ∧ (stV q0 q1 c0 c1 K V C0 C1 j).2.2.2.2 (ix2 r x) = num S W (256 * j) := by
    intro j hj
    induction j with
    | zero =>
      simp only [stV, initV, mul_zero, mx_zero, den_zero, num_zero]
      refine ⟨neg_inf_val, ?_, ?_⟩ <;> pointwise
    | succ j ih =>
      obtain ⟨h1, h2, h3⟩ := ih (by omega)
      have hsj := hs j (by omega)
      refine ⟨newM_row hT hB h1 hsj, newL_row hT hB h1 h2 hsj, ?_⟩
      simp only [stV, stepV]
      rw [selV_apply, if_neg hx]
      exact updV_row hT hB h1 h3 hsj (hv j (by omega))
  obtain ⟨h1, h2, h3⟩ := st n le_rfl
  rw [outV, finV_apply, if_neg hx]
  simp only [stepV]
  rw [selV_apply, if_neg hx, newL_row hT hB h1 h2 hd, updV_row hT hB h1 h3 hd (hv n le_rfl)]

end Cert.AttnVal

end
-- ==== Proof.AttnLoop.lean ====
/-
The loops of the attention over the tiles below the diagonal: every trip is the step of the running softmax, so what a
loop carries after `n` trips is that step `n` times.
-/
module

public import proofs.«01_k».proof.Proof.AttnVec

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- A tile of keys or values as loaded. -/
abbrev ldT (m : Memref sig .tc .vmem S1x512x2048 .bf16) (X : BufTy.Contents (Elt Ideal) m.view.ty) (off : Fin 3 → ℕ)
    (h : ∀ a, off a + S1x128x256.size a ≤ S1x512x2048.size a) : FVec Ideal S128x256 .bf16 :=
  shapeCast S128x256 (View.readAt (Elt Ideal) m.view (Rect.unit (s := S1x512x2048) off S1x128x256.size h).toLoadRect X)
    shapeCasts_S1x128x256_S128x256

/-- A row of running sums as loaded. -/
abbrev ldC (m : Memref sig .tc .vmem S8x2048 .f32) (X : BufTy.Contents (Elt Ideal) m.view.ty) (off : Fin 2 → ℕ)
    (h : ∀ a, off a + S1x256.size a ≤ S8x2048.size a) : FVec Ideal S1x256 .f32 :=
  View.readAt (Elt Ideal) m.view (Rect.unit (s := S8x2048) off S1x256.size h).toLoadRect X

section
variable (𝒱 : Variants) (c : Dev nD) (bd : Option 𝒱.V) (i : grid0.Coords) (arg2 : Memref sig .tc .vmem S1x256x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x2048x128 .f32) (harg5 : arg5.IsWhole) (arg6 : Memref sig .tc .vmem S1x8x2048 .f32) (harg6 : arg6.IsWhole) (arg7 : Memref sig .tc .vmem S1x256x512 .bf16) (harg7 : arg7.IsWhole) (arg8 : Memref sig .tc .vmem S2048x128 .f32) (harg8 : arg8.IsWhole) (arg9 : Memref sig .tc .vmem S8x2048 .f32) (harg9 : arg9.IsWhole)
variable (X3 : BufTy.Contents (Elt Ideal) arg3.view.ty) (X4 : BufTy.Contents (Elt Ideal) arg4.view.ty) (X9 : BufTy.Contents (Elt Ideal) arg9.view.ty)

theorem trip1 (v6 : Vec Ideal S256x128 .f32) (v13 : Vec Ideal S1x256x128 .bf16)
    (k : Fin (k0_t1_loop i).trips) (acc : Acc) :
    tripR_k0_t1 (F := Ideal) 𝒱 c bd i arg2 harg2 arg3 harg3 arg4 harg4 arg5 harg5 arg6 harg6 arg7 harg7 arg8 harg8 arg9 harg9 v6 v13 X3 X4 X9 k acc
      = stepV (scoreV (q0V v13) (extractStridedSlice S256x1 ![0, 0] v6 slices_S256x128_o0_0_S256x1) (ldT arg3 X3 (k0_off2 i k) (k0_off2_inb i k)) (ldC arg9 X9 (k0_off3 i k) (k0_off3_inb i k)))
          (scoreV (q1V v13) (extractStridedSlice S256x1 ![0, 1] v6 slices_S256x128_o0_1_S256x1) (ldT arg3 X3 (k0_off2 i k) (k0_off2_inb i k)) (ldC arg9 X9 (k0_off4 i k) (k0_off4_inb i k)))
          (ldT arg4 X4 (k0_off2 i k) (k0_off2_inb i k)) acc := by
  unfold tripR_k0_t1 trip_k0_t1
  rfl

theorem loop1 (v6 : Vec Ideal S256x128 .f32) (v13 : Vec Ideal S1x256x128 .bf16)
    (K V : ℕ → FVec Ideal S128x256 .bf16) (C0 C1 : ℕ → FVec Ideal S1x256 .f32)
    (hK : ∀ k : Fin (k0_t1_loop i).trips, ldT arg3 X3 (k0_off2 i k) (k0_off2_inb i k) = K k)
    (hV : ∀ k : Fin (k0_t1_loop i).trips, ldT arg4 X4 (k0_off2 i k) (k0_off2_inb i k) = V k)
    (h0 : ∀ k : Fin (k0_t1_loop i).trips, ldC arg9 X9 (k0_off3 i k) (k0_off3_inb i k) = C0 k)
    (h1 : ∀ k : Fin (k0_t1_loop i).trips, ldC arg9 X9 (k0_off4 i k) (k0_off4_inb i k) = C1 k)
    (n : ℕ) (hn : n ≤ (k0_t1_loop i).trips) :
    st_k0_t1 (F := Ideal) 𝒱 c bd i arg2 harg2 arg3 harg3 arg4 harg4 arg5 harg5 arg6 harg6 arg7 harg7 arg8 harg8 arg9 harg9 v6 v13 X3 X4 X9 initV n
      = stV (q0V v13) (q1V v13) (extractStridedSlice S256x1 ![0, 0] v6 slices_S256x128_o0_0_S256x1) (extractStridedSlice S256x1 ![0, 1] v6 slices_S256x128_o0_1_S256x1) K V C0 C1 n := by
  induction n with
  | zero => rw [st_k0_t1_zero]; rfl
  | succ n ih =>
    rw [st_k0_t1_succ (k := ⟨n, hn⟩), trip1, hK, hV, h0, h1, ih (by omega)]
    rfl

theorem trip3 (e1 : BitVec 32) (v116 v119 : FVec Ideal S256x128 .bf16) (v120 v121 : FVec Ideal S256x1 .f32) (w1 w2 w3 w4 : FVec Ideal S256x1 .f32) (w5 : FVec Ideal S256x128 .f32) (e2 e3 : BitVec 32)
    (k : Fin (k0_t3_loop i).trips) (acc : Acc) :
    tripR_k0_t3 (F := Ideal) 𝒱 c bd i arg2 harg2 arg3 harg3 arg4 harg4 arg5 harg5 arg6 harg6 arg7 harg7 arg8 harg8 arg9 harg9 e1 k0_pay104 k0_pay105 v116 v119 v120 v121 w1 w2 w3 w4 w5 e2 e3 X3 X4 X9 k acc
      = stepV (scoreV v116 v120 (ldT arg3 X3 (k0_off11 i k) (k0_off11_inb i k)) (ldC arg9 X9 (k0_off12 i k) (k0_off12_inb i k)))
          (scoreV v119 v121 (ldT arg3 X3 (k0_off11 i k) (k0_off11_inb i k)) (ldC arg9 X9 (k0_off13 i k) (k0_off13_inb i k)))
          (ldT arg4 X4 (k0_off11 i k) (k0_off11_inb i k)) acc := by
  unfold tripR_k0_t3 trip_k0_t3
  rfl

theorem loop3 (e1 : BitVec 32) (v116 v119 : FVec Ideal S256x128 .bf16) (v120 v121 : FVec Ideal S256x1 .f32) (w1 w2 w3 w4 : FVec Ideal S256x1 .f32) (w5 : FVec Ideal S256x128 .f32) (e2 e3 : BitVec 32)
    (K V : ℕ → FVec Ideal S128x256 .bf16) (C0 C1 : ℕ → FVec Ideal S1x256 .f32)
    (hK : ∀ k : Fin (k0_t3_loop i).trips, ldT arg3 X3 (k0_off11 i k) (k0_off11_inb i k) = K k)
    (hV : ∀ k : Fin (k0_t3_loop i).trips, ldT arg4 X4 (k0_off11 i k) (k0_off11_inb i k) = V k)
    (h0 : ∀ k : Fin (k0_t3_loop i).trips, ldC arg9 X9 (k0_off12 i k) (k0_off12_inb i k) = C0 k)
    (h1 : ∀ k : Fin (k0_t3_loop i).trips, ldC arg9 X9 (k0_off13 i k) (k0_off13_inb i k) = C1 k)
    (n : ℕ) (hn : n ≤ (k0_t3_loop i).trips) :
    st_k0_t3 (F := Ideal) 𝒱 c bd i arg2 harg2 arg3 harg3 arg4 harg4 arg5 harg5 arg6 harg6 arg7 harg7 arg8 harg8 arg9 harg9 e1 k0_pay104 k0_pay105 v116 v119 v120 v121 w1 w2 w3 w4 w5 e2 e3 X3 X4 X9 initV n
      = stV v116 v119 v120 v121 K V C0 C1 n := by
  induction n with
  | zero => rw [st_k0_t3_zero]; rfl
  | succ n ih =>
    rw [st_k0_t3_succ (k := ⟨n, hn⟩), trip3, hK, hV, h0, h1, ih (by omega)]
    rfl

theorem trip5 (e1 : BitVec 32) (v214 v217 : FVec Ideal S256x128 .bf16) (v218 v219 : FVec Ideal S256x1 .f32)
    (k : Fin (k0_t5_loop i).trips) (acc : Acc) :
    tripR_k0_t5 (F := Ideal) 𝒱 c bd i arg2 harg2 arg3 harg3 arg4 harg4 arg5 harg5 arg6 harg6 arg7 harg7 arg8 harg8 arg9 harg9 e1 k0_pay104 k0_pay105 v214 v217 v218 v219 X3 X4 X9 k acc
      = stepV (scoreV v214 v218 (ldT arg3 X3 (k0_off20 i k) (k0_off20_inb i k)) (ldC arg9 X9 (k0_off21 i k) (k0_off21_inb i k)))
          (scoreV v217 v219 (ldT arg3 X3 (k0_off20 i k) (k0_off20_inb i k)) (ldC arg9 X9 (k0_off22 i k) (k0_off22_inb i k)))
          (ldT arg4 X4 (k0_off20 i k) (k0_off20_inb i k)) acc := by
  unfold tripR_k0_t5 trip_k0_t5
  rfl

theorem loop5 (e1 : BitVec 32) (v214 v217 : FVec Ideal S256x128 .bf16) (v218 v219 : FVec Ideal S256x1 .f32)
    (K V : ℕ → FVec Ideal S128x256 .bf16) (C0 C1 : ℕ → FVec Ideal S1x256 .f32)
    (hK : ∀ k : Fin (k0_t5_loop i).trips, ldT arg3 X3 (k0_off20 i k) (k0_off20_inb i k) = K k)
    (hV : ∀ k : Fin (k0_t5_loop i).trips, ldT arg4 X4 (k0_off20 i k) (k0_off20_inb i k) = V k)
    (h0 : ∀ k : Fin (k0_t5_loop i).trips, ldC arg9 X9 (k0_off21 i k) (k0_off21_inb i k) = C0 k)
    (h1 : ∀ k : Fin (k0_t5_loop i).trips, ldC arg9 X9 (k0_off22 i k) (k0_off22_inb i k) = C1 k)
    (n : ℕ) (hn : n ≤ (k0_t5_loop i).trips) :
    st_k0_t5 (F := Ideal) 𝒱 c bd i arg2 harg2 arg3 harg3 arg4 harg4 arg5 harg5 arg6 harg6 arg7 harg7 arg8 harg8 arg9 harg9 e1 k0_pay104 k0_pay105 v214 v217 v218 v219 X3 X4 X9 initV n
      = stV v214 v217 v218 v219 K V C0 C1 n := by
  induction n with
  | zero => rw [st_k0_t5_zero]; rfl
  | succ n ih =>
    rw [st_k0_t5_succ (k := ⟨n, hn⟩), trip5, hK, hV, h0, h1, ih (by omega)]
    rfl

theorem trip7 (e1 : BitVec 32) (v6 : Vec Ideal S256x128 .f32) (v307 : Vec Ideal S1x256x128 .bf16)
    (k : Fin (k0_t7_loop i).trips) (acc : Acc) :
    tripR_k0_t7 (F := Ideal) 𝒱 c bd i arg2 harg2 arg3 harg3 arg4 harg4 arg5 harg5 arg6 harg6 arg7 harg7 arg8 harg8 arg9 harg9 e1 v6 k0_pay104 k0_pay105 v307 X3 X4 X9 k acc
      = stepV (scoreV (q0V v307) (extractStridedSlice S256x1 ![0, 6] v6 slices_S256x128_o0_6_S256x1) (ldT arg3 X3 (k0_off29 i k) (k0_off29_inb i k)) (ldC arg9 X9 (k0_off30 i k) (k0_off30_inb i k)))
          (scoreV (q1V v307) (extractStridedSlice S256x1 ![0, 7] v6 slices_S256x128_o0_7_S256x1) (ldT arg3 X3 (k0_off29 i k) (k0_off29_inb i k)) (ldC arg9 X9 (k0_off31 i k) (k0_off31_inb i k)))
          (ldT arg4 X4 (k0_off29 i k) (k0_off29_inb i k)) acc := by
  unfold tripR_k0_t7 trip_k0_t7
  rfl

theorem loop7 (e1 : BitVec 32) (v6 : Vec Ideal S256x128 .f32) (v307 : Vec Ideal S1x256x128 .bf16)
    (K V : ℕ → FVec Ideal S128x256 .bf16) (C0 C1 : ℕ → FVec Ideal S1x256 .f32)
    (hK : ∀ k : Fin (k0_t7_loop i).trips, ldT arg3 X3 (k0_off29 i k) (k0_off29_inb i k) = K k)
    (hV : ∀ k : Fin (k0_t7_loop i).trips, ldT arg4 X4 (k0_off29 i k) (k0_off29_inb i k) = V k)
    (h0 : ∀ k : Fin (k0_t7_loop i).trips, ldC arg9 X9 (k0_off30 i k) (k0_off30_inb i k) = C0 k)
    (h1 : ∀ k : Fin (k0_t7_loop i).trips, ldC arg9 X9 (k0_off31 i k) (k0_off31_inb i k) = C1 k)
    (n : ℕ) (hn : n ≤ (k0_t7_loop i).trips) :
    st_k0_t7 (F := Ideal) 𝒱 c bd i arg2 harg2 arg3 harg3 arg4 harg4 arg5 harg5 arg6 harg6 arg7 harg7 arg8 harg8 arg9 harg9 e1 v6 k0_pay104 k0_pay105 v307 X3 X4 X9 initV n
      = stV (q0V v307) (q1V v307) (extractStridedSlice S256x1 ![0, 6] v6 slices_S256x128_o0_6_S256x1) (extractStridedSlice S256x1 ![0, 7] v6 slices_S256x128_o0_7_S256x1) K V C0 C1 n := by
  induction n with
  | zero => rw [st_k0_t7_zero]; rfl
  | succ n ih =>
    rw [st_k0_t7_succ (k := ⟨n, hn⟩), trip7, hK, hV, h0, h1, ih (by omega)]
    rfl

end

end Cert.AttnVal

end
-- ==== Proof.AttnBlk.lean ====
/-
What the attention reads from its blocks: tiles of the keys, the values and the running sums, and where they lie.
-/
module

public import proofs.«01_k».proof.Proof.AttnLoop

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- Tile `j` of pair `p` of the keys or values. -/
def kB (x : Vec Ideal S1x512x2048 .bf16) (p j : ℕ) : FVec Ideal S128x256 .bf16 := fun y =>
  x (ix3 0 ⟨(128 * p + (y 0).val) % 512, Nat.mod_lt _ (by norm_num)⟩ ⟨(256 * j + (y 1).val) % 2048, Nat.mod_lt _ (by norm_num)⟩)

/-- Tile `j` of head `h` of the running sums along the keys. -/
def ctB (x : Vec Ideal S8x2048 .f32) (h j : ℕ) : FVec Ideal S1x256 .f32 := fun y =>
  x (ix2 ⟨h % 8, Nat.mod_lt _ (by norm_num)⟩ ⟨(256 * j + (y 1).val) % 2048, Nat.mod_lt _ (by norm_num)⟩)

/-- The running sums of head `h` at the queries of block `qi`. -/
def cB (x : Vec Ideal S2048x128 .f32) (qi h : ℕ) : FVec Ideal S256x1 .f32 := fun y =>
  x (ix2 ⟨(256 * qi + (y 0).val) % 2048, Nat.mod_lt _ (by norm_num)⟩ ⟨h % 128, Nat.mod_lt _ (by norm_num)⟩)

/-- The queries of pair `p`. -/
def qB (x : Vec Ideal S1x256x512 .bf16) (p : ℕ) : Vec Ideal S1x256x128 .bf16 := fun y =>
  x (ix3 0 (y 1) ⟨(128 * p + (y 2).val) % 512, Nat.mod_lt _ (by norm_num)⟩)

theorem tile_apply (X : Vec Ideal S1x128x256 .bf16) (a : Fin 128) (b : Fin 256) :
    shapeCast S128x256 X shapeCasts_S1x128x256_S128x256 (ix2 a b) = X (ix3 0 a b) := by
  pointwise

theorem ld_tile (x : Vec Ideal S1x512x2048 .bf16) {p j : ℕ}
    (h : ∀ a, (![0, 128 * p, 256 * j] : Fin 3 → ℕ) a + S1x128x256.size a ≤ S1x512x2048.size a) (a : Fin 128) (b : Fin 256) :
    View.ld x (Rect.unit (s := S1x512x2048) ![0, 128 * p, 256 * j] S1x128x256.size h) (ix3 0 a b)
      = x (ix3 0 ⟨128 * p + a, by have : 128 * p + 128 ≤ 512 := h 1; omega⟩
          ⟨256 * j + b, by have : 256 * j + 256 ≤ 2048 := h 2; omega⟩) := by
  pointwise

theorem ldT_eq {m : Memref sig .tc .vmem S1x512x2048 .bf16} {X : BufTy.Contents (Elt Ideal) m.view.ty}
    {x : Vec Ideal S1x512x2048 .bf16} (hx : m.view.read (Elt Ideal) X = x) {off : Fin 3 → ℕ}
    (h : ∀ a, off a + S1x128x256.size a ≤ S1x512x2048.size a) {p j : ℕ} (ho : off = ![0, 128 * p, 256 * j]) :
    ldT m X off h = kB x p j := by
  subst ho
  have h1 : 128 * p + 128 ≤ 512 := h 1
  have h2 : 256 * j + 256 ≤ 2048 := h 2
  funext y
  idx_vars y
  unfold ldT
  rw [tile_apply, View.readAt_eq_ld, hx, ld_tile]
  exact congrArg x (congrArg₂ (ix3 0) (Fin.ext (Nat.mod_eq_of_lt (by omega)).symm)
    (Fin.ext (Nat.mod_eq_of_lt (by omega)).symm))

theorem ldC_eq {m : Memref sig .tc .vmem S8x2048 .f32} {X : BufTy.Contents (Elt Ideal) m.view.ty}
    {x : Vec Ideal S8x2048 .f32} (hx : m.view.read (Elt Ideal) X = x) {off : Fin 2 → ℕ}
    (h : ∀ a, off a + S1x256.size a ≤ S8x2048.size a) {p j : ℕ} (ho : off = ![p, 256 * j]) :
    ldC m X off h = ctB x p j := by
  subst ho
  have h1 : p + 1 ≤ 8 := h 0
  have h2 : 256 * j + 256 ≤ 2048 := h 1
  funext y
  idx_vars y
  unfold ldC
  rw [View.readAt_eq_ld, hx]
  pointwise
  exact congrArg x (congrArg₂ ix2 (Fin.ext (Nat.mod_eq_of_lt (by omega)).symm)
    (Fin.ext (Nat.mod_eq_of_lt (by omega)).symm))

theorem ext_apply (v : FVec Ideal S256x128 .f32) (h : ℕ) (hs : S256x128.Slices ![0, h] S256x1) (hh : h < 8) (r : Fin 256) :
    extractStridedSlice S256x1 ![0, h] v hs (ix2 r 0) = v (ix2 r ⟨h, by omega⟩) := by
  pointwise

/-- The running sums at a block of queries as loaded. -/
abbrev ld6 (m : Memref sig .tc .vmem S2048x128 .f32) (X : BufTy.Contents (Elt Ideal) m.view.ty) (off : Fin 2 → ℕ)
    (h : ∀ a, off a + S256x128.size a ≤ S2048x128.size a) : FVec Ideal S256x128 .f32 :=
  View.readAt (Elt Ideal) m.view (Rect.unit (s := S2048x128) off S256x128.size h).toLoadRect X

theorem ldCol_eq {m : Memref sig .tc .vmem S2048x128 .f32} {X : BufTy.Contents (Elt Ideal) m.view.ty}
    {x : Vec Ideal S2048x128 .f32} (hx : m.view.read (Elt Ideal) X = x) {off : Fin 2 → ℕ}
    (h : ∀ a, off a + S256x128.size a ≤ S2048x128.size a) {qi p : ℕ} (ho : off = ![256 * qi, 0]) (hp : p < 8)
    (hs : S256x128.Slices ![0, p] S256x1) :
    extractStridedSlice S256x1 ![0, p] (ld6 m X off h) hs
      = cB x qi p := by
  subst ho
  have h1 : 256 * qi + 256 ≤ 2048 := h 0
  funext y
  idx_vars y
  obtain rfl : y1 = 0 := Subsingleton.elim _ _
  rw [ext_apply _ _ _ hp, ld6, View.readAt_eq_ld, hx]
  pointwise
  exact congrArg x (congrArg₂ ix2 (Fin.ext (Nat.mod_eq_of_lt (by omega)).symm)
    (Fin.ext (Nat.mod_eq_of_lt (by omega)).symm))

/-- The queries of a pair as loaded. -/
abbrev ldQ (m : Memref sig .tc .vmem S1x256x512 .bf16) (X : BufTy.Contents (Elt Ideal) m.view.ty) (off : Fin 3 → ℕ)
    (h : ∀ a, off a + S1x256x128.size a ≤ S1x256x512.size a) : FVec Ideal S1x256x128 .bf16 :=
  View.readAt (Elt Ideal) m.view (Rect.unit (s := S1x256x512) off S1x256x128.size h).toLoadRect X

theorem ldQ_eq {m : Memref sig .tc .vmem S1x256x512 .bf16} {X : BufTy.Contents (Elt Ideal) m.view.ty}
    {x : Vec Ideal S1x256x512 .bf16} (hx : m.view.read (Elt Ideal) X = x) {off : Fin 3 → ℕ}
    (h : ∀ a, off a + S1x256x128.size a ≤ S1x256x512.size a) {p : ℕ} (ho : off = ![0, 0, 128 * p]) :
    ldQ m X off h = qB x p := by
  subst ho
  have h1 : 128 * p + 128 ≤ 512 := h 2
  funext y
  idx_vars y
  obtain rfl : y0 = 0 := Subsingleton.elim _ _
  rw [ldQ, View.readAt_eq_ld, hx]
  pointwise
  exact congrArg x (congrArg (ix3 0 y1) (Fin.ext (Nat.mod_eq_of_lt (by omega)).symm))

/-! ## Where the tiles lie -/

theorem off1 : ∀ (t : Fin cfg0.N), k0_off1 (grid0.coords t) = ![256 * (t.val % 8), 0] :=
  (by decide +kernel : ∀ (t : Fin grid0.N), _)

theorem trips1 : ∀ t : Fin cfg0.N, (k0_t1_loop (grid0.coords t)).trips = t.val % 8 :=
  (by decide +kernel : ∀ t : Fin grid0.N, _)
theorem trips2 : ∀ t : Fin cfg0.N, (k0_t2_loop (grid0.coords t)).trips = 0 :=
  (by decide +kernel : ∀ t : Fin grid0.N, _)
theorem off2 : ∀ (t : Fin cfg0.N) (k : Fin (k0_t1_loop (grid0.coords t)).trips),
    k0_off2 (grid0.coords t) k = ![0, 128 * 0, 256 * k.val] :=
  (by decide +kernel : ∀ (t : Fin grid0.N) (k : Fin (k0_t1_loop (grid0.coords t)).trips), _)
theorem off3 : ∀ (t : Fin cfg0.N) (k : Fin (k0_t1_loop (grid0.coords t)).trips),
    k0_off3 (grid0.coords t) k = ![0, 256 * k.val] :=
  (by decide +kernel : ∀ (t : Fin grid0.N) (k : Fin (k0_t1_loop (grid0.coords t)).trips), _)
theorem off4 : ∀ (t : Fin cfg0.N) (k : Fin (k0_t1_loop (grid0.coords t)).trips),
    k0_off4 (grid0.coords t) k = ![1, 256 * k.val] :=
  (by decide +kernel : ∀ (t : Fin grid0.N) (k : Fin (k0_t1_loop (grid0.coords t)).trips), _)
theorem off8 : ∀ (t : Fin cfg0.N), k0_off8 (grid0.coords t) = ![0, 128 * 0, 256 * (t.val % 8)] :=
  (by decide +kernel : ∀ (t : Fin grid0.N), _)
theorem off9 : ∀ (t : Fin cfg0.N), k0_off9 (grid0.coords t) = ![0, 256 * (t.val % 8)] :=
  (by decide +kernel : ∀ (t : Fin grid0.N), _)
theorem off10 : ∀ (t : Fin cfg0.N), k0_off10 (grid0.coords t) = ![1, 256 * (t.val % 8)] :=
  (by decide +kernel : ∀ (t : Fin grid0.N), _)

theorem trips3 : ∀ t : Fin cfg0.N, (k0_t3_loop (grid0.coords t)).trips = t.val % 8 :=
  (by decide +kernel : ∀ t : Fin grid0.N, _)
theorem trips4 : ∀ t : Fin cfg0.N, (k0_t4_loop (grid0.coords t)).trips = 0 :=
  (by decide +kernel : ∀ t : Fin grid0.N, _)
theorem off11 : ∀ (t : Fin cfg0.N) (k : Fin (k0_t3_loop (grid0.coords t)).trips),
    k0_off11 (grid0.coords t) k = ![0, 128 * 1, 256 * k.val] :=
  (by decide +kernel : ∀ (t : Fin grid0.N) (k : Fin (k0_t3_loop (grid0.coords t)).trips), _)
theorem off12 : ∀ (t : Fin cfg0.N) (k : Fin (k0_t3_loop (grid0.coords t)).trips),
    k0_off12 (grid0.coords t) k = ![2, 256 * k.val] :=
  (by decide +kernel : ∀ (t : Fin grid0.N) (k : Fin (k0_t3_loop (grid0.coords t)).trips), _)
theorem off13 : ∀ (t : Fin cfg0.N) (k : Fin (k0_t3_loop (grid0.coords t)).trips),
    k0_off13 (grid0.coords t) k = ![3, 256 * k.val] :=
  (by decide +kernel : ∀ (t : Fin grid0.N) (k : Fin (k0_t3_loop (grid0.coords t)).trips), _)
theorem off17 : ∀ (t : Fin cfg0.N), k0_off17 (grid0.coords t) = ![0, 128 * 1, 256 * (t.val % 8)] :=
  (by decide +kernel : ∀ (t : Fin grid0.N), _)
theorem off18 : ∀ (t : Fin cfg0.N), k0_off18 (grid0.coords t) = ![2, 256 * (t.val % 8)] :=
  (by decide +kernel : ∀ (t : Fin grid0.N), _)
theorem off19 : ∀ (t : Fin cfg0.N), k0_off19 (grid0.coords t) = ![3, 256 * (t.val % 8)] :=
  (by decide +kernel : ∀ (t : Fin grid0.N), _)

theorem trips5 : ∀ t : Fin cfg0.N, (k0_t5_loop (grid0.coords t)).trips = t.val % 8 :=
  (by decide +kernel : ∀ t : Fin grid0.N, _)
theorem trips6 : ∀ t : Fin cfg0.N, (k0_t6_loop (grid0.coords t)).trips = 0 :=
  (by decide +kernel : ∀ t : Fin grid0.N, _)
theorem off20 : ∀ (t : Fin cfg0.N) (k : Fin (k0_t5_loop (grid0.coords t)).trips),
    k0_off20 (grid0.coords t) k = ![0, 128 * 2, 256 * k.val] :=
  (by decide +kernel : ∀ (t : Fin grid0.N) (k : Fin (k0_t5_loop (grid0.coords t)).trips), _)
theorem off21 : ∀ (t : Fin cfg0.N) (k : Fin (k0_t5_loop (grid0.coords t)).trips),
    k0_off21 (grid0.coords t) k = ![4, 256 * k.val] :=
  (by decide +kernel : ∀ (t : Fin grid0.N) (k : Fin (k0_t5_loop (grid0.coords t)).trips), _)
theorem off22 : ∀ (t : Fin cfg0.N) (k : Fin (k0_t5_loop (grid0.coords t)).trips),
    k0_off22 (grid0.coords t) k = ![5, 256 * k.val] :=
  (by decide +kernel : ∀ (t : Fin grid0.N) (k : Fin (k0_t5_loop (grid0.coords t)).trips), _)
theorem off26 : ∀ (t : Fin cfg0.N), k0_off26 (grid0.coords t) = ![0, 128 * 2, 256 * (t.val % 8)] :=
  (by decide +kernel : ∀ (t : Fin grid0.N), _)
theorem off27 : ∀ (t : Fin cfg0.N), k0_off27 (grid0.coords t) = ![4, 256 * (t.val % 8)] :=
  (by decide +kernel : ∀ (t : Fin grid0.N), _)
theorem off28 : ∀ (t : Fin cfg0.N), k0_off28 (grid0.coords t) = ![5, 256 * (t.val % 8)] :=
  (by decide +kernel : ∀ (t : Fin grid0.N), _)

theorem trips7 : ∀ t : Fin cfg0.N, (k0_t7_loop (grid0.coords t)).trips = t.val % 8 :=
  (by decide +kernel : ∀ t : Fin grid0.N, _)
theorem trips8 : ∀ t : Fin cfg0.N, (k0_t8_loop (grid0.coords t)).trips = 0 :=
  (by decide +kernel : ∀ t : Fin grid0.N, _)
theorem off29 : ∀ (t : Fin cfg0.N) (k : Fin (k0_t7_loop (grid0.coords t)).trips),
    k0_off29 (grid0.coords t) k = ![0, 128 * 3, 256 * k.val] :=
  (by decide +kernel : ∀ (t : Fin grid0.N) (k : Fin (k0_t7_loop (grid0.coords t)).trips), _)
theorem off30 : ∀ (t : Fin cfg0.N) (k : Fin (k0_t7_loop (grid0.coords t)).trips),
    k0_off30 (grid0.coords t) k = ![6, 256 * k.val] :=
  (by decide +kernel : ∀ (t : Fin grid0.N) (k : Fin (k0_t7_loop (grid0.coords t)).trips), _)
theorem off31 : ∀ (t : Fin cfg0.N) (k : Fin (k0_t7_loop (grid0.coords t)).trips),
    k0_off31 (grid0.coords t) k = ![7, 256 * k.val] :=
  (by decide +kernel : ∀ (t : Fin grid0.N) (k : Fin (k0_t7_loop (grid0.coords t)).trips), _)
theorem off35 : ∀ (t : Fin cfg0.N), k0_off35 (grid0.coords t) = ![0, 128 * 3, 256 * (t.val % 8)] :=
  (by decide +kernel : ∀ (t : Fin grid0.N), _)
theorem off36 : ∀ (t : Fin cfg0.N), k0_off36 (grid0.coords t) = ![6, 256 * (t.val % 8)] :=
  (by decide +kernel : ∀ (t : Fin grid0.N), _)
theorem off37 : ∀ (t : Fin cfg0.N), k0_off37 (grid0.coords t) = ![7, 256 * (t.val % 8)] :=
  (by decide +kernel : ∀ (t : Fin grid0.N), _)

end Cert.AttnVal

end
-- ==== Proof.AttnRun.lean ====
/-
What one grid point of the attention writes, as a function of its blocks.
-/
module

public import proofs.«01_k».proof.Proof.AttnBlk

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- What pair `p` of the query block `qi` is written as. -/
def outP (x0 : Vec Ideal S1x256x512 .bf16) (x1 x2 : Vec Ideal S1x512x2048 .bf16) (xs0 : Vec Ideal S2048x128 .f32)
    (xs1 : Vec Ideal S8x2048 .f32) (qi p : ℕ) : FVec Ideal S1x256x128 .bf16 :=
  outV (q0V (qB x0 p)) (q1V (qB x0 p)) (cB xs0 qi (2 * p)) (cB xs0 qi (2 * p + 1)) (kB x1 p) (kB x2 p)
    (ctB xs1 (2 * p)) (ctB xs1 (2 * p + 1)) qi

section
variable (c : Dev nD) (arg2 : Memref sig .tc .vmem S1x256x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x2048x128 .f32) (harg5 : arg5.IsWhole) (arg6 : Memref sig .tc .vmem S1x8x2048 .f32) (harg6 : arg6.IsWhole) (arg7 : Memref sig .tc .vmem S1x256x512 .bf16) (harg7 : arg7.IsWhole) (arg8 : Memref sig .tc .vmem S2048x128 .f32) (harg8 : arg8.IsWhole) (arg9 : Memref sig .tc .vmem S8x2048 .f32) (harg9 : arg9.IsWhole)
variable (t : Fin cfg0.N)
variable {X2 : BufTy.Contents (Elt Ideal) arg2.view.ty} {X3 : BufTy.Contents (Elt Ideal) arg3.view.ty} {X4 : BufTy.Contents (Elt Ideal) arg4.view.ty}
variable {X8 : BufTy.Contents (Elt Ideal) arg8.view.ty} {X9 : BufTy.Contents (Elt Ideal) arg9.view.ty}
variable {x0 : Vec Ideal S1x256x512 .bf16} {x1 x2 : Vec Ideal S1x512x2048 .bf16} {xs0 : Vec Ideal S2048x128 .f32}
variable {xs1 : Vec Ideal S8x2048 .f32}
variable (h2 : arg2.view.read (Elt Ideal) X2 = x0) (h3 : arg3.view.read (Elt Ideal) X3 = x1)
variable (h4 : arg4.view.read (Elt Ideal) X4 = x2) (h8 : arg8.view.read (Elt Ideal) X8 = xs0)
variable (h9 : arg9.view.read (Elt Ideal) X9 = xs1)

/-- Pair 0: the tiles below the diagonal by the loop, then the diagonal tile and the division. -/
def body0 (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 : BitVec 32) : FVec Ideal S1x256x128 .bf16 :=
  finV (stepV
    (maskV (scoreV (q0V (ldQ arg2 X2 ![0, 0, 0] inb_S1x256x512_S1x256x128_0_0_0)) (extractStridedSlice S256x1 ![0, 0] (ld6 arg8 X8 (k0_off1 (grid0.coords t)) (k0_off1_inb (grid0.coords t))) slices_S256x128_o0_0_S256x1) (ldT arg3 X3 (k0_off8 (grid0.coords t)) (k0_off8_inb (grid0.coords t))) (ldC arg9 X9 (k0_off9 (grid0.coords t)) (k0_off9_inb (grid0.coords t)))))
    (maskV (scoreV (q1V (ldQ arg2 X2 ![0, 0, 0] inb_S1x256x512_S1x256x128_0_0_0)) (extractStridedSlice S256x1 ![0, 1] (ld6 arg8 X8 (k0_off1 (grid0.coords t)) (k0_off1_inb (grid0.coords t))) slices_S256x128_o0_1_S256x1) (ldT arg3 X3 (k0_off8 (grid0.coords t)) (k0_off8_inb (grid0.coords t))) (ldC arg9 X9 (k0_off10 (grid0.coords t)) (k0_off10_inb (grid0.coords t)))))
    (ldT arg4 X4 (k0_off8 (grid0.coords t)) (k0_off8_inb (grid0.coords t)))
    (st_k0_t2 (F := Ideal) Variants.none c none (grid0.coords t) arg2 harg2 arg3 harg3 arg4 harg4 arg5 harg5 arg6 harg6 arg7 harg7 arg8 harg8 arg9 harg9 (ld6 arg8 X8 (k0_off1 (grid0.coords t)) (k0_off1_inb (grid0.coords t))) (ldQ arg2 X2 ![0, 0, 0] inb_S1x256x512_S1x256x128_0_0_0) e1 X3 X4 X9
      (st_k0_t1 (F := Ideal) Variants.none c none (grid0.coords t) arg2 harg2 arg3 harg3 arg4 harg4 arg5 harg5 arg6 harg6 arg7 harg7 arg8 harg8 arg9 harg9 (ld6 arg8 X8 (k0_off1 (grid0.coords t)) (k0_off1_inb (grid0.coords t))) (ldQ arg2 X2 ![0, 0, 0] inb_S1x256x512_S1x256x128_0_0_0) X3 X4 X9 initV (k0_t1_loop (grid0.coords t)).trips) (k0_t2_loop (grid0.coords t)).trips))

include h2 h3 h4 h8 h9 in
theorem body0_eq (e1 : BitVec 32) : body0 c arg2 harg2 arg3 harg3 arg4 harg4 arg5 harg5 arg6 harg6 arg7 harg7 arg8 harg8 arg9 harg9 t X2 X3 X4 X8 X9 e1 = outP x0 x1 x2 xs0 xs1 (t.val % 8) 0 := by
  have hl := loop1 Variants.none c none (grid0.coords t) arg2 harg2 arg3 harg3 arg4 harg4 arg5 harg5 arg6 harg6 arg7 harg7 arg8 harg8 arg9 harg9 X3 X4 X9 (ld6 arg8 X8 (k0_off1 (grid0.coords t)) (k0_off1_inb (grid0.coords t))) (ldQ arg2 X2 ![0, 0, 0] inb_S1x256x512_S1x256x128_0_0_0) (kB x1 0) (kB x2 0) (ctB xs1 0) (ctB xs1 1)
    (fun k => ldT_eq h3 _ (off2 t k)) (fun k => ldT_eq h4 _ (off2 t k)) (fun k => ldC_eq h9 _ (off3 t k))
    (fun k => ldC_eq h9 _ (off4 t k)) _ le_rfl
  unfold body0
  rw [trips2 t, st_k0_t2_zero, hl, trips1 t, ldT_eq h3 _ (off8 t), ldT_eq h4 _ (off8 t), ldC_eq h9 _ (off9 t),
    ldC_eq h9 _ (off10 t), ldCol_eq h8 _ (off1 t) (by norm_num), ldCol_eq h8 _ (off1 t) (by norm_num), ldQ_eq (p := 0) h2 _ rfl]
  rfl

/-- Pair 1: the tiles below the diagonal by the loop, then the diagonal tile and the division. -/
def body1 (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 e2 e3 e4 : BitVec 32) (w1 w2 w3 w4 : FVec Ideal S256x1 .f32) (w5 : FVec Ideal S256x128 .f32) : FVec Ideal S1x256x128 .bf16 :=
  finV (stepV
    (maskV (scoreV (q0V (ldQ arg2 X2 ![0, 0, 128] inb_S1x256x512_S1x256x128_0_0_128)) (extractStridedSlice S256x1 ![0, 2] (ld6 arg8 X8 (k0_off1 (grid0.coords t)) (k0_off1_inb (grid0.coords t))) slices_S256x128_o0_2_S256x1) (ldT arg3 X3 (k0_off17 (grid0.coords t)) (k0_off17_inb (grid0.coords t))) (ldC arg9 X9 (k0_off18 (grid0.coords t)) (k0_off18_inb (grid0.coords t)))))
    (maskV (scoreV (q1V (ldQ arg2 X2 ![0, 0, 128] inb_S1x256x512_S1x256x128_0_0_128)) (extractStridedSlice S256x1 ![0, 3] (ld6 arg8 X8 (k0_off1 (grid0.coords t)) (k0_off1_inb (grid0.coords t))) slices_S256x128_o0_3_S256x1) (ldT arg3 X3 (k0_off17 (grid0.coords t)) (k0_off17_inb (grid0.coords t))) (ldC arg9 X9 (k0_off19 (grid0.coords t)) (k0_off19_inb (grid0.coords t)))))
    (ldT arg4 X4 (k0_off17 (grid0.coords t)) (k0_off17_inb (grid0.coords t)))
    (st_k0_t4 (F := Ideal) Variants.none c none (grid0.coords t) arg2 harg2 arg3 harg3 arg4 harg4 arg5 harg5 arg6 harg6 arg7 harg7 arg8 harg8 arg9 harg9 e1 k0_pay104 k0_pay105 (q0V (ldQ arg2 X2 ![0, 0, 128] inb_S1x256x512_S1x256x128_0_0_128)) (q1V (ldQ arg2 X2 ![0, 0, 128] inb_S1x256x512_S1x256x128_0_0_128)) (extractStridedSlice S256x1 ![0, 2] (ld6 arg8 X8 (k0_off1 (grid0.coords t)) (k0_off1_inb (grid0.coords t))) slices_S256x128_o0_2_S256x1) (extractStridedSlice S256x1 ![0, 3] (ld6 arg8 X8 (k0_off1 (grid0.coords t)) (k0_off1_inb (grid0.coords t))) slices_S256x128_o0_3_S256x1) w1 w2 w3 w4 w5 e2 e3 e4 X3 X4 X9
      (st_k0_t3 (F := Ideal) Variants.none c none (grid0.coords t) arg2 harg2 arg3 harg3 arg4 harg4 arg5 harg5 arg6 harg6 arg7 harg7 arg8 harg8 arg9 harg9 e1 k0_pay104 k0_pay105 (q0V (ldQ arg2 X2 ![0, 0, 128] inb_S1x256x512_S1x256x128_0_0_128)) (q1V (ldQ arg2 X2 ![0, 0, 128] inb_S1x256x512_S1x256x128_0_0_128)) (extractStridedSlice S256x1 ![0, 2] (ld6 arg8 X8 (k0_off1 (grid0.coords t)) (k0_off1_inb (grid0.coords t))) slices_S256x128_o0_2_S256x1) (extractStridedSlice S256x1 ![0, 3] (ld6 arg8 X8 (k0_off1 (grid0.coords t)) (k0_off1_inb (grid0.coords t))) slices_S256x128_o0_3_S256x1) w1 w2 w3 w4 w5 e2 e3 X3 X4 X9 initV (k0_t3_loop (grid0.coords t)).trips) (k0_t4_loop (grid0.coords t)).trips))

include h2 h3 h4 h8 h9 in
theorem body1_eq (e1 e2 e3 e4 : BitVec 32) (w1 w2 w3 w4 : FVec Ideal S256x1 .f32) (w5 : FVec Ideal S256x128 .f32) : body1 c arg2 harg2 arg3 harg3 arg4 harg4 arg5 harg5 arg6 harg6 arg7 harg7 arg8 harg8 arg9 harg9 t X2 X3 X4 X8 X9 e1 e2 e3 e4 w1 w2 w3 w4 w5 = outP x0 x1 x2 xs0 xs1 (t.val % 8) 1 := by
  have hl := loop3 Variants.none c none (grid0.coords t) arg2 harg2 arg3 harg3 arg4 harg4 arg5 harg5 arg6 harg6 arg7 harg7 arg8 harg8 arg9 harg9 X3 X4 X9 e1 (q0V (ldQ arg2 X2 ![0, 0, 128] inb_S1x256x512_S1x256x128_0_0_128)) (q1V (ldQ arg2 X2 ![0, 0, 128] inb_S1x256x512_S1x256x128_0_0_128)) (extractStridedSlice S256x1 ![0, 2] (ld6 arg8 X8 (k0_off1 (grid0.coords t)) (k0_off1_inb (grid0.coords t))) slices_S256x128_o0_2_S256x1) (extractStridedSlice S256x1 ![0, 3] (ld6 arg8 X8 (k0_off1 (grid0.coords t)) (k0_off1_inb (grid0.coords t))) slices_S256x128_o0_3_S256x1) w1 w2 w3 w4 w5 e2 e3 (kB x1 1) (kB x2 1) (ctB xs1 2) (ctB xs1 3)
    (fun k => ldT_eq h3 _ (off11 t k)) (fun k => ldT_eq h4 _ (off11 t k)) (fun k => ldC_eq h9 _ (off12 t k))
    (fun k => ldC_eq h9 _ (off13 t k)) _ le_rfl
  unfold body1
  rw [trips4 t, st_k0_t4_zero, hl, trips3 t, ldT_eq h3 _ (off17 t), ldT_eq h4 _ (off17 t), ldC_eq h9 _ (off18 t),
    ldC_eq h9 _ (off19 t), ldCol_eq h8 _ (off1 t) (by norm_num), ldCol_eq h8 _ (off1 t) (by norm_num), ldQ_eq (p := 1) h2 _ rfl]
  rfl

/-- Pair 2: the tiles below the diagonal by the loop, then the diagonal tile and the division. -/
def body2 (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 e2 : BitVec 32) : FVec Ideal S1x256x128 .bf16 :=
  finV (stepV
    (maskV (scoreV (q0V (ldQ arg2 X2 ![0, 0, 256] inb_S1x256x512_S1x256x128_0_0_256)) (extractStridedSlice S256x1 ![0, 4] (ld6 arg8 X8 (k0_off1 (grid0.coords t)) (k0_off1_inb (grid0.coords t))) slices_S256x128_o0_4_S256x1) (ldT arg3 X3 (k0_off26 (grid0.coords t)) (k0_off26_inb (grid0.coords t))) (ldC arg9 X9 (k0_off27 (grid0.coords t)) (k0_off27_inb (grid0.coords t)))))
    (maskV (scoreV (q1V (ldQ arg2 X2 ![0, 0, 256] inb_S1x256x512_S1x256x128_0_0_256)) (extractStridedSlice S256x1 ![0, 5] (ld6 arg8 X8 (k0_off1 (grid0.coords t)) (k0_off1_inb (grid0.coords t))) slices_S256x128_o0_5_S256x1) (ldT arg3 X3 (k0_off26 (grid0.coords t)) (k0_off26_inb (grid0.coords t))) (ldC arg9 X9 (k0_off28 (grid0.coords t)) (k0_off28_inb (grid0.coords t)))))
    (ldT arg4 X4 (k0_off26 (grid0.coords t)) (k0_off26_inb (grid0.coords t)))
    (st_k0_t6 (F := Ideal) Variants.none c none (grid0.coords t) arg2 harg2 arg3 harg3 arg4 harg4 arg5 harg5 arg6 harg6 arg7 harg7 arg8 harg8 arg9 harg9 e1 k0_pay104 k0_pay105 (q0V (ldQ arg2 X2 ![0, 0, 256] inb_S1x256x512_S1x256x128_0_0_256)) (q1V (ldQ arg2 X2 ![0, 0, 256] inb_S1x256x512_S1x256x128_0_0_256)) (extractStridedSlice S256x1 ![0, 4] (ld6 arg8 X8 (k0_off1 (grid0.coords t)) (k0_off1_inb (grid0.coords t))) slices_S256x128_o0_4_S256x1) (extractStridedSlice S256x1 ![0, 5] (ld6 arg8 X8 (k0_off1 (grid0.coords t)) (k0_off1_inb (grid0.coords t))) slices_S256x128_o0_5_S256x1) e2 X3 X4 X9
      (st_k0_t5 (F := Ideal) Variants.none c none (grid0.coords t) arg2 harg2 arg3 harg3 arg4 harg4 arg5 harg5 arg6 harg6 arg7 harg7 arg8 harg8 arg9 harg9 e1 k0_pay104 k0_pay105 (q0V (ldQ arg2 X2 ![0, 0, 256] inb_S1x256x512_S1x256x128_0_0_256)) (q1V (ldQ arg2 X2 ![0, 0, 256] inb_S1x256x512_S1x256x128_0_0_256)) (extractStridedSlice S256x1 ![0, 4] (ld6 arg8 X8 (k0_off1 (grid0.coords t)) (k0_off1_inb (grid0.coords t))) slices_S256x128_o0_4_S256x1) (extractStridedSlice S256x1 ![0, 5] (ld6 arg8 X8 (k0_off1 (grid0.coords t)) (k0_off1_inb (grid0.coords t))) slices_S256x128_o0_5_S256x1) X3 X4 X9 initV (k0_t5_loop (grid0.coords t)).trips) (k0_t6_loop (grid0.coords t)).trips))

include h2 h3 h4 h8 h9 in
theorem body2_eq (e1 e2 : BitVec 32) : body2 c arg2 harg2 arg3 harg3 arg4 harg4 arg5 harg5 arg6 harg6 arg7 harg7 arg8 harg8 arg9 harg9 t X2 X3 X4 X8 X9 e1 e2 = outP x0 x1 x2 xs0 xs1 (t.val % 8) 2 := by
  have hl := loop5 Variants.none c none (grid0.coords t) arg2 harg2 arg3 harg3 arg4 harg4 arg5 harg5 arg6 harg6 arg7 harg7 arg8 harg8 arg9 harg9 X3 X4 X9 e1 (q0V (ldQ arg2 X2 ![0, 0, 256] inb_S1x256x512_S1x256x128_0_0_256)) (q1V (ldQ arg2 X2 ![0, 0, 256] inb_S1x256x512_S1x256x128_0_0_256)) (extractStridedSlice S256x1 ![0, 4] (ld6 arg8 X8 (k0_off1 (grid0.coords t)) (k0_off1_inb (grid0.coords t))) slices_S256x128_o0_4_S256x1) (extractStridedSlice S256x1 ![0, 5] (ld6 arg8 X8 (k0_off1 (grid0.coords t)) (k0_off1_inb (grid0.coords t))) slices_S256x128_o0_5_S256x1) (kB x1 2) (kB x2 2) (ctB xs1 4) (ctB xs1 5)
    (fun k => ldT_eq h3 _ (off20 t k)) (fun k => ldT_eq h4 _ (off20 t k)) (fun k => ldC_eq h9 _ (off21 t k))
    (fun k => ldC_eq h9 _ (off22 t k)) _ le_rfl
  unfold body2
  rw [trips6 t, st_k0_t6_zero, hl, trips5 t, ldT_eq h3 _ (off26 t), ldT_eq h4 _ (off26 t), ldC_eq h9 _ (off27 t),
    ldC_eq h9 _ (off28 t), ldCol_eq h8 _ (off1 t) (by norm_num), ldCol_eq h8 _ (off1 t) (by norm_num), ldQ_eq (p := 2) h2 _ rfl]
  rfl

/-- Pair 3: the tiles below the diagonal by the loop, then the diagonal tile and the division. -/
def body3 (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 e2 : BitVec 32) : FVec Ideal S1x256x128 .bf16 :=
  finV (stepV
    (maskV (scoreV (q0V (ldQ arg2 X2 ![0, 0, 384] inb_S1x256x512_S1x256x128_0_0_384)) (extractStridedSlice S256x1 ![0, 6] (ld6 arg8 X8 (k0_off1 (grid0.coords t)) (k0_off1_inb (grid0.coords t))) slices_S256x128_o0_6_S256x1) (ldT arg3 X3 (k0_off35 (grid0.coords t)) (k0_off35_inb (grid0.coords t))) (ldC arg9 X9 (k0_off36 (grid0.coords t)) (k0_off36_inb (grid0.coords t)))))
    (maskV (scoreV (q1V (ldQ arg2 X2 ![0, 0, 384] inb_S1x256x512_S1x256x128_0_0_384)) (extractStridedSlice S256x1 ![0, 7] (ld6 arg8 X8 (k0_off1 (grid0.coords t)) (k0_off1_inb (grid0.coords t))) slices_S256x128_o0_7_S256x1) (ldT arg3 X3 (k0_off35 (grid0.coords t)) (k0_off35_inb (grid0.coords t))) (ldC arg9 X9 (k0_off37 (grid0.coords t)) (k0_off37_inb (grid0.coords t)))))
    (ldT arg4 X4 (k0_off35 (grid0.coords t)) (k0_off35_inb (grid0.coords t)))
    (st_k0_t8 (F := Ideal) Variants.none c none (grid0.coords t) arg2 harg2 arg3 harg3 arg4 harg4 arg5 harg5 arg6 harg6 arg7 harg7 arg8 harg8 arg9 harg9 e1 (ld6 arg8 X8 (k0_off1 (grid0.coords t)) (k0_off1_inb (grid0.coords t))) k0_pay104 k0_pay105 (ldQ arg2 X2 ![0, 0, 384] inb_S1x256x512_S1x256x128_0_0_384) e2 X3 X4 X9
      (st_k0_t7 (F := Ideal) Variants.none c none (grid0.coords t) arg2 harg2 arg3 harg3 arg4 harg4 arg5 harg5 arg6 harg6 arg7 harg7 arg8 harg8 arg9 harg9 e1 (ld6 arg8 X8 (k0_off1 (grid0.coords t)) (k0_off1_inb (grid0.coords t))) k0_pay104 k0_pay105 (ldQ arg2 X2 ![0, 0, 384] inb_S1x256x512_S1x256x128_0_0_384) X3 X4 X9 initV (k0_t7_loop (grid0.coords t)).trips) (k0_t8_loop (grid0.coords t)).trips))

include h2 h3 h4 h8 h9 in
theorem body3_eq (e1 e2 : BitVec 32) : body3 c arg2 harg2 arg3 harg3 arg4 harg4 arg5 harg5 arg6 harg6 arg7 harg7 arg8 harg8 arg9 harg9 t X2 X3 X4 X8 X9 e1 e2 = outP x0 x1 x2 xs0 xs1 (t.val % 8) 3 := by
  have hl := loop7 Variants.none c none (grid0.coords t) arg2 harg2 arg3 harg3 arg4 harg4 arg5 harg5 arg6 harg6 arg7 harg7 arg8 harg8 arg9 harg9 X3 X4 X9 e1 (ld6 arg8 X8 (k0_off1 (grid0.coords t)) (k0_off1_inb (grid0.coords t))) (ldQ arg2 X2 ![0, 0, 384] inb_S1x256x512_S1x256x128_0_0_384) (kB x1 3) (kB x2 3) (ctB xs1 6) (ctB xs1 7)
    (fun k => ldT_eq h3 _ (off29 t k)) (fun k => ldT_eq h4 _ (off29 t k)) (fun k => ldC_eq h9 _ (off30 t k))
    (fun k => ldC_eq h9 _ (off31 t k)) _ le_rfl
  unfold body3
  rw [trips8 t, st_k0_t8_zero, hl, trips7 t, ldT_eq h3 _ (off35 t), ldT_eq h4 _ (off35 t), ldC_eq h9 _ (off36 t),
    ldC_eq h9 _ (off37 t), ldCol_eq h8 _ (off1 t) (by norm_num), ldCol_eq h8 _ (off1 t) (by norm_num), ldQ_eq (p := 3) h2 _ rfl]
  rfl

end

end Cert.AttnVal

end
-- ==== Proof.AttnOut.lean ====
/-
What the runs of the attention's body leave in the output block, by the functions of whole blocks.
-/
module

public import proofs.«01_k».proof.Proof.AttnRun

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- The output block: lane `y 2` belongs to pair `y 2 / 128`. -/
def outBlk (x0 : Vec Ideal S1x256x512 .bf16) (x1 x2 : Vec Ideal S1x512x2048 .bf16) (xs0 : Vec Ideal S2048x128 .f32)
    (xs1 : Vec Ideal S8x2048 .f32) (qi : ℕ) : Vec Ideal S1x256x512 .bf16 := fun y =>
  outP x0 x1 x2 xs0 xs1 qi ((y 2).val / 128) (ix3 0 (y 1) ⟨(y 2).val % 128, Nat.mod_lt _ (by norm_num)⟩)

/-- The pieces stored, from the contents the body reads. -/
def pieces (c : Dev nD) (arg2 : Memref sig .tc .vmem S1x256x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x2048x128 .f32) (harg5 : arg5.IsWhole) (arg6 : Memref sig .tc .vmem S1x8x2048 .f32) (harg6 : arg6.IsWhole) (arg7 : Memref sig .tc .vmem S1x256x512 .bf16) (harg7 : arg7.IsWhole) (arg8 : Memref sig .tc .vmem S2048x128 .f32) (harg8 : arg8.IsWhole) (arg9 : Memref sig .tc .vmem S8x2048 .f32) (harg9 : arg9.IsWhole) (t : Fin cfg0.N)
    (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 e2 e3 e4 e5 e6 e7 e8 e9 e10 : BitVec 32)
    (w1 w2 w3 w4 : FVec Ideal S256x1 .f32) (w5 : FVec Ideal S256x128 .f32) : List (View.Piece (Elt Ideal) S1x256x512 .bf16) :=
  [⟨Rect.unit (s := S1x256x512) ![0, 0, 384] S1x256x128.size inb_S1x256x512_S1x256x128_0_0_384, body3 c arg2 harg2 arg3 harg3 arg4 harg4 arg5 harg5 arg6 harg6 arg7 harg7 arg8 harg8 arg9 harg9 t X2 X3 X4 X8 X9 e8 e9⟩,
   ⟨Rect.unit (s := S1x256x512) ![0, 0, 256] S1x256x128.size inb_S1x256x512_S1x256x128_0_0_256, body2 c arg2 harg2 arg3 harg3 arg4 harg4 arg5 harg5 arg6 harg6 arg7 harg7 arg8 harg8 arg9 harg9 t X2 X3 X4 X8 X9 e6 e7⟩,
   ⟨Rect.unit (s := S1x256x512) ![0, 0, 128] S1x256x128.size inb_S1x256x512_S1x256x128_0_0_128, body1 c arg2 harg2 arg3 harg3 arg4 harg4 arg5 harg5 arg6 harg6 arg7 harg7 arg8 harg8 arg9 harg9 t X2 X3 X4 X8 X9 e2 e3 e4 e5 w1 w2 w3 w4 w5⟩,
   ⟨Rect.unit (s := S1x256x512) ![0, 0, 0] S1x256x128.size inb_S1x256x512_S1x256x128_0_0_0, body0 c arg2 harg2 arg3 harg3 arg4 harg4 arg5 harg5 arg6 harg6 arg7 harg7 arg8 harg8 arg9 harg9 t X2 X3 X4 X8 X9 e1⟩]

attribute [local irreducible] st_k0_t1 st_k0_t2 st_k0_t3 st_k0_t4 st_k0_t5 st_k0_t6 st_k0_t7 st_k0_t8

section
variable (c : Dev nD) (arg2 : Memref sig .tc .vmem S1x256x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x2048x128 .f32) (harg5 : arg5.IsWhole) (arg6 : Memref sig .tc .vmem S1x8x2048 .f32) (harg6 : arg6.IsWhole) (arg7 : Memref sig .tc .vmem S1x256x512 .bf16) (harg7 : arg7.IsWhole) (arg8 : Memref sig .tc .vmem S2048x128 .f32) (harg8 : arg8.IsWhole) (arg9 : Memref sig .tc .vmem S8x2048 .f32) (harg9 : arg9.IsWhole) (t : Fin cfg0.N)
variable (x0 : Vec Ideal S1x256x512 .bf16) (x1 x2 : Vec Ideal S1x512x2048 .bf16) (x3 : Vec Ideal S1x2048x128 .f32)
variable (x4 : Vec Ideal S1x8x2048 .f32) (xs0 : Vec Ideal S2048x128 .f32) (xs1 : Vec Ideal S8x2048 .f32)

theorem runB (hc0 : ¬cond0_0 (grid0.coords t)) : ∃ e1 e2 e3 e4 e5 e6 e7 e8 e9 e10 w1 w2 w3 w4 w5,
    (kernelRun0_B (F := Ideal) c (grid0.coords t) arg2 harg2 arg3 harg3 arg4 harg4 arg5 harg5 arg6 harg6 arg7 harg7 arg8 harg8 arg9 harg9 hc0 x0 x1 x2 x3 x4 xs0 xs1).1
      = pieces c arg2 harg2 arg3 harg3 arg4 harg4 arg5 harg5 arg6 harg6 arg7 harg7 arg8 harg8 arg9 harg9 t (harg2.unread x0) (harg3.unread x1) (harg4.unread x2) (harg8.unread xs0) (harg9.unread xs1)
          e1 e2 e3 e4 e5 e6 e7 e8 e9 e10 w1 w2 w3 w4 w5 := by
  refine ⟨?e1, ?e2, ?e3, ?e4, ?e5, ?e6, ?e7, ?e8, ?e9, 0#32, ?w1, ?w2, ?w3, ?w4, ?w5, ?_⟩
  rotate_left 14
  · simp only [kernelRun0_B]
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, Prod.mk.eta]
    unfold pieces body0 body1 body2 body3
    rfl

theorem runA (hc0 : cond0_0 (grid0.coords t)) : ∃ e1 e2 e3 e4 e5 e6 e7 e8 e9 e10 w1 w2 w3 w4 w5,
    (kernelRun0_A (F := Ideal) c (grid0.coords t) arg2 harg2 arg3 harg3 arg4 harg4 arg5 harg5 arg6 harg6 arg7 harg7 arg8 harg8 arg9 harg9 hc0 x0 x1 x2 x3 x4).1
      = pieces c arg2 harg2 arg3 harg3 arg4 harg4 arg5 harg5 arg6 harg6 arg7 harg7 arg8 harg8 arg9 harg9 t (harg2.unread x0) (harg3.unread x1) (harg4.unread x2)
          (arg8.view.writes (Elt Ideal) arg8.view.junk (kernelRun0_A (F := Ideal) c (grid0.coords t) arg2 harg2 arg3 harg3 arg4 harg4 arg5 harg5 arg6 harg6 arg7 harg7 arg8 harg8 arg9 harg9 hc0 x0 x1 x2 x3 x4).2.1)
          (arg9.view.writes (Elt Ideal) arg9.view.junk (kernelRun0_A (F := Ideal) c (grid0.coords t) arg2 harg2 arg3 harg3 arg4 harg4 arg5 harg5 arg6 harg6 arg7 harg7 arg8 harg8 arg9 harg9 hc0 x0 x1 x2 x3 x4).2.2.1)
          e1 e2 e3 e4 e5 e6 e7 e8 e9 e10 w1 w2 w3 w4 w5 := by
  refine ⟨?e1, ?e2, ?e3, ?e4, ?e5, ?e6, ?e7, ?e8, ?e9, 0#32, ?w1, ?w2, ?w3, ?w4, ?w5, ?_⟩
  rotate_left 14
  · simp only [kernelRun0_A]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, Prod.mk.eta]
    unfold pieces body0 body1 body2 body3
    rfl

end

end Cert.AttnVal

end
-- ==== Proof.AttnScan.lean ====
/-
The running sums of the log forget gates that the first point of a batch leaves in the scratch.
-/
module

public import proofs.«01_k».proof.Proof.AttnOut
public import Idealize.ShloMosaic.Lib.KernelVsHost
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen

/-- The sum of the last `d` entries up to `i`. -/
def seg (d : ℕ) (f : ℕ → EReal) (i : ℕ) : EReal := ∑ j ∈ Finset.range d, if j ≤ i then f (i - j) else 0

theorem seg_one (f : ℕ → EReal) (i : ℕ) : seg 1 f i = f i := by simp [seg]

theorem seg_double (d : ℕ) (f : ℕ → EReal) (i : ℕ) :
    seg d f i + (if d ≤ i then seg d f (i - d) else 0) = seg (d + d) f i := by
  unfold seg
  rw [Finset.sum_range_add]
  congr 1
  by_cases h : d ≤ i
  · rw [if_pos h]
    refine Finset.sum_congr rfl fun j _ => ?_
    by_cases hj : d + j ≤ i
    · rw [if_pos hj, if_pos (by omega)]; congr 1; omega
    · rw [if_neg hj, if_neg (by omega)]
  · rw [if_neg h]
    symm
    exact Finset.sum_eq_zero fun j _ => if_neg (by omega)

theorem seg_full (d : ℕ) (f : ℕ → EReal) (i : ℕ) (h : i < d) : seg d f i = ∑ j ∈ Finset.range (i + 1), f j := by
  unfold seg
  obtain ⟨e, rfl⟩ : ∃ e, d = (i + 1) + e := ⟨d - (i + 1), by omega⟩
  rw [Finset.sum_range_add, Finset.sum_eq_zero (s := Finset.range e) fun j _ => if_neg (by omega), add_zero,
    ← Finset.sum_range_reflect]
  refine Finset.sum_congr rfl fun j hj => ?_
  have := Finset.mem_range.1 hj
  rw [if_pos (by omega)]; congr 1; omega

/-- One doubling step down the rows. -/
def stepR (d : BitVec 32) (v : FVec Ideal S2048x128 .f32) : FVec Ideal S2048x128 .f32 :=
  addf v (select (cmpi .sge (iota .tc S2048x128 32 [0] iota_S2048x128_d0_w32) (broadcast S2048x128 d))
    (dynamicRotate 0 d none v rotates_S2048x128_d0) (broadcast S2048x128 (Scalar.ofBits (F := Ideal) .f32 0x00000000#32)))

/-- One doubling step along the lanes. -/
def stepL (d : BitVec 32) (v : FVec Ideal S8x2048 .f32) : FVec Ideal S8x2048 .f32 :=
  addf v (select (cmpi .sge (iota .tc S8x2048 32 [1] iota_S8x2048_d1_w32) (broadcast S8x2048 d))
    (dynamicRotate 1 d none v rotates_S8x2048_d1) (broadcast S8x2048 (Scalar.ofBits (F := Ideal) .f32 0x00000000#32)))

theorem zero_bits : (Scalar.ofBits (F := Ideal) .f32 0x00000000#32 : EReal) = 0 := by
  show Ideal.ofBits .f32 0#32 = 0
  simp [Ideal.ofBits, Ideal.ieee]

theorem rotR (d : ℕ) (hd : d < 2048) (v : FVec Ideal S2048x128 .f32) (i : Fin 2048) (x : Fin 128) (h : d ≤ i) :
    dynamicRotate 0 (BitVec.ofNat 32 d) none v rotates_S2048x128_d0 (ix2 i x) = v (ix2 ⟨i - d, by omega⟩ x) := by
  refine dynamicRotate_apply _ _ _ _ _ _ fun b => ?_
  fin_cases b
  · show (i : ℕ) - d = ((i : ℕ) + 2048 - (BitVec.ofNat 32 d).toNat % 2048) % 2048
    rw [BitVec.toNat_ofNat, Nat.mod_eq_of_lt (show d < 2 ^ 32 by omega), Nat.mod_eq_of_lt hd]
    omega
  · rfl

theorem rotL (d : ℕ) (hd : d < 2048) (v : FVec Ideal S8x2048 .f32) (i : Fin 2048) (x : Fin 8) (h : d ≤ i) :
    dynamicRotate 1 (BitVec.ofNat 32 d) none v rotates_S8x2048_d1 (ix2 x i) = v (ix2 x ⟨i - d, by omega⟩) := by
  refine dynamicRotate_apply _ _ _ _ _ _ fun b => ?_
  fin_cases b
  · rfl
  · show (i : ℕ) - d = ((i : ℕ) + 2048 - (BitVec.ofNat 32 d).toNat % 2048) % 2048
    rw [BitVec.toNat_ofNat, Nat.mod_eq_of_lt (show d < 2 ^ 32 by omega), Nat.mod_eq_of_lt hd]
    omega

theorem iotaR (i : Fin 2048) (x : Fin 128) : iota .tc S2048x128 32 [0] iota_S2048x128_d0_w32 (ix2 i x) = BitVec.ofNat 32 (i : ℕ) := by
  pointwise

theorem stepR_apply (d : ℕ) (hd : d < 2048) (v : FVec Ideal S2048x128 .f32) (i : Fin 2048) (x : Fin 128) :
    stepR (BitVec.ofNat 32 d) v (ix2 i x) = (v (ix2 i x) + if h : d ≤ i then v (ix2 ⟨i - d, by omega⟩ x) else 0 : EReal) := by
  show (v (ix2 i x) + (if IntOp.cmpi .sge (iota .tc S2048x128 32 [0] iota_S2048x128_d0_w32 (ix2 i x)) (BitVec.ofNat 32 d) = 1#1 then
    dynamicRotate 0 (BitVec.ofNat 32 d) none v rotates_S2048x128_d0 (ix2 i x) else Scalar.ofBits (F := Ideal) .f32 0x00000000#32) : EReal) = _
  rw [iotaR]
  congr 1
  by_cases h : d ≤ i
  · rw [if_pos ((WordCmp.cmpi_sge_ofNat_eq_one_iff (by omega) (by omega)).2 h), dif_pos h, rotR d hd v i x h]
  · rw [if_neg (mt (WordCmp.cmpi_sge_ofNat_eq_one_iff (by omega) (by omega)).1 h), dif_neg h, zero_bits]

theorem iotaL (i : Fin 2048) (x : Fin 8) : iota .tc S8x2048 32 [1] iota_S8x2048_d1_w32 (ix2 x i) = BitVec.ofNat 32 (i : ℕ) := by
  pointwise

theorem stepL_apply (d : ℕ) (hd : d < 2048) (v : FVec Ideal S8x2048 .f32) (i : Fin 2048) (x : Fin 8) :
    stepL (BitVec.ofNat 32 d) v (ix2 x i) = (v (ix2 x i) + if h : d ≤ i then v (ix2 x ⟨i - d, by omega⟩) else 0 : EReal) := by
  show (v (ix2 x i) + (if IntOp.cmpi .sge (iota .tc S8x2048 32 [1] iota_S8x2048_d1_w32 (ix2 x i)) (BitVec.ofNat 32 d) = 1#1 then
    dynamicRotate 1 (BitVec.ofNat 32 d) none v rotates_S8x2048_d1 (ix2 x i) else Scalar.ofBits (F := Ideal) .f32 0x00000000#32) : EReal) = _
  rw [iotaL]
  congr 1
  by_cases h : d ≤ i
  · rw [if_pos ((WordCmp.cmpi_sge_ofNat_eq_one_iff (by omega) (by omega)).2 h), dif_pos h, rotL d hd v i x h]
  · rw [if_neg (mt (WordCmp.cmpi_sge_ofNat_eq_one_iff (by omega) (by omega)).1 h), dif_neg h, zero_bits]

/-- `v` holds in every column the segments of length `d` of `f`. -/
def HoldsR (d : ℕ) (f : Fin 128 → ℕ → EReal) (v : FVec Ideal S2048x128 .f32) : Prop :=
  ∀ (i : Fin 2048) (x : Fin 128), v (ix2 i x) = seg d (f x) i

def HoldsL (d : ℕ) (f : Fin 8 → ℕ → EReal) (v : FVec Ideal S8x2048 .f32) : Prop :=
  ∀ (i : Fin 2048) (x : Fin 8), v (ix2 x i) = seg d (f x) i

theorem HoldsR.step {d : ℕ} {f : Fin 128 → ℕ → EReal} {v : FVec Ideal S2048x128 .f32} (h : HoldsR d f v) (hd : d < 2048) :
    HoldsR (d + d) f (stepR (BitVec.ofNat 32 d) v) := fun i x => by
  rw [stepR_apply d hd, ← seg_double, h]
  congr 1
  by_cases e : d ≤ i
  · rw [dif_pos e, if_pos e, h]
  · rw [dif_neg e, if_neg e]

theorem HoldsL.step {d : ℕ} {f : Fin 8 → ℕ → EReal} {v : FVec Ideal S8x2048 .f32} (h : HoldsL d f v) (hd : d < 2048) :
    HoldsL (d + d) f (stepL (BitVec.ofNat 32 d) v) := fun i x => by
  rw [stepL_apply d hd, ← seg_double, h]
  congr 1
  by_cases e : d ≤ i
  · rw [dif_pos e, if_pos e, h]
  · rw [dif_neg e, if_neg e]

def gateR (x3 : Vec Ideal S1x2048x128 .f32) (x : Fin 128) (n : ℕ) : EReal := x3 (ix3 0 ⟨n % 2048, Nat.mod_lt _ (by norm_num)⟩ x)
def gateL (x4 : Vec Ideal S1x8x2048 .f32) (x : Fin 8) (n : ℕ) : EReal := x4 (ix3 0 x ⟨n % 2048, Nat.mod_lt _ (by norm_num)⟩)

def scanR (v : FVec Ideal S2048x128 .f32) : FVec Ideal S2048x128 .f32 :=
  stepR 1024#32 (stepR 512#32 (stepR 256#32 (stepR 128#32 (stepR 64#32 (stepR 32#32 (stepR 16#32 (stepR 8#32
    (stepR 4#32 (stepR 2#32 (stepR 1#32 v))))))))))

def scanL (v : FVec Ideal S8x2048 .f32) : FVec Ideal S8x2048 .f32 :=
  stepL 1024#32 (stepL 512#32 (stepL 256#32 (stepL 128#32 (stepL 64#32 (stepL 32#32 (stepL 16#32 (stepL 8#32
    (stepL 4#32 (stepL 2#32 (stepL 1#32 v))))))))))

theorem scanR_apply (x3 : Vec Ideal S1x2048x128 .f32) (i : Fin 2048) (x : Fin 128) :
    scanR (shapeCast S2048x128 x3 shapeCasts_S1x2048x128_S2048x128) (ix2 i x) = ∑ j ∈ Finset.range (i + 1), gateR x3 x j := by
  have h1 : HoldsR 1 (gateR x3) (shapeCast S2048x128 x3 shapeCasts_S1x2048x128_S2048x128) := fun i x => by
    rw [seg_one]
    pointwise
    exact congrArg x3 (congrArg (ix3 0 · x) (Fin.ext (Nat.mod_eq_of_lt i.isLt).symm))
  have h := ((((((((((h1.step (by norm_num)).step (by norm_num)).step (by norm_num)).step (by norm_num)).step
    (by norm_num)).step (by norm_num)).step (by norm_num)).step (by norm_num)).step (by norm_num)).step (by norm_num)).step
    (by norm_num) i x
  exact h.trans (seg_full _ _ _ (by omega))

theorem scanL_apply (x4 : Vec Ideal S1x8x2048 .f32) (i : Fin 2048) (x : Fin 8) :
    scanL (shapeCast S8x2048 x4 shapeCasts_S1x8x2048_S8x2048) (ix2 x i) = ∑ j ∈ Finset.range (i + 1), gateL x4 x j := by
  have h1 : HoldsL 1 (gateL x4) (shapeCast S8x2048 x4 shapeCasts_S1x8x2048_S8x2048) := fun i x => by
    rw [seg_one]
    pointwise
    exact congrArg x4 (congrArg (ix3 0 x ·) (Fin.ext (Nat.mod_eq_of_lt i.isLt).symm))
  have h := ((((((((((h1.step (by norm_num)).step (by norm_num)).step (by norm_num)).step (by norm_num)).step
    (by norm_num)).step (by norm_num)).step (by norm_num)).step (by norm_num)).step (by norm_num)).step (by norm_num)).step
    (by norm_num) i x
  exact h.trans (seg_full _ _ _ (by omega))

theorem castR (v : FVec Ideal S2048x128 .f32) (h) : shapeCast S2048x128 v h = v := by
  funext y; idx_vars y; pointwise

theorem castL (v : FVec Ideal S8x2048 .f32) (h) : shapeCast S8x2048 v h = v := by
  funext y; idx_vars y; pointwise

/-- The running sums down the rows, as a block. -/
def sumR (x3 : Vec Ideal S1x2048x128 .f32) : Vec Ideal S2048x128 .f32 := scanR (shapeCast S2048x128 x3 shapeCasts_S1x2048x128_S2048x128)
def sumL (x4 : Vec Ideal S1x8x2048 .f32) : Vec Ideal S8x2048 .f32 := scanL (shapeCast S8x2048 x4 shapeCasts_S1x8x2048_S8x2048)

theorem HS0_eq (c : Dev nD) (arg5 : Memref sig .tc .vmem S1x2048x128 .f32) (harg5 : arg5.IsWhole) (x3 : Vec Ideal S1x2048x128 .f32) :
    kernelRun0_A.sl.HS0_1 (F := Ideal) c arg5 harg5 x3
      = [⟨Rect.unit (s := S2048x128) ![0, 0] S2048x128.size inb_S2048x128_S2048x128_0_0, sumR x3⟩] := by
  have e : View.readAt (Elt Ideal) arg5.view (Rect.unit (s := S1x2048x128) ![0, 0, 0] S1x2048x128.size inb_S1x2048x128_S1x2048x128_0_0_0).toLoadRect (harg5.unread x3) = x3 := by
    rw [View.readAt_eq_ld, Memref.IsWhole.read_unread]
    funext y; idx_vars y
    obtain rfl : y0 = 0 := Subsingleton.elim _ _
    pointwise
  have : kernelRun0_A.sl.v476 (F := Ideal) c arg5 harg5 x3
      = shapeCast S2048x128 (scanR (shapeCast S2048x128 (View.readAt (Elt Ideal) arg5.view (Rect.unit (s := S1x2048x128) ![0, 0, 0] S1x2048x128.size inb_S1x2048x128_S1x2048x128_0_0_0).toLoadRect (harg5.unread x3)) shapeCasts_S1x2048x128_S2048x128)) shapeCasts_S2048x128_S2048x128 := rfl
  rw [castR, e] at this
  unfold kernelRun0_A.sl.HS0_1
  rw [this]
  rfl

theorem HS1_eq (c : Dev nD) (arg6 : Memref sig .tc .vmem S1x8x2048 .f32) (harg6 : arg6.IsWhole) (x4 : Vec Ideal S1x8x2048 .f32) :
    kernelRun0_A.sl.HS1_1 (F := Ideal) c arg6 harg6 x4
      = [⟨Rect.unit (s := S8x2048) ![0, 0] S8x2048.size inb_S8x2048_S8x2048_0_0, sumL x4⟩] := by
  have e : View.readAt (Elt Ideal) arg6.view (Rect.unit (s := S1x8x2048) ![0, 0, 0] S1x8x2048.size inb_S1x8x2048_S1x8x2048_0_0_0).toLoadRect (harg6.unread x4) = x4 := by
    rw [View.readAt_eq_ld, Memref.IsWhole.read_unread]
    funext y; idx_vars y
    obtain rfl : y0 = 0 := Subsingleton.elim _ _
    pointwise
  have : k0_pay103 kernelRun0_A.sl.v479 (kernelRun0_A.sl.v521 (F := Ideal) c arg6 harg6 x4)
      = shapeCast S8x2048 (scanL (shapeCast S8x2048 (View.readAt (Elt Ideal) arg6.view (Rect.unit (s := S1x8x2048) ![0, 0, 0] S1x8x2048.size inb_S1x8x2048_S1x8x2048_0_0_0).toLoadRect (harg6.unread x4)) shapeCasts_S1x8x2048_S8x2048)) shapeCasts_S8x2048_S8x2048 := rfl
  rw [castL, e] at this
  unfold kernelRun0_A.sl.HS1_1
  rw [this]
  rfl

theorem canonR (w : Vec Ideal S2048x128 .f32) :
    View.canon [(⟨Rect.unit (s := S2048x128) ![0, 0] S2048x128.size inb_S2048x128_S2048x128_0_0, w⟩ : View.Piece (Elt Ideal) S2048x128 .f32)] = w := by
  funext y
  canon_tiles y h
  exact congrArg w (by funext a; fin_cases a <;> exact Fin.ext (by simp_all))

theorem canonL (w : Vec Ideal S8x2048 .f32) :
    View.canon [(⟨Rect.unit (s := S8x2048) ![0, 0] S8x2048.size inb_S8x2048_S8x2048_0_0, w⟩ : View.Piece (Elt Ideal) S8x2048 .f32)] = w := by
  funext y
  canon_tiles y h
  exact congrArg w (by funext a; fin_cases a <;> exact Fin.ext (by simp_all))

end Cert.AttnVal

end
-- ==== Proof.AttnArr.lean ====
/-
The attention's output array: every entry by the functions of the arrays at region entry.
-/
module

public import proofs.«01_k».proof.Proof.AttnScan

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen Cert.AttnIdeal.Value

theorem outBlk_piece (x0 : Vec Ideal S1x256x512 .bf16) (x1 x2 : Vec Ideal S1x512x2048 .bf16) (xs0 : Vec Ideal S2048x128 .f32)
    (xs1 : Vec Ideal S8x2048 .f32) (qi p : ℕ) (y' : S1x256x512.Idx) (y : S1x256x128.Idx) (h1 : (y' 1).val = (y 1).val)
    (h2 : (y' 2).val = 128 * p + (y 2).val) : outP x0 x1 x2 xs0 xs1 qi p y = outBlk x0 x1 x2 xs0 xs1 qi y' := by
  have hy : (y 2).val < 128 := (y 2).isLt
  unfold outBlk
  rw [show (y' 2).val / 128 = p by omega]
  congr 1
  funext a
  apply Fin.ext
  match a with
  | ⟨0, _⟩ => have h0 : (y 0).val < 1 := (y 0).isLt; show (y 0).val = 0; omega
  | ⟨1, _⟩ => exact h1.symm
  | ⟨2, _⟩ => show (y 2).val = (y' 2).val % 128; omega

section
variable (c : Dev nD) (arg2 : Memref sig .tc .vmem S1x256x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x2048x128 .f32) (harg5 : arg5.IsWhole) (arg6 : Memref sig .tc .vmem S1x8x2048 .f32) (harg6 : arg6.IsWhole) (arg7 : Memref sig .tc .vmem S1x256x512 .bf16) (harg7 : arg7.IsWhole) (arg8 : Memref sig .tc .vmem S2048x128 .f32) (harg8 : arg8.IsWhole) (arg9 : Memref sig .tc .vmem S8x2048 .f32) (harg9 : arg9.IsWhole) (t : Fin cfg0.N)
variable (x0 : Vec Ideal S1x256x512 .bf16) (x1 x2 : Vec Ideal S1x512x2048 .bf16) (x3 : Vec Ideal S1x2048x128 .f32)
variable (x4 : Vec Ideal S1x8x2048 .f32) (xs0 : Vec Ideal S2048x128 .f32) (xs1 : Vec Ideal S8x2048 .f32)

/-- The four pieces together are the output block. -/
theorem canon_pieces (X2 : BufTy.Contents (Elt Ideal) arg2.view.ty) (X3 : BufTy.Contents (Elt Ideal) arg3.view.ty)
    (X4 : BufTy.Contents (Elt Ideal) arg4.view.ty) (X8 : BufTy.Contents (Elt Ideal) arg8.view.ty)
    (X9 : BufTy.Contents (Elt Ideal) arg9.view.ty) (e1 e2 e3 e4 e5 e6 e7 e8 e9 e10 : BitVec 32)
    (w1 w2 w3 w4 : FVec Ideal S256x1 .f32) (w5 : FVec Ideal S256x128 .f32)
    (h2 : arg2.view.read (Elt Ideal) X2 = x0) (h3 : arg3.view.read (Elt Ideal) X3 = x1) (h4 : arg4.view.read (Elt Ideal) X4 = x2)
    (h8 : arg8.view.read (Elt Ideal) X8 = xs0) (h9 : arg9.view.read (Elt Ideal) X9 = xs1) :
    View.canon (pieces c arg2 harg2 arg3 harg3 arg4 harg4 arg5 harg5 arg6 harg6 arg7 harg7 arg8 harg8 arg9 harg9 t X2 X3 X4 X8 X9
      e1 e2 e3 e4 e5 e6 e7 e8 e9 e10 w1 w2 w3 w4 w5) = outBlk x0 x1 x2 xs0 xs1 (t.val % 8) := by
  unfold pieces
  rw [body0_eq (h2 := h2) (h3 := h3) (h4 := h4) (h8 := h8) (h9 := h9), body1_eq (h2 := h2) (h3 := h3) (h4 := h4) (h8 := h8) (h9 := h9),
    body2_eq (h2 := h2) (h3 := h3) (h4 := h4) (h8 := h8) (h9 := h9), body3_eq (h2 := h2) (h3 := h3) (h4 := h4) (h8 := h8) (h9 := h9)]
  clear h2 h3 h4 h8 h9
  funext y
  canon_tiles y h
  · exact outBlk_piece _ _ _ _ _ _ 3 _ _ h1 (by omega)
  · exact outBlk_piece _ _ _ _ _ _ 2 _ _ h1 (by omega)
  · exact outBlk_piece _ _ _ _ _ _ 1 _ _ h1 (by omega)
  · exact outBlk_piece _ _ _ _ _ _ 0 _ _ h1 (by omega)

theorem outB_eq (hc0 : ¬cond0_0 (grid0.coords t)) :
    out0_B_5 (F := Ideal) c (grid0.coords t) arg2 harg2 arg3 harg3 arg4 harg4 arg5 harg5 arg6 harg6 arg7 harg7 arg8 harg8 arg9 harg9 hc0 x0 x1 x2 x3 x4 xs0 xs1
      = outBlk x0 x1 x2 xs0 xs1 (t.val % 8) := by
  obtain ⟨e1, e2, e3, e4, e5, e6, e7, e8, e9, e10, w1, w2, w3, w4, w5, hrun⟩ :=
    runB c arg2 harg2 arg3 harg3 arg4 harg4 arg5 harg5 arg6 harg6 arg7 harg7 arg8 harg8 arg9 harg9 t x0 x1 x2 x3 x4 xs0 xs1 hc0
  unfold out0_B_5
  rw [View.read_writes_junk_eq_canon, hrun]
  exact canon_pieces _ _ _ _ _ _ _ _ _ _ _ _ _ _ _ _ _ _ _ _ _ _ _ _ _ _ _ _ _ _ _ _ _ _ _ _ _ _ _ _ _ _ _
    (harg2.read_unread _) (harg3.read_unread _) (harg4.read_unread _) (harg8.read_unread _) (harg9.read_unread _)

theorem outA_eq (hc0 : cond0_0 (grid0.coords t)) :
    out0_A_5 (F := Ideal) c (grid0.coords t) arg2 harg2 arg3 harg3 arg4 harg4 arg5 harg5 arg6 harg6 arg7 harg7 arg8 harg8 arg9 harg9 hc0 x0 x1 x2 x3 x4
      = outBlk x0 x1 x2 (sumR x3) (sumL x4) (t.val % 8) := by
  obtain ⟨e1, e2, e3, e4, e5, e6, e7, e8, e9, e10, w1, w2, w3, w4, w5, hrun⟩ :=
    runA c arg2 harg2 arg3 harg3 arg4 harg4 arg5 harg5 arg6 harg6 arg7 harg7 arg8 harg8 arg9 harg9 t x0 x1 x2 x3 x4 hc0
  unfold out0_A_5
  rw [View.read_writes_junk_eq_canon, hrun]
  refine canon_pieces _ _ _ _ _ _ _ _ _ _ _ _ _ _ _ _ _ _ _ _ _ _ _ _ _ _ _ _ _ _ _ _ _ _ _ _ _ _ _ _ _ _ _
    (harg2.read_unread _) (harg3.read_unread _) (harg4.read_unread _) ?_ ?_
  · rw [View.read_writes_junk_eq_canon]
    exact (congrArg View.canon (HS0_eq c arg5 harg5 x3)).trans (canonR _)
  · rw [View.read_writes_junk_eq_canon]
    exact (congrArg View.canon (HS1_eq c arg6 harg6 x4)).trans (canonL _)

theorem soutA0_eq (hc0 : cond0_0 (grid0.coords t)) :
    sout0_A_0 (F := Ideal) c (grid0.coords t) arg2 harg2 arg3 harg3 arg4 harg4 arg5 harg5 arg6 harg6 arg7 harg7 arg8 harg8 arg9 harg9 hc0 x0 x1 x2 x3 x4
      = sumR x3 := by
  unfold sout0_A_0
  rw [View.read_writes_junk_eq_canon]
  exact (congrArg View.canon (HS0_eq c arg5 harg5 x3)).trans (canonR _)

theorem soutA1_eq (hc0 : cond0_0 (grid0.coords t)) :
    sout0_A_1 (F := Ideal) c (grid0.coords t) arg2 harg2 arg3 harg3 arg4 harg4 arg5 harg5 arg6 harg6 arg7 harg7 arg8 harg8 arg9 harg9 hc0 x0 x1 x2 x3 x4
      = sumL x4 := by
  unfold sout0_A_1
  rw [View.read_writes_junk_eq_canon]
  exact (congrArg View.canon (HS1_eq c arg6 harg6 x4)).trans (canonL _)

end

variable (m : (ℓ : Loc nD τ sig) → Buf (Elt Ideal) ℓ)

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![t.val / 8, 0, 0] := (by decide +kernel : ∀ t : Fin grid0.N, _)

theorem lt64 (t : Fin cfg0.N) : t.val < 64 := lt_of_lt_of_eq t.isLt N_0

theorem iblk0 (c : Dev nD) (t : Fin cfg0.N) (r : Fin 256) (x : Fin 512) :
    iblk m c 0 t (ix3 0 r x) = V m c main_v3 (ix3 ⟨t.val / 8, by have := lt64 t; omega⟩ ⟨256 * (t.val % 8) + r, by omega⟩ x) := by
  blk_ext [iblk, idx0 t]

theorem iblk1 (c : Dev nD) (t : Fin cfg0.N) (r : Fin 512) (x : Fin 2048) :
    iblk m c 1 t (ix3 0 r x) = V m c main_v8 (ix3 ⟨t.val / 8, by have := lt64 t; omega⟩ r x) := by
  blk_ext [iblk, idx1 t]

theorem iblk2 (c : Dev nD) (t : Fin cfg0.N) (r : Fin 512) (x : Fin 2048) :
    iblk m c 2 t (ix3 0 r x) = V m c main_v11 (ix3 ⟨t.val / 8, by have := lt64 t; omega⟩ r x) := by
  blk_ext [iblk, idx2 t]

theorem iblk3 (c : Dev nD) (t : Fin cfg0.N) (r : Fin 2048) (x : Fin 128) :
    iblk m c 3 t (ix3 0 r x) = V m c main_v4 (ix3 ⟨t.val / 8, by have := lt64 t; omega⟩ r x) := by
  blk_ext [iblk, idx3 t]

theorem iblk4 (c : Dev nD) (t : Fin cfg0.N) (r : Fin 8) (x : Fin 2048) :
    iblk m c 4 t (ix3 0 r x) = V m c main_v5 (ix3 ⟨t.val / 8, by have := lt64 t; omega⟩ r x) := by
  blk_ext [iblk, idx4 t]

theorem iblk3_prev (c : Dev nD) (t s : Fin cfg0.N) (h : t.val / 8 = s.val / 8) : iblk m c 3 t = iblk m c 3 s := by
  funext y
  idx_vars y
  obtain rfl : y0 = 0 := Subsingleton.elim _ _
  rw [iblk3, iblk3]
  congr 2; exact Fin.ext h

theorem iblk4_prev (c : Dev nD) (t s : Fin cfg0.N) (h : t.val / 8 = s.val / 8) : iblk m c 4 t = iblk m c 4 s := by
  funext y
  idx_vars y
  obtain rfl : y0 = 0 := Subsingleton.elim _ _
  rw [iblk4, iblk4]
  congr 2; exact Fin.ext h

/-- After every point of a batch the scratch holds the batch's running sums. -/
theorem scratch_eq (c : Dev nD) : ∀ (n : ℕ) (hn : n < cfg0.N),
    (outsAt0 m c n hn).2.1 = sumR (iblk m c 3 ⟨n, hn⟩) ∧ (outsAt0 m c n hn).2.2 = sumL (iblk m c 4 ⟨n, hn⟩) := by
  intro n
  induction n with
  | zero =>
    intro hn
    have h := outsAt0_A m c ⟨0, hn⟩ rfl
    rw [h]
    dsimp only
    rw [soutA0_eq, soutA1_eq]
    exact ⟨rfl, rfl⟩
  | succ n ih =>
    intro hn
    by_cases h0 : (n + 1) % 8 = 0
    · have h := outsAt0_A m c ⟨n + 1, hn⟩ h0
      rw [h]
      dsimp only
      rw [soutA0_eq, soutA1_eq]
      exact ⟨rfl, rfl⟩
    · have h := outsAt0_B m c ⟨n + 1, hn⟩ h0
      rw [h, iblk3_prev m c ⟨n + 1, hn⟩ ⟨n, by omega⟩ (by show (n + 1) / 8 = n / 8; omega),
        iblk4_prev m c ⟨n + 1, hn⟩ ⟨n, by omega⟩ (by show (n + 1) / 8 = n / 8; omega)]
      exact ih (by omega)

theorem out_eq (c : Dev nD) (t : Fin cfg0.N) : (outsAt0 m c t.val t.isLt).1
    = outBlk (iblk m c 0 t) (iblk m c 1 t) (iblk m c 2 t) (sumR (iblk m c 3 t)) (sumL (iblk m c 4 t)) (t.val % 8) := by
  by_cases h0 : t.val % 8 = 0
  · rw [outsAt0_A m c t h0]
    dsimp only
    rw [outA_eq]
  · rw [outsAt0_B m c t h0]
    have hs := scratch_eq m c (t.val - 1) (Nat.lt_of_le_of_lt (Nat.sub_le _ _) t.isLt)
    dsimp only
    rw [outB_eq, hs.1, hs.2, iblk3_prev m c t ⟨t.val - 1, Nat.lt_of_le_of_lt (Nat.sub_le _ _) t.isLt⟩ (by show t.val / 8 = (t.val - 1) / 8; omega),
      iblk4_prev m c t ⟨t.val - 1, Nat.lt_of_le_of_lt (Nat.sub_le _ _) t.isLt⟩ (by show t.val / 8 = (t.val - 1) / 8; omega)]

theorem G5_eq (c : Dev nD) (b qi : Fin 8) (r : Fin 256) (x : Fin 512) (t : Fin cfg0.N) (ht : t.val = 8 * b + qi) :
    G5 m c (ix3 b ⟨256 * qi + r, by omega⟩ x)
      = outBlk (iblk m c 0 t) (iblk m c 1 t) (iblk m c 2 t) (sumR (iblk m c 3 t)) (sumL (iblk m c 4 t)) (t.val % 8) (ix3 0 r x) := by
  rw [← out_eq, outsAt0_sweep]
  have hp : pt5Of (ix3 b ⟨256 * qi + r, by omega⟩ x) = t.val := by
    show 8 * ((b : ℕ) / 1 - 0) + 1 * ((256 * (qi : ℕ) + r) / 256 - 0) + 1 * ((x : ℕ) / 512 - 0) = _
    have := r.isLt; have := x.isLt
    omega
  have hl : loc5Of (ix3 b ⟨256 * qi + r, by omega⟩ x) = ix3 0 r x := by
    funext a; apply Fin.ext
    match a with
    | ⟨0, _⟩ => show (b : ℕ) % 1 = 0; omega
    | ⟨1, _⟩ => show (256 * (qi : ℕ) + r) % 256 = r; omega
    | ⟨2, _⟩ => show (x : ℕ) % 512 = x; omega
  unfold G5
  rw [dif_pos (by rw [hp]; exact t.isLt), hl, fold0_congr m c _ _ _ _ hp]

end Cert.AttnVal

end
-- ==== Proof.AttnSpec.lean ====
/-
The attention as plain mathematics over its four arrays, and the blocks of the kernel read as these arrays.
-/
module

public import proofs.«01_k».proof.Proof.AttnArr

@[expose] public section

set_option maxRecDepth 16384

noncomputable section

open Idealize.ShloMosaic Idealize.ShloMosaic.TcCoe Idealize.SL.Sem
open Idealize.ShloMosaic.Pipeline (Dat)

namespace Cert.AttnVal

open Cert.AttnIdeal Cert.AttnIdeal.Gen Cert.AttnIdeal.Value Cert.Online

/-- The scale of the scores. -/
def eighth : EReal := Ideal.ofBits .f32 0x3E000000#32

theorem eighth_eq : eighth = ((1 / 8 : ℝ) : EReal) := by
  simp [eighth, Ideal.ofBits, Ideal.ieee]
  rw [← EReal.coe_mul]
  norm_num

/-- A finite value. -/
def Fine (x : EReal) : Prop := ∃ r : ℝ, x = r

theorem Fine.add {x y : EReal} : Fine x → Fine y → Fine (x + y)
  | ⟨a, ha⟩, ⟨b, hb⟩ => ⟨a + b, by rw [ha, hb, EReal.coe_add]⟩
theorem Fine.sub {x y : EReal} : Fine x → Fine y → Fine (x - y)
  | ⟨a, ha⟩, ⟨b, hb⟩ => ⟨a - b, by rw [ha, hb, EReal.coe_sub]⟩
theorem Fine.mul {x y : EReal} : Fine x → Fine y → Fine (x * y)
  | ⟨a, ha⟩, ⟨b, hb⟩ => ⟨a * b, by rw [ha, hb, EReal.coe_mul]⟩
theorem Fine.sum {ι : Type} (s : Finset ι) (f : ι → EReal) (h : ∀ i, Fine (f i)) : Fine (∑ i ∈ s, f i) := by
  choose g hg using h
  exact ⟨∑ i ∈ s, g i, by rw [← sum_coe]; exact Finset.sum_congr rfl fun i _ => hg i⟩
theorem Fine.ne_top {x : EReal} : Fine x → x ≠ ⊤ | ⟨a, ha⟩ => by rw [ha]; exact EReal.coe_ne_top a
theorem Fine.ne_bot {x : EReal} : Fine x → x ≠ ⊥ | ⟨a, ha⟩ => by rw [ha]; exact EReal.coe_ne_bot a

abbrev Arr4 := (⟨4, ![8, 2048, 8, 64]⟩ : Shape).Idx → EReal
abbrev Arr3 := (⟨3, ![8, 2048, 8]⟩ : Shape).Idx → EReal

/-- The position `n` as an index. -/
def at2048 (n : ℕ) : Fin 2048 := ⟨n % 2048, Nat.mod_lt _ (by norm_num)⟩

theorem at2048_val (n : Fin 2048) : at2048 n = n := Fin.ext (Nat.mod_eq_of_lt n.isLt)

/-- The running sum of the log forget gates of head `h` up to position `n`. -/
def csum (lf : Arr3) (b h : Fin 8) (n : ℕ) : EReal := ∑ j ∈ Finset.range (n + 1), lf (ix3 b (at2048 j) h)

/-- The score of query `pos` and key `κ`. -/
def score (q k : Arr4) (lf : Arr3) (b h : Fin 8) (pos κ : ℕ) : EReal :=
  (∑ d : Fin 64, q (ix4 b (at2048 pos) h d) * k (ix4 b (at2048 κ) h d)) * eighth + csum lf b h pos - csum lf b h κ

/-- The score under the causal mask. -/
def cscore (q k : Arr4) (lf : Arr3) (b h : Fin 8) (pos κ : ℕ) : EReal :=
  if κ ≤ pos then score q k lf b h pos κ else ⊥

/-- The values of lane `d` of head `h`. -/
def vals (v : Arr4) (b h : Fin 8) (d : Fin 64) (κ : ℕ) : EReal := v (ix4 b (at2048 κ) h d)

/-- The attention: values weighted by the softmax of the scores. -/
def attn (q k v : Arr4) (lf : Arr3) (b h : Fin 8) (pos : ℕ) (d : Fin 64) : EReal :=
  ∑ κ ∈ Finset.range 2048, vals v b h d κ *
    Ideal.div (Ideal.exp (cscore q k lf b h pos κ - mx (cscore q k lf b h pos) 2048)) (den (cscore q k lf b h pos) 2048)

theorem score_fine {q k : Arr4} {lf : Arr3} (hq : ∀ i, Fine (q i)) (hk : ∀ i, Fine (k i)) (hl : ∀ i, Fine (lf i))
    (b h : Fin 8) (pos κ : ℕ) : Fine (score q k lf b h pos κ) :=
  (((Fine.sum _ _ fun d => (hq _).mul (hk _)).mul ⟨_, eighth_eq⟩).add (Fine.sum _ _ fun j => hl _)).sub (Fine.sum _ _ fun j => hl _)

theorem cscore_ne_top {q k : Arr4} {lf : Arr3} (hq : ∀ i, Fine (q i)) (hk : ∀ i, Fine (k i)) (hl : ∀ i, Fine (lf i))
    (b h : Fin 8) (pos κ : ℕ) : cscore q k lf b h pos κ ≠ ⊤ := by
  unfold cscore
  split
  · exact (score_fine hq hk hl b h pos κ).ne_top
  · exact bot_ne_top

theorem cscore_zero {q k : Arr4} {lf : Arr3} (hq : ∀ i, Fine (q i)) (hk : ∀ i, Fine (k i)) (hl : ∀ i, Fine (lf i))
    (b h : Fin 8) (pos : ℕ) : cscore q k lf b h pos 0 ≠ ⊥ := by
  unfold cscore
  rw [if_pos (Nat.zero_le _)]
  exact (score_fine hq hk hl b h pos 0).ne_bot

/-- A product over the lanes of a pair whose upper half is masked off is the product over the first head. -/
theorem sum_low (f g : ℕ → EReal) :
    (∑ x : Fin 128, (if (x : ℕ) < 64 then f x else 0) * g x) = ∑ d : Fin 64, f d * g d := by
  rw [Fin.sum_univ_eq_sum_range (fun x => (if x < 64 then f x else 0) * g x) 128,
    Fin.sum_univ_eq_sum_range (fun x => f x * g x) 64, show 128 = 64 + 64 from rfl, Finset.sum_range_add,
    Finset.sum_eq_zero (s := Finset.range 64) (f := fun x => (if 64 + x < 64 then f (64 + x) else 0) * g (64 + x))
      fun x _ => by rw [if_neg (by omega), zero_mul], add_zero]
  exact Finset.sum_congr rfl fun x hx => by rw [if_pos (Finset.mem_range.1 hx)]

theorem sum_high (f g : ℕ → EReal) :
    (∑ x : Fin 128, (if (x : ℕ) < 64 then 0 else f x) * g x) = ∑ d : Fin 64, f (64 + d) * g (64 + d) := by
  rw [Fin.sum_univ_eq_sum_range (fun x => (if x < 64 then 0 else f x) * g x) 128,
    Fin.sum_univ_eq_sum_range (fun x => f (64 + x) * g (64 + x)) 64, show 128 = 64 + 64 from rfl, Finset.sum_range_add,
    Finset.sum_eq_zero (s := Finset.range 64) (f := fun x => (if x < 64 then 0 else f x) * g x)
      fun x hx => by rw [if_pos (Finset.mem_range.1 hx), zero_mul], zero_add]
  exact Finset.sum_congr rfl fun x hx => by rw [if_neg (by omega)]

/-- Scaling every query scales the product. -/
theorem sum_scale (q k : Fin 64 → EReal) : (∑ d, q d * eighth * k d) = (∑ d, q d * k d) * eighth := by
  rw [sum_mul_of _ _ (by rw [eighth_eq]; exact_mod_cast (by norm_num : (0 : ℝ) ≤ 1 / 8)) (by rw [eighth_eq]; exact EReal.coe_ne_top _)]
  exact Finset.sum_congr rfl fun d _ => by rw [mul_assoc, mul_comm eighth, ← mul_assoc]

variable (m : (ℓ : Loc nD τ sig) → Buf (Elt Ideal) ℓ)

def argQ (c : Dev nD) : Arr4 := m ((c : Thread nD τ).loc main_arg0)
def argK (c : Dev nD) : Arr4 := m ((c : Thread nD τ).loc main_arg1)
def argV (c : Dev nD) : Arr4 := m ((c : Thread nD τ).loc main_arg2)
def argL (c : Dev nD) : Arr3 := m ((c : Thread nD τ).loc main_arg3)

theorem V3_apply (c : Dev nD) (b : Fin 8) (n : Fin 2048) (x : Fin 512) :
    V m c main_v3 (ix3 b n x) = argQ m c (ix4 b n ⟨x / 64, by omega⟩ ⟨x % 64, by omega⟩) * eighth := by
  simp only [V, hostOps0, hostOps0_1, hostOps0_2, List.flatten_cons, List.flatten_nil, List.append_nil, List.cons_append, List.nil_append]
  after_results
  pointwise
  rfl
theorem V8_apply (c : Dev nD) (b : Fin 8) (n : Fin 2048) (x : Fin 512) :
    V m c main_v8 (ix3 b x n) = argK m c (ix4 b n ⟨x / 64, by omega⟩ ⟨x % 64, by omega⟩) := by
  simp only [V, hostOps0, hostOps0_1, hostOps0_2, List.flatten_cons, List.flatten_nil, List.append_nil, List.cons_append, List.nil_append]
  after_results
  pointwise
  rfl
theorem V11_apply (c : Dev nD) (b : Fin 8) (n : Fin 2048) (x : Fin 512) :
    V m c main_v11 (ix3 b x n) = argV m c (ix4 b n ⟨x / 64, by omega⟩ ⟨x % 64, by omega⟩) := by
  simp only [V, hostOps0, hostOps0_1, hostOps0_2, List.flatten_cons, List.flatten_nil, List.append_nil, List.cons_append, List.nil_append]
  after_results
  pointwise
  rfl
theorem V4_apply (c : Dev nD) (b : Fin 8) (n : Fin 2048) (h : Fin 8) :
    V m c main_v4 (ix3 b n ⟨h, by omega⟩) = argL m c (ix3 b n h) := by
  simp only [V, hostOps0, hostOps0_1, hostOps0_2, List.flatten_cons, List.flatten_nil, List.append_nil, List.cons_append, List.nil_append]
  after_results
  refine pad_apply_of_inside (s := S8x2048x8) (t := S8x2048x128) ![0, 0, 0] ![0, 0, 120] ![0, 0, 0] (argL m c) _
    pads_S8x2048x8_S8x2048x128_000_000_01200 h_S_ _ (ix3 b n h) fun a => ?_
  match a with
  | ⟨0, _⟩ => show (b : ℕ) = 0 + (b : ℕ) * (0 + 1); omega
  | ⟨1, _⟩ => show (n : ℕ) = 0 + (n : ℕ) * (0 + 1); omega
  | ⟨2, _⟩ => show (h : ℕ) = 0 + (h : ℕ) * (0 + 1); omega
theorem V5_apply (c : Dev nD) (b : Fin 8) (n : Fin 2048) (h : Fin 8) :
    V m c main_v5 (ix3 b h n) = argL m c (ix3 b n h) := by
  simp only [V, hostOps0, hostOps0_1, hostOps0_2, List.flatten_cons, List.flatten_nil, List.append_nil, List.cons_append, List.nil_append]
  after_results
  pointwise
  rfl

section
variable (c : Dev nD) (b qi : Fin 8) (t : Fin cfg0.N) (ht : t.val = 8 * b + qi)
include ht

theorem rd_c (h : Fin 8) (r : Fin 256) : cB (sumR (iblk m c 3 t)) (t.val % 8) h (ix2 r 0) = csum (argL m c) b h (256 * qi + r) := by
  have e1 : t.val % 8 = qi := by omega
  rw [e1]
  show sumR (iblk m c 3 t) (ix2 ⟨(256 * (qi : ℕ) + r) % 2048, _⟩ ⟨(h : ℕ) % 128, _⟩) = _
  have e2 : (256 * (qi : ℕ) + r) % 2048 = 256 * qi + r := Nat.mod_eq_of_lt (by omega)
  unfold sumR
  rw [scanR_apply]
  unfold csum
  show Finset.sum (Finset.range ((256 * (qi : ℕ) + r) % 2048 + 1)) _ = _
  rw [e2]
  refine Finset.sum_congr rfl fun j hj => ?_
  unfold gateR
  rw [iblk3]
  have e3 : (⟨t.val / 8, by have := lt64 t; omega⟩ : Fin 8) = b := Fin.ext (by show t.val / 8 = b; omega)
  rw [e3, ← V4_apply]
  exact congrArg (V m c main_v4) (congrArg (ix3 b _) (Fin.ext (Nat.mod_eq_of_lt (by omega))))

theorem rd_ct (h j : Fin 8) (κ : Fin 256) : ctB (sumL (iblk m c 4 t)) h j (ix2 0 κ) = csum (argL m c) b h (256 * j + κ) := by
  show sumL (iblk m c 4 t) (ix2 ⟨(h : ℕ) % 8, _⟩ ⟨(256 * (j : ℕ) + κ) % 2048, _⟩) = _
  have e2 : (256 * (j : ℕ) + κ) % 2048 = 256 * j + κ := Nat.mod_eq_of_lt (by omega)
  unfold sumL
  rw [scanL_apply]
  unfold csum
  show Finset.sum (Finset.range ((256 * (j : ℕ) + κ) % 2048 + 1)) _ = _
  rw [e2]
  refine Finset.sum_congr rfl fun j hj => ?_
  unfold gateL
  rw [iblk4, V5_apply]
  have e3 : (⟨t.val / 8, by have := lt64 t; omega⟩ : Fin 8) = b := Fin.ext (by show t.val / 8 = b; omega)
  rw [e3]
  exact congrArg (argL m c) (congrArg (ix3 b _) (Fin.ext (Nat.mod_eq_of_lt h.isLt)))

theorem rd_q (p : Fin 4) (r : Fin 256) (x : Fin 128) : qB (iblk m c 0 t) p (ix3 0 r x)
    = argQ m c (ix4 b (at2048 (256 * qi + r)) ⟨(2 * p + x / 64) % 8, Nat.mod_lt _ (by norm_num)⟩ ⟨x % 64, Nat.mod_lt _ (by norm_num)⟩) * eighth := by
  show iblk m c 0 t (ix3 0 r ⟨(128 * (p : ℕ) + x) % 512, _⟩) = _
  rw [iblk0, V3_apply]
  congr 2
  have := r.isLt
  refine congr (congr (congr (congrArg ix4 ?_) ?_) ?_) ?_ <;> apply Fin.ext <;> dsimp only [at2048] <;> omega

theorem rd_k (p : Fin 4) (j : Fin 8) (x : Fin 128) (κ : Fin 256) : kB (iblk m c 1 t) p j (ix2 x κ)
    = argK m c (ix4 b (at2048 (256 * j + κ)) ⟨(2 * p + x / 64) % 8, Nat.mod_lt _ (by norm_num)⟩ ⟨x % 64, Nat.mod_lt _ (by norm_num)⟩) := by
  show iblk m c 1 t (ix3 0 ⟨(128 * (p : ℕ) + x) % 512, _⟩ ⟨(256 * (j : ℕ) + κ) % 2048, _⟩) = _
  rw [iblk1, V8_apply]
  congr 1
  refine congr (congr (congr (congrArg ix4 ?_) ?_) ?_) ?_ <;> apply Fin.ext <;> dsimp only [at2048] <;> omega

theorem rd_v (p : Fin 4) (j : Fin 8) (x : Fin 128) (κ : Fin 256) : kB (iblk m c 2 t) p j (ix2 x κ)
    = argV m c (ix4 b (at2048 (256 * j + κ)) ⟨(2 * p + x / 64) % 8, Nat.mod_lt _ (by norm_num)⟩ ⟨x % 64, Nat.mod_lt _ (by norm_num)⟩) := by
  show iblk m c 2 t (ix3 0 ⟨(128 * (p : ℕ) + x) % 512, _⟩ ⟨(256 * (j : ℕ) + κ) % 2048, _⟩) = _
  rw [iblk2, V11_apply]
  congr 1
  refine congr (congr (congr (congrArg ix4 ?_) ?_) ?_) ?_ <;> apply Fin.ext <;> dsimp only [at2048] <;> omega

/-- The scores of the pair's first head. -/
theorem score_low (p : Fin 4) (j : Fin 8) (r κ : Fin 256) :
    scoreV (q0V (qB (iblk m c 0 t) p)) (cB (sumR (iblk m c 3 t)) (t.val % 8) (2 * p)) (kB (iblk m c 1 t) p j)
      (ctB (sumL (iblk m c 4 t)) (2 * p) j) (ix2 r κ)
      = score (argQ m c) (argK m c) (argL m c) b ⟨2 * p, by omega⟩ (256 * qi + r) (256 * j + κ) := by
  rw [scoreV_apply, rd_c m c b qi t ht ⟨2 * p, by omega⟩ r, rd_ct m c b qi t ht ⟨2 * p, by omega⟩ j κ]
  unfold score
  rw [← sum_scale]
  congr 2
  simp only [q0V_apply, rd_q m c b qi t ht, rd_k m c b qi t ht]
  refine (sum_low (fun x => argQ m c (ix4 b (at2048 (256 * qi + r)) ⟨(2 * p + x / 64) % 8, Nat.mod_lt _ (by norm_num)⟩ ⟨x % 64, Nat.mod_lt _ (by norm_num)⟩) * eighth)
    (fun x => argK m c (ix4 b (at2048 (256 * j + κ)) ⟨(2 * p + x / 64) % 8, Nat.mod_lt _ (by norm_num)⟩ ⟨x % 64, Nat.mod_lt _ (by norm_num)⟩))).trans ?_
  refine Finset.sum_congr rfl fun d _ => ?_
  have e1 : (⟨(2 * (p : ℕ) + (d : ℕ) / 64) % 8, Nat.mod_lt _ (by norm_num)⟩ : Fin 8) = ⟨2 * p, by omega⟩ := Fin.ext (by dsimp only; omega)
  have e2 : (⟨(d : ℕ) % 64, Nat.mod_lt _ (by norm_num)⟩ : Fin 64) = d := Fin.ext (by dsimp only; omega)
  rw [e1, e2]

/-- The scores of the pair's second head. -/
theorem score_high (p : Fin 4) (j : Fin 8) (r κ : Fin 256) :
    scoreV (q1V (qB (iblk m c 0 t) p)) (cB (sumR (iblk m c 3 t)) (t.val % 8) (2 * p + 1)) (kB (iblk m c 1 t) p j)
      (ctB (sumL (iblk m c 4 t)) (2 * p + 1) j) (ix2 r κ)
      = score (argQ m c) (argK m c) (argL m c) b ⟨2 * p + 1, by omega⟩ (256 * qi + r) (256 * j + κ) := by
  rw [scoreV_apply, rd_c m c b qi t ht ⟨2 * p + 1, by omega⟩ r, rd_ct m c b qi t ht ⟨2 * p + 1, by omega⟩ j κ]
  unfold score
  rw [← sum_scale]
  congr 2
  simp only [q1V_apply, rd_q m c b qi t ht, rd_k m c b qi t ht]
  refine (sum_high (fun x => argQ m c (ix4 b (at2048 (256 * qi + r)) ⟨(2 * p + x / 64) % 8, Nat.mod_lt _ (by norm_num)⟩ ⟨x % 64, Nat.mod_lt _ (by norm_num)⟩) * eighth)
    (fun x => argK m c (ix4 b (at2048 (256 * j + κ)) ⟨(2 * p + x / 64) % 8, Nat.mod_lt _ (by norm_num)⟩ ⟨x % 64, Nat.mod_lt _ (by norm_num)⟩))).trans ?_
  refine Finset.sum_congr rfl fun d _ => ?_
  have e1 : (⟨(2 * (p : ℕ) + (64 + (d : ℕ)) / 64) % 8, Nat.mod_lt _ (by norm_num)⟩ : Fin 8) = ⟨2 * p + 1, by omega⟩ := Fin.ext (by dsimp only; omega)
  have e2 : (⟨(64 + (d : ℕ)) % 64, Nat.mod_lt _ (by norm_num)⟩ : Fin 64) = d := Fin.ext (by dsimp only; omega)
  rw [e1, e2]

/-- An entry of the kernel's output block is the attention. -/
theorem block_attn (hq : ∀ i, Fine (argQ m c i)) (hk : ∀ i, Fine (argK m c i)) (hl : ∀ i, Fine (argL m c i)) (r : Fin 256) (x : Fin 512) :
    outBlk (iblk m c 0 t) (iblk m c 1 t) (iblk m c 2 t) (sumR (iblk m c 3 t)) (sumL (iblk m c 4 t)) (t.val % 8) (ix3 0 r x)
      = attn (argQ m c) (argK m c) (argV m c) (argL m c) b ⟨x / 64, by omega⟩ (256 * qi + r) ⟨x % 64, by omega⟩ := by
  show outP _ _ _ _ _ _ ((x : ℕ) / 128) (ix3 0 r ⟨(x : ℕ) % 128, _⟩) = _
  obtain ⟨p, hp⟩ : ∃ p : Fin 4, (p : ℕ) = (x : ℕ) / 128 := ⟨⟨(x : ℕ) / 128, by omega⟩, rfl⟩
  have hqi : t.val % 8 = qi := by omega
  generalize hh : (⟨(x : ℕ) / 64, _⟩ : Fin 8) = h
  have hT := cscore_ne_top hq hk hl b h (256 * qi + r)
  have hB := cscore_zero hq hk hl b h (256 * qi + r)
  have hm : ∀ k, 256 * (qi : ℕ) + 256 ≤ k → cscore (argQ m c) (argK m c) (argL m c) b h (256 * qi + r) k = ⊥ :=
    fun k hk => if_neg (by omega)
  have hv : ∀ j ≤ t.val % 8, ∀ κ : Fin 256, kB (iblk m c 2 t) p j (ix2 ⟨(x : ℕ) % 128, Nat.mod_lt _ (by norm_num)⟩ κ)
      = vals (argV m c) b h ⟨x % 64, Nat.mod_lt _ (by norm_num)⟩ (256 * j + κ) := fun j hj κ => by
    rw [rd_v m c b qi t ht p ⟨j, by omega⟩]
    unfold vals
    congr 1
    subst hh
    refine congr (congr (congr (congrArg ix4 ?_) ?_) ?_) ?_ <;> (try apply Fin.ext) <;> dsimp only [at2048] <;> omega
  have key : outP (iblk m c 0 t) (iblk m c 1 t) (iblk m c 2 t) (sumR (iblk m c 3 t)) (sumL (iblk m c 4 t)) (t.val % 8) p
        (ix3 0 r ⟨(x : ℕ) % 128, Nat.mod_lt _ (by norm_num)⟩)
      = Ideal.div (num (cscore (argQ m c) (argK m c) (argL m c) b h (256 * qi + r)) (vals (argV m c) b h ⟨x % 64, Nat.mod_lt _ (by norm_num)⟩) (256 * (t.val % 8) + 256))
          (den (cscore (argQ m c) (argK m c) (argL m c) b h (256 * qi + r)) (256 * (t.val % 8) + 256)) := by
    by_cases hx : (x : ℕ) % 128 < 64
    · have e : (⟨2 * (p : ℕ), by omega⟩ : Fin 8) = h := by subst hh; exact Fin.ext (by dsimp only; omega)
      refine outV_lo _ _ _ _ _ _ _ _ hT hB hx (fun j hj κ => ?_) (fun κ => ?_) hv
      · rw [score_low m c b qi t ht p ⟨j, by omega⟩ r κ, e, cscore, if_pos (by omega)]
      · rw [maskV_apply, hqi]
        have := score_low m c b qi t ht p qi r κ
        rw [hqi, e] at this
        rw [this, cscore]
        exact if_congr (by omega) rfl rfl
    · have e : (⟨2 * (p : ℕ) + 1, by omega⟩ : Fin 8) = h := by subst hh; exact Fin.ext (by dsimp only; omega)
      refine outV_hi _ _ _ _ _ _ _ _ hT hB hx (fun j hj κ => ?_) (fun κ => ?_) hv
      · rw [score_high m c b qi t ht p ⟨j, by omega⟩ r κ, e, cscore, if_pos (by omega)]
      · rw [maskV_apply, hqi]
        have := score_high m c b qi t ht p qi r κ
        rw [hqi, e] at this
        rw [this, cscore]
        exact if_congr (by omega) rfl rfl
  rw [hp] at key
  refine key.trans ?_
  rw [hqi, ← num_ext hT hB (by omega) (show 256 * (qi : ℕ) + 256 ≤ 2048 by omega) hm,
    ← den_ext hT hB (by omega) (show 256 * (qi : ℕ) + 256 ≤ 2048 by omega) hm, num_div hT hB (by norm_num)]
  rfl

end

/-- Every entry of the kernel's array is the attention. -/
theorem kernel_attn (c : Dev nD) (hq : ∀ i, Fine (argQ m c i)) (hk : ∀ i, Fine (argK m c i)) (hl : ∀ i, Fine (argL m c i))
    (b : Fin 8) (n : Fin 2048) (x : Fin 512) :
    G5 m c (ix3 b n x) = attn (argQ m c) (argK m c) (argV m c) (argL m c) b ⟨x / 64, by omega⟩ n ⟨x % 64, by omega⟩ := by
  have hN : cfg0.N = 64 := N_0
  have h1 := G5_eq m c b ⟨n / 256, by omega⟩ ⟨n % 256, by omega⟩ x ⟨8 * b + n / 256, by omega⟩ rfl
  have e : (⟨256 * (n / 256 : ℕ) + n % 256, by omega⟩ : Fin 2048) = n := Fin.ext (by dsimp only; omega)
  dsimp only at h1
  rw [e] at h1
  rw [h1, block_attn m c b ⟨n / 256, by omega⟩ ⟨8 * b + n / 256, by omega⟩ rfl hq hk hl]
  congr 1
  dsimp only; omega

end Cert.AttnVal

end
-- ==== Proof.AttnRefVal.lean ====
/-
The reference, read entry by entry: it is the attention as plain mathematics.
-/
module

public import proofs.«01_k».proof.Proof.AttnSpec
public import proofs.«01_k».proof.Proof.Gen.AttnRefIdeal.Run
public import proofs.«01_k».proof.Proof.Gen.AttnRefIdeal.Read

@[expose] public section

set_option maxRecDepth 16384

noncomputable section

open Idealize.ShloMosaic Idealize.ShloMosaic.TcCoe Idealize.SL.Sem

namespace Cert.AttnVal

open Cert.AttnRefIdeal Cert.AttnRefIdeal.Gen Cert.AttnRefIdeal.Read Cert.Online

theorem foldl_add {N : ℕ} (g : Fin N → EReal) (l : List (Fin N)) (r : EReal) :
    l.foldl (fun r n => r + g n) r = r + (l.map g).sum := by
  induction l generalizing r with
  | nil => simp
  | cons a l ih => rw [List.foldl_cons, ih, List.map_cons, List.sum_cons, add_assoc]

/-- A window that reaches back over all positions sums the positions up to its own. -/
theorem sum_back (f : ℕ → EReal) (n : ℕ) (hn : n < 2048) :
    (∑ w ∈ Finset.range 2048, if 2047 ≤ n + w then f (n + w - 2047) else 0) = ∑ j ∈ Finset.range (n + 1), f j := by
  have e : 2048 = (2047 - n) + (n + 1) := by omega
  rw [e, Finset.sum_range_add,
    Finset.sum_eq_zero (s := Finset.range (2047 - n)) fun w hw => if_neg (by have := Finset.mem_range.1 hw; omega), zero_add]
  refine Finset.sum_congr rfl fun w hw => ?_
  rw [if_pos (by omega)]
  congr 1
  omega

theorem symm_line (n : Fin (⟨3, ![1, 2048, 1]⟩ : Shape).numel) (hn : n.val < 2048) :
    (⟨3, ![1, 2048, 1]⟩ : Shape).rowMajor.symm n = ix3 (0 : Fin 1) (⟨n.val, hn⟩ : Fin 2048) (0 : Fin 1) :=
  ((⟨3, ![1, 2048, 1]⟩ : Shape).rowMajor.symm_apply_eq).2 (Fin.ext (by
    rw [Shape.rowMajor_val_three]
    show n.val = (0 * 2048 + n.val) * 1 + 0
    omega))

theorem numel_line : (⟨3, ![1, 2048, 1]⟩ : Shape).numel = 2048 := by decide +kernel

/-- The running sum of the log forget gates, as the reference writes it. -/
theorem csum_apply (lf : Arr3) (b h : Fin 8) (n : Fin 2048) :
    val_main_v0 (F := Ideal) lf (ix3 b n h) = csum lf b h n := by
  unfold val_main_v0
  simp only [Host.reduceWindowAdd, Ideal.hostReduceWindowAdd_def, Ideal.hostReduceWindowAdd]
  have hz : val_main_call0_call0_v0 (F := Ideal) (Shape.Idx.first Cert.AttnRefIdeal.Gen.h_S_) = (0 : EReal) := by
    rw [val_main_call0_call0_v0_apply, val_main_call0_call0_cst_apply]
    simp [Ideal.ofBits, Ideal.ieee]
  rw [hz]
  unfold Host.reduceWindow
  dsimp only
  rw [foldl_add, zero_add, ← Fin.sum_univ_def]
  have hn := n.isLt
  refine Eq.trans ?_ ((Fin.sum_univ_eq_sum_range (fun w => if 2047 ≤ n.val + w then lf (ix3 b (at2048 (n.val + w - 2047)) h) else 0)
    (⟨3, ![1, 2048, 1]⟩ : Shape).numel).trans ?_)
  · refine Finset.sum_congr rfl fun w _ => ?_
    have hw : w.val < 2048 := lt_of_lt_of_eq w.isLt numel_line
    have h0 : ((⟨3, ![1, 2048, 1]⟩ : Shape).rowMajor.symm w 0).val = 0 := by rw [symm_line w hw]; rfl
    have h1 : ((⟨3, ![1, 2048, 1]⟩ : Shape).rowMajor.symm w 1).val = w.val := by rw [symm_line w hw]; rfl
    have h2 : ((⟨3, ![1, 2048, 1]⟩ : Shape).rowMajor.symm w 2).val = 0 := by rw [symm_line w hw]; rfl
    split
    · next hin =>
      have hp := hin 1
      change 2047 ≤ n.val * 1 + ((⟨3, ![1, 2048, 1]⟩ : Shape).rowMajor.symm w 1).val ∧ _ at hp
      rw [h1] at hp
      rw [if_pos (by omega)]
      refine congrArg lf (funext fun a => Fin.ext ?_)
      match a with
      | ⟨0, _⟩ =>
        show b.val * 1 + ((⟨3, ![1, 2048, 1]⟩ : Shape).rowMajor.symm w 0).val - 0 = b.val
        omega
      | ⟨1, _⟩ =>
        show n.val * 1 + ((⟨3, ![1, 2048, 1]⟩ : Shape).rowMajor.symm w 1).val - 2047 = (n.val + w.val - 2047) % 2048
        omega
      | ⟨2, _⟩ =>
        show h.val * 1 + ((⟨3, ![1, 2048, 1]⟩ : Shape).rowMajor.symm w 2).val - 0 = h.val
        omega
    · next hin =>
      rw [if_neg fun hle => hin fun a => by
        match a with
        | ⟨0, _⟩ =>
          show 0 ≤ b.val * 1 + ((⟨3, ![1, 2048, 1]⟩ : Shape).rowMajor.symm w 0).val
            ∧ b.val * 1 + ((⟨3, ![1, 2048, 1]⟩ : Shape).rowMajor.symm w 0).val - 0 < 8
          omega
        | ⟨1, _⟩ =>
          show 2047 ≤ n.val * 1 + ((⟨3, ![1, 2048, 1]⟩ : Shape).rowMajor.symm w 1).val
            ∧ n.val * 1 + ((⟨3, ![1, 2048, 1]⟩ : Shape).rowMajor.symm w 1).val - 2047 < 2048
          omega
        | ⟨2, _⟩ =>
          show 0 ≤ h.val * 1 + ((⟨3, ![1, 2048, 1]⟩ : Shape).rowMajor.symm w 2).val
            ∧ h.val * 1 + ((⟨3, ![1, 2048, 1]⟩ : Shape).rowMajor.symm w 2).val - 0 < 8
          omega]
  · rw [numel_line]
    exact sum_back (fun j => lf (ix3 b (at2048 j) h)) n hn

section Entry
variable (q k v : Arr4) (lf : Arr3) (b h : Fin 8) (n : Fin 2048)

theorem rscore_apply (κ : Fin 2048) :
    val_main_v12 (F := Ideal) q k lf (ix4 b h n κ) = score q k lf b h n κ := by
  have eq : idx_main_v5 (idx_main_v6 (idx_main_v7 (ix4 b h n κ))) = ix3 b n h :=
    funext fun a => match a with | ⟨0, _⟩ => rfl | ⟨1, _⟩ => rfl | ⟨2, _⟩ => rfl
  have ek : idx_main_v9 (idx_main_v10 (idx_main_v11 (ix4 b h n κ))) = ix3 b κ h :=
    funext fun a => match a with | ⟨0, _⟩ => rfl | ⟨1, _⟩ => rfl | ⟨2, _⟩ => rfl
  have el : ∀ d : Fin 64, lidx_main_v2 (ix4 b h n κ) d = ix4 b n h d := fun d =>
    funext fun a => match a with | ⟨0, _⟩ => rfl | ⟨1, _⟩ => rfl | ⟨2, _⟩ => rfl | ⟨3, _⟩ => rfl
  have er : ∀ d : Fin 64, ridx_main_v2 (ix4 b h n κ) d = ix4 b κ h d := fun d =>
    funext fun a => match a with | ⟨0, _⟩ => rfl | ⟨1, _⟩ => rfl | ⟨2, _⟩ => rfl | ⟨3, _⟩ => rfl
  have e4 : val_main_v4 (F := Ideal) q k (ix4 b h n κ) = val_main_v2 (F := Ideal) q k (ix4 b h n κ) * eighth := by
    rw [val_main_v4_apply, val_main_v3_apply, val_main_cst_apply]
    rfl
  rw [val_main_v12_apply, val_main_v8_apply, val_main_v7_apply, val_main_v6_apply, val_main_v5_apply,
    val_main_v11_apply, val_main_v10_apply, val_main_v9_apply, eq, ek, csum_apply, csum_apply, e4, val_main_v2_apply]
  simp only [el, er]
  unfold score
  rw [at2048_val, at2048_val]
  rfl

theorem rmask_apply (κ : Fin 2048) :
    val_main_v19 (F := Ideal) q k lf (ix4 b h n κ) = cscore q k lf b h n κ := by
  have hm : val_main_call1_v1 (F := Ideal) (ix4 b h n κ) = 1#1 ↔ (κ : ℕ) ≤ (n : ℕ) := by
    rw [val_main_call1_v1_apply, val_main_v18_apply, val_main_v17_apply, val_main_v15_apply, val_main_v16_apply,
      val_main_v13_apply, val_main_v14_apply, val_main_v1_apply, val_main_v1_apply]
    exact WordCmp.cmpi_sge_ofNat_eq_one_iff (lt_of_lt_of_le n.isLt (by norm_num)) (lt_of_lt_of_le κ.isLt (by norm_num))
  have hb : val_main_call1_v2 (F := Ideal) (ix4 b h n κ) = (⊥ : EReal) := by
    rw [val_main_call1_v2_apply, val_main_call1_v0_apply, val_main_cst_0_apply]
    exact negInf_bits
  rw [val_main_v19_apply, rscore_apply, hb]
  unfold cscore
  change (if val_main_call1_v1 (F := Ideal) (ix4 b h n κ) = 1#1 then _ else _) = _
  by_cases hκ : (κ : ℕ) ≤ (n : ℕ)
  · rw [if_pos (hm.2 hκ), if_pos hκ]
  · rw [if_neg fun e => hκ (hm.1 e), if_neg hκ]

theorem rmax_apply : val_main_v22 (F := Ideal) q k lf (ix3 b h n) = mx (cscore q k lf b h n) 2048 := by
  have h20 : val_main_v20 (F := Ideal) q k lf (ix3 b h n) = mx (cscore q k lf b h n) 2048 := by
    have hr : Cert.AttnRefIdeal.S8x8x2048x2048.Reduces [3] Cert.AttnRefIdeal.S8x8x2048 := by decide
    unfold val_main_v20
    rw [Host.reduce_eq_fold_single (FloatOps.maximumf (F := Ideal) (φ := .f32)) _ _ _ hr]
    have hi : val_main_cst_1 (F := Ideal) (Shape.Idx.first Cert.AttnRefIdeal.Gen.h_S_) = (⊥ : EReal) := negInf_bits
    rw [hi]
    refine Eq.trans ?_ (fold_sup (cscore q k lf b h n) 2048)
    refine Finset.fold_congr fun κ _ => ?_
    refine Eq.trans (congrArg (val_main_v19 (F := Ideal) q k lf) (?_ : _ = ix4 b h n κ)) (rmask_apply q k lf b h n κ)
    exact funext fun a => Fin.ext (by match a with | ⟨0, _⟩ => rfl | ⟨1, _⟩ => rfl | ⟨2, _⟩ => rfl | ⟨3, _⟩ => rfl)
  have h21 : val_main_v21 (F := Ideal) (ix3 b h n) = (⊥ : EReal) := by
    rw [val_main_v21_apply, val_main_cst_2_apply]
    exact negInf_bits
  rw [val_main_v22_apply, h20, h21]
  exact max_eq_right bot_le

theorem rexp_apply (κ : Fin 2048) : val_main_v26 (F := Ideal) q k lf (ix4 b h n κ)
    = Ideal.exp (cscore q k lf b h n κ - mx (cscore q k lf b h n) 2048) := by
  have e : idx_main_v23 (idx_main_v24 (ix4 b h n κ)) = ix3 b h n :=
    funext fun a => match a with | ⟨0, _⟩ => rfl | ⟨1, _⟩ => rfl | ⟨2, _⟩ => rfl
  rw [val_main_v26_apply, val_main_v25_apply, rmask_apply, val_main_v24_apply, val_main_v23_apply, e, rmax_apply]
  rfl

theorem rden_apply : val_main_v27 (F := Ideal) q k lf (ix3 b h n) = den (cscore q k lf b h n) 2048 := by
  have e : ∀ κ : Fin 2048, idx_main_v27 (ix3 b h n) κ = ix4 b h n κ := fun κ =>
    funext fun a => match a with | ⟨0, _⟩ => rfl | ⟨1, _⟩ => rfl | ⟨2, _⟩ => rfl | ⟨3, _⟩ => rfl
  have hz : val_main_cst_3 (F := Ideal) (Shape.Idx.first Cert.AttnRefIdeal.Gen.h_S_) = (0 : EReal) := by
    rw [val_main_cst_3_apply]
    simp [Ideal.ofBits, Ideal.ieee]
  rw [val_main_v27_apply, hz, zero_add]
  simp only [e, rexp_apply]
  exact Fin.sum_univ_eq_sum_range (fun κ => Ideal.exp (cscore q k lf b h n κ - mx (cscore q k lf b h n) 2048)) 2048

theorem rattn_apply (d : Fin 64) :
    val_main_v31 (F := Ideal) q k v lf (ix4 b h d n) = attn q k v lf b h n d := by
  have el : ∀ κ : Fin 2048, lidx_main_v31 (ix4 b h d n) κ = ix4 b κ h d := fun κ =>
    funext fun a => match a with | ⟨0, _⟩ => rfl | ⟨1, _⟩ => rfl | ⟨2, _⟩ => rfl | ⟨3, _⟩ => rfl
  have er : ∀ κ : Fin 2048, ridx_main_v31 (ix4 b h d n) κ = ix4 b h n κ := fun κ =>
    funext fun a => match a with | ⟨0, _⟩ => rfl | ⟨1, _⟩ => rfl | ⟨2, _⟩ => rfl | ⟨3, _⟩ => rfl
  have ed : ∀ κ : Fin 2048, idx_main_v28 (idx_main_v29 (ix4 b h n κ)) = ix3 b h n := fun κ =>
    funext fun a => match a with | ⟨0, _⟩ => rfl | ⟨1, _⟩ => rfl | ⟨2, _⟩ => rfl
  rw [val_main_v31_apply]
  unfold attn
  rw [← Fin.sum_univ_eq_sum_range (fun κ => vals v b h d κ *
    Ideal.div (Ideal.exp (cscore q k lf b h n κ - mx (cscore q k lf b h n) 2048)) (den (cscore q k lf b h n) 2048)) 2048]
  refine Finset.sum_congr rfl fun κ _ => ?_
  rw [el, er, val_main_v30_apply, rexp_apply, val_main_v29_apply, val_main_v28_apply, ed, rden_apply]
  unfold vals
  rw [at2048_val]
  rfl

/-- The reference's result. -/
theorem ref_attn (x : Fin 512) : val_main_v34 (F := Ideal) q k v lf (ix3 b n x)
    = attn q k v lf b ⟨x / 64, by omega⟩ n ⟨x % 64, by omega⟩ := by
  have e : idx_main_v32 (idx_main_v33 (ix3 b n x)) = ix4 b ⟨x / 64, by omega⟩ ⟨x % 64, by omega⟩ n := by
    have hb := b.isLt
    have hn := n.isLt
    have hx := x.isLt
    refine funext fun a => Fin.ext ?_
    match a with
    | ⟨0, _⟩ => show ((b.val * 2048 + n.val) * 512 + x.val) / 1048576 = b.val; omega
    | ⟨1, _⟩ => show ((b.val * 2048 + n.val) * 512 + x.val) / 64 % 8 = x.val / 64; omega
    | ⟨2, _⟩ => show ((b.val * 2048 + n.val) * 512 + x.val) % 64 = x.val % 64; omega
    | ⟨3, _⟩ => show ((b.val * 2048 + n.val) * 512 + x.val) / 512 % 2048 = n.val; omega
  rw [val_main_v34_apply, val_main_v33_apply, val_main_v32_apply, e, rattn_apply]
  rfl

end Entry

end Cert.AttnVal

end
-- ==== Proof.AttnClaim.lean ====
/-
The claims about the attention of the prompt.
-/
module

public import proofs.«01_k».proof.Defs
public import proofs.«01_k».proof.Proof.AttnRefVal
public import proofs.«01_k».proof.Proof.Gen.Attn.Frame
public import proofs.«01_k».proof.Proof.Gen.Pre_finite_scores
public import Idealize.ShloMosaic.Lib.Quiescent
public import Idealize.ShloMosaic.Lib.ReduceAll

@[expose] public section

set_option maxRecDepth 16384

noncomputable section

open Idealize.ShloMosaic Idealize.ShloMosaic.TcCoe Idealize.SL.Sem

namespace Cert.AttnVal

/-- An entry whose absolute value compares below infinity is finite. -/
theorem fine_of_lt {x : EReal} (h : Ideal.cmp .olt (max x (-x)) (Ideal.ofBits .f32 0x7F800000#32) = 1#1) : Fine x := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  induction x using EReal.rec with
  | bot => simp at hlt
  | top => simp at hlt
  | coe r => exact ⟨r, rfl⟩

instance : Subsingleton Cert.Pre_finite_scores.S_.Idx := ⟨fun a b => funext fun i => i.elim0⟩

theorem fine_of_pre (q k v : Arr4) (lf : Arr3)
    (h : Cert.Pre_finite_scores.fn (F := Ideal) q k v lf = fun _ => 1#1) :
    (∀ i, Fine (q i)) ∧ (∀ i, Fine (k i)) ∧ (∀ i, Fine (lf i)) := by
  have h0 := congrFun h ix0
  unfold Cert.Pre_finite_scores.fn at h0
  dsimp only at h0
  obtain ⟨h1, hl⟩ := IntOp.andi_eq_one.1 h0
  obtain ⟨hq, hk⟩ := IntOp.andi_eq_one.1 h1
  exact ⟨fun i => fine_of_lt (Host.reduce_andi_all _ _ _ _ _ hq i),
    fun i => fine_of_lt (Host.reduce_andi_all _ _ _ _ _ hk i),
    fun i => fine_of_lt (Host.reduce_andi_all _ _ _ _ _ hl i)⟩

theorem frame_p : Cert.quiescent_Attn := fun m ρ _ => Cert.Attn.Gen.frame m ρ
theorem frame_pi : Cert.quiescent_AttnIdeal := fun m ρ _ => Cert.AttnIdeal.Gen.frame m ρ
theorem frame_pi' : Cert.quiescent_AttnIdeal_pre_finite_scores := fun m ρ _ => Cert.AttnIdeal.Gen.frame m ρ
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_ri' : Cert.quiescent_AttnRefIdeal_pre_finite_scores := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The name of the mask's constant stands for minus infinity. -/
theorem preserves : Cert.preserves_Attn_AttnIdeal :=
  IdealRules.named_const.statement Cert.AttnIdeal.κ "neg_inf" .f32 0xF149F2CA#32 ⊥ rfl

/-- The kernel's result is the reference's. -/
theorem algebraic : Cert.algebraic_AttnIdeal_AttnRefIdeal_pre_finite_scores := by
  intro m ρ m' ρ' hpre hagree
  refine ⟨_, Cert.AttnIdeal.Value.run (F := Ideal) m ρ, ?_⟩
  refine (θ_run Cert.AttnRefIdeal.defs _ _).mono (fun _ h c => ⟨(h c).1.trans ?_, (h c).2⟩)
    (Cert.AttnRefIdeal.Value.run (F := Ideal) m' ρ')
  obtain ⟨hq, hk, hl⟩ := fine_of_pre (argQ m c) (argK m c) (argV m c) (argL m c) (hpre c)
  obtain ⟨e0, e1, e2, e3⟩ := hagree c
  rw [Cert.AttnRefIdeal.Read.val_main_v34_eq, e0, e1, e2, e3]
  funext i
  idx_vars i
  exact (ref_attn (argQ m c) (argK m c) (argV m c) (argL m c) i0 i1 i2).trans (kernel_attn m c hq hk hl i0 i1 i2).symm

end Cert.AttnVal

end
-- ==== Proof.FfnVec.lean ====
/-
One tile of the feed-forward layer as functions of whole blocks: the up-projected rows, the convolution over three rows, the
gated activation, the step of the down projection, and the normalization at the end.
-/
module

public import proofs.«01_k».proof.Proof.Gen.FfnIdeal.Value
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen

/-- The up-projected rows of a column tile; rows before the sequence's start are zero. -/
def hV (xin : FVec Ideal S264x1024 .bf16) (keep : IVec S264x1 1) (W : Vec Ideal S1024x256 .bf16) (B : Vec Ideal S1x256 .f32) :
    FVec Ideal S264x256 .f32 :=
  select (broadcastTo S264x256 (shapeCast S264x1 keep shapeCasts_S264x1_S264x1) broadcasts_S264x1_S264x256)
    (addf (matmul (φ₂ := .bf16) dot_S264x1024_S1024x256_S264x256_1_0_0_1_n_n none xin
        (shapeCast S1024x256 W shapeCasts_S1024x256_S1024x256) (constant S264x256 .f32 0x00000000#32))
      (broadcastTo S264x256 (shapeCast S1x256 B shapeCasts_S1x256_S1x256) broadcasts_S1x256_S264x256))
    (broadcast S264x256 (Scalar.ofBits .f32 0x00000000#32))

def rowV (w : Vec Ideal S1x256 .f32) : FVec Ideal S256x256 .f32 :=
  broadcastTo S256x256 (shapeCast S1x256 w shapeCasts_S1x256_S1x256) broadcasts_S1x256_S256x256

/-- The convolution over the row and the two rows before it. -/
def convV (h : FVec Ideal S264x256 .f32) (b w0 w1 w2 : Vec Ideal S1x256 .f32) : FVec Ideal S256x256 .f32 :=
  addf (addf (addf (rowV b) (mulf (extractStridedSlice S256x256 ![6, 0] h slices_S264x256_o6_0_S256x256) (rowV w0)))
    (mulf (extractStridedSlice S256x256 ![7, 0] h slices_S264x256_o7_0_S256x256) (rowV w1)))
    (mulf (extractStridedSlice S256x256 ![8, 0] h slices_S264x256_o8_0_S256x256) (rowV w2))

def geluV (g : FVec Ideal S256x256 .f32) : FVec Ideal S256x256 .f32 :=
  mulf g (mulf (broadcast S256x256 (Scalar.ofBits .f32 0x3F000000#32))
    (addf (broadcast S256x256 (Scalar.ofBits .f32 0x3F800000#32))
      (tanh (mulf (broadcast S256x256 (Scalar.ofBits .f32 0x3F4C422A#32))
        (addf g (mulf (broadcast S256x256 (Scalar.ofBits .f32 0x3D372713#32)) (mulf g (mulf g g))))))))

def stepV (acc : FVec Ideal S256x1024 .f32) (g v : FVec Ideal S256x256 .f32) (D : Vec Ideal S256x1024 .bf16) :
    FVec Ideal S256x1024 .f32 :=
  addf acc (matmul (φ₂ := .bf16) dot_S256x256_S256x1024_S256x1024_1_0_0_1_n_n none (truncf .bf16 (mulf (geluV g) v) bitsLt_bf16_f32)
    (shapeCast S256x1024 D shapeCasts_S256x1024_S256x1024) (constant S256x1024 .f32 0x00000000#32))

/-! ## The same at an index -/

def half : EReal := Ideal.ofBits .f32 0x3F000000#32
def ga : EReal := Ideal.ofBits .f32 0x3F4C422A#32
def gb : EReal := Ideal.ofBits .f32 0x3D372713#32
def alph : EReal := Ideal.ofBits .f32 0x3F9837F0#32
def eps : EReal := Ideal.ofBits .f32 0x3727C5AC#32
def wid : EReal := Ideal.ofBits .f32 0x44800000#32

/-- The tanh form of the gelu. -/
def geluS (g : EReal) : EReal := g * (half * (1 + Ideal.tanh (ga * (g + gb * (g * (g * g))))))

theorem zero_bits : Ideal.ofBits FTy.f32 0x00000000#32 = (0 : EReal) := by
  simp [Ideal.ofBits, Ideal.ieee]

theorem hV_apply (xin : FVec Ideal S264x1024 .bf16) (keep : IVec S264x1 1) (W : Vec Ideal S1024x256 .bf16)
    (B : Vec Ideal S1x256 .f32) (r : Fin 264) (k : Fin 256) :
    hV xin keep W B (ix2 r k) = if keep (ix2 r 0) = 1#1 then ((∑ d : Fin 1024, xin (ix2 r d) * W (ix2 d k) + B (ix2 0 k) : EReal)) else (0 : EReal) := by
  rw [← zero_bits]
  unfold hV
  pointwise
  rfl

theorem convV_apply (h : FVec Ideal S264x256 .f32) (b w0 w1 w2 : Vec Ideal S1x256 .f32) (r k : Fin 256) :
    convV h b w0 w1 w2 (ix2 r k) = ((b (ix2 0 k) + h (ix2 ⟨6 + r, by omega⟩ k) * w0 (ix2 0 k)
      + h (ix2 ⟨7 + r, by omega⟩ k) * w1 (ix2 0 k) + h (ix2 ⟨8 + r, by omega⟩ k) * w2 (ix2 0 k) : EReal)) := by
  unfold convV rowV
  pointwise

theorem stepV_apply (acc : FVec Ideal S256x1024 .f32) (g v : FVec Ideal S256x256 .f32) (D : Vec Ideal S256x1024 .bf16)
    (r : Fin 256) (o : Fin 1024) :
    stepV acc g v D (ix2 r o) = ((acc (ix2 r o) + ∑ k : Fin 256, geluS (g (ix2 r k)) * v (ix2 r k) * D (ix2 k o) : EReal)) := by
  unfold stepV geluV
  pointwise
  rfl

/-- The normalization's row: its entries, mean, variance. -/
def meanS (f : Fin 1024 → EReal) : EReal := Ideal.div (∑ d : Fin 1024, f d) wid
def varS (f : Fin 1024 → EReal) : EReal := Ideal.div (∑ d : Fin 1024, (f d - meanS f) * (f d - meanS f)) wid
def lnS (f : Fin 1024 → EReal) (g b : EReal) (o : Fin 1024) : EReal :=
  (f o - meanS f) * Ideal.rsqrt (varS f + eps) * g + b

theorem ln_apply (x acc : FVec Ideal S256x1024 .f32) (g b : Vec Ideal S1x1024 .f32) (r : Fin 256) (o : Fin 1024) :
    k0_pay153 x acc (k0_pay152 (F := Ideal)) g b (ix2 r o)
      = lnS (fun d => (alph * x (ix2 r d) + acc (ix2 r d) : EReal)) (g (ix2 0 o)) (b (ix2 0 o)) o := by
  unfold k0_pay153 k0_pay152
  pointwise
  rfl

theorem keep_word : ∀ (b : Fin 8) (r : Fin 264),
    IntOp.ori (IntOp.cmpi .sge (BitVec.ofNat 32 (r : ℕ)) 8#32) (Scalar.cmpi .sgt (BitVec.ofNat 32 (b : ℕ)) 0#32) = 1#1
      ↔ 8 ≤ (r : ℕ) ∨ 0 < (b : ℕ) := by decide +kernel

theorem keep_iff (i : grid0.Coords) (r : Fin 264) : k0_pay4 i (ix2 r 0) = 1#1 ↔ (8 ≤ (r : ℕ) ∨ 0 < (i 1).val) := by
  have h := keep_word (⟨(i 1).val, (i 1).isLt⟩ : Fin 8) r
  unfold k0_pay4
  pointwise
  exact h

theorem xin_apply (x0 : Vec Ideal S1x256x1024 .f32) (x1 : Vec Ideal S1x8x1024 .f32) (r : Fin 264) (d : Fin 1024) :
    (k0_pay3 (F := Ideal) x0 x1 (ix2 r d) : EReal)
      = if h : (r : ℕ) < 8 then (x1 (ix3 0 ⟨r, h⟩ d) : EReal) else x0 (ix3 0 ⟨r - 8, by omega⟩ d) := by
  unfold k0_pay3 k0_pay2
  pointwise

end Cert.FfnVal
-- ==== Proof.FfnChunk.lean ====
/-
The column tiles of the feed-forward kernel's body: each adds its part of the down projection, and each writes the last eight
rows of its two column ranges.
-/
module

public import proofs.«01_k».proof.Proof.FfnVec

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen

variable (i : grid0.Coords) (x0 : Vec Ideal S1x256x1024 .f32) (x1 : Vec Ideal S1x8x1024 .f32)
  (x2 : Vec Ideal S1024x5632 .bf16) (x3 : Vec Ideal S1x5632 .f32) (x4 : Vec Ideal S3x5632 .f32)
  (x5 : Vec Ideal S1x5632 .f32) (x6 : Vec Ideal S2816x1024 .bf16) (x7 x8 : Vec Ideal S1x1024 .f32)

/-- The row `r` of the halo and the tile together: eight rows before the tile, then the tile's. -/
def xinS (r : Fin 264) (d : Fin 1024) : EReal :=
  if h : (r : ℕ) < 8 then (x1 (ix3 0 ⟨r, h⟩ d) : EReal) else x0 (ix3 0 ⟨r - 8, by omega⟩ d)

/-- The up-projected row. -/
def hS (r : Fin 264) (f : Fin 5632) : EReal :=
  if 8 ≤ (r : ℕ) ∨ 0 < (i 1).val then ∑ d : Fin 1024, xinS x0 x1 r d * (x2 (ix2 d f) : EReal) + x3 (ix2 0 f) else 0

def convS (r : Fin 256) (f : Fin 5632) : EReal :=
  x5 (ix2 0 f) + hS i x0 x1 x2 x3 ⟨6 + r, by omega⟩ f * x4 (ix2 0 f) + hS i x0 x1 x2 x3 ⟨7 + r, by omega⟩ f * x4 (ix2 1 f)
    + hS i x0 x1 x2 x3 ⟨8 + r, by omega⟩ f * x4 (ix2 2 f)

def actS (r : Fin 256) (f : Fin 2816) : EReal :=
  geluS (convS i x0 x1 x2 x3 x4 x5 r ⟨f, by omega⟩) * convS i x0 x1 x2 x3 x4 x5 r ⟨2816 + f, by omega⟩

/-- The up-projected rows of one column tile, from the blocks. -/
abbrev hT (W : Vec Ideal S1024x256 .bf16) (B : Vec Ideal S1x256 .f32) : FVec Ideal S264x256 .f32 :=
  hV (k0_pay3 (F := Ideal) (View.ld x0 r0_0) (View.ld x1 r0_1)) (k0_pay4 i) W B

theorem ld0 (r : Fin 256) (d : Fin 1024) : View.ld x0 r0_0 (ix3 0 r d) = x0 (ix3 0 r d) := by
  pointwise

theorem ld1 (r : Fin 8) (d : Fin 1024) : View.ld x1 r0_1 (ix3 0 r d) = x1 (ix3 0 r d) := by
  pointwise

theorem hT_apply (W : Vec Ideal S1024x256 .bf16) (B : Vec Ideal S1x256 .f32) (f : Fin 256 → Fin 5632)
    (hW : ∀ d k, W (ix2 d k) = x2 (ix2 d (f k))) (hB : ∀ k, B (ix2 0 k) = x3 (ix2 0 (f k))) (r : Fin 264) (k : Fin 256) :
    hT i x0 x1 W B (ix2 r k) = hS i x0 x1 x2 x3 r (f k) := by
  unfold hT hS
  rw [hV_apply]
  simp only [keep_iff, hW, hB]
  congr 2
  refine Finset.sum_congr rfl fun d _ => ?_
  congr 1
  refine (xin_apply _ _ _ _).trans ?_
  unfold xinS
  split
  · exact ld1 x1 _ d
  · exact ld0 x0 _ d

theorem convT_apply (h : FVec Ideal S264x256 .f32) (b w0 w1 w2 : Vec Ideal S1x256 .f32) (f : Fin 256 → Fin 5632)
    (hh : ∀ r k, h (ix2 r k) = hS i x0 x1 x2 x3 r (f k)) (hb : ∀ k, b (ix2 0 k) = x5 (ix2 0 (f k)))
    (h0 : ∀ k, w0 (ix2 0 k) = x4 (ix2 0 (f k))) (h1 : ∀ k, w1 (ix2 0 k) = x4 (ix2 1 (f k)))
    (h2 : ∀ k, w2 (ix2 0 k) = x4 (ix2 2 (f k))) (r k : Fin 256) :
    convV h b w0 w1 w2 (ix2 r k) = convS i x0 x1 x2 x3 x4 x5 r (f k) := by
  rw [convV_apply, hh, hh, hh, hb, h0, h1, h2]
  rfl

theorem step_read (acc : FVec Ideal S256x1024 .f32) (g v : FVec Ideal S256x256 .f32) (D : Vec Ideal S256x1024 .bf16)
    (n : ℕ) (hn : n + 256 ≤ 2816) (fg fv : Fin 256 → Fin 5632)
    (hg : ∀ r k, g (ix2 r k) = convS i x0 x1 x2 x3 x4 x5 r (fg k)) (hv : ∀ r k, v (ix2 r k) = convS i x0 x1 x2 x3 x4 x5 r (fv k))
    (hfg : ∀ k, (fg k).val = n + k) (hfv : ∀ k, (fv k).val = 2816 + (n + k))
    (hD : ∀ (k : Fin 256) (o : Fin 1024), D (ix2 k o) = x6 (ix2 ⟨n + k, by omega⟩ o)) (r : Fin 256) (o : Fin 1024) :
    (stepV acc g v D (ix2 r o) : EReal) = acc (ix2 r o)
      + ∑ k : Fin 256, actS i x0 x1 x2 x3 x4 x5 r ⟨n + k, by omega⟩ * (x6 (ix2 ⟨n + k, by omega⟩ o) : EReal) := by
  rw [stepV_apply]
  congr 1
  refine Finset.sum_congr rfl fun k _ => ?_
  rw [hg, hv, hD, show fg k = ⟨n + k, by omega⟩ from Fin.ext (hfg k), show fv k = ⟨2816 + (n + k), by omega⟩ from Fin.ext (hfv k)]
  rfl

/-! Reading a column range of a block. -/

theorem ldW (n : ℕ) (h : ∀ a, (![0, n] : Fin 2 → ℕ) a + S1024x256.size a ≤ S1024x5632.size a) (d : Fin 1024) (k : Fin 256) :
    View.ld x2 (Rect.unit (s := S1024x5632) ![0, n] S1024x256.size h) (ix2 d k)
      = x2 (ix2 d ⟨n + k, by have : n + 256 ≤ 5632 := h 1; omega⟩) := by
  pointwise

theorem ldB (x : Vec Ideal S1x5632 .f32) (n : ℕ) (h : ∀ a, (![0, n] : Fin 2 → ℕ) a + S1x256.size a ≤ S1x5632.size a) (k : Fin 256) :
    View.ld x (Rect.unit (s := S1x5632) ![0, n] S1x256.size h) (ix2 0 k)
      = x (ix2 0 ⟨n + k, by have : n + 256 ≤ 5632 := h 1; omega⟩) := by
  pointwise

theorem ldC (j n : ℕ) (h : ∀ a, (![j, n] : Fin 2 → ℕ) a + S1x256.size a ≤ S3x5632.size a) (k : Fin 256) :
    View.ld x4 (Rect.unit (s := S3x5632) ![j, n] S1x256.size h) (ix2 0 k)
      = x4 (ix2 ⟨j, by have : j + 1 ≤ 3 := h 0; omega⟩ ⟨n + k, by have : n + 256 ≤ 5632 := h 1; omega⟩) := by
  pointwise

theorem ldD (n : ℕ) (h : ∀ a, (![n, 0] : Fin 2 → ℕ) a + S256x1024.size a ≤ S2816x1024.size a) (k : Fin 256) (o : Fin 1024) :
    View.ld x6 (Rect.unit (s := S2816x1024) ![n, 0] S256x1024.size h) (ix2 k o)
      = x6 (ix2 ⟨n + k, by have : n + 256 ≤ 2816 := h 0; omega⟩ o) := by
  pointwise

theorem chunk0 (acc : FVec Ideal S256x1024 .f32) : k0_pay19 (F := Ideal) acc (k0_pay14 (F := Ideal) (k0_pay155 (F := Ideal) i x0 x1 x2 x3 x4 x5 x6 x7 x8) (k0_pay159 (F := Ideal) i x0 x1 x2 x3 x4 x5 x6 x7 x8) (View.ld x3 r0_6)) (k0_pay15 (F := Ideal) (k0_pay155 (F := Ideal) i x0 x1 x2 x3 x4 x5 x6 x7 x8) (k0_pay159 (F := Ideal) i x0 x1 x2 x3 x4 x5 x6 x7 x8) (View.ld x3 r0_6)) (k0_pay16 (F := Ideal) (k0_pay155 (F := Ideal) i x0 x1 x2 x3 x4 x5 x6 x7 x8) (k0_pay159 (F := Ideal) i x0 x1 x2 x3 x4 x5 x6 x7 x8) (View.ld x3 r0_6)) (k0_pay17 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (k0_pay18 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (Scalar.ofBits .f32 0x3F000000#32) (View.ld x5 r0_6) (View.ld x4 r0_11) (View.ld x4 r0_12) (View.ld x4 r0_13) (View.ld x6 r0_14)
    = stepV acc (convV (hT i x0 x1 (View.ld x2 r0_2) (View.ld x3 r0_3)) (View.ld x5 r0_3) (View.ld x4 r0_8) (View.ld x4 r0_9) (View.ld x4 r0_10))
      (convV (hT i x0 x1 (View.ld x2 r0_5) (View.ld x3 r0_6)) (View.ld x5 r0_6) (View.ld x4 r0_11) (View.ld x4 r0_12) (View.ld x4 r0_13)) (View.ld x6 r0_14) := by
  unfold_payloads
  rfl

theorem chunk0_apply (acc : FVec Ideal S256x1024 .f32) (r : Fin 256) (o : Fin 1024) :
    ((k0_pay19 (F := Ideal) acc (k0_pay14 (F := Ideal) (k0_pay155 (F := Ideal) i x0 x1 x2 x3 x4 x5 x6 x7 x8) (k0_pay159 (F := Ideal) i x0 x1 x2 x3 x4 x5 x6 x7 x8) (View.ld x3 r0_6)) (k0_pay15 (F := Ideal) (k0_pay155 (F := Ideal) i x0 x1 x2 x3 x4 x5 x6 x7 x8) (k0_pay159 (F := Ideal) i x0 x1 x2 x3 x4 x5 x6 x7 x8) (View.ld x3 r0_6)) (k0_pay16 (F := Ideal) (k0_pay155 (F := Ideal) i x0 x1 x2 x3 x4 x5 x6 x7 x8) (k0_pay159 (F := Ideal) i x0 x1 x2 x3 x4 x5 x6 x7 x8) (View.ld x3 r0_6)) (k0_pay17 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (k0_pay18 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (Scalar.ofBits .f32 0x3F000000#32) (View.ld x5 r0_6) (View.ld x4 r0_11) (View.ld x4 r0_12) (View.ld x4 r0_13) (View.ld x6 r0_14)) (ix2 r o) : EReal) = acc (ix2 r o)
      + ∑ k : Fin 256, actS i x0 x1 x2 x3 x4 x5 r ⟨0 + k, by omega⟩ * (x6 (ix2 ⟨0 + k, by omega⟩ o) : EReal) := by
  rw [chunk0]
  exact step_read i x0 x1 x2 x3 x4 x5 x6 acc _ _ _ 0 (by omega) (fun k => ⟨0 + k, by omega⟩) (fun k => ⟨2816 + k, by omega⟩)
    (convT_apply i x0 x1 x2 x3 x4 x5 _ _ _ _ _ (fun k => ⟨0 + k, by omega⟩)
      (hT_apply i x0 x1 x2 x3 _ _ _ (ldW x2 0 _) (ldB x3 0 _)) (ldB x5 0 _) (ldC x4 0 0 _) (ldC x4 1 0 _) (ldC x4 2 0 _))
    (convT_apply i x0 x1 x2 x3 x4 x5 _ _ _ _ _ (fun k => ⟨2816 + k, by omega⟩)
      (hT_apply i x0 x1 x2 x3 _ _ _ (ldW x2 2816 _) (ldB x3 2816 _)) (ldB x5 2816 _) (ldC x4 0 2816 _) (ldC x4 1 2816 _) (ldC x4 2 2816 _))
    (fun k => rfl) (fun k => by show 2816 + (k : ℕ) = 2816 + (0 + k); omega) (ldD x6 0 _) r o

theorem chunk1 (acc : FVec Ideal S256x1024 .f32) : k0_pay29 (F := Ideal) acc (k0_pay25 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay26 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay27 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay28 (F := Ideal) (k0_pay20 (F := Ideal) (k0_pay154 (F := Ideal) i x0 x1 x2 x3 x4 x5 x6 x7 x8) (k0_pay155 (F := Ideal) i x0 x1 x2 x3 x4 x5 x6 x7 x8) (View.ld x2 r0_15) (View.ld x3 r0_16)) (View.ld x5 r0_16) (View.ld x4 r0_21) (View.ld x4 r0_22) (View.ld x4 r0_23)) (View.ld x5 r0_19) (View.ld x4 r0_24) (View.ld x4 r0_25) (View.ld x4 r0_26) (View.ld x6 r0_27)
    = stepV acc (convV (hT i x0 x1 (View.ld x2 r0_15) (View.ld x3 r0_16)) (View.ld x5 r0_16) (View.ld x4 r0_21) (View.ld x4 r0_22) (View.ld x4 r0_23))
      (convV (hT i x0 x1 (View.ld x2 r0_18) (View.ld x3 r0_19)) (View.ld x5 r0_19) (View.ld x4 r0_24) (View.ld x4 r0_25) (View.ld x4 r0_26)) (View.ld x6 r0_27) := by
  unfold_payloads
  rfl

theorem chunk1_apply (acc : FVec Ideal S256x1024 .f32) (r : Fin 256) (o : Fin 1024) :
    ((k0_pay29 (F := Ideal) acc (k0_pay25 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay26 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay27 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay28 (F := Ideal) (k0_pay20 (F := Ideal) (k0_pay154 (F := Ideal) i x0 x1 x2 x3 x4 x5 x6 x7 x8) (k0_pay155 (F := Ideal) i x0 x1 x2 x3 x4 x5 x6 x7 x8) (View.ld x2 r0_15) (View.ld x3 r0_16)) (View.ld x5 r0_16) (View.ld x4 r0_21) (View.ld x4 r0_22) (View.ld x4 r0_23)) (View.ld x5 r0_19) (View.ld x4 r0_24) (View.ld x4 r0_25) (View.ld x4 r0_26) (View.ld x6 r0_27)) (ix2 r o) : EReal) = acc (ix2 r o)
      + ∑ k : Fin 256, actS i x0 x1 x2 x3 x4 x5 r ⟨256 + k, by omega⟩ * (x6 (ix2 ⟨256 + k, by omega⟩ o) : EReal) := by
  rw [chunk1]
  exact step_read i x0 x1 x2 x3 x4 x5 x6 acc _ _ _ 256 (by omega) (fun k => ⟨256 + k, by omega⟩) (fun k => ⟨3072 + k, by omega⟩)
    (convT_apply i x0 x1 x2 x3 x4 x5 _ _ _ _ _ (fun k => ⟨256 + k, by omega⟩)
      (hT_apply i x0 x1 x2 x3 _ _ _ (ldW x2 256 _) (ldB x3 256 _)) (ldB x5 256 _) (ldC x4 0 256 _) (ldC x4 1 256 _) (ldC x4 2 256 _))
    (convT_apply i x0 x1 x2 x3 x4 x5 _ _ _ _ _ (fun k => ⟨3072 + k, by omega⟩)
      (hT_apply i x0 x1 x2 x3 _ _ _ (ldW x2 3072 _) (ldB x3 3072 _)) (ldB x5 3072 _) (ldC x4 0 3072 _) (ldC x4 1 3072 _) (ldC x4 2 3072 _))
    (fun k => rfl) (fun k => by show 3072 + (k : ℕ) = 2816 + (256 + k); omega) (ldD x6 256 _) r o

theorem chunk2 (acc : FVec Ideal S256x1024 .f32) : k0_pay42 (F := Ideal) acc (k0_pay41 (F := Ideal) (k0_pay33 (F := Ideal) (k0_pay155 (F := Ideal) i x0 x1 x2 x3 x4 x5 x6 x7 x8) (k0_pay160 (F := Ideal) i x0 x1 x2 x3 x4 x5 x6 x7 x8) (View.ld x3 r0_29)) (k0_pay34 (F := Ideal) (k0_pay155 (F := Ideal) i x0 x1 x2 x3 x4 x5 x6 x7 x8) (k0_pay160 (F := Ideal) i x0 x1 x2 x3 x4 x5 x6 x7 x8) (View.ld x3 r0_29)) (k0_pay37 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay38 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay39 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay40 (F := Ideal) (k0_pay155 (F := Ideal) i x0 x1 x2 x3 x4 x5 x6 x7 x8) (k0_pay160 (F := Ideal) i x0 x1 x2 x3 x4 x5 x6 x7 x8) (View.ld x3 r0_29) (View.ld x5 r0_29) (View.ld x4 r0_34)) (View.ld x4 r0_35) (View.ld x4 r0_36) (View.ld x5 r0_32) (View.ld x4 r0_37) (View.ld x4 r0_38) (View.ld x4 r0_39)) (View.ld x6 r0_40)
    = stepV acc (convV (hT i x0 x1 (View.ld x2 r0_28) (View.ld x3 r0_29)) (View.ld x5 r0_29) (View.ld x4 r0_34) (View.ld x4 r0_35) (View.ld x4 r0_36))
      (convV (hT i x0 x1 (View.ld x2 r0_31) (View.ld x3 r0_32)) (View.ld x5 r0_32) (View.ld x4 r0_37) (View.ld x4 r0_38) (View.ld x4 r0_39)) (View.ld x6 r0_40) := by
  unfold_payloads
  rfl

theorem chunk2_apply (acc : FVec Ideal S256x1024 .f32) (r : Fin 256) (o : Fin 1024) :
    ((k0_pay42 (F := Ideal) acc (k0_pay41 (F := Ideal) (k0_pay33 (F := Ideal) (k0_pay155 (F := Ideal) i x0 x1 x2 x3 x4 x5 x6 x7 x8) (k0_pay160 (F := Ideal) i x0 x1 x2 x3 x4 x5 x6 x7 x8) (View.ld x3 r0_29)) (k0_pay34 (F := Ideal) (k0_pay155 (F := Ideal) i x0 x1 x2 x3 x4 x5 x6 x7 x8) (k0_pay160 (F := Ideal) i x0 x1 x2 x3 x4 x5 x6 x7 x8) (View.ld x3 r0_29)) (k0_pay37 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay38 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay39 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay40 (F := Ideal) (k0_pay155 (F := Ideal) i x0 x1 x2 x3 x4 x5 x6 x7 x8) (k0_pay160 (F := Ideal) i x0 x1 x2 x3 x4 x5 x6 x7 x8) (View.ld x3 r0_29) (View.ld x5 r0_29) (View.ld x4 r0_34)) (View.ld x4 r0_35) (View.ld x4 r0_36) (View.ld x5 r0_32) (View.ld x4 r0_37) (View.ld x4 r0_38) (View.ld x4 r0_39)) (View.ld x6 r0_40)) (ix2 r o) : EReal) = acc (ix2 r o)
      + ∑ k : Fin 256, actS i x0 x1 x2 x3 x4 x5 r ⟨512 + k, by omega⟩ * (x6 (ix2 ⟨512 + k, by omega⟩ o) : EReal) := by
  rw [chunk2]
  exact step_read i x0 x1 x2 x3 x4 x5 x6 acc _ _ _ 512 (by omega) (fun k => ⟨512 + k, by omega⟩) (fun k => ⟨3328 + k, by omega⟩)
    (convT_apply i x0 x1 x2 x3 x4 x5 _ _ _ _ _ (fun k => ⟨512 + k, by omega⟩)
      (hT_apply i x0 x1 x2 x3 _ _ _ (ldW x2 512 _) (ldB x3 512 _)) (ldB x5 512 _) (ldC x4 0 512 _) (ldC x4 1 512 _) (ldC x4 2 512 _))
    (convT_apply i x0 x1 x2 x3 x4 x5 _ _ _ _ _ (fun k => ⟨3328 + k, by omega⟩)
      (hT_apply i x0 x1 x2 x3 _ _ _ (ldW x2 3328 _) (ldB x3 3328 _)) (ldB x5 3328 _) (ldC x4 0 3328 _) (ldC x4 1 3328 _) (ldC x4 2 3328 _))
    (fun k => rfl) (fun k => by show 3328 + (k : ℕ) = 2816 + (512 + k); omega) (ldD x6 512 _) r o

theorem chunk3 (acc : FVec Ideal S256x1024 .f32) : k0_pay55 (F := Ideal) acc (k0_pay51 (F := Ideal) (k0_pay161 (F := Ideal) i x0 x1 x2 x3 x4 x5 x6 x7 x8)) (k0_pay52 (F := Ideal) (k0_pay161 (F := Ideal) i x0 x1 x2 x3 x4 x5 x6 x7 x8)) (k0_pay53 (F := Ideal) (k0_pay45 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay46 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay47 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (View.ld x5 r0_42) (View.ld x4 r0_47) (View.ld x4 r0_48) (View.ld x4 r0_49)) (k0_pay54 (F := Ideal) (k0_pay50 (F := Ideal) (k0_pay154 (F := Ideal) i x0 x1 x2 x3 x4 x5 x6 x7 x8) (k0_pay155 (F := Ideal) i x0 x1 x2 x3 x4 x5 x6 x7 x8) (View.ld x2 r0_44) (View.ld x3 r0_45)) (View.ld x5 r0_45) (View.ld x4 r0_50)) (View.ld x4 r0_51) (View.ld x4 r0_52) (View.ld x6 r0_53)
    = stepV acc (convV (hT i x0 x1 (View.ld x2 r0_41) (View.ld x3 r0_42)) (View.ld x5 r0_42) (View.ld x4 r0_47) (View.ld x4 r0_48) (View.ld x4 r0_49))
      (convV (hT i x0 x1 (View.ld x2 r0_44) (View.ld x3 r0_45)) (View.ld x5 r0_45) (View.ld x4 r0_50) (View.ld x4 r0_51) (View.ld x4 r0_52)) (View.ld x6 r0_53) := by
  unfold_payloads
  rfl

theorem chunk3_apply (acc : FVec Ideal S256x1024 .f32) (r : Fin 256) (o : Fin 1024) :
    ((k0_pay55 (F := Ideal) acc (k0_pay51 (F := Ideal) (k0_pay161 (F := Ideal) i x0 x1 x2 x3 x4 x5 x6 x7 x8)) (k0_pay52 (F := Ideal) (k0_pay161 (F := Ideal) i x0 x1 x2 x3 x4 x5 x6 x7 x8)) (k0_pay53 (F := Ideal) (k0_pay45 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay46 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay47 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (View.ld x5 r0_42) (View.ld x4 r0_47) (View.ld x4 r0_48) (View.ld x4 r0_49)) (k0_pay54 (F := Ideal) (k0_pay50 (F := Ideal) (k0_pay154 (F := Ideal) i x0 x1 x2 x3 x4 x5 x6 x7 x8) (k0_pay155 (F := Ideal) i x0 x1 x2 x3 x4 x5 x6 x7 x8) (View.ld x2 r0_44) (View.ld x3 r0_45)) (View.ld x5 r0_45) (View.ld x4 r0_50)) (View.ld x4 r0_51) (View.ld x4 r0_52) (View.ld x6 r0_53)) (ix2 r o) : EReal) = acc (ix2 r o)
      + ∑ k : Fin 256, actS i x0 x1 x2 x3 x4 x5 r ⟨768 + k, by omega⟩ * (x6 (ix2 ⟨768 + k, by omega⟩ o) : EReal) := by
  rw [chunk3]
  exact step_read i x0 x1 x2 x3 x4 x5 x6 acc _ _ _ 768 (by omega) (fun k => ⟨768 + k, by omega⟩) (fun k => ⟨3584 + k, by omega⟩)
    (convT_apply i x0 x1 x2 x3 x4 x5 _ _ _ _ _ (fun k => ⟨768 + k, by omega⟩)
      (hT_apply i x0 x1 x2 x3 _ _ _ (ldW x2 768 _) (ldB x3 768 _)) (ldB x5 768 _) (ldC x4 0 768 _) (ldC x4 1 768 _) (ldC x4 2 768 _))
    (convT_apply i x0 x1 x2 x3 x4 x5 _ _ _ _ _ (fun k => ⟨3584 + k, by omega⟩)
      (hT_apply i x0 x1 x2 x3 _ _ _ (ldW x2 3584 _) (ldB x3 3584 _)) (ldB x5 3584 _) (ldC x4 0 3584 _) (ldC x4 1 3584 _) (ldC x4 2 3584 _))
    (fun k => rfl) (fun k => by show 3584 + (k : ℕ) = 2816 + (768 + k); omega) (ldD x6 768 _) r o

theorem chunk4 (acc : FVec Ideal S256x1024 .f32) : k0_pay68 (F := Ideal) acc (k0_pay64 (F := Ideal) (k0_pay155 (F := Ideal) i x0 x1 x2 x3 x4 x5 x6 x7 x8) (k0_pay162 (F := Ideal) i x0 x1 x2 x3 x4 x5 x6 x7 x8)) (k0_pay65 (F := Ideal) (k0_pay155 (F := Ideal) i x0 x1 x2 x3 x4 x5 x6 x7 x8) (k0_pay162 (F := Ideal) i x0 x1 x2 x3 x4 x5 x6 x7 x8)) (k0_pay66 (F := Ideal) (k0_pay155 (F := Ideal) i x0 x1 x2 x3 x4 x5 x6 x7 x8) (k0_pay162 (F := Ideal) i x0 x1 x2 x3 x4 x5 x6 x7 x8)) (k0_pay67 (F := Ideal) (k0_pay58 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay59 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay60 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (View.ld x5 r0_55) (View.ld x4 r0_60) (View.ld x4 r0_61) (View.ld x4 r0_62)) (View.ld x5 r0_58) (View.ld x4 r0_63) (View.ld x4 r0_64) (View.ld x4 r0_65) (View.ld x6 r0_66)
    = stepV acc (convV (hT i x0 x1 (View.ld x2 r0_54) (View.ld x3 r0_55)) (View.ld x5 r0_55) (View.ld x4 r0_60) (View.ld x4 r0_61) (View.ld x4 r0_62))
      (convV (hT i x0 x1 (View.ld x2 r0_57) (View.ld x3 r0_58)) (View.ld x5 r0_58) (View.ld x4 r0_63) (View.ld x4 r0_64) (View.ld x4 r0_65)) (View.ld x6 r0_66) := by
  unfold_payloads
  rfl

theorem chunk4_apply (acc : FVec Ideal S256x1024 .f32) (r : Fin 256) (o : Fin 1024) :
    ((k0_pay68 (F := Ideal) acc (k0_pay64 (F := Ideal) (k0_pay155 (F := Ideal) i x0 x1 x2 x3 x4 x5 x6 x7 x8) (k0_pay162 (F := Ideal) i x0 x1 x2 x3 x4 x5 x6 x7 x8)) (k0_pay65 (F := Ideal) (k0_pay155 (F := Ideal) i x0 x1 x2 x3 x4 x5 x6 x7 x8) (k0_pay162 (F := Ideal) i x0 x1 x2 x3 x4 x5 x6 x7 x8)) (k0_pay66 (F := Ideal) (k0_pay155 (F := Ideal) i x0 x1 x2 x3 x4 x5 x6 x7 x8) (k0_pay162 (F := Ideal) i x0 x1 x2 x3 x4 x5 x6 x7 x8)) (k0_pay67 (F := Ideal) (k0_pay58 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay59 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay60 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (View.ld x5 r0_55) (View.ld x4 r0_60) (View.ld x4 r0_61) (View.ld x4 r0_62)) (View.ld x5 r0_58) (View.ld x4 r0_63) (View.ld x4 r0_64) (View.ld x4 r0_65) (View.ld x6 r0_66)) (ix2 r o) : EReal) = acc (ix2 r o)
      + ∑ k : Fin 256, actS i x0 x1 x2 x3 x4 x5 r ⟨1024 + k, by omega⟩ * (x6 (ix2 ⟨1024 + k, by omega⟩ o) : EReal) := by
  rw [chunk4]
  exact step_read i x0 x1 x2 x3 x4 x5 x6 acc _ _ _ 1024 (by omega) (fun k => ⟨1024 + k, by omega⟩) (fun k => ⟨3840 + k, by omega⟩)
    (convT_apply i x0 x1 x2 x3 x4 x5 _ _ _ _ _ (fun k => ⟨1024 + k, by omega⟩)
      (hT_apply i x0 x1 x2 x3 _ _ _ (ldW x2 1024 _) (ldB x3 1024 _)) (ldB x5 1024 _) (ldC x4 0 1024 _) (ldC x4 1 1024 _) (ldC x4 2 1024 _))
    (convT_apply i x0 x1 x2 x3 x4 x5 _ _ _ _ _ (fun k => ⟨3840 + k, by omega⟩)
      (hT_apply i x0 x1 x2 x3 _ _ _ (ldW x2 3840 _) (ldB x3 3840 _)) (ldB x5 3840 _) (ldC x4 0 3840 _) (ldC x4 1 3840 _) (ldC x4 2 3840 _))
    (fun k => rfl) (fun k => by show 3840 + (k : ℕ) = 2816 + (1024 + k); omega) (ldD x6 1024 _) r o

theorem chunk5 (acc : FVec Ideal S256x1024 .f32) : k0_pay80 (F := Ideal) acc (k0_pay74 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay75 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay76 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay77 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay78 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay79 (F := Ideal) ) (View.ld x5 r0_71) (View.ld x4 r0_76) (View.ld x4 r0_77) (View.ld x4 r0_78) (View.ld x6 r0_79)
    = stepV acc (convV (hT i x0 x1 (View.ld x2 r0_67) (View.ld x3 r0_68)) (View.ld x5 r0_68) (View.ld x4 r0_73) (View.ld x4 r0_74) (View.ld x4 r0_75))
      (convV (hT i x0 x1 (View.ld x2 r0_70) (View.ld x3 r0_71)) (View.ld x5 r0_71) (View.ld x4 r0_76) (View.ld x4 r0_77) (View.ld x4 r0_78)) (View.ld x6 r0_79) := by
  unfold_payloads
  rfl

theorem chunk5_apply (acc : FVec Ideal S256x1024 .f32) (r : Fin 256) (o : Fin 1024) :
    ((k0_pay80 (F := Ideal) acc (k0_pay74 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay75 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay76 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay77 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay78 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay79 (F := Ideal) ) (View.ld x5 r0_71) (View.ld x4 r0_76) (View.ld x4 r0_77) (View.ld x4 r0_78) (View.ld x6 r0_79)) (ix2 r o) : EReal) = acc (ix2 r o)
      + ∑ k : Fin 256, actS i x0 x1 x2 x3 x4 x5 r ⟨1280 + k, by omega⟩ * (x6 (ix2 ⟨1280 + k, by omega⟩ o) : EReal) := by
  rw [chunk5]
  exact step_read i x0 x1 x2 x3 x4 x5 x6 acc _ _ _ 1280 (by omega) (fun k => ⟨1280 + k, by omega⟩) (fun k => ⟨4096 + k, by omega⟩)
    (convT_apply i x0 x1 x2 x3 x4 x5 _ _ _ _ _ (fun k => ⟨1280 + k, by omega⟩)
      (hT_apply i x0 x1 x2 x3 _ _ _ (ldW x2 1280 _) (ldB x3 1280 _)) (ldB x5 1280 _) (ldC x4 0 1280 _) (ldC x4 1 1280 _) (ldC x4 2 1280 _))
    (convT_apply i x0 x1 x2 x3 x4 x5 _ _ _ _ _ (fun k => ⟨4096 + k, by omega⟩)
      (hT_apply i x0 x1 x2 x3 _ _ _ (ldW x2 4096 _) (ldB x3 4096 _)) (ldB x5 4096 _) (ldC x4 0 4096 _) (ldC x4 1 4096 _) (ldC x4 2 4096 _))
    (fun k => rfl) (fun k => by show 4096 + (k : ℕ) = 2816 + (1280 + k); omega) (ldD x6 1280 _) r o

theorem chunk6 (acc : FVec Ideal S256x1024 .f32) : k0_pay95 (F := Ideal) acc (k0_pay93 (F := Ideal) (k0_pay84 (F := Ideal) (k0_pay155 (F := Ideal) i x0 x1 x2 x3 x4 x5 x6 x7 x8) (k0_pay165 (F := Ideal) i x0 x1 x2 x3 x4 x5 x6 x7 x8)) (k0_pay85 (F := Ideal) (k0_pay155 (F := Ideal) i x0 x1 x2 x3 x4 x5 x6 x7 x8) (k0_pay165 (F := Ideal) i x0 x1 x2 x3 x4 x5 x6 x7 x8)) (k0_pay88 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay89 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay90 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay91 (F := Ideal) (k0_pay155 (F := Ideal) i x0 x1 x2 x3 x4 x5 x6 x7 x8) (k0_pay165 (F := Ideal) i x0 x1 x2 x3 x4 x5 x6 x7 x8) (View.ld x5 r0_81) (View.ld x4 r0_86)) (k0_pay92 (F := Ideal) (View.ld x4 r0_87)) (View.ld x4 r0_88) (View.ld x5 r0_84) (View.ld x4 r0_89) (View.ld x4 r0_90) (View.ld x4 r0_91)) (k0_pay94 (F := Ideal) (View.ld x6 r0_92)) (constant S256x1024 .f32 0x00000000#32)
    = stepV acc (convV (hT i x0 x1 (View.ld x2 r0_80) (View.ld x3 r0_81)) (View.ld x5 r0_81) (View.ld x4 r0_86) (View.ld x4 r0_87) (View.ld x4 r0_88))
      (convV (hT i x0 x1 (View.ld x2 r0_83) (View.ld x3 r0_84)) (View.ld x5 r0_84) (View.ld x4 r0_89) (View.ld x4 r0_90) (View.ld x4 r0_91)) (View.ld x6 r0_92) := by
  unfold_payloads
  rfl

theorem chunk6_apply (acc : FVec Ideal S256x1024 .f32) (r : Fin 256) (o : Fin 1024) :
    ((k0_pay95 (F := Ideal) acc (k0_pay93 (F := Ideal) (k0_pay84 (F := Ideal) (k0_pay155 (F := Ideal) i x0 x1 x2 x3 x4 x5 x6 x7 x8) (k0_pay165 (F := Ideal) i x0 x1 x2 x3 x4 x5 x6 x7 x8)) (k0_pay85 (F := Ideal) (k0_pay155 (F := Ideal) i x0 x1 x2 x3 x4 x5 x6 x7 x8) (k0_pay165 (F := Ideal) i x0 x1 x2 x3 x4 x5 x6 x7 x8)) (k0_pay88 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay89 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay90 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay91 (F := Ideal) (k0_pay155 (F := Ideal) i x0 x1 x2 x3 x4 x5 x6 x7 x8) (k0_pay165 (F := Ideal) i x0 x1 x2 x3 x4 x5 x6 x7 x8) (View.ld x5 r0_81) (View.ld x4 r0_86)) (k0_pay92 (F := Ideal) (View.ld x4 r0_87)) (View.ld x4 r0_88) (View.ld x5 r0_84) (View.ld x4 r0_89) (View.ld x4 r0_90) (View.ld x4 r0_91)) (k0_pay94 (F := Ideal) (View.ld x6 r0_92)) (constant S256x1024 .f32 0x00000000#32)) (ix2 r o) : EReal) = acc (ix2 r o)
      + ∑ k : Fin 256, actS i x0 x1 x2 x3 x4 x5 r ⟨1536 + k, by omega⟩ * (x6 (ix2 ⟨1536 + k, by omega⟩ o) : EReal) := by
  rw [chunk6]
  exact step_read i x0 x1 x2 x3 x4 x5 x6 acc _ _ _ 1536 (by omega) (fun k => ⟨1536 + k, by omega⟩) (fun k => ⟨4352 + k, by omega⟩)
    (convT_apply i x0 x1 x2 x3 x4 x5 _ _ _ _ _ (fun k => ⟨1536 + k, by omega⟩)
      (hT_apply i x0 x1 x2 x3 _ _ _ (ldW x2 1536 _) (ldB x3 1536 _)) (ldB x5 1536 _) (ldC x4 0 1536 _) (ldC x4 1 1536 _) (ldC x4 2 1536 _))
    (convT_apply i x0 x1 x2 x3 x4 x5 _ _ _ _ _ (fun k => ⟨4352 + k, by omega⟩)
      (hT_apply i x0 x1 x2 x3 _ _ _ (ldW x2 4352 _) (ldB x3 4352 _)) (ldB x5 4352 _) (ldC x4 0 4352 _) (ldC x4 1 4352 _) (ldC x4 2 4352 _))
    (fun k => rfl) (fun k => by show 4352 + (k : ℕ) = 2816 + (1536 + k); omega) (ldD x6 1536 _) r o

theorem chunk7 (acc : FVec Ideal S256x1024 .f32) : k0_pay108 (F := Ideal) acc (k0_pay105 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay106 (F := Ideal) (k0_pay98 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay99 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay100 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (View.ld x5 r0_94) (View.ld x4 r0_99) (View.ld x4 r0_100) (View.ld x4 r0_101)) (k0_pay107 (F := Ideal) (k0_pay103 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay104 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (View.ld x5 r0_97) (View.ld x4 r0_102) (View.ld x4 r0_103)) (View.ld x4 r0_104) (View.ld x6 r0_105)
    = stepV acc (convV (hT i x0 x1 (View.ld x2 r0_93) (View.ld x3 r0_94)) (View.ld x5 r0_94) (View.ld x4 r0_99) (View.ld x4 r0_100) (View.ld x4 r0_101))
      (convV (hT i x0 x1 (View.ld x2 r0_96) (View.ld x3 r0_97)) (View.ld x5 r0_97) (View.ld x4 r0_102) (View.ld x4 r0_103) (View.ld x4 r0_104)) (View.ld x6 r0_105) := by
  unfold_payloads
  rfl

theorem chunk7_apply (acc : FVec Ideal S256x1024 .f32) (r : Fin 256) (o : Fin 1024) :
    ((k0_pay108 (F := Ideal) acc (k0_pay105 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay106 (F := Ideal) (k0_pay98 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay99 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay100 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (View.ld x5 r0_94) (View.ld x4 r0_99) (View.ld x4 r0_100) (View.ld x4 r0_101)) (k0_pay107 (F := Ideal) (k0_pay103 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay104 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (View.ld x5 r0_97) (View.ld x4 r0_102) (View.ld x4 r0_103)) (View.ld x4 r0_104) (View.ld x6 r0_105)) (ix2 r o) : EReal) = acc (ix2 r o)
      + ∑ k : Fin 256, actS i x0 x1 x2 x3 x4 x5 r ⟨1792 + k, by omega⟩ * (x6 (ix2 ⟨1792 + k, by omega⟩ o) : EReal) := by
  rw [chunk7]
  exact step_read i x0 x1 x2 x3 x4 x5 x6 acc _ _ _ 1792 (by omega) (fun k => ⟨1792 + k, by omega⟩) (fun k => ⟨4608 + k, by omega⟩)
    (convT_apply i x0 x1 x2 x3 x4 x5 _ _ _ _ _ (fun k => ⟨1792 + k, by omega⟩)
      (hT_apply i x0 x1 x2 x3 _ _ _ (ldW x2 1792 _) (ldB x3 1792 _)) (ldB x5 1792 _) (ldC x4 0 1792 _) (ldC x4 1 1792 _) (ldC x4 2 1792 _))
    (convT_apply i x0 x1 x2 x3 x4 x5 _ _ _ _ _ (fun k => ⟨4608 + k, by omega⟩)
      (hT_apply i x0 x1 x2 x3 _ _ _ (ldW x2 4608 _) (ldB x3 4608 _)) (ldB x5 4608 _) (ldC x4 0 4608 _) (ldC x4 1 4608 _) (ldC x4 2 4608 _))
    (fun k => rfl) (fun k => by show 4608 + (k : ℕ) = 2816 + (1792 + k); omega) (ldD x6 1792 _) r o

theorem chunk8 (acc : FVec Ideal S256x1024 .f32) : k0_pay124 (F := Ideal) acc (k0_pay119 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay120 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay121 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay122 (F := Ideal) (k0_pay111 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay112 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay113 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (View.ld x5 r0_107) (View.ld x4 r0_112) (View.ld x4 r0_113) (View.ld x4 r0_114)) (k0_pay123 (F := Ideal) (View.ld x5 r0_110)) (View.ld x4 r0_115) (View.ld x4 r0_116) (View.ld x4 r0_117) (View.ld x6 r0_118)
    = stepV acc (convV (hT i x0 x1 (View.ld x2 r0_106) (View.ld x3 r0_107)) (View.ld x5 r0_107) (View.ld x4 r0_112) (View.ld x4 r0_113) (View.ld x4 r0_114))
      (convV (hT i x0 x1 (View.ld x2 r0_109) (View.ld x3 r0_110)) (View.ld x5 r0_110) (View.ld x4 r0_115) (View.ld x4 r0_116) (View.ld x4 r0_117)) (View.ld x6 r0_118) := by
  unfold_payloads
  rfl

theorem chunk8_apply (acc : FVec Ideal S256x1024 .f32) (r : Fin 256) (o : Fin 1024) :
    ((k0_pay124 (F := Ideal) acc (k0_pay119 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay120 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay121 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay122 (F := Ideal) (k0_pay111 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay112 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay113 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (View.ld x5 r0_107) (View.ld x4 r0_112) (View.ld x4 r0_113) (View.ld x4 r0_114)) (k0_pay123 (F := Ideal) (View.ld x5 r0_110)) (View.ld x4 r0_115) (View.ld x4 r0_116) (View.ld x4 r0_117) (View.ld x6 r0_118)) (ix2 r o) : EReal) = acc (ix2 r o)
      + ∑ k : Fin 256, actS i x0 x1 x2 x3 x4 x5 r ⟨2048 + k, by omega⟩ * (x6 (ix2 ⟨2048 + k, by omega⟩ o) : EReal) := by
  rw [chunk8]
  exact step_read i x0 x1 x2 x3 x4 x5 x6 acc _ _ _ 2048 (by omega) (fun k => ⟨2048 + k, by omega⟩) (fun k => ⟨4864 + k, by omega⟩)
    (convT_apply i x0 x1 x2 x3 x4 x5 _ _ _ _ _ (fun k => ⟨2048 + k, by omega⟩)
      (hT_apply i x0 x1 x2 x3 _ _ _ (ldW x2 2048 _) (ldB x3 2048 _)) (ldB x5 2048 _) (ldC x4 0 2048 _) (ldC x4 1 2048 _) (ldC x4 2 2048 _))
    (convT_apply i x0 x1 x2 x3 x4 x5 _ _ _ _ _ (fun k => ⟨4864 + k, by omega⟩)
      (hT_apply i x0 x1 x2 x3 _ _ _ (ldW x2 4864 _) (ldB x3 4864 _)) (ldB x5 4864 _) (ldC x4 0 4864 _) (ldC x4 1 4864 _) (ldC x4 2 4864 _))
    (fun k => rfl) (fun k => by show 4864 + (k : ℕ) = 2816 + (2048 + k); omega) (ldD x6 2048 _) r o

theorem chunk9 (acc : FVec Ideal S256x1024 .f32) : k0_pay138 (F := Ideal) acc (k0_pay132 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay133 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay134 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay135 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay136 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay137 (F := Ideal) ) (View.ld x5 r0_123) (View.ld x4 r0_128) (View.ld x4 r0_129) (View.ld x4 r0_130) (View.ld x6 r0_131)
    = stepV acc (convV (hT i x0 x1 (View.ld x2 r0_119) (View.ld x3 r0_120)) (View.ld x5 r0_120) (View.ld x4 r0_125) (View.ld x4 r0_126) (View.ld x4 r0_127))
      (convV (hT i x0 x1 (View.ld x2 r0_122) (View.ld x3 r0_123)) (View.ld x5 r0_123) (View.ld x4 r0_128) (View.ld x4 r0_129) (View.ld x4 r0_130)) (View.ld x6 r0_131) := by
  unfold_payloads
  rfl

theorem chunk9_apply (acc : FVec Ideal S256x1024 .f32) (r : Fin 256) (o : Fin 1024) :
    ((k0_pay138 (F := Ideal) acc (k0_pay132 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay133 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay134 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay135 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay136 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay137 (F := Ideal) ) (View.ld x5 r0_123) (View.ld x4 r0_128) (View.ld x4 r0_129) (View.ld x4 r0_130) (View.ld x6 r0_131)) (ix2 r o) : EReal) = acc (ix2 r o)
      + ∑ k : Fin 256, actS i x0 x1 x2 x3 x4 x5 r ⟨2304 + k, by omega⟩ * (x6 (ix2 ⟨2304 + k, by omega⟩ o) : EReal) := by
  rw [chunk9]
  exact step_read i x0 x1 x2 x3 x4 x5 x6 acc _ _ _ 2304 (by omega) (fun k => ⟨2304 + k, by omega⟩) (fun k => ⟨5120 + k, by omega⟩)
    (convT_apply i x0 x1 x2 x3 x4 x5 _ _ _ _ _ (fun k => ⟨2304 + k, by omega⟩)
      (hT_apply i x0 x1 x2 x3 _ _ _ (ldW x2 2304 _) (ldB x3 2304 _)) (ldB x5 2304 _) (ldC x4 0 2304 _) (ldC x4 1 2304 _) (ldC x4 2 2304 _))
    (convT_apply i x0 x1 x2 x3 x4 x5 _ _ _ _ _ (fun k => ⟨5120 + k, by omega⟩)
      (hT_apply i x0 x1 x2 x3 _ _ _ (ldW x2 5120 _) (ldB x3 5120 _)) (ldB x5 5120 _) (ldC x4 0 5120 _) (ldC x4 1 5120 _) (ldC x4 2 5120 _))
    (fun k => rfl) (fun k => by show 5120 + (k : ℕ) = 2816 + (2304 + k); omega) (ldD x6 2304 _) r o

theorem chunk10 (acc : FVec Ideal S256x1024 .f32) : k0_pay151 (F := Ideal) acc (k0_pay144 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) (k0_pay147 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay148 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay149 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay150 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8) (View.ld x5 r0_133) (View.ld x4 r0_138) (View.ld x4 r0_139)) (View.ld x4 r0_140) (View.ld x5 r0_136) (View.ld x4 r0_141) (View.ld x4 r0_142) (View.ld x4 r0_143) (View.ld x6 r0_144)
    = stepV acc (convV (hT i x0 x1 (View.ld x2 r0_132) (View.ld x3 r0_133)) (View.ld x5 r0_133) (View.ld x4 r0_138) (View.ld x4 r0_139) (View.ld x4 r0_140))
      (convV (hT i x0 x1 (View.ld x2 r0_135) (View.ld x3 r0_136)) (View.ld x5 r0_136) (View.ld x4 r0_141) (View.ld x4 r0_142) (View.ld x4 r0_143)) (View.ld x6 r0_144) := by
  unfold_payloads
  rfl

theorem chunk10_apply (acc : FVec Ideal S256x1024 .f32) (r : Fin 256) (o : Fin 1024) :
    ((k0_pay151 (F := Ideal) acc (k0_pay144 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) (k0_pay147 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay148 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay149 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay150 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8) (View.ld x5 r0_133) (View.ld x4 r0_138) (View.ld x4 r0_139)) (View.ld x4 r0_140) (View.ld x5 r0_136) (View.ld x4 r0_141) (View.ld x4 r0_142) (View.ld x4 r0_143) (View.ld x6 r0_144)) (ix2 r o) : EReal) = acc (ix2 r o)
      + ∑ k : Fin 256, actS i x0 x1 x2 x3 x4 x5 r ⟨2560 + k, by omega⟩ * (x6 (ix2 ⟨2560 + k, by omega⟩ o) : EReal) := by
  rw [chunk10]
  exact step_read i x0 x1 x2 x3 x4 x5 x6 acc _ _ _ 2560 (by omega) (fun k => ⟨2560 + k, by omega⟩) (fun k => ⟨5376 + k, by omega⟩)
    (convT_apply i x0 x1 x2 x3 x4 x5 _ _ _ _ _ (fun k => ⟨2560 + k, by omega⟩)
      (hT_apply i x0 x1 x2 x3 _ _ _ (ldW x2 2560 _) (ldB x3 2560 _)) (ldB x5 2560 _) (ldC x4 0 2560 _) (ldC x4 1 2560 _) (ldC x4 2 2560 _))
    (convT_apply i x0 x1 x2 x3 x4 x5 _ _ _ _ _ (fun k => ⟨5376 + k, by omega⟩)
      (hT_apply i x0 x1 x2 x3 _ _ _ (ldW x2 5376 _) (ldB x3 5376 _)) (ldB x5 5376 _) (ldC x4 0 5376 _) (ldC x4 1 5376 _) (ldC x4 2 5376 _))
    (fun k => rfl) (fun k => by show 5376 + (k : ℕ) = 2816 + (2560 + k); omega) (ldD x6 2560 _) r o

end Cert.FfnVal
-- ==== Proof.FfnOut.lean ====
/-
The two output blocks of the feed-forward kernel at a grid point, entry by entry.
-/
module

public import proofs.«01_k».proof.Proof.FfnChunk

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen

variable (i : grid0.Coords) (x0 : Vec Ideal S1x256x1024 .f32) (x1 : Vec Ideal S1x8x1024 .f32)
  (x2 : Vec Ideal S1024x5632 .bf16) (x3 : Vec Ideal S1x5632 .f32) (x4 : Vec Ideal S3x5632 .f32)
  (x5 : Vec Ideal S1x5632 .f32) (x6 : Vec Ideal S2816x1024 .bf16) (x7 x8 : Vec Ideal S1x1024 .f32)

/-- The last eight rows of a column tile. -/
def tailV (h : FVec Ideal S264x256 .f32) : FVec Ideal S1x8x256 .f32 :=
  shapeCast S1x8x256 (extractStridedSlice S8x256 ![256, 0] h slices_S264x256_o256_0_S8x256) shapeCasts_S8x256_S1x8x256

theorem tailV_apply (h : FVec Ideal S264x256 .f32) (r : Fin 8) (k : Fin 256) :
    tailV h (ix3 0 r k) = h (ix2 ⟨256 + r, by omega⟩ k) := by
  unfold tailV
  pointwise

theorem tail5376 (r : Fin 8) (k : Fin 256) : (k0_pay146 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (ix3 0 r k)
    = hS i x0 x1 x2 x3 ⟨256 + r, by omega⟩ ⟨5376 + k, by omega⟩ := by
  refine (congrFun (show k0_pay146 (F := Ideal) (k0_pay154 (F := Ideal) i x0 x1 x2 x3 x4 x5 x6 x7 x8) (k0_pay155 (F := Ideal) i x0 x1 x2 x3 x4 x5 x6 x7 x8) (View.ld x2 r0_135) (View.ld x3 r0_136) = tailV (hT i x0 x1 (View.ld x2 r0_135) (View.ld x3 r0_136)) by unfold_payloads; rfl) _).trans ?_
  rw [tailV_apply]
  exact hT_apply i x0 x1 x2 x3 _ _ (fun k => ⟨5376 + k, by omega⟩) (ldW x2 5376 _) (ldB x3 5376 _) _ k

theorem tail2560 (r : Fin 8) (k : Fin 256) : (k0_pay143 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) (ix3 0 r k)
    = hS i x0 x1 x2 x3 ⟨256 + r, by omega⟩ ⟨2560 + k, by omega⟩ := by
  refine (congrFun (show k0_pay143 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8) = tailV (hT i x0 x1 (View.ld x2 r0_132) (View.ld x3 r0_133)) by unfold_payloads; rfl) _).trans ?_
  rw [tailV_apply]
  exact hT_apply i x0 x1 x2 x3 _ _ (fun k => ⟨2560 + k, by omega⟩) (ldW x2 2560 _) (ldB x3 2560 _) _ k

theorem tail5120 (r : Fin 8) (k : Fin 256) : (k0_pay131 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (ix3 0 r k)
    = hS i x0 x1 x2 x3 ⟨256 + r, by omega⟩ ⟨5120 + k, by omega⟩ := by
  refine (congrFun (show k0_pay131 (F := Ideal) (k0_pay154 (F := Ideal) i x0 x1 x2 x3 x4 x5 x6 x7 x8) (k0_pay155 (F := Ideal) i x0 x1 x2 x3 x4 x5 x6 x7 x8) (View.ld x2 r0_122) (View.ld x3 r0_123) = tailV (hT i x0 x1 (View.ld x2 r0_122) (View.ld x3 r0_123)) by unfold_payloads; rfl) _).trans ?_
  rw [tailV_apply]
  exact hT_apply i x0 x1 x2 x3 _ _ (fun k => ⟨5120 + k, by omega⟩) (ldW x2 5120 _) (ldB x3 5120 _) _ k

theorem tail2304 (r : Fin 8) (k : Fin 256) : (k0_pay126 (F := Ideal) (k0_pay154 (F := Ideal) i x0 x1 x2 x3 x4 x5 x6 x7 x8) (k0_pay155 (F := Ideal) i x0 x1 x2 x3 x4 x5 x6 x7 x8) (View.ld x2 r0_119) (View.ld x3 r0_120)) (ix3 0 r k)
    = hS i x0 x1 x2 x3 ⟨256 + r, by omega⟩ ⟨2304 + k, by omega⟩ := by
  refine (congrFun (show k0_pay126 (F := Ideal) (k0_pay154 (F := Ideal) i x0 x1 x2 x3 x4 x5 x6 x7 x8) (k0_pay155 (F := Ideal) i x0 x1 x2 x3 x4 x5 x6 x7 x8) (View.ld x2 r0_119) (View.ld x3 r0_120) = tailV (hT i x0 x1 (View.ld x2 r0_119) (View.ld x3 r0_120)) by unfold_payloads; rfl) _).trans ?_
  rw [tailV_apply]
  exact hT_apply i x0 x1 x2 x3 _ _ (fun k => ⟨2304 + k, by omega⟩) (ldW x2 2304 _) (ldB x3 2304 _) _ k

theorem tail4864 (r : Fin 8) (k : Fin 256) : (k0_pay118 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (ix3 0 r k)
    = hS i x0 x1 x2 x3 ⟨256 + r, by omega⟩ ⟨4864 + k, by omega⟩ := by
  refine (congrFun (show k0_pay118 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8) = tailV (hT i x0 x1 (View.ld x2 r0_109) (View.ld x3 r0_110)) by unfold_payloads; rfl) _).trans ?_
  rw [tailV_apply]
  exact hT_apply i x0 x1 x2 x3 _ _ (fun k => ⟨4864 + k, by omega⟩) (ldW x2 4864 _) (ldB x3 4864 _) _ k

theorem tail2048 (r : Fin 8) (k : Fin 256) : (k0_pay110 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (ix3 0 r k)
    = hS i x0 x1 x2 x3 ⟨256 + r, by omega⟩ ⟨2048 + k, by omega⟩ := by
  refine (congrFun (show k0_pay110 (F := Ideal) (k0_pay154 (F := Ideal) i x0 x1 x2 x3 x4 x5 x6 x7 x8) (k0_pay155 (F := Ideal) i x0 x1 x2 x3 x4 x5 x6 x7 x8) (View.ld x2 r0_106) (View.ld x3 r0_107) = tailV (hT i x0 x1 (View.ld x2 r0_106) (View.ld x3 r0_107)) by unfold_payloads; rfl) _).trans ?_
  rw [tailV_apply]
  exact hT_apply i x0 x1 x2 x3 _ _ (fun k => ⟨2048 + k, by omega⟩) (ldW x2 2048 _) (ldB x3 2048 _) _ k

theorem tail4608 (r : Fin 8) (k : Fin 256) : (k0_pay102 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (ix3 0 r k)
    = hS i x0 x1 x2 x3 ⟨256 + r, by omega⟩ ⟨4608 + k, by omega⟩ := by
  refine (congrFun (show k0_pay102 (F := Ideal) (k0_pay154 (F := Ideal) i x0 x1 x2 x3 x4 x5 x6 x7 x8) (k0_pay155 (F := Ideal) i x0 x1 x2 x3 x4 x5 x6 x7 x8) (View.ld x2 r0_96) (View.ld x3 r0_97) = tailV (hT i x0 x1 (View.ld x2 r0_96) (View.ld x3 r0_97)) by unfold_payloads; rfl) _).trans ?_
  rw [tailV_apply]
  exact hT_apply i x0 x1 x2 x3 _ _ (fun k => ⟨4608 + k, by omega⟩) (ldW x2 4608 _) (ldB x3 4608 _) _ k

theorem tail1792 (r : Fin 8) (k : Fin 256) : (k0_pay97 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (ix3 0 r k)
    = hS i x0 x1 x2 x3 ⟨256 + r, by omega⟩ ⟨1792 + k, by omega⟩ := by
  refine (congrFun (show k0_pay97 (F := Ideal) (k0_pay154 (F := Ideal) i x0 x1 x2 x3 x4 x5 x6 x7 x8) (k0_pay155 (F := Ideal) i x0 x1 x2 x3 x4 x5 x6 x7 x8) (View.ld x2 r0_93) (View.ld x3 r0_94) = tailV (hT i x0 x1 (View.ld x2 r0_93) (View.ld x3 r0_94)) by unfold_payloads; rfl) _).trans ?_
  rw [tailV_apply]
  exact hT_apply i x0 x1 x2 x3 _ _ (fun k => ⟨1792 + k, by omega⟩) (ldW x2 1792 _) (ldB x3 1792 _) _ k

theorem tail4352 (r : Fin 8) (k : Fin 256) : (k0_pay87 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (ix3 0 r k)
    = hS i x0 x1 x2 x3 ⟨256 + r, by omega⟩ ⟨4352 + k, by omega⟩ := by
  refine (congrFun (show k0_pay87 (F := Ideal) (k0_pay154 (F := Ideal) i x0 x1 x2 x3 x4 x5 x6 x7 x8) (k0_pay155 (F := Ideal) i x0 x1 x2 x3 x4 x5 x6 x7 x8) (View.ld x2 r0_83) (View.ld x3 r0_84) = tailV (hT i x0 x1 (View.ld x2 r0_83) (View.ld x3 r0_84)) by unfold_payloads; rfl) _).trans ?_
  rw [tailV_apply]
  exact hT_apply i x0 x1 x2 x3 _ _ (fun k => ⟨4352 + k, by omega⟩) (ldW x2 4352 _) (ldB x3 4352 _) _ k

theorem tail1536 (r : Fin 8) (k : Fin 256) : (k0_pay83 (F := Ideal) (k0_pay155 (F := Ideal) i x0 x1 x2 x3 x4 x5 x6 x7 x8) (k0_pay165 (F := Ideal) i x0 x1 x2 x3 x4 x5 x6 x7 x8)) (ix3 0 r k)
    = hS i x0 x1 x2 x3 ⟨256 + r, by omega⟩ ⟨1536 + k, by omega⟩ := by
  refine (congrFun (show k0_pay83 (F := Ideal) (k0_pay155 (F := Ideal) i x0 x1 x2 x3 x4 x5 x6 x7 x8) (k0_pay165 (F := Ideal) i x0 x1 x2 x3 x4 x5 x6 x7 x8) = tailV (hT i x0 x1 (View.ld x2 r0_80) (View.ld x3 r0_81)) by unfold_payloads; rfl) _).trans ?_
  rw [tailV_apply]
  exact hT_apply i x0 x1 x2 x3 _ _ (fun k => ⟨1536 + k, by omega⟩) (ldW x2 1536 _) (ldB x3 1536 _) _ k

theorem tail4096 (r : Fin 8) (k : Fin 256) : (k0_pay73 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (ix3 0 r k)
    = hS i x0 x1 x2 x3 ⟨256 + r, by omega⟩ ⟨4096 + k, by omega⟩ := by
  refine (congrFun (show k0_pay73 (F := Ideal) (k0_pay154 (F := Ideal) i x0 x1 x2 x3 x4 x5 x6 x7 x8) (k0_pay155 (F := Ideal) i x0 x1 x2 x3 x4 x5 x6 x7 x8) (View.ld x2 r0_70) (View.ld x3 r0_71) = tailV (hT i x0 x1 (View.ld x2 r0_70) (View.ld x3 r0_71)) by unfold_payloads; rfl) _).trans ?_
  rw [tailV_apply]
  exact hT_apply i x0 x1 x2 x3 _ _ (fun k => ⟨4096 + k, by omega⟩) (ldW x2 4096 _) (ldB x3 4096 _) _ k

theorem tail1280 (r : Fin 8) (k : Fin 256) : (k0_pay70 (F := Ideal) (k0_pay154 (F := Ideal) i x0 x1 x2 x3 x4 x5 x6 x7 x8) (k0_pay155 (F := Ideal) i x0 x1 x2 x3 x4 x5 x6 x7 x8) (View.ld x2 r0_67) (View.ld x3 r0_68)) (ix3 0 r k)
    = hS i x0 x1 x2 x3 ⟨256 + r, by omega⟩ ⟨1280 + k, by omega⟩ := by
  refine (congrFun (show k0_pay70 (F := Ideal) (k0_pay154 (F := Ideal) i x0 x1 x2 x3 x4 x5 x6 x7 x8) (k0_pay155 (F := Ideal) i x0 x1 x2 x3 x4 x5 x6 x7 x8) (View.ld x2 r0_67) (View.ld x3 r0_68) = tailV (hT i x0 x1 (View.ld x2 r0_67) (View.ld x3 r0_68)) by unfold_payloads; rfl) _).trans ?_
  rw [tailV_apply]
  exact hT_apply i x0 x1 x2 x3 _ _ (fun k => ⟨1280 + k, by omega⟩) (ldW x2 1280 _) (ldB x3 1280 _) _ k

theorem tail3840 (r : Fin 8) (k : Fin 256) : (k0_pay63 (F := Ideal) (k0_pay155 (F := Ideal) i x0 x1 x2 x3 x4 x5 x6 x7 x8) (k0_pay162 (F := Ideal) i x0 x1 x2 x3 x4 x5 x6 x7 x8)) (ix3 0 r k)
    = hS i x0 x1 x2 x3 ⟨256 + r, by omega⟩ ⟨3840 + k, by omega⟩ := by
  refine (congrFun (show k0_pay63 (F := Ideal) (k0_pay155 (F := Ideal) i x0 x1 x2 x3 x4 x5 x6 x7 x8) (k0_pay162 (F := Ideal) i x0 x1 x2 x3 x4 x5 x6 x7 x8) = tailV (hT i x0 x1 (View.ld x2 r0_57) (View.ld x3 r0_58)) by unfold_payloads; rfl) _).trans ?_
  rw [tailV_apply]
  exact hT_apply i x0 x1 x2 x3 _ _ (fun k => ⟨3840 + k, by omega⟩) (ldW x2 3840 _) (ldB x3 3840 _) _ k

theorem tail1024 (r : Fin 8) (k : Fin 256) : (k0_pay57 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (ix3 0 r k)
    = hS i x0 x1 x2 x3 ⟨256 + r, by omega⟩ ⟨1024 + k, by omega⟩ := by
  refine (congrFun (show k0_pay57 (F := Ideal) (k0_pay154 (F := Ideal) i x0 x1 x2 x3 x4 x5 x6 x7 x8) (k0_pay155 (F := Ideal) i x0 x1 x2 x3 x4 x5 x6 x7 x8) (View.ld x2 r0_54) (View.ld x3 r0_55) = tailV (hT i x0 x1 (View.ld x2 r0_54) (View.ld x3 r0_55)) by unfold_payloads; rfl) _).trans ?_
  rw [tailV_apply]
  exact hT_apply i x0 x1 x2 x3 _ _ (fun k => ⟨1024 + k, by omega⟩) (ldW x2 1024 _) (ldB x3 1024 _) _ k

theorem tail3584 (r : Fin 8) (k : Fin 256) : (k0_pay49 (F := Ideal) (k0_pay154 (F := Ideal) i x0 x1 x2 x3 x4 x5 x6 x7 x8) (k0_pay155 (F := Ideal) i x0 x1 x2 x3 x4 x5 x6 x7 x8) (View.ld x2 r0_44) (View.ld x3 r0_45)) (ix3 0 r k)
    = hS i x0 x1 x2 x3 ⟨256 + r, by omega⟩ ⟨3584 + k, by omega⟩ := by
  refine (congrFun (show k0_pay49 (F := Ideal) (k0_pay154 (F := Ideal) i x0 x1 x2 x3 x4 x5 x6 x7 x8) (k0_pay155 (F := Ideal) i x0 x1 x2 x3 x4 x5 x6 x7 x8) (View.ld x2 r0_44) (View.ld x3 r0_45) = tailV (hT i x0 x1 (View.ld x2 r0_44) (View.ld x3 r0_45)) by unfold_payloads; rfl) _).trans ?_
  rw [tailV_apply]
  exact hT_apply i x0 x1 x2 x3 _ _ (fun k => ⟨3584 + k, by omega⟩) (ldW x2 3584 _) (ldB x3 3584 _) _ k

theorem tail768 (r : Fin 8) (k : Fin 256) : (k0_pay44 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (ix3 0 r k)
    = hS i x0 x1 x2 x3 ⟨256 + r, by omega⟩ ⟨768 + k, by omega⟩ := by
  refine (congrFun (show k0_pay44 (F := Ideal) (k0_pay154 (F := Ideal) i x0 x1 x2 x3 x4 x5 x6 x7 x8) (k0_pay155 (F := Ideal) i x0 x1 x2 x3 x4 x5 x6 x7 x8) (View.ld x2 r0_41) (View.ld x3 r0_42) = tailV (hT i x0 x1 (View.ld x2 r0_41) (View.ld x3 r0_42)) by unfold_payloads; rfl) _).trans ?_
  rw [tailV_apply]
  exact hT_apply i x0 x1 x2 x3 _ _ (fun k => ⟨768 + k, by omega⟩) (ldW x2 768 _) (ldB x3 768 _) _ k

theorem tail3328 (r : Fin 8) (k : Fin 256) : (k0_pay36 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (ix3 0 r k)
    = hS i x0 x1 x2 x3 ⟨256 + r, by omega⟩ ⟨3328 + k, by omega⟩ := by
  refine (congrFun (show k0_pay36 (F := Ideal) (k0_pay154 (F := Ideal) i x0 x1 x2 x3 x4 x5 x6 x7 x8) (k0_pay155 (F := Ideal) i x0 x1 x2 x3 x4 x5 x6 x7 x8) (View.ld x2 r0_31) (View.ld x3 r0_32) = tailV (hT i x0 x1 (View.ld x2 r0_31) (View.ld x3 r0_32)) by unfold_payloads; rfl) _).trans ?_
  rw [tailV_apply]
  exact hT_apply i x0 x1 x2 x3 _ _ (fun k => ⟨3328 + k, by omega⟩) (ldW x2 3328 _) (ldB x3 3328 _) _ k

theorem tail512 (r : Fin 8) (k : Fin 256) : (k0_pay32 (F := Ideal) (k0_pay155 (F := Ideal) i x0 x1 x2 x3 x4 x5 x6 x7 x8) (k0_pay160 (F := Ideal) i x0 x1 x2 x3 x4 x5 x6 x7 x8) (View.ld x3 r0_29)) (ix3 0 r k)
    = hS i x0 x1 x2 x3 ⟨256 + r, by omega⟩ ⟨512 + k, by omega⟩ := by
  refine (congrFun (show k0_pay32 (F := Ideal) (k0_pay155 (F := Ideal) i x0 x1 x2 x3 x4 x5 x6 x7 x8) (k0_pay160 (F := Ideal) i x0 x1 x2 x3 x4 x5 x6 x7 x8) (View.ld x3 r0_29) = tailV (hT i x0 x1 (View.ld x2 r0_28) (View.ld x3 r0_29)) by unfold_payloads; rfl) _).trans ?_
  rw [tailV_apply]
  exact hT_apply i x0 x1 x2 x3 _ _ (fun k => ⟨512 + k, by omega⟩) (ldW x2 512 _) (ldB x3 512 _) _ k

theorem tail3072 (r : Fin 8) (k : Fin 256) : (k0_pay24 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (ix3 0 r k)
    = hS i x0 x1 x2 x3 ⟨256 + r, by omega⟩ ⟨3072 + k, by omega⟩ := by
  refine (congrFun (show k0_pay24 (F := Ideal) (k0_pay154 (F := Ideal) i x0 x1 x2 x3 x4 x5 x6 x7 x8) (k0_pay155 (F := Ideal) i x0 x1 x2 x3 x4 x5 x6 x7 x8) (View.ld x2 r0_18) (View.ld x3 r0_19) = tailV (hT i x0 x1 (View.ld x2 r0_18) (View.ld x3 r0_19)) by unfold_payloads; rfl) _).trans ?_
  rw [tailV_apply]
  exact hT_apply i x0 x1 x2 x3 _ _ (fun k => ⟨3072 + k, by omega⟩) (ldW x2 3072 _) (ldB x3 3072 _) _ k

theorem tail256 (r : Fin 8) (k : Fin 256) : (k0_pay22 (F := Ideal) (k0_pay21 (F := Ideal) (k0_pay154 (F := Ideal) i x0 x1 x2 x3 x4 x5 x6 x7 x8) (k0_pay155 (F := Ideal) i x0 x1 x2 x3 x4 x5 x6 x7 x8) (View.ld x2 r0_15) (View.ld x3 r0_16))) (ix3 0 r k)
    = hS i x0 x1 x2 x3 ⟨256 + r, by omega⟩ ⟨256 + k, by omega⟩ := by
  refine (congrFun (show k0_pay22 (F := Ideal) (k0_pay21 (F := Ideal) (k0_pay154 (F := Ideal) i x0 x1 x2 x3 x4 x5 x6 x7 x8) (k0_pay155 (F := Ideal) i x0 x1 x2 x3 x4 x5 x6 x7 x8) (View.ld x2 r0_15) (View.ld x3 r0_16)) = tailV (hT i x0 x1 (View.ld x2 r0_15) (View.ld x3 r0_16)) by unfold_payloads; rfl) _).trans ?_
  rw [tailV_apply]
  exact hT_apply i x0 x1 x2 x3 _ _ (fun k => ⟨256 + k, by omega⟩) (ldW x2 256 _) (ldB x3 256 _) _ k

theorem tail2816 (r : Fin 8) (k : Fin 256) : (k0_pay13 (F := Ideal) (k0_pay155 (F := Ideal) i x0 x1 x2 x3 x4 x5 x6 x7 x8) (k0_pay159 (F := Ideal) i x0 x1 x2 x3 x4 x5 x6 x7 x8) (View.ld x3 r0_6)) (ix3 0 r k)
    = hS i x0 x1 x2 x3 ⟨256 + r, by omega⟩ ⟨2816 + k, by omega⟩ := by
  refine (congrFun (show k0_pay13 (F := Ideal) (k0_pay155 (F := Ideal) i x0 x1 x2 x3 x4 x5 x6 x7 x8) (k0_pay159 (F := Ideal) i x0 x1 x2 x3 x4 x5 x6 x7 x8) (View.ld x3 r0_6) = tailV (hT i x0 x1 (View.ld x2 r0_5) (View.ld x3 r0_6)) by unfold_payloads; rfl) _).trans ?_
  rw [tailV_apply]
  exact hT_apply i x0 x1 x2 x3 _ _ (fun k => ⟨2816 + k, by omega⟩) (ldW x2 2816 _) (ldB x3 2816 _) _ k

theorem tail0 (r : Fin 8) (k : Fin 256) : (k0_pay7 (F := Ideal) i (View.ld x0 r0_0) (View.ld x1 r0_1) (View.ld x2 r0_2) (View.ld x3 r0_3)) (ix3 0 r k)
    = hS i x0 x1 x2 x3 ⟨256 + r, by omega⟩ ⟨0 + k, by omega⟩ := by
  refine (congrFun (show k0_pay7 (F := Ideal) i (View.ld x0 r0_0) (View.ld x1 r0_1) (View.ld x2 r0_2) (View.ld x3 r0_3) = tailV (hT i x0 x1 (View.ld x2 r0_2) (View.ld x3 r0_3)) by unfold_payloads; rfl) _).trans ?_
  rw [tailV_apply]
  exact hT_apply i x0 x1 x2 x3 _ _ (fun k => ⟨0 + k, by omega⟩) (ldW x2 0 _) (ldB x3 0 _) _ k

theorem pc5376 (y' : S1x8x5632.Idx) (y : S1x8x256.Idx) (h1 : (y' 1).val = 0 + (y 1).val) (h2 : (y' 2).val = 5376 + (y 2).val) :
    (k0_pay146 (F := Ideal) (k0_pay154 (F := Ideal) i x0 x1 x2 x3 x4 x5 x6 x7 x8) (k0_pay155 (F := Ideal) i x0 x1 x2 x3 x4 x5 x6 x7 x8) (View.ld x2 r0_135) (View.ld x3 r0_136)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail5376 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc2560 (y' : S1x8x5632.Idx) (y : S1x8x256.Idx) (h1 : (y' 1).val = 0 + (y 1).val) (h2 : (y' 2).val = 2560 + (y 2).val) :
    (k0_pay143 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail2560 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc5120 (y' : S1x8x5632.Idx) (y : S1x8x256.Idx) (h1 : (y' 1).val = 0 + (y 1).val) (h2 : (y' 2).val = 5120 + (y 2).val) :
    (k0_pay131 (F := Ideal) (k0_pay154 (F := Ideal) i x0 x1 x2 x3 x4 x5 x6 x7 x8) (k0_pay155 (F := Ideal) i x0 x1 x2 x3 x4 x5 x6 x7 x8) (View.ld x2 r0_122) (View.ld x3 r0_123)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail5120 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc2304 (y' : S1x8x5632.Idx) (y : S1x8x256.Idx) (h1 : (y' 1).val = 0 + (y 1).val) (h2 : (y' 2).val = 2304 + (y 2).val) :
    (k0_pay126 (F := Ideal) (k0_pay154 (F := Ideal) i x0 x1 x2 x3 x4 x5 x6 x7 x8) (k0_pay155 (F := Ideal) i x0 x1 x2 x3 x4 x5 x6 x7 x8) (View.ld x2 r0_119) (View.ld x3 r0_120)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail2304 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc4864 (y' : S1x8x5632.Idx) (y : S1x8x256.Idx) (h1 : (y' 1).val = 0 + (y 1).val) (h2 : (y' 2).val = 4864 + (y 2).val) :
    (k0_pay118 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail4864 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc2048 (y' : S1x8x5632.Idx) (y : S1x8x256.Idx) (h1 : (y' 1).val = 0 + (y 1).val) (h2 : (y' 2).val = 2048 + (y 2).val) :
    (k0_pay110 (F := Ideal) (k0_pay154 (F := Ideal) i x0 x1 x2 x3 x4 x5 x6 x7 x8) (k0_pay155 (F := Ideal) i x0 x1 x2 x3 x4 x5 x6 x7 x8) (View.ld x2 r0_106) (View.ld x3 r0_107)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail2048 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc4608 (y' : S1x8x5632.Idx) (y : S1x8x256.Idx) (h1 : (y' 1).val = 0 + (y 1).val) (h2 : (y' 2).val = 4608 + (y 2).val) :
    (k0_pay102 (F := Ideal) (k0_pay154 (F := Ideal) i x0 x1 x2 x3 x4 x5 x6 x7 x8) (k0_pay155 (F := Ideal) i x0 x1 x2 x3 x4 x5 x6 x7 x8) (View.ld x2 r0_96) (View.ld x3 r0_97)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail4608 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc1792 (y' : S1x8x5632.Idx) (y : S1x8x256.Idx) (h1 : (y' 1).val = 0 + (y 1).val) (h2 : (y' 2).val = 1792 + (y 2).val) :
    (k0_pay97 (F := Ideal) (k0_pay154 (F := Ideal) i x0 x1 x2 x3 x4 x5 x6 x7 x8) (k0_pay155 (F := Ideal) i x0 x1 x2 x3 x4 x5 x6 x7 x8) (View.ld x2 r0_93) (View.ld x3 r0_94)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail1792 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc4352 (y' : S1x8x5632.Idx) (y : S1x8x256.Idx) (h1 : (y' 1).val = 0 + (y 1).val) (h2 : (y' 2).val = 4352 + (y 2).val) :
    (k0_pay87 (F := Ideal) (k0_pay154 (F := Ideal) i x0 x1 x2 x3 x4 x5 x6 x7 x8) (k0_pay155 (F := Ideal) i x0 x1 x2 x3 x4 x5 x6 x7 x8) (View.ld x2 r0_83) (View.ld x3 r0_84)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail4352 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc1536 (y' : S1x8x5632.Idx) (y : S1x8x256.Idx) (h1 : (y' 1).val = 0 + (y 1).val) (h2 : (y' 2).val = 1536 + (y 2).val) :
    (k0_pay83 (F := Ideal) (k0_pay155 (F := Ideal) i x0 x1 x2 x3 x4 x5 x6 x7 x8) (k0_pay165 (F := Ideal) i x0 x1 x2 x3 x4 x5 x6 x7 x8)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail1536 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc4096 (y' : S1x8x5632.Idx) (y : S1x8x256.Idx) (h1 : (y' 1).val = 0 + (y 1).val) (h2 : (y' 2).val = 4096 + (y 2).val) :
    (k0_pay73 (F := Ideal) (k0_pay154 (F := Ideal) i x0 x1 x2 x3 x4 x5 x6 x7 x8) (k0_pay155 (F := Ideal) i x0 x1 x2 x3 x4 x5 x6 x7 x8) (View.ld x2 r0_70) (View.ld x3 r0_71)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail4096 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc1280 (y' : S1x8x5632.Idx) (y : S1x8x256.Idx) (h1 : (y' 1).val = 0 + (y 1).val) (h2 : (y' 2).val = 1280 + (y 2).val) :
    (k0_pay70 (F := Ideal) (k0_pay154 (F := Ideal) i x0 x1 x2 x3 x4 x5 x6 x7 x8) (k0_pay155 (F := Ideal) i x0 x1 x2 x3 x4 x5 x6 x7 x8) (View.ld x2 r0_67) (View.ld x3 r0_68)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail1280 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc3840 (y' : S1x8x5632.Idx) (y : S1x8x256.Idx) (h1 : (y' 1).val = 0 + (y 1).val) (h2 : (y' 2).val = 3840 + (y 2).val) :
    (k0_pay63 (F := Ideal) (k0_pay155 (F := Ideal) i x0 x1 x2 x3 x4 x5 x6 x7 x8) (k0_pay162 (F := Ideal) i x0 x1 x2 x3 x4 x5 x6 x7 x8)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail3840 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc1024 (y' : S1x8x5632.Idx) (y : S1x8x256.Idx) (h1 : (y' 1).val = 0 + (y 1).val) (h2 : (y' 2).val = 1024 + (y 2).val) :
    (k0_pay57 (F := Ideal) (k0_pay154 (F := Ideal) i x0 x1 x2 x3 x4 x5 x6 x7 x8) (k0_pay155 (F := Ideal) i x0 x1 x2 x3 x4 x5 x6 x7 x8) (View.ld x2 r0_54) (View.ld x3 r0_55)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail1024 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc3584 (y' : S1x8x5632.Idx) (y : S1x8x256.Idx) (h1 : (y' 1).val = 0 + (y 1).val) (h2 : (y' 2).val = 3584 + (y 2).val) :
    (k0_pay49 (F := Ideal) (k0_pay154 (F := Ideal) i x0 x1 x2 x3 x4 x5 x6 x7 x8) (k0_pay155 (F := Ideal) i x0 x1 x2 x3 x4 x5 x6 x7 x8) (View.ld x2 r0_44) (View.ld x3 r0_45)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail3584 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc768 (y' : S1x8x5632.Idx) (y : S1x8x256.Idx) (h1 : (y' 1).val = 0 + (y 1).val) (h2 : (y' 2).val = 768 + (y 2).val) :
    (k0_pay44 (F := Ideal) (k0_pay154 (F := Ideal) i x0 x1 x2 x3 x4 x5 x6 x7 x8) (k0_pay155 (F := Ideal) i x0 x1 x2 x3 x4 x5 x6 x7 x8) (View.ld x2 r0_41) (View.ld x3 r0_42)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail768 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc3328 (y' : S1x8x5632.Idx) (y : S1x8x256.Idx) (h1 : (y' 1).val = 0 + (y 1).val) (h2 : (y' 2).val = 3328 + (y 2).val) :
    (k0_pay36 (F := Ideal) (k0_pay154 (F := Ideal) i x0 x1 x2 x3 x4 x5 x6 x7 x8) (k0_pay155 (F := Ideal) i x0 x1 x2 x3 x4 x5 x6 x7 x8) (View.ld x2 r0_31) (View.ld x3 r0_32)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail3328 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc512 (y' : S1x8x5632.Idx) (y : S1x8x256.Idx) (h1 : (y' 1).val = 0 + (y 1).val) (h2 : (y' 2).val = 512 + (y 2).val) :
    (k0_pay32 (F := Ideal) (k0_pay155 (F := Ideal) i x0 x1 x2 x3 x4 x5 x6 x7 x8) (k0_pay160 (F := Ideal) i x0 x1 x2 x3 x4 x5 x6 x7 x8) (View.ld x3 r0_29)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail512 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc3072 (y' : S1x8x5632.Idx) (y : S1x8x256.Idx) (h1 : (y' 1).val = 0 + (y 1).val) (h2 : (y' 2).val = 3072 + (y 2).val) :
    (k0_pay24 (F := Ideal) (k0_pay154 (F := Ideal) i x0 x1 x2 x3 x4 x5 x6 x7 x8) (k0_pay155 (F := Ideal) i x0 x1 x2 x3 x4 x5 x6 x7 x8) (View.ld x2 r0_18) (View.ld x3 r0_19)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail3072 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc256 (y' : S1x8x5632.Idx) (y : S1x8x256.Idx) (h1 : (y' 1).val = 0 + (y 1).val) (h2 : (y' 2).val = 256 + (y 2).val) :
    (k0_pay22 (F := Ideal) (k0_pay21 (F := Ideal) (k0_pay154 (F := Ideal) i x0 x1 x2 x3 x4 x5 x6 x7 x8) (k0_pay155 (F := Ideal) i x0 x1 x2 x3 x4 x5 x6 x7 x8) (View.ld x2 r0_15) (View.ld x3 r0_16))) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail256 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc2816 (y' : S1x8x5632.Idx) (y : S1x8x256.Idx) (h1 : (y' 1).val = 0 + (y 1).val) (h2 : (y' 2).val = 2816 + (y 2).val) :
    (k0_pay13 (F := Ideal) (k0_pay155 (F := Ideal) i x0 x1 x2 x3 x4 x5 x6 x7 x8) (k0_pay159 (F := Ideal) i x0 x1 x2 x3 x4 x5 x6 x7 x8) (View.ld x3 r0_6)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail2816 i x0 x1 x2 x3 x4 x5 x6 x7 x8 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem pc0 (y' : S1x8x5632.Idx) (y : S1x8x256.Idx) (h1 : (y' 1).val = 0 + (y 1).val) (h2 : (y' 2).val = 0 + (y 2).val) :
    (k0_pay7 (F := Ideal) i (View.ld x0 r0_0) (View.ld x1 r0_1) (View.ld x2 r0_2) (View.ld x3 r0_3)) y = hS i x0 x1 x2 x3 ⟨256 + (y' 1).val, by have : (y' 1).val < 8 := (y' 1).isLt; omega⟩ ⟨(y' 2).val, (y' 2).isLt⟩ := by
  idx_vars y
  obtain rfl : y0 = 0 := Subsingleton.elim _ _
  refine (tail0 i x0 x1 x2 x3 y1 y2).trans ?_
  exact congrArg₂ (hS i x0 x1 x2 x3) (Fin.ext (by show 256 + (y1 : ℕ) = 256 + (y' 1).val; rw [h1]; exact (congrArg _ (Nat.zero_add _)).symm)) (Fin.ext h2.symm)

theorem out10_apply (r : Fin 8) (f : Fin 5632) : out0_10 (F := Ideal) i x0 x1 x2 x3 x4 x5 x6 x7 x8 (ix3 0 r f)
    = hS i x0 x1 x2 x3 ⟨256 + r, by omega⟩ f := by
  have key : out0_10 (F := Ideal) i x0 x1 x2 x3 x4 x5 x6 x7 x8
      = fun y => hS i x0 x1 x2 x3 ⟨256 + (y 1).val, by have : (y 1).val < 8 := (y 1).isLt; omega⟩ ⟨(y 2).val, (y 2).isLt⟩ := by
    unfold out0_10
    funext y
    canon_tiles y h
    · exact pc5376 i x0 x1 x2 x3 x4 x5 x6 x7 x8 _ _ (by omega) (by omega)
    · exact pc2560 i x0 x1 x2 x3 x4 x5 x6 x7 x8 _ _ (by omega) (by omega)
    · exact pc5120 i x0 x1 x2 x3 x4 x5 x6 x7 x8 _ _ (by omega) (by omega)
    · exact pc2304 i x0 x1 x2 x3 x4 x5 x6 x7 x8 _ _ (by omega) (by omega)
    · exact pc4864 i x0 x1 x2 x3 x4 x5 x6 x7 x8 _ _ (by omega) (by omega)
    · exact pc2048 i x0 x1 x2 x3 x4 x5 x6 x7 x8 _ _ (by omega) (by omega)
    · exact pc4608 i x0 x1 x2 x3 x4 x5 x6 x7 x8 _ _ (by omega) (by omega)
    · exact pc1792 i x0 x1 x2 x3 x4 x5 x6 x7 x8 _ _ (by omega) (by omega)
    · exact pc4352 i x0 x1 x2 x3 x4 x5 x6 x7 x8 _ _ (by omega) (by omega)
    · exact pc1536 i x0 x1 x2 x3 x4 x5 x6 x7 x8 _ _ (by omega) (by omega)
    · exact pc4096 i x0 x1 x2 x3 x4 x5 x6 x7 x8 _ _ (by omega) (by omega)
    · exact pc1280 i x0 x1 x2 x3 x4 x5 x6 x7 x8 _ _ (by omega) (by omega)
    · exact pc3840 i x0 x1 x2 x3 x4 x5 x6 x7 x8 _ _ (by omega) (by omega)
    · exact pc1024 i x0 x1 x2 x3 x4 x5 x6 x7 x8 _ _ (by omega) (by omega)
    · exact pc3584 i x0 x1 x2 x3 x4 x5 x6 x7 x8 _ _ (by omega) (by omega)
    · exact pc768 i x0 x1 x2 x3 x4 x5 x6 x7 x8 _ _ (by omega) (by omega)
    · exact pc3328 i x0 x1 x2 x3 x4 x5 x6 x7 x8 _ _ (by omega) (by omega)
    · exact pc512 i x0 x1 x2 x3 x4 x5 x6 x7 x8 _ _ (by omega) (by omega)
    · exact pc3072 i x0 x1 x2 x3 x4 x5 x6 x7 x8 _ _ (by omega) (by omega)
    · exact pc256 i x0 x1 x2 x3 x4 x5 x6 x7 x8 _ _ (by omega) (by omega)
    · exact pc2816 i x0 x1 x2 x3 x4 x5 x6 x7 x8 _ _ (by omega) (by omega)
    · exact pc0 i x0 x1 x2 x3 _ _ (by omega) (by omega)
  rw [key]
  rfl

/-- Eleven tiles of 256 columns are all 2816. -/
theorem sum_tiles (g : Fin 2816 → EReal) : ((((((((((((0 : EReal)
    + ∑ k : Fin 256, g ⟨0 + k, by omega⟩)
    + ∑ k : Fin 256, g ⟨256 + k, by omega⟩)
    + ∑ k : Fin 256, g ⟨512 + k, by omega⟩)
    + ∑ k : Fin 256, g ⟨768 + k, by omega⟩)
    + ∑ k : Fin 256, g ⟨1024 + k, by omega⟩)
    + ∑ k : Fin 256, g ⟨1280 + k, by omega⟩)
    + ∑ k : Fin 256, g ⟨1536 + k, by omega⟩)
    + ∑ k : Fin 256, g ⟨1792 + k, by omega⟩)
    + ∑ k : Fin 256, g ⟨2048 + k, by omega⟩)
    + ∑ k : Fin 256, g ⟨2304 + k, by omega⟩)
    + ∑ k : Fin 256, g ⟨2560 + k, by omega⟩) = ∑ f : Fin 2816, g f := by
  have h : ∑ f : Fin 2816, g f = ∑ c : Fin 11, ∑ k : Fin 256, g ⟨256 * c + k, by omega⟩ := by
    rw [← (finProdFinEquiv (m := 11) (n := 256)).sum_comp, Fintype.sum_prod_type]
    refine Finset.sum_congr rfl fun c _ => Finset.sum_congr rfl fun k _ => ?_
    exact congrArg g (Fin.ext (Nat.add_comm _ _))
  have h2 : ∀ T : Fin 11 → EReal, ∑ c, T c = 0 + T 0 + T 1 + T 2 + T 3 + T 4 + T 5 + T 6 + T 7 + T 8 + T 9 + T 10 := by
    intro T
    simp only [Fin.sum_univ_castSucc, Fin.sum_univ_zero]
    rfl
  rw [h, h2]
  rfl

theorem pay1_apply (w : FVec Ideal S256x1024 .f32) (r : Fin 256) (o : Fin 1024) :
    k0_pay1 (F := Ideal) w (ix3 0 r o) = w (ix2 r o) := by
  unfold k0_pay1
  pointwise

theorem pay2_apply (w : Vec Ideal S1x256x1024 .f32) (r : Fin 256) (o : Fin 1024) :
    k0_pay2 (F := Ideal) w (ix2 r o) = w (ix3 0 r o) := by
  unfold k0_pay2
  pointwise

theorem pay5_apply (r : Fin 256) (o : Fin 1024) : (k0_pay5 (F := Ideal) (ix2 r o) : EReal) = 0 := by
  unfold k0_pay5
  pointwise

theorem acc_apply (r : Fin 256) (o : Fin 1024) : (((k0_pay151 (F := Ideal) (k0_pay138 (F := Ideal) (k0_pay124 (F := Ideal) (k0_pay108 (F := Ideal) (k0_pay95 (F := Ideal) (k0_pay80 (F := Ideal) (k0_pay68 (F := Ideal) (k0_pay55 (F := Ideal) (k0_pay42 (F := Ideal) (k0_pay29 (F := Ideal) (k0_pay19 (F := Ideal) (k0_pay5 (F := Ideal)) (k0_pay14 (F := Ideal) (k0_pay155 (F := Ideal) i x0 x1 x2 x3 x4 x5 x6 x7 x8) (k0_pay159 (F := Ideal) i x0 x1 x2 x3 x4 x5 x6 x7 x8) (View.ld x3 r0_6)) (k0_pay15 (F := Ideal) (k0_pay155 (F := Ideal) i x0 x1 x2 x3 x4 x5 x6 x7 x8) (k0_pay159 (F := Ideal) i x0 x1 x2 x3 x4 x5 x6 x7 x8) (View.ld x3 r0_6)) (k0_pay16 (F := Ideal) (k0_pay155 (F := Ideal) i x0 x1 x2 x3 x4 x5 x6 x7 x8) (k0_pay159 (F := Ideal) i x0 x1 x2 x3 x4 x5 x6 x7 x8) (View.ld x3 r0_6)) (k0_pay17 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (k0_pay18 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (Scalar.ofBits .f32 0x3F000000#32) (View.ld x5 r0_6) (View.ld x4 r0_11) (View.ld x4 r0_12) (View.ld x4 r0_13) (View.ld x6 r0_14)) (k0_pay25 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay26 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay27 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay28 (F := Ideal) (k0_pay20 (F := Ideal) (k0_pay154 (F := Ideal) i x0 x1 x2 x3 x4 x5 x6 x7 x8) (k0_pay155 (F := Ideal) i x0 x1 x2 x3 x4 x5 x6 x7 x8) (View.ld x2 r0_15) (View.ld x3 r0_16)) (View.ld x5 r0_16) (View.ld x4 r0_21) (View.ld x4 r0_22) (View.ld x4 r0_23)) (View.ld x5 r0_19) (View.ld x4 r0_24) (View.ld x4 r0_25) (View.ld x4 r0_26) (View.ld x6 r0_27)) (k0_pay41 (F := Ideal) (k0_pay33 (F := Ideal) (k0_pay155 (F := Ideal) i x0 x1 x2 x3 x4 x5 x6 x7 x8) (k0_pay160 (F := Ideal) i x0 x1 x2 x3 x4 x5 x6 x7 x8) (View.ld x3 r0_29)) (k0_pay34 (F := Ideal) (k0_pay155 (F := Ideal) i x0 x1 x2 x3 x4 x5 x6 x7 x8) (k0_pay160 (F := Ideal) i x0 x1 x2 x3 x4 x5 x6 x7 x8) (View.ld x3 r0_29)) (k0_pay37 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay38 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay39 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay40 (F := Ideal) (k0_pay155 (F := Ideal) i x0 x1 x2 x3 x4 x5 x6 x7 x8) (k0_pay160 (F := Ideal) i x0 x1 x2 x3 x4 x5 x6 x7 x8) (View.ld x3 r0_29) (View.ld x5 r0_29) (View.ld x4 r0_34)) (View.ld x4 r0_35) (View.ld x4 r0_36) (View.ld x5 r0_32) (View.ld x4 r0_37) (View.ld x4 r0_38) (View.ld x4 r0_39)) (View.ld x6 r0_40)) (k0_pay51 (F := Ideal) (k0_pay161 (F := Ideal) i x0 x1 x2 x3 x4 x5 x6 x7 x8)) (k0_pay52 (F := Ideal) (k0_pay161 (F := Ideal) i x0 x1 x2 x3 x4 x5 x6 x7 x8)) (k0_pay53 (F := Ideal) (k0_pay45 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay46 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay47 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (View.ld x5 r0_42) (View.ld x4 r0_47) (View.ld x4 r0_48) (View.ld x4 r0_49)) (k0_pay54 (F := Ideal) (k0_pay50 (F := Ideal) (k0_pay154 (F := Ideal) i x0 x1 x2 x3 x4 x5 x6 x7 x8) (k0_pay155 (F := Ideal) i x0 x1 x2 x3 x4 x5 x6 x7 x8) (View.ld x2 r0_44) (View.ld x3 r0_45)) (View.ld x5 r0_45) (View.ld x4 r0_50)) (View.ld x4 r0_51) (View.ld x4 r0_52) (View.ld x6 r0_53)) (k0_pay64 (F := Ideal) (k0_pay155 (F := Ideal) i x0 x1 x2 x3 x4 x5 x6 x7 x8) (k0_pay162 (F := Ideal) i x0 x1 x2 x3 x4 x5 x6 x7 x8)) (k0_pay65 (F := Ideal) (k0_pay155 (F := Ideal) i x0 x1 x2 x3 x4 x5 x6 x7 x8) (k0_pay162 (F := Ideal) i x0 x1 x2 x3 x4 x5 x6 x7 x8)) (k0_pay66 (F := Ideal) (k0_pay155 (F := Ideal) i x0 x1 x2 x3 x4 x5 x6 x7 x8) (k0_pay162 (F := Ideal) i x0 x1 x2 x3 x4 x5 x6 x7 x8)) (k0_pay67 (F := Ideal) (k0_pay58 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay59 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay60 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (View.ld x5 r0_55) (View.ld x4 r0_60) (View.ld x4 r0_61) (View.ld x4 r0_62)) (View.ld x5 r0_58) (View.ld x4 r0_63) (View.ld x4 r0_64) (View.ld x4 r0_65) (View.ld x6 r0_66)) (k0_pay74 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay75 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay76 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay77 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay78 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay79 (F := Ideal) ) (View.ld x5 r0_71) (View.ld x4 r0_76) (View.ld x4 r0_77) (View.ld x4 r0_78) (View.ld x6 r0_79)) (k0_pay93 (F := Ideal) (k0_pay84 (F := Ideal) (k0_pay155 (F := Ideal) i x0 x1 x2 x3 x4 x5 x6 x7 x8) (k0_pay165 (F := Ideal) i x0 x1 x2 x3 x4 x5 x6 x7 x8)) (k0_pay85 (F := Ideal) (k0_pay155 (F := Ideal) i x0 x1 x2 x3 x4 x5 x6 x7 x8) (k0_pay165 (F := Ideal) i x0 x1 x2 x3 x4 x5 x6 x7 x8)) (k0_pay88 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay89 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay90 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay91 (F := Ideal) (k0_pay155 (F := Ideal) i x0 x1 x2 x3 x4 x5 x6 x7 x8) (k0_pay165 (F := Ideal) i x0 x1 x2 x3 x4 x5 x6 x7 x8) (View.ld x5 r0_81) (View.ld x4 r0_86)) (k0_pay92 (F := Ideal) (View.ld x4 r0_87)) (View.ld x4 r0_88) (View.ld x5 r0_84) (View.ld x4 r0_89) (View.ld x4 r0_90) (View.ld x4 r0_91)) (k0_pay94 (F := Ideal) (View.ld x6 r0_92)) (constant S256x1024 .f32 0x00000000#32)) (k0_pay105 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay106 (F := Ideal) (k0_pay98 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay99 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay100 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (View.ld x5 r0_94) (View.ld x4 r0_99) (View.ld x4 r0_100) (View.ld x4 r0_101)) (k0_pay107 (F := Ideal) (k0_pay103 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay104 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (View.ld x5 r0_97) (View.ld x4 r0_102) (View.ld x4 r0_103)) (View.ld x4 r0_104) (View.ld x6 r0_105)) (k0_pay119 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay120 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay121 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay122 (F := Ideal) (k0_pay111 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay112 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay113 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (View.ld x5 r0_107) (View.ld x4 r0_112) (View.ld x4 r0_113) (View.ld x4 r0_114)) (k0_pay123 (F := Ideal) (View.ld x5 r0_110)) (View.ld x4 r0_115) (View.ld x4 r0_116) (View.ld x4 r0_117) (View.ld x6 r0_118)) (k0_pay132 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay133 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay134 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay135 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay136 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay137 (F := Ideal) ) (View.ld x5 r0_123) (View.ld x4 r0_128) (View.ld x4 r0_129) (View.ld x4 r0_130) (View.ld x6 r0_131)) (k0_pay144 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) (k0_pay147 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay148 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay149 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay150 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8) (View.ld x5 r0_133) (View.ld x4 r0_138) (View.ld x4 r0_139)) (View.ld x4 r0_140) (View.ld x5 r0_136) (View.ld x4 r0_141) (View.ld x4 r0_142) (View.ld x4 r0_143) (View.ld x6 r0_144))) (ix2 r o) : EReal)
    = ∑ f : Fin 2816, actS i x0 x1 x2 x3 x4 x5 r f * (x6 (ix2 f o) : EReal) := by
  rw [chunk10_apply, chunk9_apply, chunk8_apply, chunk7_apply, chunk6_apply, chunk5_apply, chunk4_apply, chunk3_apply, chunk2_apply, chunk1_apply, chunk0_apply, pay5_apply]
  exact sum_tiles fun f => actS i x0 x1 x2 x3 x4 x5 r f * (x6 (ix2 f o) : EReal)

theorem ldG (x : Vec Ideal S1x1024 .f32) (o : Fin 1024) : View.ld x r0_145 (ix2 0 o) = x (ix2 0 o) := by
  pointwise

/-- An entry of the first output block. -/
def outS (r : Fin 256) (o : Fin 1024) : EReal :=
  lnS (fun d => alph * (x0 (ix3 0 r d) : EReal) + ∑ f : Fin 2816, actS i x0 x1 x2 x3 x4 x5 r f * (x6 (ix2 f d) : EReal))
    (x7 (ix2 0 o)) (x8 (ix2 0 o)) o

theorem pc9 (r : Fin 256) (o : Fin 1024) : (k0_pay1 (F := Ideal) (k0_pay153 (F := Ideal) (k0_pay2 (F := Ideal) (View.ld x0 r0_0))
      (k0_pay151 (F := Ideal) (k0_pay138 (F := Ideal) (k0_pay124 (F := Ideal) (k0_pay108 (F := Ideal) (k0_pay95 (F := Ideal) (k0_pay80 (F := Ideal) (k0_pay68 (F := Ideal) (k0_pay55 (F := Ideal) (k0_pay42 (F := Ideal) (k0_pay29 (F := Ideal) (k0_pay19 (F := Ideal) (k0_pay5 (F := Ideal)) (k0_pay14 (F := Ideal) (k0_pay155 (F := Ideal) i x0 x1 x2 x3 x4 x5 x6 x7 x8) (k0_pay159 (F := Ideal) i x0 x1 x2 x3 x4 x5 x6 x7 x8) (View.ld x3 r0_6)) (k0_pay15 (F := Ideal) (k0_pay155 (F := Ideal) i x0 x1 x2 x3 x4 x5 x6 x7 x8) (k0_pay159 (F := Ideal) i x0 x1 x2 x3 x4 x5 x6 x7 x8) (View.ld x3 r0_6)) (k0_pay16 (F := Ideal) (k0_pay155 (F := Ideal) i x0 x1 x2 x3 x4 x5 x6 x7 x8) (k0_pay159 (F := Ideal) i x0 x1 x2 x3 x4 x5 x6 x7 x8) (View.ld x3 r0_6)) (k0_pay17 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (k0_pay18 (F := Ideal) (k0_pay156 (F := Ideal) i x0 x1 x2 x3 x4 x5 x6 x7 x8) (k0_pay157 (F := Ideal) i x0 x1 x2 x3 x4 x5 x6 x7 x8) (k0_pay158 (F := Ideal) i x0 x1 x2 x3 x4 x5 x6 x7 x8) (View.ld x5 r0_3) (View.ld x4 r0_8) (View.ld x4 r0_9) (View.ld x4 r0_10)) (Scalar.ofBits .f32 0x3F000000#32) (View.ld x5 r0_6) (View.ld x4 r0_11) (View.ld x4 r0_12) (View.ld x4 r0_13) (View.ld x6 r0_14)) (k0_pay25 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay26 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay27 (F := Ideal) (k0_pay154 (F := Ideal) i x0 x1 x2 x3 x4 x5 x6 x7 x8) (k0_pay155 (F := Ideal) i x0 x1 x2 x3 x4 x5 x6 x7 x8) (View.ld x2 r0_18) (View.ld x3 r0_19)) (k0_pay28 (F := Ideal) (k0_pay20 (F := Ideal) (k0_pay154 (F := Ideal) i x0 x1 x2 x3 x4 x5 x6 x7 x8) (k0_pay155 (F := Ideal) i x0 x1 x2 x3 x4 x5 x6 x7 x8) (View.ld x2 r0_15) (View.ld x3 r0_16)) (View.ld x5 r0_16) (View.ld x4 r0_21) (View.ld x4 r0_22) (View.ld x4 r0_23)) (View.ld x5 r0_19) (View.ld x4 r0_24) (View.ld x4 r0_25) (View.ld x4 r0_26) (View.ld x6 r0_27)) (k0_pay41 (F := Ideal) (k0_pay33 (F := Ideal) (k0_pay155 (F := Ideal) i x0 x1 x2 x3 x4 x5 x6 x7 x8) (k0_pay160 (F := Ideal) i x0 x1 x2 x3 x4 x5 x6 x7 x8) (View.ld x3 r0_29)) (k0_pay34 (F := Ideal) (k0_pay155 (F := Ideal) i x0 x1 x2 x3 x4 x5 x6 x7 x8) (k0_pay160 (F := Ideal) i x0 x1 x2 x3 x4 x5 x6 x7 x8) (View.ld x3 r0_29)) (k0_pay37 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay38 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay39 (F := Ideal) (k0_pay154 (F := Ideal) i x0 x1 x2 x3 x4 x5 x6 x7 x8) (k0_pay155 (F := Ideal) i x0 x1 x2 x3 x4 x5 x6 x7 x8) (View.ld x2 r0_31) (View.ld x3 r0_32)) (k0_pay40 (F := Ideal) (k0_pay155 (F := Ideal) i x0 x1 x2 x3 x4 x5 x6 x7 x8) (k0_pay160 (F := Ideal) i x0 x1 x2 x3 x4 x5 x6 x7 x8) (View.ld x3 r0_29) (View.ld x5 r0_29) (View.ld x4 r0_34)) (View.ld x4 r0_35) (View.ld x4 r0_36) (View.ld x5 r0_32) (View.ld x4 r0_37) (View.ld x4 r0_38) (View.ld x4 r0_39)) (View.ld x6 r0_40)) (k0_pay51 (F := Ideal) (k0_pay161 (F := Ideal) i x0 x1 x2 x3 x4 x5 x6 x7 x8)) (k0_pay52 (F := Ideal) (k0_pay161 (F := Ideal) i x0 x1 x2 x3 x4 x5 x6 x7 x8)) (k0_pay53 (F := Ideal) (k0_pay45 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay46 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (k0_pay47 (F := Ideal) (k0_pay154 (F := Ideal) i x0 x1 x2 x3 x4 x5 x6 x7 x8) (k0_pay155 (F := Ideal) i x0 x1 x2 x3 x4 x5 x6 x7 x8) (View.ld x2 r0_41) (View.ld x3 r0_42)) (View.ld x5 r0_42) (View.ld x4 r0_47) (View.ld x4 r0_48) (View.ld x4 r0_49)) (k0_pay54 (F := Ideal) (k0_pay50 (F := Ideal) (k0_pay154 (F := Ideal) i x0 x1 x2 x3 x4 x5 x6 x7 x8) (k0_pay155 (F := Ideal) i x0 x1 x2 x3 x4 x5 x6 x7 x8) (View.ld x2 r0_44) (View.ld x3 r0_45)) (View.ld x5 r0_45) (View.ld x4 r0_50)) (View.ld x4 r0_51) (View.ld x4 r0_52) (View.ld x6 r0_53)) (k0_pay64 (F := Ideal) (k0_pay155 (F := Ideal) i x0 x1 x2 x3 x4 x5 x6 x7 x8) (k0_pay162 (F := Ideal) i x0 x1 x2 x3 x4 x5 x6 x7 x8)) (k0_pay65 (F := Ideal) (k0_pay155 (F := Ideal) i x0 x1 x2 x3 x4 x5 x6 x7 x8) (k0_pay162 (F := Ideal) i x0 x1 x2 x3 x4 x5 x6 x7 x8)) (k0_pay66 (F := Ideal) (k0_pay155 (F := Ideal) i x0 x1 x2 x3 x4 x5 x6 x7 x8) (k0_pay162 (F := Ideal) i x0 x1 x2 x3 x4 x5 x6 x7 x8)) (k0_pay67 (F := Ideal) (k0_pay58 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay59 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (k0_pay60 (F := Ideal) (k0_pay154 (F := Ideal) i x0 x1 x2 x3 x4 x5 x6 x7 x8) (k0_pay155 (F := Ideal) i x0 x1 x2 x3 x4 x5 x6 x7 x8) (View.ld x2 r0_54) (View.ld x3 r0_55)) (View.ld x5 r0_55) (View.ld x4 r0_60) (View.ld x4 r0_61) (View.ld x4 r0_62)) (View.ld x5 r0_58) (View.ld x4 r0_63) (View.ld x4 r0_64) (View.ld x4 r0_65) (View.ld x6 r0_66)) (k0_pay74 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay75 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay76 (F := Ideal) (k0_pay154 (F := Ideal) i x0 x1 x2 x3 x4 x5 x6 x7 x8) (k0_pay155 (F := Ideal) i x0 x1 x2 x3 x4 x5 x6 x7 x8) (View.ld x2 r0_70) (View.ld x3 r0_71)) (k0_pay77 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay78 (F := Ideal) (k0_pay163 (F := Ideal) i x0 x1 x2 x3 x4 x5 x6 x7 x8) (k0_pay164 (F := Ideal) i x0 x1 x2 x3 x4 x5 x6 x7 x8) (View.ld x5 r0_68) (View.ld x4 r0_73) (View.ld x4 r0_74) (View.ld x4 r0_75)) (k0_pay79 (F := Ideal) ) (View.ld x5 r0_71) (View.ld x4 r0_76) (View.ld x4 r0_77) (View.ld x4 r0_78) (View.ld x6 r0_79)) (k0_pay93 (F := Ideal) (k0_pay84 (F := Ideal) (k0_pay155 (F := Ideal) i x0 x1 x2 x3 x4 x5 x6 x7 x8) (k0_pay165 (F := Ideal) i x0 x1 x2 x3 x4 x5 x6 x7 x8)) (k0_pay85 (F := Ideal) (k0_pay155 (F := Ideal) i x0 x1 x2 x3 x4 x5 x6 x7 x8) (k0_pay165 (F := Ideal) i x0 x1 x2 x3 x4 x5 x6 x7 x8)) (k0_pay88 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay89 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay90 (F := Ideal) (k0_pay154 (F := Ideal) i x0 x1 x2 x3 x4 x5 x6 x7 x8) (k0_pay155 (F := Ideal) i x0 x1 x2 x3 x4 x5 x6 x7 x8) (View.ld x2 r0_83) (View.ld x3 r0_84)) (k0_pay91 (F := Ideal) (k0_pay155 (F := Ideal) i x0 x1 x2 x3 x4 x5 x6 x7 x8) (k0_pay165 (F := Ideal) i x0 x1 x2 x3 x4 x5 x6 x7 x8) (View.ld x5 r0_81) (View.ld x4 r0_86)) (k0_pay92 (F := Ideal) (View.ld x4 r0_87)) (View.ld x4 r0_88) (View.ld x5 r0_84) (View.ld x4 r0_89) (View.ld x4 r0_90) (View.ld x4 r0_91)) (k0_pay94 (F := Ideal) (View.ld x6 r0_92)) (constant S256x1024 .f32 0x00000000#32)) (k0_pay105 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay106 (F := Ideal) (k0_pay98 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay99 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (k0_pay100 (F := Ideal) (k0_pay154 (F := Ideal) i x0 x1 x2 x3 x4 x5 x6 x7 x8) (k0_pay155 (F := Ideal) i x0 x1 x2 x3 x4 x5 x6 x7 x8) (View.ld x2 r0_93) (View.ld x3 r0_94)) (View.ld x5 r0_94) (View.ld x4 r0_99) (View.ld x4 r0_100) (View.ld x4 r0_101)) (k0_pay107 (F := Ideal) (k0_pay103 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (k0_pay104 (F := Ideal) (k0_pay154 (F := Ideal) i x0 x1 x2 x3 x4 x5 x6 x7 x8) (k0_pay155 (F := Ideal) i x0 x1 x2 x3 x4 x5 x6 x7 x8) (View.ld x2 r0_96) (View.ld x3 r0_97)) (View.ld x5 r0_97) (View.ld x4 r0_102) (View.ld x4 r0_103)) (View.ld x4 r0_104) (View.ld x6 r0_105)) (k0_pay119 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay120 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay121 (F := Ideal) (k0_pay166 (F := Ideal) i x0 x1 x2 x3 x4 x5 x6 x7 x8) (k0_pay167 (F := Ideal) i x0 x1 x2 x3 x4 x5 x6 x7 x8) (k0_pay168 (F := Ideal) i x0 x1 x2 x3 x4 x5 x6 x7 x8)) (k0_pay122 (F := Ideal) (k0_pay111 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay112 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (k0_pay113 (F := Ideal) (k0_pay154 (F := Ideal) i x0 x1 x2 x3 x4 x5 x6 x7 x8) (k0_pay155 (F := Ideal) i x0 x1 x2 x3 x4 x5 x6 x7 x8) (View.ld x2 r0_106) (View.ld x3 r0_107)) (View.ld x5 r0_107) (View.ld x4 r0_112) (View.ld x4 r0_113) (View.ld x4 r0_114)) (k0_pay123 (F := Ideal) (View.ld x5 r0_110)) (View.ld x4 r0_115) (View.ld x4 r0_116) (View.ld x4 r0_117) (View.ld x6 r0_118)) (k0_pay132 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay133 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay134 (F := Ideal) (k0_pay154 (F := Ideal) i x0 x1 x2 x3 x4 x5 x6 x7 x8) (k0_pay155 (F := Ideal) i x0 x1 x2 x3 x4 x5 x6 x7 x8) (View.ld x2 r0_122) (View.ld x3 r0_123)) (k0_pay135 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay136 (F := Ideal) (k0_pay169 (F := Ideal) i x0 x1 x2 x3 x4 x5 x6 x7 x8) (k0_pay170 (F := Ideal) i x0 x1 x2 x3 x4 x5 x6 x7 x8) (k0_pay171 (F := Ideal) i x0 x1 x2 x3 x4 x5 x6 x7 x8) (View.ld x5 r0_120) (View.ld x4 r0_125) (View.ld x4 r0_126) (View.ld x4 r0_127)) (k0_pay137 (F := Ideal) ) (View.ld x5 r0_123) (View.ld x4 r0_128) (View.ld x4 r0_129) (View.ld x4 r0_130) (View.ld x6 r0_131)) (k0_pay144 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8)) (k0_pay147 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay148 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay149 (F := Ideal) (k0_pay154 (F := Ideal) i x0 x1 x2 x3 x4 x5 x6 x7 x8) (k0_pay155 (F := Ideal) i x0 x1 x2 x3 x4 x5 x6 x7 x8) (View.ld x2 r0_135) (View.ld x3 r0_136)) (k0_pay150 (F := Ideal) (k0_pay172 (F := Ideal) i x0 x1 x2 x3 x4 x5 x6 x7 x8) (k0_pay173 (F := Ideal) i x0 x1 x2 x3 x4 x5 x6 x7 x8) (k0_pay174 (F := Ideal) i x0 x1 x2 x3 x4 x5 x6 x7 x8) (View.ld x5 r0_133) (View.ld x4 r0_138) (View.ld x4 r0_139)) (View.ld x4 r0_140) (View.ld x5 r0_136) (View.ld x4 r0_141) (View.ld x4 r0_142) (View.ld x4 r0_143) (View.ld x6 r0_144))
      (k0_pay152 (F := Ideal)) (View.ld x7 r0_145) (View.ld x8 r0_145)) (ix3 0 r o) : EReal) = outS i x0 x1 x2 x3 x4 x5 x6 x7 x8 r o := by
  unfold outS
  rw [pay1_apply, ln_apply]
  refine congr (congr (congr (congrArg lnS (funext fun d => ?_)) (ldG x7 o)) (ldG x8 o)) rfl
  rw [acc_apply, pay2_apply]
  exact congrArg (fun z : EReal => alph * z + _) (ld0 x0 r d)

theorem out9_apply (r : Fin 256) (o : Fin 1024) : (out0_9 (F := Ideal) i x0 x1 x2 x3 x4 x5 x6 x7 x8 (ix3 0 r o) : EReal)
    = outS i x0 x1 x2 x3 x4 x5 x6 x7 x8 r o := by
  have key : out0_9 (F := Ideal) i x0 x1 x2 x3 x4 x5 x6 x7 x8
      = fun y => outS i x0 x1 x2 x3 x4 x5 x6 x7 x8 ⟨(y 1).val, (y 1).isLt⟩ ⟨(y 2).val, (y 2).isLt⟩ := by
    unfold out0_9
    funext y
    canon_tiles y h
    idx_vars y
    obtain rfl : y0 = 0 := Subsingleton.elim _ _
    refine (pc9 i x0 x1 x2 x3 x4 x5 x6 x7 x8 y1 y2).trans ?_
    exact congrArg₂ (outS i x0 x1 x2 x3 x4 x5 x6 x7 x8) (Fin.ext h1.symm) (Fin.ext h2.symm)
  rw [key]
  rfl

end Cert.FfnVal
-- ==== Proof.FfnSpec.lean ====
/-
The feed-forward block as plain mathematics over its eight arrays, and the kernel's two arrays read as it.
-/
module

public import proofs.«01_k».proof.Proof.FfnOut
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen Cert.FfnIdeal.Value

section
variable (x : Vec Ideal S8x2048x1024 .f32) (wu : Vec Ideal S1x1024x5632 .f32) (bu : Vec Ideal S1x5632 .f32)
variable (wc : Vec Ideal S1x3x5632 .f32) (bc : Vec Ideal S1x5632 .f32) (wd : Vec Ideal S1x2816x1024 .f32) (g be : Vec Ideal S1x1024 .f32)

/-- The up-projected rows. -/
def up (b : Fin 8) (n : Fin 2048) (f : Fin 5632) : EReal := (∑ d : Fin 1024, x (ix3 b n d) * wu (ix3 0 d f)) + bu (ix2 0 f)

/-- The same with two rows of zeros before the first. -/
def upP (b : Fin 8) (p : ℕ) (f : Fin 5632) : EReal :=
  if h : 2 ≤ p ∧ p - 2 < 2048 then up x wu bu b ⟨p - 2, h.2⟩ f else 0

/-- The convolution over three rows. -/
def conv (b : Fin 8) (n : Fin 2048) (f : Fin 5632) : EReal :=
  bc (ix2 0 f) + upP x wu bu b n f * wc (ix3 0 0 f) + upP x wu bu b (n + 1) f * wc (ix3 0 1 f) + upP x wu bu b (n + 2) f * wc (ix3 0 2 f)

/-- The gated half. -/
def act (b : Fin 8) (n : Fin 2048) (f : Fin 2816) : EReal :=
  geluS (conv x wu bu wc bc b n ⟨f, by omega⟩) * conv x wu bu wc bc b n ⟨2816 + f, by omega⟩

/-- The last eight of the up-projected rows. -/
def tailS (b r : Fin 8) (f : Fin 5632) : EReal := up x wu bu b ⟨2040 + r, by omega⟩ f

/-- The normalized sum of the row and its down-projected image. -/
def yS (b : Fin 8) (n : Fin 2048) (o : Fin 1024) : EReal :=
  lnS (fun d => alph * x (ix3 b n d) + ∑ f : Fin 2816, act x wu bu wc bc b n f * wd (ix3 0 f d)) (g (ix2 0 o)) (be (ix2 0 o)) o
end

variable (m : (ℓ : Loc nD τ sig) → Buf (Elt Ideal) ℓ)

abbrev argX (c : Dev nD) : Vec Ideal S8x2048x1024 .f32 := m ((c : Thread nD τ).loc main_arg0)
abbrev argWu (c : Dev nD) : Vec Ideal S1x1024x5632 .f32 := m ((c : Thread nD τ).loc main_arg1)
abbrev argBu (c : Dev nD) : Vec Ideal S1x5632 .f32 := m ((c : Thread nD τ).loc main_arg2)
abbrev argWc (c : Dev nD) : Vec Ideal S1x3x5632 .f32 := m ((c : Thread nD τ).loc main_arg3)
abbrev argBc (c : Dev nD) : Vec Ideal S1x5632 .f32 := m ((c : Thread nD τ).loc main_arg4)
abbrev argWd (c : Dev nD) : Vec Ideal S1x2816x1024 .f32 := m ((c : Thread nD τ).loc main_arg5)
abbrev argG (c : Dev nD) : Vec Ideal S1x1024 .f32 := m ((c : Thread nD τ).loc main_arg6)
abbrev argB (c : Dev nD) : Vec Ideal S1x1024 .f32 := m ((c : Thread nD τ).loc main_arg7)

theorem idx0 : ∀ t : Fin cfg0.N, win0_0.index t = ![t.val / 8, t.val % 8, 0] := (by decide +kernel : ∀ t : Fin grid0.N, _)
theorem idx1 : ∀ t : Fin cfg0.N, win0_1.index t = ![t.val / 8, 32 * (t.val % 8) - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 8, t.val % 8, 0] := (by decide +kernel : ∀ t : Fin grid0.N, _)
theorem idx10 : ∀ t : Fin cfg0.N, win0_10.index t = ![t.val / 8, 0, 0] := (by decide +kernel : ∀ t : Fin grid0.N, _)
theorem coord1 : ∀ t : Fin cfg0.N, ((grid0.coords t) 1).val = t.val % 8 := (by decide +kernel : ∀ t : Fin grid0.N, _)
theorem last10 : ∀ t : Fin cfg0.N, (cfg0.win 10).flush t = true → t.val % 8 = 7 := (by decide +kernel : ∀ t : Fin grid0.N, (cfg0.win 10).flush t = true → _)

theorem lt64 (t : Fin cfg0.N) : t.val < 64 := lt_of_lt_of_eq t.isLt N_0

theorem V1_apply (c : Dev nD) (d : Fin 1024) (f : Fin 5632) : V m c main_v1 (ix2 d f) = argWu m c (ix3 0 d f) := by
  simp only [V, hostOps0]
  after_results
  pointwise
theorem V3_apply (c : Dev nD) (f : Fin 5632) : V m c main_v3 (ix2 0 f) = argBu m c (ix2 0 f) := by
  simp only [V, hostOps0]
  after_results
  pointwise
theorem V4_apply (c : Dev nD) (k : Fin 3) (f : Fin 5632) : V m c main_v4 (ix2 k f) = argWc m c (ix3 0 k f) := by
  simp only [V, hostOps0]
  after_results
  pointwise
theorem V6_apply (c : Dev nD) (f : Fin 5632) : V m c main_v6 (ix2 0 f) = argBc m c (ix2 0 f) := by
  simp only [V, hostOps0]
  after_results
  pointwise
theorem V8_apply (c : Dev nD) (f : Fin 2816) (d : Fin 1024) : V m c main_v8 (ix2 f d) = argWd m c (ix3 0 f d) := by
  simp only [V, hostOps0]
  after_results
  pointwise
theorem V10_apply (c : Dev nD) (d : Fin 1024) : V m c main_v10 (ix2 0 d) = argG m c (ix2 0 d) := by
  simp only [V, hostOps0]
  after_results
  pointwise
theorem V12_apply (c : Dev nD) (d : Fin 1024) : V m c main_v12 (ix2 0 d) = argB m c (ix2 0 d) := by
  simp only [V, hostOps0]
  after_results
  pointwise

theorem iblk0 (c : Dev nD) (t : Fin cfg0.N) (r : Fin 256) (d : Fin 1024) :
    iblk m c 0 t (ix3 0 r d) = argX m c (ix3 ⟨t.val / 8, by have := lt64 t; omega⟩ ⟨256 * (t.val % 8) + r, by omega⟩ d) := by
  rw [← show V m c main_arg0 = argX m c from V_main_arg0 m c]
  blk_ext [iblk, idx0 t]
theorem iblk1 (c : Dev nD) (t : Fin cfg0.N) (h : 0 < t.val % 8) (r : Fin 8) (d : Fin 1024) :
    iblk m c 1 t (ix3 0 r d) = argX m c (ix3 ⟨t.val / 8, by have := lt64 t; omega⟩ ⟨256 * (t.val % 8) + r - 8, by omega⟩ d) := by
  rw [← show V m c main_arg0 = argX m c from V_main_arg0 m c]
  blk_ext [iblk, idx1 t]
theorem iblk2 (c : Dev nD) (t : Fin cfg0.N) (d : Fin 1024) (f : Fin 5632) : iblk m c 2 t (ix2 d f) = argWu m c (ix3 0 d f) := by
  rw [← V1_apply]
  blk_ext [iblk, idx2 t]
theorem iblk3 (c : Dev nD) (t : Fin cfg0.N) (f : Fin 5632) : iblk m c 3 t (ix2 0 f) = argBu m c (ix2 0 f) := by
  rw [← V3_apply]
  blk_ext [iblk, idx3 t]
theorem iblk4 (c : Dev nD) (t : Fin cfg0.N) (k : Fin 3) (f : Fin 5632) : iblk m c 4 t (ix2 k f) = argWc m c (ix3 0 k f) := by
  rw [← V4_apply]
  blk_ext [iblk, idx4 t]
theorem iblk5 (c : Dev nD) (t : Fin cfg0.N) (f : Fin 5632) : iblk m c 5 t (ix2 0 f) = argBc m c (ix2 0 f) := by
  rw [← V6_apply]
  blk_ext [iblk, idx5 t]
theorem iblk6 (c : Dev nD) (t : Fin cfg0.N) (f : Fin 2816) (d : Fin 1024) : iblk m c 6 t (ix2 f d) = argWd m c (ix3 0 f d) := by
  rw [← V8_apply]
  blk_ext [iblk, idx6 t]
theorem iblk7 (c : Dev nD) (t : Fin cfg0.N) (d : Fin 1024) : iblk m c 7 t (ix2 0 d) = argG m c (ix2 0 d) := by
  rw [← V10_apply]
  blk_ext [iblk, idx7 t]
theorem iblk8 (c : Dev nD) (t : Fin cfg0.N) (d : Fin 1024) : iblk m c 8 t (ix2 0 d) = argB m c (ix2 0 d) := by
  rw [← V12_apply]
  blk_ext [iblk, idx8 t]

section
variable (c : Dev nD) (t : Fin cfg0.N)

/-- The batch row of a grid point. -/
def rowB (t : Fin cfg0.N) : Fin 8 := ⟨t.val / 8, by have := lt64 t; omega⟩

theorem hS_eq (s : Fin 258) (f : Fin 5632) :
    hS (grid0.coords t) (iblk m c 0 t) (iblk m c 1 t) (iblk m c 2 t) (iblk m c 3 t) ⟨6 + s, by omega⟩ f
      = upP (argX m c) (argWu m c) (argBu m c) (rowB t) (256 * (t.val % 8) + s) f := by
  unfold hS upP
  rw [coord1]
  by_cases h : 8 ≤ 6 + s.val ∨ 0 < t.val % 8
  · rw [if_pos h, dif_pos (by omega)]
    unfold up
    rw [iblk3]
    congr 1
    refine Finset.sum_congr rfl fun d _ => ?_
    rw [iblk2]
    congr 1
    unfold xinS
    by_cases h8 : 6 + s.val < 8
    · rw [dif_pos h8, iblk1 m c t (by omega)]
      unfold rowB
      congr 3
      show 256 * (t.val % 8) + (6 + s.val) - 8 = _
      omega
    · rw [dif_neg h8, iblk0]
      unfold rowB
      congr 3
      show 256 * (t.val % 8) + (6 + s.val - 8) = _
      omega
  · rw [if_neg h, dif_neg (by omega)]

theorem convS_eq (r : Fin 256) (f : Fin 5632) :
    convS (grid0.coords t) (iblk m c 0 t) (iblk m c 1 t) (iblk m c 2 t) (iblk m c 3 t) (iblk m c 4 t) (iblk m c 5 t) r f
      = conv (argX m c) (argWu m c) (argBu m c) (argWc m c) (argBc m c) (rowB t) ⟨256 * (t.val % 8) + r, by omega⟩ f := by
  unfold convS conv
  have e0 := hS_eq m c t ⟨r, by omega⟩ f
  have e1 := hS_eq m c t ⟨1 + r, by omega⟩ f
  have e2 := hS_eq m c t ⟨2 + r, by omega⟩ f
  have p1 : 6 + (1 + r.val) = 7 + r.val := by omega
  have p2 : 6 + (2 + r.val) = 8 + r.val := by omega
  have q1 : 256 * (t.val % 8) + (1 + r.val) = 256 * (t.val % 8) + r.val + 1 := by omega
  have q2 : 256 * (t.val % 8) + (2 + r.val) = 256 * (t.val % 8) + r.val + 2 := by omega
  simp only [p1, q1] at e1
  simp only [p2, q2] at e2
  rw [e0, e1, e2, iblk5, iblk4, iblk4, iblk4]

theorem actS_eq (r : Fin 256) (f : Fin 2816) :
    actS (grid0.coords t) (iblk m c 0 t) (iblk m c 1 t) (iblk m c 2 t) (iblk m c 3 t) (iblk m c 4 t) (iblk m c 5 t) r f
      = act (argX m c) (argWu m c) (argBu m c) (argWc m c) (argBc m c) (rowB t) ⟨256 * (t.val % 8) + r, by omega⟩ f := by
  unfold actS act
  rw [convS_eq, convS_eq]

theorem outS_eq (r : Fin 256) (o : Fin 1024) :
    outS (grid0.coords t) (iblk m c 0 t) (iblk m c 1 t) (iblk m c 2 t) (iblk m c 3 t) (iblk m c 4 t) (iblk m c 5 t) (iblk m c 6 t)
        (iblk m c 7 t) (iblk m c 8 t) r o
      = yS (argX m c) (argWu m c) (argBu m c) (argWc m c) (argBc m c) (argWd m c) (argG m c) (argB m c) (rowB t)
          ⟨256 * (t.val % 8) + r, by omega⟩ o := by
  unfold outS yS
  rw [iblk7, iblk8]
  congr 1
  funext d
  have hs : (∑ f : Fin 2816, actS (grid0.coords t) (iblk m c 0 t) (iblk m c 1 t) (iblk m c 2 t) (iblk m c 3 t) (iblk m c 4 t) (iblk m c 5 t) r f
        * (iblk m c 6 t : Vec Ideal S2816x1024 .bf16) (ix2 f d))
      = ∑ f : Fin 2816, act (argX m c) (argWu m c) (argBu m c) (argWc m c) (argBc m c) (rowB t) ⟨256 * (t.val % 8) + r, by omega⟩ f
        * argWd m c (ix3 0 f d) :=
    Finset.sum_congr rfl fun f _ => congrArg₂ (· * ·) (actS_eq m c t r f) (iblk6 m c t f d)
  rw [iblk0]
  exact congrArg (fun z : EReal => alph * argX m c (ix3 (rowB t) ⟨256 * (t.val % 8) + r, by omega⟩ d) + z) hs

end

/-- The first array the kernel leaves. -/
theorem final9 (c : Dev nD) : (dats m 0 c).arrAt 9 cfg0.N
    = (fun i => yS (argX m c) (argWu m c) (argBu m c) (argWc m c) (argBc m c) (argWd m c) (argG m c) (argB m c) (i 0) (i 1) (i 2)) := by
  refine (dats m 0 c).arrAt_eq_of_covers 9 _ (by decide +kernel) fun t hf y => ?_
  blk_simp
  rw [after0_9]
  idx_vars y
  obtain rfl : y0 = 0 := Subsingleton.elim _ _
  rw [out9_apply, outS_eq]
  have e : ((cfg0.win 9).blk t).view.emb (ix3 (0 : Fin 1) y1 y2) = ix3 (rowB t) (⟨256 * (t.val % 8) + y1, by omega⟩ : Fin 2048) y2 := by
    unfold rowB
    blk_ext [idx9 t]
  exact (congrArg (fun i : S8x2048x1024.Idx => yS (argX m c) (argWu m c) (argBu m c) (argWc m c) (argBc m c) (argWd m c) (argG m c) (argB m c)
    (i 0) (i 1) (i 2)) e).symm

theorem tail_eq (c : Dev nD) (t : Fin cfg0.N) (h7 : t.val % 8 = 7) (r : Fin 8) (f : Fin 5632) :
    hS (grid0.coords t) (iblk m c 0 t) (iblk m c 1 t) (iblk m c 2 t) (iblk m c 3 t) ⟨256 + r, by omega⟩ f
      = tailS (argX m c) (argWu m c) (argBu m c) (rowB t) r f := by
  have e := hS_eq m c t ⟨250 + r, by omega⟩ f
  have p : 6 + (250 + r.val) = 256 + r.val := by omega
  simp only [p, h7] at e
  rw [e]
  unfold upP tailS
  rw [dif_pos (by omega)]
  congr 2
  omega

/-- The second array the kernel leaves. -/
theorem final10 (c : Dev nD) : (dats m 0 c).arrAt 10 cfg0.N
    = (fun i => tailS (argX m c) (argWu m c) (argBu m c) (i 0) (i 1) (i 2)) := by
  refine (dats m 0 c).arrAt_eq_of_covers 10 _ (by decide +kernel) fun t hf y => ?_
  have h7 := last10 t hf
  blk_simp
  rw [after0_10]
  idx_vars y
  obtain rfl : y0 = 0 := Subsingleton.elim _ _
  rw [out10_apply, tail_eq m c t h7]
  have e : ((cfg0.win 10).blk t).view.emb (ix3 (0 : Fin 1) y1 y2) = ix3 (rowB t) y1 y2 := by
    unfold rowB
    blk_ext [idx10 t]
  exact (congrArg (fun i : S8x8x5632.Idx => tailS (argX m c) (argWu m c) (argBu m c) (i 0) (i 1) (i 2)) e).symm

end Cert.FfnVal

end
-- ==== Proof.FfnRefVal.lean ====
/-
The reference of the feed-forward block, read entry by entry.
-/
module

public import proofs.«01_k».proof.Proof.FfnSpec
public import proofs.«01_k».proof.Proof.Gen.FfnRefIdeal.Run
public import proofs.«01_k».proof.Proof.Gen.FfnRefIdeal.Read

@[expose] public section

set_option maxRecDepth 16384

noncomputable section

open Idealize.ShloMosaic Idealize.ShloMosaic.TcCoe Idealize.SL.Sem

namespace Cert.FfnVal

open Cert.FfnRefIdeal Cert.FfnRefIdeal.Gen Cert.FfnRefIdeal.Read

variable (x : Vec Ideal S8x2048x1024 .f32) (wu : Vec Ideal S1x1024x5632 .f32) (bu : Vec Ideal S1x5632 .f32)
variable (wc : Vec Ideal S1x3x5632 .f32) (bc : Vec Ideal S1x5632 .f32) (wd : Vec Ideal S1x2816x1024 .f32) (g be : Vec Ideal S1x1024 .f32)
variable (b : Fin 8) (n : Fin 2048)

theorem one_bits : Ideal.ofBits .f32 0x3F800000#32 = (1 : EReal) := by
  simp [Ideal.ofBits, Ideal.ieee]
  rw [← EReal.coe_mul]
  norm_num

theorem r5_apply (f : Fin 5632) : val_main_v5 (F := Ideal) x wu bu (ix3 b n f) = up x wu bu b n f := by
  have el : ∀ d : Fin 1024, lidx_main_v1 (ix3 b n f) d = ix3 b n d := fun d =>
    funext fun a => match a with | ⟨0, _⟩ => rfl | ⟨1, _⟩ => rfl | ⟨2, _⟩ => rfl
  have er : ∀ d : Fin 1024, idx_main_v0 (ridx_main_v1 (ix3 b n f) d) = ix3 0 d f := fun d =>
    funext fun a => Fin.ext (match a with
      | ⟨0, _⟩ => rfl
      | ⟨1, _⟩ => by show (d.val * 5632 + f.val) / 5632 % 1024 = d.val; omega
      | ⟨2, _⟩ => by show (d.val * 5632 + f.val) % 5632 = f.val; omega)
  have eb : idx_main_v2 (idx_main_v3 (idx_main_v4 (ix3 b n f))) = ix2 0 f :=
    funext fun a => Fin.ext (match a with
      | ⟨0, _⟩ => rfl
      | ⟨1, _⟩ => by show f.val % 5632 = f.val; omega)
  rw [val_main_v5_apply, val_main_v1_apply, val_main_v4_apply, val_main_v3_apply, val_main_v2_apply, eb]
  simp only [val_main_v0_apply, el, er]
  rfl

theorem r7_apply (p : Fin 2050) (f : Fin 5632) : val_main_v7 (F := Ideal) x wu bu (ix3 b p f) = upP x wu bu b p f := by
  have h6 : ∀ i, val_main_v6 (F := Ideal) i = (0 : EReal) := fun i => by
    rw [val_main_v6_apply, val_main_cst_apply]
    exact zero_bits
  have h5 := r5_apply x wu bu b
  unfold val_main_v7 upP
  generalize val_main_v5 (F := Ideal) x wu bu = y5 at h5 ⊢
  generalize val_main_v6 (F := Ideal) = y6 at h6 ⊢
  by_cases hp : 2 ≤ p.val
  · rw [dif_pos (by omega), ← h5]
    pointwise
    exact dif_neg (by omega)
  · rw [dif_neg (by omega), ← h6 (ix3 b ⟨p, by omega⟩ f)]
    pointwise
    exact dif_pos (by omega)

section
variable (f : Fin 5632)

theorem w0_apply : val_main_v14 (F := Ideal) wc (ix3 b n f) = wc (ix3 0 0 f) := by
  rw [val_main_v14_apply, val_main_v13_apply, val_main_v12_apply, val_main_v11_apply, val_main_v10_apply]
  exact congrArg wc (funext fun a => Fin.ext (match a with
    | ⟨0, _⟩ => rfl
    | ⟨1, _⟩ => by show (0 * 5632 + f.val % 5632) / 5632 % 3 = 0; omega
    | ⟨2, _⟩ => by show (0 * 5632 + f.val % 5632) % 5632 = f.val; omega))
theorem w1_apply : val_main_v24 (F := Ideal) wc (ix3 b n f) = wc (ix3 0 1 f) := by
  rw [val_main_v24_apply, val_main_v23_apply, val_main_v22_apply, val_main_v21_apply, val_main_v20_apply]
  exact congrArg wc (funext fun a => Fin.ext (match a with
    | ⟨0, _⟩ => rfl
    | ⟨1, _⟩ => by show ((1 + 0) * 5632 + f.val % 5632) / 5632 % 3 = 1; omega
    | ⟨2, _⟩ => by show ((1 + 0) * 5632 + f.val % 5632) % 5632 = f.val; omega))
theorem w2_apply : val_main_v32 (F := Ideal) wc (ix3 b n f) = wc (ix3 0 2 f) := by
  rw [val_main_v32_apply, val_main_v31_apply, val_main_v30_apply, val_main_v29_apply, val_main_v28_apply]
  exact congrArg wc (funext fun a => Fin.ext (match a with
    | ⟨0, _⟩ => rfl
    | ⟨1, _⟩ => by show ((2 + 0) * 5632 + f.val % 5632) / 5632 % 3 = 2; omega
    | ⟨2, _⟩ => by show ((2 + 0) * 5632 + f.val % 5632) % 5632 = f.val; omega))
theorem bc_apply : val_main_v17 (F := Ideal) bc (ix3 b n f) = bc (ix2 0 f) := by
  rw [val_main_v17_apply, val_main_v16_apply, val_main_v8_apply]
  exact congrArg bc (funext fun a => Fin.ext (match a with
    | ⟨0, _⟩ => rfl
    | ⟨1, _⟩ => by show f.val % 5632 = f.val; omega))

theorem rconv_apply : val_main_v34 (F := Ideal) x wu bu wc bc (ix3 b n f) = conv x wu bu wc bc b n f := by
  have e0 : idx_main_v9 (ix3 b n f) = ix3 b (⟨n, by omega⟩ : Fin 2050) f :=
    funext fun a => match a with | ⟨0, _⟩ => rfl | ⟨1, _⟩ => rfl | ⟨2, _⟩ => rfl
  have e1 : idx_main_v19 (ix3 b n f) = ix3 b (⟨n + 1, by omega⟩ : Fin 2050) f :=
    funext fun a => Fin.ext (match a with | ⟨0, _⟩ => rfl | ⟨1, _⟩ => by show 1 + n.val = n.val + 1; omega | ⟨2, _⟩ => rfl)
  have e2 : idx_main_v27 (ix3 b n f) = ix3 b (⟨n + 2, by omega⟩ : Fin 2050) f :=
    funext fun a => Fin.ext (match a with | ⟨0, _⟩ => rfl | ⟨1, _⟩ => by show 2 + n.val = n.val + 2; omega | ⟨2, _⟩ => rfl)
  rw [val_main_v34_apply, val_main_v33_apply, val_main_v26_apply, val_main_v25_apply, val_main_v18_apply, val_main_v15_apply,
    val_main_v9_apply, val_main_v19_apply, val_main_v27_apply, e0, e1, e2, r7_apply, r7_apply, r7_apply,
    w0_apply, w1_apply, w2_apply, bc_apply]
  rfl
end

theorem ract_apply (f : Fin 2816) : val_main_v50 (F := Ideal) x wu bu wc bc (ix3 b n f) = act x wu bu wc bc b n f := by
  have e0 : idx_main_v35 (ix3 b n f) = ix3 b n (⟨f, by omega⟩ : Fin 5632) :=
    funext fun a => match a with | ⟨0, _⟩ => rfl | ⟨1, _⟩ => rfl | ⟨2, _⟩ => rfl
  have e1 : idx_main_v36 (ix3 b n f) = ix3 b n (⟨2816 + f, by omega⟩ : Fin 5632) :=
    funext fun a => match a with | ⟨0, _⟩ => rfl | ⟨1, _⟩ => rfl | ⟨2, _⟩ => rfl
  have h35 : val_main_v35 (F := Ideal) x wu bu wc bc (ix3 b n f) = conv x wu bu wc bc b n ⟨f, by omega⟩ := by
    rw [val_main_v35_apply, e0, rconv_apply]
  have h36 : val_main_v36 (F := Ideal) x wu bu wc bc (ix3 b n f) = conv x wu bu wc bc b n ⟨2816 + f, by omega⟩ := by
    rw [val_main_v36_apply, e1, rconv_apply]
  rw [val_main_v50_apply, val_main_v49_apply, val_main_v48_apply, val_main_v47_apply, val_main_cst_3_apply, val_main_v46_apply,
    val_main_v45_apply, val_main_cst_2_apply, val_main_v44_apply, val_main_v43_apply, val_main_v42_apply, val_main_cst_1_apply,
    val_main_v41_apply, val_main_v40_apply, val_main_v39_apply, val_main_cst_0_apply, val_main_v38_apply, val_main_v37_apply, h35, h36]
  unfold act geluS
  generalize conv x wu bu wc bc b n ⟨f, _⟩ = z
  generalize conv x wu bu wc bc b n ⟨2816 + f, _⟩ = w
  show z * (half * (Ideal.ofBits .f32 0x3F800000#32 + Ideal.tanh (ga * (z + gb * (z * z * z))))) * w = _
  rw [one_bits, mul_comm (z * z) z]

/-- The row before its normalization. -/
def pre (d : Fin 1024) : EReal := alph * x (ix3 b n d) + ∑ f : Fin 2816, act x wu bu wc bc b n f * wd (ix3 0 f d)

theorem rpre_apply (d : Fin 1024) : val_main_v55 (F := Ideal) x wu bu wc bc wd (ix3 b n d) = pre x wu bu wc bc wd b n d := by
  have el : ∀ f : Fin 2816, lidx_main_v52 (ix3 b n d) f = ix3 b n f := fun f =>
    funext fun a => match a with | ⟨0, _⟩ => rfl | ⟨1, _⟩ => rfl | ⟨2, _⟩ => rfl
  have er : ∀ f : Fin 2816, idx_main_v51 (ridx_main_v52 (ix3 b n d) f) = ix3 0 f d := fun f =>
    funext fun a => Fin.ext (match a with
      | ⟨0, _⟩ => rfl
      | ⟨1, _⟩ => by show (f.val * 1024 + d.val) / 1024 % 2816 = f.val; omega
      | ⟨2, _⟩ => by show (f.val * 1024 + d.val) % 1024 = d.val; omega)
  rw [val_main_v55_apply, val_main_v54_apply, val_main_v53_apply, val_main_cst_4_apply, val_main_v52_apply]
  simp only [val_main_v51_apply, el, er, ract_apply]
  rfl

theorem rmean_apply : val_main_v59 (F := Ideal) x wu bu wc bc wd (ix3 b n 0) = meanS (pre x wu bu wc bc wd b n) := by
  have ei : ∀ d : Fin 1024, idx_main_v56 (idx_main_v57 (ix3 b n 0)) d = ix3 b n d := fun d =>
    funext fun a => match a with | ⟨0, _⟩ => rfl | ⟨1, _⟩ => rfl | ⟨2, _⟩ => rfl
  rw [val_main_v59_apply, val_main_v57_apply, val_main_v56_apply, val_main_cst_5_apply, val_main_v58_apply, val_main_cst_6_apply]
  simp only [ei, rpre_apply]
  unfold meanS
  refine congrArg (Ideal.div · wid) ?_
  exact (congrArg (· + _) zero_bits).trans (zero_add _)

theorem rvar_apply : val_main_v66 (F := Ideal) x wu bu wc bc wd (ix3 b n 0) = varS (pre x wu bu wc bc wd b n) := by
  have ei : ∀ d : Fin 1024, idx_main_v63 (idx_main_v64 (ix3 b n 0)) d = ix3 b n d := fun d =>
    funext fun a => match a with | ⟨0, _⟩ => rfl | ⟨1, _⟩ => rfl | ⟨2, _⟩ => rfl
  have em : ∀ d : Fin 1024, idx_main_v60 (ix3 b n d) = ix3 b n 0 := fun d =>
    funext fun a => match a with | ⟨0, _⟩ => rfl | ⟨1, _⟩ => rfl | ⟨2, _⟩ => rfl
  rw [val_main_v66_apply, val_main_v64_apply, val_main_v63_apply, val_main_cst_7_apply, val_main_v65_apply, val_main_cst_8_apply]
  simp only [ei, val_main_v62_apply, val_main_v61_apply, val_main_v60_apply, em, rpre_apply, rmean_apply]
  unfold varS
  refine congrArg (Ideal.div · wid) ?_
  exact (congrArg (· + _) zero_bits).trans (zero_add _)

/-- The reference's first result. -/
theorem ref_y (o : Fin 1024) : val_main_v81 (F := Ideal) x wu bu wc bc wd g be (ix3 b n o) = yS x wu bu wc bc wd g be b n o := by
  have e67 : idx_main_v67 (ix3 b n o) = ix3 b n 0 :=
    funext fun a => match a with | ⟨0, _⟩ => rfl | ⟨1, _⟩ => rfl | ⟨2, _⟩ => rfl
  have e72 : idx_main_v72 (ix3 b n o) = ix3 b n 0 :=
    funext fun a => match a with | ⟨0, _⟩ => rfl | ⟨1, _⟩ => rfl | ⟨2, _⟩ => rfl
  have eg : idx_main_v74 (idx_main_v75 (idx_main_v76 (ix3 b n o))) = ix2 0 o :=
    funext fun a => Fin.ext (match a with | ⟨0, _⟩ => rfl | ⟨1, _⟩ => by show o.val % 1024 = o.val; omega)
  have eb : idx_main_v78 (idx_main_v79 (idx_main_v80 (ix3 b n o))) = ix2 0 o :=
    funext fun a => Fin.ext (match a with | ⟨0, _⟩ => rfl | ⟨1, _⟩ => by show o.val % 1024 = o.val; omega)
  rw [val_main_v81_apply, val_main_v77_apply, val_main_v73_apply, val_main_v68_apply, val_main_v67_apply, e67, rmean_apply,
    val_main_v72_apply, e72, val_main_v71_apply, val_main_v70_apply, rvar_apply, val_main_v69_apply, val_main_cst_9_apply,
    val_main_v76_apply, val_main_v75_apply, val_main_v74_apply, eg, val_main_v80_apply, val_main_v79_apply, val_main_v78_apply, eb, rpre_apply]
  rfl

/-- The reference's second result. -/
theorem ref_tail (r : Fin 8) (f : Fin 5632) : val_main_v82 (F := Ideal) x wu bu (ix3 b r f) = tailS x wu bu b r f := by
  have e : idx_main_v82 (ix3 b r f) = ix3 b (⟨2040 + r, by omega⟩ : Fin 2048) f :=
    funext fun a => match a with | ⟨0, _⟩ => rfl | ⟨1, _⟩ => rfl | ⟨2, _⟩ => rfl
  rw [val_main_v82_apply, e, r5_apply]
  rfl

theorem ref_y_fun : val_main_v81 (F := Ideal) x wu bu wc bc wd g be = fun i => yS x wu bu wc bc wd g be (i 0) (i 1) (i 2) := by
  funext i
  idx_vars i
  exact ref_y x wu bu wc bc wd g be i0 i1 i2

theorem ref_tail_fun : val_main_v82 (F := Ideal) x wu bu = fun i => tailS x wu bu (i 0) (i 1) (i 2) := by
  funext i
  idx_vars i
  exact ref_tail x wu bu i0 i1 i2

end Cert.FfnVal

end
-- ==== Proof.FfnClaim.lean ====
/-
The claims about the feed-forward block of the prompt.
-/
module

public import proofs.«01_k».proof.Defs
public import proofs.«01_k».proof.Proof.FfnRefVal
public import proofs.«01_k».proof.Proof.Gen.Ffn.Frame
public import Idealize.ShloMosaic.Lib.Quiescent

@[expose] public section

set_option maxRecDepth 16384

noncomputable section

open Idealize.ShloMosaic Idealize.ShloMosaic.TcCoe Idealize.SL.Sem

namespace Cert.FfnVal

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2.2,
      Idealize.ShloMosaic.sem_eq_zero_of_no_sems (by decide) r.2⟩)
    (Cert.FfnRefIdeal.Value.run (F := Ideal) m ρ)

theorem preserves : Cert.preserves_Ffn_FfnIdeal := trivial

/-- The kernel's results are the reference's. -/
theorem algebraic : Cert.algebraic_FfnIdeal_FfnRefIdeal := by
  intro m ρ m' ρ' _ hagree
  refine ⟨_, _, Cert.FfnIdeal.Value.run_blocks (F := Ideal) m ρ, ?_⟩
  refine (θ_run Cert.FfnRefIdeal.defs _ _).mono (fun _ h c => ⟨(h c).1.trans ?_, (h c).2.1.trans ?_, (h c).2.2⟩)
    (Cert.FfnRefIdeal.Value.run (F := Ideal) m' ρ')
  · obtain ⟨e0, e1, e2, e3, e4, e5, e6, e7⟩ := hagree c
    rw [final9]
    refine (Cert.FfnRefIdeal.Read.val_main_v81_eq _).trans ?_
    have h0 : StableHlo.launchContents m' c (Proc.devRef .tc Cert.FfnRefIdeal.main_arg0) = argX m c := e0
    have h1 : StableHlo.launchContents m' c (Proc.devRef .tc Cert.FfnRefIdeal.main_arg1) = argWu m c := e1
    have h2 : StableHlo.launchContents m' c (Proc.devRef .tc Cert.FfnRefIdeal.main_arg2) = argBu m c := e2
    have h3 : StableHlo.launchContents m' c (Proc.devRef .tc Cert.FfnRefIdeal.main_arg3) = argWc m c := e3
    have h4 : StableHlo.launchContents m' c (Proc.devRef .tc Cert.FfnRefIdeal.main_arg4) = argBc m c := e4
    have h5 : StableHlo.launchContents m' c (Proc.devRef .tc Cert.FfnRefIdeal.main_arg5) = argWd m c := e5
    have h6 : StableHlo.launchContents m' c (Proc.devRef .tc Cert.FfnRefIdeal.main_arg6) = argG m c := e6
    have h7 : StableHlo.launchContents m' c (Proc.devRef .tc Cert.FfnRefIdeal.main_arg7) = argB m c := e7
    rw [h0, h1, h2, h3, h4, h5, h6, h7]
    exact ref_y_fun _ _ _ _ _ _ _ _
  · obtain ⟨e0, e1, e2, e3, e4, e5, e6, e7⟩ := hagree c
    rw [final10]
    refine (Cert.FfnRefIdeal.Read.val_main_v82_eq _).trans ?_
    have h0 : StableHlo.launchContents m' c (Proc.devRef .tc Cert.FfnRefIdeal.main_arg0) = argX m c := e0
    have h1 : StableHlo.launchContents m' c (Proc.devRef .tc Cert.FfnRefIdeal.main_arg1) = argWu m c := e1
    have h2 : StableHlo.launchContents m' c (Proc.devRef .tc Cert.FfnRefIdeal.main_arg2) = argBu m c := e2
    rw [h0, h1, h2]
    exact ref_tail_fun _ _ _

end Cert.FfnVal

end
-- ==== Proof.ProjVec.lean ====
/-
One tile of the prompt's projection, at an index: each stored block as a sum over the model width.
-/
module

public import proofs.«01_k».proof.Proof.Gen.ProjIdeal.Value
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjVal

open Cert.ProjIdeal Cert.ProjIdeal.Gen

/-- One eighth. -/
def scale : EReal := Ideal.ofBits .f32 0x3E000000#32

/-- The log-sigmoid through a log-add-exponential with zero. -/
def lsig (z : EReal) : EReal := -(max (-z) 0 + Ideal.log1p (Ideal.exp (-(max (-z) (- -z)))))

theorem zero_bits : Ideal.ofBits FTy.f32 0x00000000#32 = (0 : EReal) := by
  simp [Ideal.ofBits, Ideal.ieee]

theorem pay2_apply (v0 : Vec Ideal S1x512x1024 .f32) (r : Fin 512) (d : Fin 1024) :
    (k0_pay2 (F := Ideal) v0 (ix2 r d) : EReal) = v0 (ix3 0 r d) := by
  unfold k0_pay2
  pointwise

theorem pay3_apply (v0 : Vec Ideal S1x512x1024 .f32) (w : Vec Ideal S1024x512 .bf16) (r : Fin 512) (o : Fin 512) :
    (k0_pay3 (F := Ideal) v0 w (ix3 0 r o) : EReal) = (∑ d : Fin 1024, v0 (ix3 0 r d) * w (ix2 d o) : EReal) * scale := by
  unfold k0_pay3
  simp only [← pay2_apply v0]
  generalize k0_pay2 (F := Ideal) v0 = xb
  pointwise
  rfl

theorem pay4_apply (v0 : Vec Ideal S1x512x1024 .f32) (w : Vec Ideal S1024x512 .bf16) (r : Fin 512) (o : Fin 512) :
    (k0_pay4 (F := Ideal) v0 w (ix3 0 r o) : EReal) = (∑ d : Fin 1024, v0 (ix3 0 r d) * w (ix2 d o) : EReal) := by
  unfold k0_pay4
  simp only [← pay2_apply v0]
  generalize k0_pay2 (F := Ideal) v0 = xb
  pointwise

theorem pay5_apply (v0 : Vec Ideal S1x512x1024 .f32) (w : Vec Ideal S1024x128 .bf16) (b : Vec Ideal S1x128 .f32) (r : Fin 512) (o : Fin 128) :
    (k0_pay5 (F := Ideal) v0 w b (ix2 r o) : EReal) = -((∑ d : Fin 1024, v0 (ix3 0 r d) * w (ix2 d o) : EReal) + b (ix2 0 o)) := by
  unfold k0_pay5
  simp only [← pay2_apply v0]
  generalize k0_pay2 (F := Ideal) v0 = xb
  pointwise
  exact zero_sub _

theorem pay11_apply (xb : FVec Ideal S512x1024 .bf16) (w : Vec Ideal S512x1024 .bf16) (o r : Fin 512) :
    (k0_pay11 (F := Ideal) xb w (ix2 o r) : EReal) = (∑ d : Fin 1024, w (ix2 o d) * xb (ix2 r d) : EReal) := by
  unfold k0_pay11
  pointwise
theorem pay14_apply (xb : FVec Ideal S512x1024 .bf16) (w : Vec Ideal S512x1024 .bf16) (o r : Fin 512) :
    (k0_pay14 (F := Ideal) xb w (ix2 o r) : EReal) = (∑ d : Fin 1024, w (ix2 o d) * xb (ix2 r d) : EReal) := by
  unfold k0_pay14
  pointwise

theorem pay12_apply (xb : FVec Ideal S512x1024 .bf16) (w : Vec Ideal S512x1024 .bf16) (o r : Fin 512) :
    (k0_pay12 (F := Ideal) xb w (ix3 0 o r) : EReal) = (∑ d : Fin 1024, w (ix2 o d) * xb (ix2 r d) : EReal) := by
  unfold k0_pay12
  rw [← pay11_apply]
  generalize k0_pay11 (F := Ideal) xb w = z
  pointwise
theorem pay13_apply (xb : FVec Ideal S512x1024 .bf16) (w : Vec Ideal S512x1024 .bf16) (o r : Fin 512) :
    (k0_pay13 (F := Ideal) xb w (ix3 0 o r) : EReal) = (∑ d : Fin 1024, w (ix2 o d) * xb (ix2 r d) : EReal) := by
  unfold k0_pay13
  rw [← pay11_apply]
  generalize k0_pay11 (F := Ideal) xb w = z
  pointwise
theorem pay15_apply (xb : FVec Ideal S512x1024 .bf16) (w : Vec Ideal S512x1024 .bf16) (o r : Fin 512) :
    (k0_pay15 (F := Ideal) xb w (ix3 0 o r) : EReal) = (∑ d : Fin 1024, w (ix2 o d) * xb (ix2 r d) : EReal) := by
  unfold k0_pay15
  rw [← pay14_apply]
  generalize k0_pay14 (F := Ideal) xb w = z
  pointwise
theorem pay16_apply (xb : FVec Ideal S512x1024 .bf16) (w : Vec Ideal S512x1024 .bf16) (o r : Fin 512) :
    (k0_pay16 (F := Ideal) xb w (ix3 0 o r) : EReal) = (∑ d : Fin 1024, w (ix2 o d) * xb (ix2 r d) : EReal) := by
  unfold k0_pay16
  rw [← pay14_apply]
  generalize k0_pay14 (F := Ideal) xb w = z
  pointwise

/-- The kernel's log-sigmoid of a negated number. -/
theorem lsig_of_neg (n : EReal) (z : EReal) (h : n = -z) :
    (0 : EReal) - (max n 0 + Ideal.log1p (Ideal.exp (0 - max (n - 0) (-(n - 0))))) = lsig z := by
  subst h
  unfold lsig
  rw [sub_zero, zero_sub, zero_sub]

theorem pay10_apply (v0 : Vec Ideal S1x512x1024 .f32) (w : Vec Ideal S1024x128 .bf16) (b : Vec Ideal S1x128 .f32) (r : Fin 512) (o : Fin 128) :
    (k0_pay10 (F := Ideal) (k0_pay5 (F := Ideal) v0 w b) (k0_pay6 (F := Ideal) v0 w b) (k0_pay7 (F := Ideal) v0 w b) (k0_pay8 (F := Ideal) v0 w b) (k0_pay9 (F := Ideal)) (ix3 0 r o) : EReal)
      = lsig ((∑ d : Fin 1024, v0 (ix3 0 r d) * w (ix2 d o) : EReal) + b (ix2 0 o)) := by
  refine Eq.trans ?_ (lsig_of_neg _ _ (pay5_apply v0 w b r o))
  unfold k0_pay10 k0_pay8 k0_pay7 k0_pay6 k0_pay9
  generalize k0_pay5 (F := Ideal) v0 w b = n
  pointwise
  simp
  rfl

/-- The transposed log forget gates before the log-sigmoid. -/
theorem pay1_apply (xb : FVec Ideal S512x1024 .bf16) (w : Vec Ideal S16x1024 .bf16) (b : Vec Ideal S8x1 .f32) (o : Fin 8) (r : Fin 512) :
    (k0_pay1 (F := Ideal) xb w b (ix3 0 o r) : EReal)
      = lsig ((∑ d : Fin 1024, w (ix2 (Fin.castLE (by decide) o) d) * xb (ix2 r d) : EReal) + b (ix2 o 0)) := by
  refine Eq.trans ?_ (lsig_of_neg _ _ (zero_sub _))
  unfold k0_pay1
  pointwise
  simp
  exact congrArg (fun a : EReal => max (-_) 0 + Ideal.log1p (Ideal.exp (-a))) (congrArg (max _) (neg_neg _))

end Cert.ProjVal

end
-- ==== Proof.ProjOut.lean ====
/-
The projection of the prompt as plain mathematics over its three arrays, and the kernel's eight arrays read as it.
-/
module

public import proofs.«01_k».proof.Proof.ProjVec

@[expose] public section

set_option maxRecDepth 16384

noncomputable section

open Idealize.ShloMosaic Idealize.ShloMosaic.TcCoe Idealize.SL.Sem
open Idealize.ShloMosaic.Pipeline (Dat)

namespace Cert.ProjVal

open Cert.ProjIdeal Cert.ProjIdeal.Gen Cert.ProjIdeal.Value

section
variable (x : Vec Ideal S8x2048x1024 .f32) (w : Vec Ideal S1x1024x2056 .f32) (bf : Vec Ideal S1x8 .f32)

/-- The projected rows, all columns. -/
def pz (b : Fin 8) (n : Fin 2048) (j : Fin 2056) : EReal := ∑ d : Fin 1024, x (ix3 b n d) * w (ix3 0 d j)

/-- The scaled queries. -/
def qS (b : Fin 8) (n : Fin 2048) (o : Fin 512) : EReal := pz x w b n ⟨o, by omega⟩ * scale
/-- The keys, positions last. -/
def kS (b : Fin 8) (o : Fin 512) (n : Fin 2048) : EReal := pz x w b n ⟨512 + o, by omega⟩
/-- The values, positions last. -/
def vS (b : Fin 8) (o : Fin 512) (n : Fin 2048) : EReal := pz x w b n ⟨1024 + o, by omega⟩
/-- The columns of the pooling. -/
def uS (b : Fin 8) (n : Fin 2048) (o : Fin 512) : EReal := pz x w b n ⟨1544 + o, by omega⟩
/-- The forget gates before the log-sigmoid, over a whole row of lanes. -/
def zS (b : Fin 8) (n : Fin 2048) (o : Fin 128) : EReal :=
  if h : o.val < 8 then pz x w b n ⟨1536 + o, by omega⟩ + bf (ix2 0 ⟨o, h⟩) else 0
def lfS (b : Fin 8) (n : Fin 2048) (o : Fin 128) : EReal := lsig (zS x w bf b n o)
/-- The log forget gates, positions last. -/
def lftS (b : Fin 8) (o : Fin 8) (n : Fin 2048) : EReal := lsig (pz x w b n ⟨1536 + o, by omega⟩ + bf (ix2 0 o))
end

/-! ## One tile -/

section
variable (x0 : Vec Ideal S1x512x1024 .f32) (x1 : Vec Ideal S1024x1152 .bf16) (x2 : Vec Ideal S1040x1024 .bf16)
variable (x3 : Vec Ideal S1x128 .f32) (x4 : Vec Ideal S8x1 .f32)

def qO (r o : Fin 512) : EReal := (∑ d : Fin 1024, x0 (ix3 0 r d) * x1 (ix2 d ⟨o, by omega⟩)) * scale
def uO (r o : Fin 512) : EReal := ∑ d : Fin 1024, x0 (ix3 0 r d) * x1 (ix2 d ⟨512 + o, by omega⟩)
def lfO (r : Fin 512) (o : Fin 128) : EReal := lsig ((∑ d : Fin 1024, x0 (ix3 0 r d) * x1 (ix2 d ⟨1024 + o, by omega⟩)) + x3 (ix2 0 o))
def kO (o r : Fin 512) : EReal := ∑ d : Fin 1024, x2 (ix2 ⟨o, by omega⟩ d) * x0 (ix3 0 r d)
def vO (o r : Fin 512) : EReal := ∑ d : Fin 1024, x2 (ix2 ⟨512 + o, by omega⟩ d) * x0 (ix3 0 r d)
def lftO (o : Fin 8) (r : Fin 512) : EReal := lsig ((∑ d : Fin 1024, x2 (ix2 ⟨1024 + o, by omega⟩ d) * x0 (ix3 0 r d)) + x4 (ix2 o 0))

theorem ld0 (r : Fin 512) (d : Fin 1024) : View.ld x0 r0_0 (ix3 0 r d) = x0 (ix3 0 r d) := by pointwise
theorem ld1 (d : Fin 1024) (o : Fin 512) : View.ld x1 r0_1 (ix2 d o) = x1 (ix2 d ⟨o, by omega⟩) := by pointwise
theorem ld3 (d : Fin 1024) (o : Fin 512) : View.ld x1 r0_3 (ix2 d o) = x1 (ix2 d ⟨512 + o, by omega⟩) := by pointwise
theorem ld4 (d : Fin 1024) (o : Fin 128) : View.ld x1 r0_4 (ix2 d o) = x1 (ix2 d ⟨1024 + o, by omega⟩) := by pointwise
theorem ld5 (o : Fin 128) : View.ld x3 r0_5 (ix2 0 o) = x3 (ix2 0 o) := by pointwise
theorem ld7 (o : Fin 512) (d : Fin 1024) : View.ld x2 r0_7 (ix2 o d) = x2 (ix2 ⟨o, by omega⟩ d) := by pointwise
theorem ld8 (o : Fin 512) (d : Fin 1024) : View.ld x2 r0_8 (ix2 o d) = x2 (ix2 ⟨512 + o, by omega⟩ d) := by pointwise
theorem ld9 (o : Fin 16) (d : Fin 1024) : View.ld x2 r0_9 (ix2 o d) = x2 (ix2 ⟨1024 + o, by omega⟩ d) := by pointwise
theorem ld10 (o : Fin 8) : View.ld x4 r0_10 (ix2 o 0) = x4 (ix2 o 0) := by pointwise

theorem pay17_apply (r : Fin 512) (d : Fin 1024) : (k0_pay17 (F := Ideal) x0 x1 x2 x3 x4 (ix2 r d) : EReal) = x0 (ix3 0 r d) := by
  unfold k0_pay17
  exact (pay2_apply _ r d).trans (ld0 x0 r d)

theorem pc5 (r : Fin 512) (o : Fin 512) : (k0_pay3 (F := Ideal) (View.ld x0 r0_0) (View.ld x1 r0_1) (ix3 0 r o) : EReal) = qO x0 x1 r o := by
  refine (pay3_apply _ _ r o).trans ?_
  unfold qO
  exact congrArg (fun z : EReal => z * scale) (Finset.sum_congr rfl fun d _ => congrArg₂ (· * ·) (ld0 x0 r d) (ld1 x1 d o))

theorem pc10 (r : Fin 512) (o : Fin 512) : (k0_pay4 (F := Ideal) (View.ld x0 r0_0) (View.ld x1 r0_3) (ix3 0 r o) : EReal) = uO x0 x1 r o := by
  refine (pay4_apply _ _ r o).trans ?_
  unfold uO
  exact Finset.sum_congr rfl fun d _ => congrArg₂ (· * ·) (ld0 x0 r d) (ld3 x1 d o)

theorem pc11 (r : Fin 512) (o : Fin 128) : (k0_pay10 (F := Ideal) (k0_pay5 (F := Ideal) (View.ld x0 r0_0) (View.ld x1 r0_4) (View.ld x3 r0_5)) (k0_pay6 (F := Ideal) (View.ld x0 r0_0) (View.ld x1 r0_4) (View.ld x3 r0_5)) (k0_pay7 (F := Ideal) (View.ld x0 r0_0) (View.ld x1 r0_4) (View.ld x3 r0_5)) (k0_pay8 (F := Ideal) (View.ld x0 r0_0) (View.ld x1 r0_4) (View.ld x3 r0_5)) (k0_pay9 (F := Ideal)) (ix3 0 r o) : EReal) = lfO x0 x1 x3 r o := by
  refine (pay10_apply _ _ _ r o).trans ?_
  unfold lfO
  exact congrArg lsig (congrArg₂ (· + ·) (Finset.sum_congr rfl fun d _ => congrArg₂ (· * ·) (ld0 x0 r d) (ld4 x1 d o)) (ld5 x3 o))

theorem pc6 (o : Fin 512) (r : Fin 512) : (k0_pay12 (F := Ideal) (k0_pay17 (F := Ideal) x0 x1 x2 x3 x4) (View.ld x2 r0_7) (ix3 0 o r) : EReal) = kO x0 x2 o r := by
  refine (pay12_apply _ _ o r).trans ?_
  unfold kO
  exact Finset.sum_congr rfl fun d _ => congrArg₂ (· * ·) (ld7 x2 o d) (pay17_apply x0 x1 x2 x3 x4 r d)

theorem pc7 (o : Fin 512) (r : Fin 512) : (k0_pay15 (F := Ideal) (k0_pay17 (F := Ideal) x0 x1 x2 x3 x4) (View.ld x2 r0_8) (ix3 0 o r) : EReal) = vO x0 x2 o r := by
  refine (pay15_apply _ _ o r).trans ?_
  unfold vO
  exact Finset.sum_congr rfl fun d _ => congrArg₂ (· * ·) (ld8 x2 o d) (pay17_apply x0 x1 x2 x3 x4 r d)

theorem pc8 (o : Fin 512) (r : Fin 512) : (k0_pay13 (F := Ideal) (k0_pay17 (F := Ideal) x0 x1 x2 x3 x4) (View.ld x2 r0_7) (ix3 0 o r) : EReal) = kO x0 x2 o r := by
  refine (pay13_apply _ _ o r).trans ?_
  unfold kO
  exact Finset.sum_congr rfl fun d _ => congrArg₂ (· * ·) (ld7 x2 o d) (pay17_apply x0 x1 x2 x3 x4 r d)

theorem pc9 (o : Fin 512) (r : Fin 512) : (k0_pay16 (F := Ideal) (k0_pay17 (F := Ideal) x0 x1 x2 x3 x4) (View.ld x2 r0_8) (ix3 0 o r) : EReal) = vO x0 x2 o r := by
  refine (pay16_apply _ _ o r).trans ?_
  unfold vO
  exact Finset.sum_congr rfl fun d _ => congrArg₂ (· * ·) (ld8 x2 o d) (pay17_apply x0 x1 x2 x3 x4 r d)

theorem pc12 (o : Fin 8) (r : Fin 512) : (k0_pay1 (F := Ideal) (k0_pay17 (F := Ideal) x0 x1 x2 x3 x4) (View.ld x2 r0_9) (View.ld x4 r0_10) (ix3 0 o r) : EReal) = lftO x0 x2 x4 o r := by
  refine (pay1_apply _ _ _ o r).trans ?_
  unfold lftO
  exact congrArg lsig (congrArg₂ (· + ·) (Finset.sum_congr rfl fun d _ => congrArg₂ (· * ·) (ld9 x2 _ d) (pay17_apply x0 x1 x2 x3 x4 r d)) (ld10 x4 o))

theorem out5_apply (r : Fin 512) (o : Fin 512) : (out0_5 (F := Ideal) x0 x1 x2 x3 x4 (ix3 0 r o) : EReal) = qO x0 x1 r o := by
  have key : out0_5 (F := Ideal) x0 x1 x2 x3 x4 = fun y => qO x0 x1 ⟨(y 1).val, (y 1).isLt⟩ ⟨(y 2).val, (y 2).isLt⟩ := by
    unfold out0_5
    funext y
    canon_tiles y h
    idx_vars y
    obtain rfl : y0 = 0 := Subsingleton.elim _ _
    refine (pc5 x0 x1 y1 y2).trans ?_
    exact congrArg₂ (qO x0 x1) (Fin.ext h1.symm) (Fin.ext h2.symm)
  rw [key]
  rfl

theorem out6_apply (o : Fin 512) (r : Fin 512) : (out0_6 (F := Ideal) x0 x1 x2 x3 x4 (ix3 0 o r) : EReal) = kO x0 x2 o r := by
  have key : out0_6 (F := Ideal) x0 x1 x2 x3 x4 = fun y => kO x0 x2 ⟨(y 1).val, (y 1).isLt⟩ ⟨(y 2).val, (y 2).isLt⟩ := by
    unfold out0_6
    funext y
    canon_tiles y h
    idx_vars y
    obtain rfl : y0 = 0 := Subsingleton.elim _ _
    refine (pc6 x0 x1 x2 x3 x4 y1 y2).trans ?_
    exact congrArg₂ (kO x0 x2) (Fin.ext h1.symm) (Fin.ext h2.symm)
  rw [key]
  rfl

theorem out7_apply (o : Fin 512) (r : Fin 512) : (out0_7 (F := Ideal) x0 x1 x2 x3 x4 (ix3 0 o r) : EReal) = vO x0 x2 o r := by
  have key : out0_7 (F := Ideal) x0 x1 x2 x3 x4 = fun y => vO x0 x2 ⟨(y 1).val, (y 1).isLt⟩ ⟨(y 2).val, (y 2).isLt⟩ := by
    unfold out0_7
    funext y
    canon_tiles y h
    idx_vars y
    obtain rfl : y0 = 0 := Subsingleton.elim _ _
    refine (pc7 x0 x1 x2 x3 x4 y1 y2).trans ?_
    exact congrArg₂ (vO x0 x2) (Fin.ext h1.symm) (Fin.ext h2.symm)
  rw [key]
  rfl

theorem out8_apply (o : Fin 512) (r : Fin 512) : (out0_8 (F := Ideal) x0 x1 x2 x3 x4 (ix3 0 o r) : EReal) = kO x0 x2 o r := by
  have key : out0_8 (F := Ideal) x0 x1 x2 x3 x4 = fun y => kO x0 x2 ⟨(y 1).val, (y 1).isLt⟩ ⟨(y 2).val, (y 2).isLt⟩ := by
    unfold out0_8
    funext y
    canon_tiles y h
    idx_vars y
    obtain rfl : y0 = 0 := Subsingleton.elim _ _
    refine (pc8 x0 x1 x2 x3 x4 y1 y2).trans ?_
    exact congrArg₂ (kO x0 x2) (Fin.ext h1.symm) (Fin.ext h2.symm)
  rw [key]
  rfl

theorem out9_apply (o : Fin 512) (r : Fin 512) : (out0_9 (F := Ideal) x0 x1 x2 x3 x4 (ix3 0 o r) : EReal) = vO x0 x2 o r := by
  have key : out0_9 (F := Ideal) x0 x1 x2 x3 x4 = fun y => vO x0 x2 ⟨(y 1).val, (y 1).isLt⟩ ⟨(y 2).val, (y 2).isLt⟩ := by
    unfold out0_9
    funext y
    canon_tiles y h
    idx_vars y
    obtain rfl : y0 = 0 := Subsingleton.elim _ _
    refine (pc9 x0 x1 x2 x3 x4 y1 y2).trans ?_
    exact congrArg₂ (vO x0 x2) (Fin.ext h1.symm) (Fin.ext h2.symm)
  rw [key]
  rfl

theorem out10_apply (r : Fin 512) (o : Fin 512) : (out0_10 (F := Ideal) x0 x1 x2 x3 x4 (ix3 0 r o) : EReal) = uO x0 x1 r o := by
  have key : out0_10 (F := Ideal) x0 x1 x2 x3 x4 = fun y => uO x0 x1 ⟨(y 1).val, (y 1).isLt⟩ ⟨(y 2).val, (y 2).isLt⟩ := by
    unfold out0_10
    funext y
    canon_tiles y h
    idx_vars y
    obtain rfl : y0 = 0 := Subsingleton.elim _ _
    refine (pc10 x0 x1 y1 y2).trans ?_
    exact congrArg₂ (uO x0 x1) (Fin.ext h1.symm) (Fin.ext h2.symm)
  rw [key]
  rfl

theorem out11_apply (r : Fin 512) (o : Fin 128) : (out0_11 (F := Ideal) x0 x1 x2 x3 x4 (ix3 0 r o) : EReal) = lfO x0 x1 x3 r o := by
  have key : out0_11 (F := Ideal) x0 x1 x2 x3 x4 = fun y => lfO x0 x1 x3 ⟨(y 1).val, (y 1).isLt⟩ ⟨(y 2).val, (y 2).isLt⟩ := by
    unfold out0_11
    funext y
    canon_tiles y h
    idx_vars y
    obtain rfl : y0 = 0 := Subsingleton.elim _ _
    refine (pc11 x0 x1 x3 y1 y2).trans ?_
    exact congrArg₂ (lfO x0 x1 x3) (Fin.ext h1.symm) (Fin.ext h2.symm)
  rw [key]
  rfl

theorem out12_apply (o : Fin 8) (r : Fin 512) : (out0_12 (F := Ideal) x0 x1 x2 x3 x4 (ix3 0 o r) : EReal) = lftO x0 x2 x4 o r := by
  have key : out0_12 (F := Ideal) x0 x1 x2 x3 x4 = fun y => lftO x0 x2 x4 ⟨(y 1).val, (y 1).isLt⟩ ⟨(y 2).val, (y 2).isLt⟩ := by
    unfold out0_12
    funext y
    canon_tiles y h
    idx_vars y
    obtain rfl : y0 = 0 := Subsingleton.elim _ _
    refine (pc12 x0 x1 x2 x3 x4 y1 y2).trans ?_
    exact congrArg₂ (lftO x0 x2 x4) (Fin.ext h1.symm) (Fin.ext h2.symm)
  rw [key]
  rfl

end

variable (m : (ℓ : Loc nD τ sig) → Buf (Elt Ideal) ℓ)

abbrev argX (c : Dev nD) : Vec Ideal S8x2048x1024 .f32 := m ((c : Thread nD τ).loc main_arg0)
abbrev argW (c : Dev nD) : Vec Ideal S1x1024x2056 .f32 := m ((c : Thread nD τ).loc main_arg1)
abbrev argF (c : Dev nD) : Vec Ideal S1x8 .f32 := m ((c : Thread nD τ).loc main_arg2)

theorem idx0 : ∀ t : Fin cfg0.N, win0_0.index t = ![t.val / 4, t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, t.val % 4, 0] := (by decide +kernel : ∀ t : Fin grid0.N, _)
theorem idx6 : ∀ t : Fin cfg0.N, win0_6.index t = ![t.val / 4, 0, t.val % 4] := (by decide +kernel : ∀ t : Fin grid0.N, _)
theorem idx7 : ∀ t : Fin cfg0.N, win0_7.index t = ![t.val / 4, 0, t.val % 4] := (by decide +kernel : ∀ t : Fin grid0.N, _)
theorem idx8 : ∀ t : Fin cfg0.N, win0_8.index t = ![t.val / 4, 0, t.val % 4] := (by decide +kernel : ∀ t : Fin grid0.N, _)
theorem idx9 : ∀ t : Fin cfg0.N, win0_9.index t = ![t.val / 4, 0, t.val % 4] := (by decide +kernel : ∀ t : Fin grid0.N, _)
theorem idx12 : ∀ t : Fin cfg0.N, win0_12.index t = ![t.val / 4, 0, t.val % 4] := (by decide +kernel : ∀ t : Fin grid0.N, _)
theorem lt32 (t : Fin cfg0.N) : t.val < 32 := lt_of_lt_of_eq t.isLt N_0

theorem zero_si : (FloatOps.sitofp (F := Ideal) FTy.f32 (0#32) : EReal) = 0 := by
  simp [FloatOps.sitofp]

theorem cat_f (a b : FVec Ideal S1024x512 .f32) (e : FVec Ideal S1024x128 .f32) (d : Fin 1024) (o : Fin 128) :
    (truncf .bf16 (concatenate S1024x1152 1 [⟨S1024x512, a⟩, ⟨S1024x512, b⟩, ⟨S1024x128, e⟩] concatenates_S1024x512_S1024x512_S1024x128_S1024x1152_d1) bitsLt_bf16_f32 : FVec Ideal S1024x1152 .bf16) (ix2 d ⟨1024 + o, by omega⟩) = e (ix2 d o) := by
  pointwise
  rw [dif_neg (show ¬ 1024 + o.val < 512 by omega), dif_neg (show ¬ 1024 + o.val - 512 < 512 by omega)]
  exact congrArg (fun j => e (ix2 d j)) (Fin.ext (by show 1024 + o.val - 512 - 512 = o.val; omega))

theorem V6_q (c : Dev nD) (d : Fin 1024) (o : Fin 512) : V m c main_v6 (ix2 d ⟨o, by omega⟩) = argW m c (ix3 0 d ⟨o, by omega⟩) := by
  simp only [V, hostOps0, hostOps0_1, hostOps0_2, hostOps0_3, hostOps0_4, hostOps0_5, hostOps0_6, List.flatten_cons, List.flatten_nil, List.append_nil, List.cons_append, List.nil_append]
  after_results
  pointwise
  after_results_simp
  pointwise
theorem V6_u (c : Dev nD) (d : Fin 1024) (o : Fin 512) : V m c main_v6 (ix2 d ⟨512 + o, by omega⟩) = argW m c (ix3 0 d ⟨1544 + o, by omega⟩) := by
  simp only [V, hostOps0, hostOps0_1, hostOps0_2, hostOps0_3, hostOps0_4, hostOps0_5, hostOps0_6, List.flatten_cons, List.flatten_nil, List.append_nil, List.cons_append, List.nil_append]
  after_results
  pointwise
  after_results_simp
  pointwise
theorem V6_f (c : Dev nD) (d : Fin 1024) (o : Fin 128) : (V m c main_v6 (ix2 d ⟨1024 + o, by omega⟩) : EReal) = if h : o.val < 8 then (argW m c (ix3 0 d ⟨1536 + o, by omega⟩) : EReal) else 0 := by
  simp only [V, hostOps0, hostOps0_1, hostOps0_2, hostOps0_3, hostOps0_4, hostOps0_5, hostOps0_6, List.flatten_cons, List.flatten_nil, List.append_nil, List.cons_append, List.nil_append]
  after_results
  refine (cat_f _ _ _ d o).trans ?_
  dsimp only [Matrix.cons_val]
  after_results_simp
  simp -implicitDefEqProofs only [StableHlo.TRef.toBuf, StableHlo.TRef.ofBuf, cast_cast, cast_eq]
  pointwise
  by_cases h : o.val < 8
  · rw [dif_pos h, dif_pos h]
  · rw [dif_neg h, dif_neg h]
    exact zero_si
theorem V12_k (c : Dev nD) (o : Fin 512) (d : Fin 1024) : V m c main_v12 (ix2 ⟨o, by omega⟩ d) = argW m c (ix3 0 d ⟨512 + o, by omega⟩) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  exact dif_pos (by omega)
theorem V12_v (c : Dev nD) (o : Fin 512) (d : Fin 1024) : V m c main_v12 (ix2 ⟨512 + o, by omega⟩ d) = argW m c (ix3 0 d ⟨1024 + o, by omega⟩) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  refine (dif_pos (by omega)).trans ?_
  exact congrArg (fun j => argW m c (ix3 0 d j)) (Fin.ext (by show 512 + (512 + o.val) = 1024 + o.val; omega))
theorem V12_f (c : Dev nD) (o : Fin 8) (d : Fin 1024) : V m c main_v12 (ix2 ⟨1024 + o, by omega⟩ d) = argW m c (ix3 0 d ⟨1536 + o, by omega⟩) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
theorem V15_apply (c : Dev nD) (o : Fin 128) : (V m c main_v15 (ix2 0 o) : EReal) = if h : o.val < 8 then (argF m c (ix2 0 ⟨o, h⟩) : EReal) else 0 := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  by_cases h : o.val < 8
  · rw [dif_pos h, dif_pos h]
  · rw [dif_neg h, dif_neg h]
    exact zero_si
theorem V17_apply (c : Dev nD) (o : Fin 8) : V m c main_v17 (ix2 o 0) = argF m c (ix2 0 o) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise

end Cert.ProjVal

end
-- ==== Proof.ProjSpec.lean ====
/-
The blocks of a grid point, and its tile's results as the mathematics of the arguments.
-/
module

public import proofs.«01_k».proof.Proof.ProjOut

@[expose] public section

set_option maxRecDepth 16384

noncomputable section

open Idealize.ShloMosaic Idealize.ShloMosaic.TcCoe Idealize.SL.Sem
open Idealize.ShloMosaic.Pipeline (Dat)

namespace Cert.ProjVal

open Cert.ProjIdeal Cert.ProjIdeal.Gen Cert.ProjIdeal.Value

variable (m : (ℓ : Loc nD τ sig) → Buf (Elt Ideal) ℓ) (c : Dev nD) (t : Fin cfg0.N)

/-- The batch row of a grid point. -/
def rowB (t : Fin cfg0.N) : Fin 8 := ⟨t.val / 4, by have := lt32 t; omega⟩
/-- The position of a tile's row. -/
def pos (t : Fin cfg0.N) (r : Fin 512) : Fin 2048 := ⟨512 * (t.val % 4) + r, by omega⟩

theorem iblk0 (r : Fin 512) (d : Fin 1024) : iblk m c 0 t (ix3 0 r d) = argX m c (ix3 (rowB t) (pos t r) d) := by
  unfold rowB pos
  rw [← show V m c main_arg0 = argX m c from V_main_arg0 m c]
  blk_ext [iblk, idx0 t]
theorem iblk1 (d : Fin 1024) (j : Fin 1152) : iblk m c 1 t (ix2 d j) = V m c main_v6 (ix2 d j) := by
  blk_ext [iblk, idx1 t]
theorem iblk2 (j : Fin 1040) (d : Fin 1024) : iblk m c 2 t (ix2 j d) = V m c main_v12 (ix2 j d) := by
  blk_ext [iblk, idx2 t]
theorem iblk3 (o : Fin 128) : iblk m c 3 t (ix2 0 o) = V m c main_v15 (ix2 0 o) := by
  blk_ext [iblk, idx3 t]
theorem iblk4 (o : Fin 8) : iblk m c 4 t (ix2 o 0) = V m c main_v17 (ix2 o 0) := by
  blk_ext [iblk, idx4 t]

theorem qO_eq (r o : Fin 512) : qO (iblk m c 0 t) (iblk m c 1 t) r o = qS (argX m c) (argW m c) (rowB t) (pos t r) o :=
  congrArg (fun z : EReal => z * scale) (Finset.sum_congr (M := EReal) rfl fun d _ =>
    congrArg₂ (fun a b : EReal => a * b) (iblk0 m c t r d) ((iblk1 m c t d _).trans (V6_q m c d o)))
theorem uO_eq (r o : Fin 512) : uO (iblk m c 0 t) (iblk m c 1 t) r o = uS (argX m c) (argW m c) (rowB t) (pos t r) o :=
  Finset.sum_congr (M := EReal) rfl fun d _ => congrArg₂ (fun a b : EReal => a * b) (iblk0 m c t r d) ((iblk1 m c t d _).trans (V6_u m c d o))
theorem kO_eq (o r : Fin 512) : kO (iblk m c 0 t) (iblk m c 2 t) o r = kS (argX m c) (argW m c) (rowB t) o (pos t r) :=
  Finset.sum_congr (M := EReal) rfl fun d _ => (congrArg₂ (fun a b : EReal => a * b) ((iblk2 m c t _ d).trans (V12_k m c o d)) (iblk0 m c t r d)).trans (mul_comm (_ : EReal) _)
theorem vO_eq (o r : Fin 512) : vO (iblk m c 0 t) (iblk m c 2 t) o r = vS (argX m c) (argW m c) (rowB t) o (pos t r) :=
  Finset.sum_congr (M := EReal) rfl fun d _ => (congrArg₂ (fun a b : EReal => a * b) ((iblk2 m c t _ d).trans (V12_v m c o d)) (iblk0 m c t r d)).trans (mul_comm (_ : EReal) _)
theorem lftO_eq (o : Fin 8) (r : Fin 512) : lftO (iblk m c 0 t) (iblk m c 2 t) (iblk m c 4 t) o r
    = lftS (argX m c) (argW m c) (argF m c) (rowB t) o (pos t r) :=
  congrArg lsig (congrArg₂ (fun a b : EReal => a + b) (Finset.sum_congr (M := EReal) rfl fun d _ =>
    (congrArg₂ (fun a b : EReal => a * b) ((iblk2 m c t _ d).trans (V12_f m c o d)) (iblk0 m c t r d)).trans (mul_comm (_ : EReal) _))
    ((iblk4 m c t o).trans (V17_apply m c o)))

/-- The lanes past the eight heads hold zero, since their columns and biases do. -/
theorem zO_eq (r : Fin 512) (o : Fin 128) : ((∑ d : Fin 1024, argX m c (ix3 (rowB t) (pos t r) d)
      * (if h : o.val < 8 then (argW m c (ix3 0 d ⟨1536 + o, by omega⟩) : EReal) else 0))
      + (if h : o.val < 8 then (argF m c (ix2 0 ⟨o, h⟩) : EReal) else 0) : EReal)
    = zS (argX m c) (argW m c) (argF m c) (rowB t) (pos t r) o := by
  unfold zS pz
  by_cases h : o.val < 8
  · simp only [dif_pos h]
  · simp only [dif_neg h, mul_zero, Finset.sum_const_zero, add_zero]
theorem lfO_eq (r : Fin 512) (o : Fin 128) : lfO (iblk m c 0 t) (iblk m c 1 t) (iblk m c 3 t) r o
    = lfS (argX m c) (argW m c) (argF m c) (rowB t) (pos t r) o :=
  congrArg lsig ((congrArg₂ (fun a b : EReal => a + b) (Finset.sum_congr (M := EReal) rfl fun d _ =>
    congrArg₂ (fun a b : EReal => a * b) (iblk0 m c t r d) ((iblk1 m c t d _).trans (V6_f m c d o)))
    ((iblk3 m c t o).trans (V15_apply m c o))).trans (zO_eq m c t r o))

end Cert.ProjVal

end
-- ==== Proof.ProjArr.lean ====
/-
The kernel's eight arrays as functions of the arguments.
-/
module

public import proofs.«01_k».proof.Proof.ProjSpec

@[expose] public section

set_option maxRecDepth 16384

noncomputable section

open Idealize.ShloMosaic Idealize.ShloMosaic.TcCoe Idealize.SL.Sem
open Idealize.ShloMosaic.Pipeline (Dat)

namespace Cert.ProjVal

open Cert.ProjIdeal Cert.ProjIdeal.Gen Cert.ProjIdeal.Value

variable (m : (ℓ : Loc nD τ sig) → Buf (Elt Ideal) ℓ) (c : Dev nD)

theorem final5 : (dats m 0 c).arrAt 5 cfg0.N = (fun i => qS (argX m c) (argW m c) (i 0) (i 1) (i 2)) := by
  refine (dats m 0 c).arrAt_eq_of_covers 5 _ (by decide +kernel) fun t hf y => ?_
  blk_simp
  rw [after0_5]
  idx_vars y
  obtain rfl : y0 = 0 := Subsingleton.elim _ _
  rw [out5_apply, qO_eq]
  have e : ((cfg0.win 5).blk t).view.emb (ix3 (0 : Fin 1) y1 y2) = ix3 (rowB t) (pos t y1) y2 := by
    unfold rowB pos
    blk_ext [idx5 t]
  exact (congrArg (fun i : S8x2048x512.Idx => qS (argX m c) (argW m c) (i 0) (i 1) (i 2)) e).symm

theorem final6 : (dats m 0 c).arrAt 6 cfg0.N = (fun i => kS (argX m c) (argW m c) (i 0) (i 1) (i 2)) := by
  refine (dats m 0 c).arrAt_eq_of_covers 6 _ (by decide +kernel) fun t hf y => ?_
  blk_simp
  rw [after0_6]
  idx_vars y
  obtain rfl : y0 = 0 := Subsingleton.elim _ _
  rw [out6_apply, kO_eq]
  have e : ((cfg0.win 6).blk t).view.emb (ix3 (0 : Fin 1) y1 y2) = ix3 (rowB t) y1 (pos t y2) := by
    unfold rowB pos
    blk_ext [idx6 t]
  exact (congrArg (fun i : S8x512x2048.Idx => kS (argX m c) (argW m c) (i 0) (i 1) (i 2)) e).symm

theorem final7 : (dats m 0 c).arrAt 7 cfg0.N = (fun i => vS (argX m c) (argW m c) (i 0) (i 1) (i 2)) := by
  refine (dats m 0 c).arrAt_eq_of_covers 7 _ (by decide +kernel) fun t hf y => ?_
  blk_simp
  rw [after0_7]
  idx_vars y
  obtain rfl : y0 = 0 := Subsingleton.elim _ _
  rw [out7_apply, vO_eq]
  have e : ((cfg0.win 7).blk t).view.emb (ix3 (0 : Fin 1) y1 y2) = ix3 (rowB t) y1 (pos t y2) := by
    unfold rowB pos
    blk_ext [idx7 t]
  exact (congrArg (fun i : S8x512x2048.Idx => vS (argX m c) (argW m c) (i 0) (i 1) (i 2)) e).symm

theorem final8 : (dats m 0 c).arrAt 8 cfg0.N = (fun i => kS (argX m c) (argW m c) (i 0) (i 1) (i 2)) := by
  refine (dats m 0 c).arrAt_eq_of_covers 8 _ (by decide +kernel) fun t hf y => ?_
  blk_simp
  rw [after0_8]
  idx_vars y
  obtain rfl : y0 = 0 := Subsingleton.elim _ _
  rw [out8_apply, kO_eq]
  have e : ((cfg0.win 8).blk t).view.emb (ix3 (0 : Fin 1) y1 y2) = ix3 (rowB t) y1 (pos t y2) := by
    unfold rowB pos
    blk_ext [idx8 t]
  exact (congrArg (fun i : S8x512x2048.Idx => kS (argX m c) (argW m c) (i 0) (i 1) (i 2)) e).symm

theorem final9 : (dats m 0 c).arrAt 9 cfg0.N = (fun i => vS (argX m c) (argW m c) (i 0) (i 1) (i 2)) := by
  refine (dats m 0 c).arrAt_eq_of_covers 9 _ (by decide +kernel) fun t hf y => ?_
  blk_simp
  rw [after0_9]
  idx_vars y
  obtain rfl : y0 = 0 := Subsingleton.elim _ _
  rw [out9_apply, vO_eq]
  have e : ((cfg0.win 9).blk t).view.emb (ix3 (0 : Fin 1) y1 y2) = ix3 (rowB t) y1 (pos t y2) := by
    unfold rowB pos
    blk_ext [idx9 t]
  exact (congrArg (fun i : S8x512x2048.Idx => vS (argX m c) (argW m c) (i 0) (i 1) (i 2)) e).symm

theorem final10 : (dats m 0 c).arrAt 10 cfg0.N = (fun i => uS (argX m c) (argW m c) (i 0) (i 1) (i 2)) := by
  refine (dats m 0 c).arrAt_eq_of_covers 10 _ (by decide +kernel) fun t hf y => ?_
  blk_simp
  rw [after0_10]
  idx_vars y
  obtain rfl : y0 = 0 := Subsingleton.elim _ _
  rw [out10_apply, uO_eq]
  have e : ((cfg0.win 10).blk t).view.emb (ix3 (0 : Fin 1) y1 y2) = ix3 (rowB t) (pos t y1) y2 := by
    unfold rowB pos
    blk_ext [idx10 t]
  exact (congrArg (fun i : S8x2048x512.Idx => uS (argX m c) (argW m c) (i 0) (i 1) (i 2)) e).symm

theorem final11 : (dats m 0 c).arrAt 11 cfg0.N = (fun i => lfS (argX m c) (argW m c) (argF m c) (i 0) (i 1) (i 2)) := by
  refine (dats m 0 c).arrAt_eq_of_covers 11 _ (by decide +kernel) fun t hf y => ?_
  blk_simp
  rw [after0_11]
  idx_vars y
  obtain rfl : y0 = 0 := Subsingleton.elim _ _
  rw [out11_apply, lfO_eq]
  have e : ((cfg0.win 11).blk t).view.emb (ix3 (0 : Fin 1) y1 y2) = ix3 (rowB t) (pos t y1) y2 := by
    unfold rowB pos
    blk_ext [idx11 t]
  exact (congrArg (fun i : S8x2048x128.Idx => lfS (argX m c) (argW m c) (argF m c) (i 0) (i 1) (i 2)) e).symm

theorem final12 : (dats m 0 c).arrAt 12 cfg0.N = (fun i => lftS (argX m c) (argW m c) (argF m c) (i 0) (i 1) (i 2)) := by
  refine (dats m 0 c).arrAt_eq_of_covers 12 _ (by decide +kernel) fun t hf y => ?_
  blk_simp
  rw [after0_12]
  idx_vars y
  obtain rfl : y0 = 0 := Subsingleton.elim _ _
  rw [out12_apply, lftO_eq]
  have e : ((cfg0.win 12).blk t).view.emb (ix3 (0 : Fin 1) y1 y2) = ix3 (rowB t) y1 (pos t y2) := by
    unfold rowB pos
    blk_ext [idx12 t]
  exact (congrArg (fun i : S8x8x2048.Idx => lftS (argX m c) (argW m c) (argF m c) (i 0) (i 1) (i 2)) e).symm

end Cert.ProjVal

end
-- ==== Proof.ProjRefVal.lean ====
/-
The reference of the projection, read entry by entry.
-/
module

public import proofs.«01_k».proof.Proof.ProjOut
public import proofs.«01_k».proof.Proof.Gen.ProjRefIdeal.Run
public import proofs.«01_k».proof.Proof.Gen.ProjRefIdeal.Read

@[expose] public section

set_option maxRecDepth 16384

noncomputable section

open Idealize.ShloMosaic Idealize.ShloMosaic.TcCoe Idealize.SL.Sem

namespace Cert.ProjVal

open Cert.ProjRefIdeal Cert.ProjRefIdeal.Gen Cert.ProjRefIdeal.Read

variable (x : Vec Ideal S8x2048x1024 .f32) (w : Vec Ideal S1x1024x2056 .f32) (bf : Vec Ideal S1x8 .f32)
variable (b : Fin 8) (n : Fin 2048)

theorem r1_apply (j : Fin 2056) : val_main_v1 (F := Ideal) x w (ix3 b n j) = pz x w b n j := by
  have el : ∀ d : Fin 1024, lidx_main_v1 (ix3 b n j) d = ix3 b n d := fun d =>
    funext fun a => match a with | ⟨0, _⟩ => rfl | ⟨1, _⟩ => rfl | ⟨2, _⟩ => rfl
  have er : ∀ d : Fin 1024, idx_main_v0 (ridx_main_v1 (ix3 b n j) d) = ix3 0 d j := fun d =>
    funext fun a => Fin.ext (match a with
      | ⟨0, _⟩ => rfl
      | ⟨1, _⟩ => by show (d.val * 2056 + j.val) / 2056 % 1024 = d.val; omega
      | ⟨2, _⟩ => by show (d.val * 2056 + j.val) % 2056 = j.val; omega)
  rw [val_main_v1_apply]
  simp only [val_main_v0_apply, el, er]
  rfl

theorem r18_apply (o : Fin 512) : val_main_v18 (F := Ideal) x w (ix3 b n o) = qS x w b n o := by
  have e : idx_main_v2 (ix3 b n o) = ix3 b n ⟨o, by omega⟩ :=
    funext fun a => Fin.ext (match a with
      | ⟨0, _⟩ => by show (_ : ℕ) = b.val; simp
      | ⟨1, _⟩ => by show (_ : ℕ) = n.val; simp
      | ⟨2, _⟩ => by show (_ : ℕ) = o.val; simp)
  rw [val_main_v18_apply, val_main_v17_apply, val_main_v16_apply, val_main_v2_apply, e, r1_apply]
  rfl

theorem r4_apply (o : Fin 512) : val_main_v4 (F := Ideal) x w (ix3 b o n) = kS x w b o n := by
  have e : idx_main_v3 (idx_main_v4 (ix3 b o n)) = ix3 b n ⟨512 + o, by omega⟩ :=
    funext fun a => Fin.ext (match a with
      | ⟨0, _⟩ => by show (_ : ℕ) = b.val; simp
      | ⟨1, _⟩ => by show (_ : ℕ) = n.val; simp
      | ⟨2, _⟩ => by show (_ : ℕ) = 512 + o.val; simp)
  rw [val_main_v4_apply, val_main_v3_apply, e, r1_apply]
  rfl
theorem r6_apply (o : Fin 512) : val_main_v6 (F := Ideal) x w (ix3 b o n) = vS x w b o n := by
  have e : idx_main_v5 (idx_main_v6 (ix3 b o n)) = ix3 b n ⟨1024 + o, by omega⟩ :=
    funext fun a => Fin.ext (match a with
      | ⟨0, _⟩ => by show (_ : ℕ) = b.val; simp
      | ⟨1, _⟩ => by show (_ : ℕ) = n.val; simp
      | ⟨2, _⟩ => by show (_ : ℕ) = 1024 + o.val; simp)
  rw [val_main_v6_apply, val_main_v5_apply, e, r1_apply]
  rfl
theorem r12_apply (o : Fin 512) : val_main_v12 (F := Ideal) x w (ix3 b n o) = uS x w b n o := by
  have e : idx_main_v12 (ix3 b n o) = ix3 b n ⟨1544 + o, by omega⟩ :=
    funext fun a => Fin.ext (match a with
      | ⟨0, _⟩ => by show (_ : ℕ) = b.val; simp
      | ⟨1, _⟩ => by show (_ : ℕ) = n.val; simp
      | ⟨2, _⟩ => by show (_ : ℕ) = 1544 + o.val; simp)
  rw [val_main_v12_apply, e, r1_apply]
  rfl

/-- The forget gates before the log-sigmoid. -/
theorem r11_apply (o : Fin 8) : val_main_v11 (F := Ideal) x w bf (ix3 b n o) = (pz x w b n ⟨1536 + o, by omega⟩ + bf (ix2 0 o) : EReal) := by
  have e : idx_main_v7 (ix3 b n o) = ix3 b n ⟨1536 + o, by omega⟩ :=
    funext fun a => Fin.ext (match a with
      | ⟨0, _⟩ => by show (_ : ℕ) = b.val; simp
      | ⟨1, _⟩ => by show (_ : ℕ) = n.val; simp
      | ⟨2, _⟩ => by show (_ : ℕ) = 1536 + o.val; simp)
  have e2 : idx_main_v8 (idx_main_v9 (idx_main_v10 (ix3 b n o))) = ix2 0 o :=
    funext fun a => Fin.ext (match a with
      | ⟨0, _⟩ => rfl
      | ⟨1, _⟩ => by show (_ : ℕ) = o.val; simp <;> omega)
  rw [val_main_v11_apply, val_main_v7_apply, e, r1_apply, val_main_v10_apply, val_main_v9_apply, val_main_v8_apply, e2]
  rfl

/-- The reference's log-sigmoid of a number. -/
theorem lsig_ref (z : EReal) : (-(Scalar.select (Ideal.cmp .une (-z - Ideal.ofBits .f32 0x00000000#32) (-z - Ideal.ofBits .f32 0x00000000#32))
      (-z + Ideal.ofBits .f32 0x00000000#32)
      (max (-z) (Ideal.ofBits .f32 0x00000000#32) + Ideal.log1p (Ideal.exp (-(max (-z - Ideal.ofBits .f32 0x00000000#32) (-(-z - Ideal.ofBits .f32 0x00000000#32))))))) : EReal)
    = lsig z := by
  rw [zero_bits, sub_zero]
  unfold lsig
  refine congrArg (fun a : EReal => -a) ?_
  have h : Ideal.cmp .une (-z) (-z) = 0#1 := by simp [Ideal.cmp]
  rw [h]
  rfl

theorem r13_apply (o : Fin 8) : val_main_v13 (F := Ideal) x w bf (ix3 b n o) = lsig (pz x w b n ⟨1536 + o, by omega⟩ + bf (ix2 0 o)) := by
  refine Eq.trans ?_ (lsig_ref _)
  rw [← r11_apply]
  rw [val_main_v13_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply,
    val_main_call0_call0_v5_apply, val_main_call0_call0_v3_apply, val_main_call0_call0_v2_apply, val_main_call0_call0_v1_apply,
    val_main_call0_call0_v0_apply, val_main_call0_v0_apply]
  generalize val_main_v11 (F := Ideal) x w bf (ix3 b n o) = z
  rfl

theorem r21_apply (o : Fin 8) : val_main_v21 (F := Ideal) x w bf (ix3 b o n) = lftS x w bf b o n := by
  have e : idx_main_v21 (ix3 b o n) = ix3 b n o :=
    funext fun a => match a with | ⟨0, _⟩ => rfl | ⟨1, _⟩ => rfl | ⟨2, _⟩ => rfl
  rw [val_main_v21_apply, e, r13_apply]
  rfl

theorem r14_apply (o : Fin 128) : val_main_v14 (F := Ideal) x w bf (ix3 b n o) = zS x w bf b n o := by
  unfold zS val_main_v14
  by_cases h : o.val < 8
  · rw [dif_pos h]
    refine Eq.trans ?_ (r11_apply x w bf b n ⟨o, h⟩)
    generalize val_main_v11 (F := Ideal) x w bf = y
    pointwise
    rw [dif_pos h]
  · rw [dif_neg h]
    refine Eq.trans ?_ zero_si
    generalize val_main_v11 (F := Ideal) x w bf = y
    pointwise
    rw [dif_neg h]
    rfl

theorem r15_apply (o : Fin 128) : val_main_v15 (F := Ideal) x w bf (ix3 b n o) = lfS x w bf b n o := by
  unfold lfS
  refine Eq.trans ?_ (lsig_ref _)
  rw [← r14_apply]
  rw [val_main_v15_apply, val_main_call2_v1_apply, val_main_call2_call0_v4_apply, val_main_call2_call0_v6_apply, val_main_call2_call0_v11_apply,
    val_main_call2_call0_v10_apply, val_main_call2_call0_v9_apply, val_main_call2_call0_v8_apply, val_main_call2_call0_v7_apply,
    val_main_call2_call0_v5_apply, val_main_call2_call0_v3_apply, val_main_call2_call0_v2_apply, val_main_call2_call0_v1_apply,
    val_main_call2_call0_v0_apply, val_main_call2_v0_apply]
  generalize val_main_v14 (F := Ideal) x w bf (ix3 b n o) = z
  rfl

/-! ## Whole arrays -/

theorem ref_q : val_main_v18 (F := Ideal) x w = fun i => qS x w (i 0) (i 1) (i 2) := by
  funext y
  idx_vars y
  exact r18_apply x w y0 y1 y2
theorem ref_k : val_main_v4 (F := Ideal) x w = fun i => kS x w (i 0) (i 1) (i 2) := by
  funext y
  idx_vars y
  exact r4_apply x w y0 y2 y1
theorem ref_v : val_main_v6 (F := Ideal) x w = fun i => vS x w (i 0) (i 1) (i 2) := by
  funext y
  idx_vars y
  exact r6_apply x w y0 y2 y1
theorem ref_kb : val_main_v19 (F := Ideal) x w = fun i => kS x w (i 0) (i 1) (i 2) := ref_k x w
theorem ref_vb : val_main_v20 (F := Ideal) x w = fun i => vS x w (i 0) (i 1) (i 2) := ref_v x w
theorem ref_u : val_main_v12 (F := Ideal) x w = fun i => uS x w (i 0) (i 1) (i 2) := by
  funext y
  idx_vars y
  exact r12_apply x w y0 y1 y2
theorem ref_lf : val_main_v15 (F := Ideal) x w bf = fun i => lfS x w bf (i 0) (i 1) (i 2) := by
  funext y
  idx_vars y
  exact r15_apply x w bf y0 y1 y2
theorem ref_lft : val_main_v21 (F := Ideal) x w bf = fun i => lftS x w bf (i 0) (i 1) (i 2) := by
  funext y
  idx_vars y
  exact r21_apply x w bf y0 y2 y1

end Cert.ProjVal

end
-- ==== Proof.ProjClaim.lean ====
/-
The claims about the projection of the prompt.
-/
module

public import proofs.«01_k».proof.Defs
public import proofs.«01_k».proof.Proof.ProjArr
public import proofs.«01_k».proof.Proof.ProjRefVal
public import proofs.«01_k».proof.Proof.Gen.Proj.Frame
public import Idealize.ShloMosaic.Lib.Quiescent

@[expose] public section

set_option maxRecDepth 16384

noncomputable section

open Idealize.ShloMosaic Idealize.ShloMosaic.TcCoe Idealize.SL.Sem

namespace Cert.ProjVal

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono (fun r h => ⟨fun c => (h c).2.2.2.2.2.2.2.2,
      Idealize.ShloMosaic.sem_eq_zero_of_no_sems (by decide) r.2⟩)
    (Cert.ProjRefIdeal.Value.run (F := Ideal) m ρ)

theorem preserves : Cert.preserves_Proj_ProjIdeal := trivial

set_option maxHeartbeats 2000000 in
/-- The kernel's results are the reference's. -/
theorem algebraic : Cert.algebraic_ProjIdeal_ProjRefIdeal := by
  intro m ρ m' ρ' _ hagree
  refine ⟨_, _, _, _, _, _, _, _, Cert.ProjIdeal.Value.run_blocks (F := Ideal) m ρ, ?_⟩
  have h0 : ∀ c, StableHlo.launchContents m' c (Proc.devRef .tc Cert.ProjRefIdeal.main_arg0) = argX m c := fun c => (hagree c).1
  have h1 : ∀ c, StableHlo.launchContents m' c (Proc.devRef .tc Cert.ProjRefIdeal.main_arg1) = argW m c := fun c => (hagree c).2.1
  have h2 : ∀ c, StableHlo.launchContents m' c (Proc.devRef .tc Cert.ProjRefIdeal.main_arg2) = argF m c := fun c => (hagree c).2.2
  refine (θ_run Cert.ProjRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2.1.trans ?_, (h c).2.2.2.2.2.2.2.2⟩)
    (Cert.ProjRefIdeal.Value.run (F := Ideal) m' ρ')
  · rw [final5]
    refine (Cert.ProjRefIdeal.Read.val_main_v18_eq (StableHlo.launchContents m' c (Proc.devRef .tc Cert.ProjRefIdeal.main_arg0)) (StableHlo.launchContents m' c (Proc.devRef .tc Cert.ProjRefIdeal.main_arg1))).trans ?_
    rw [h0, h1]
    exact ref_q _ _
  · rw [final6]
    refine (Cert.ProjRefIdeal.Read.val_main_v4_eq (StableHlo.launchContents m' c (Proc.devRef .tc Cert.ProjRefIdeal.main_arg0)) (StableHlo.launchContents m' c (Proc.devRef .tc Cert.ProjRefIdeal.main_arg1))).trans ?_
    rw [h0, h1]
    exact ref_k _ _
  · rw [final7]
    refine (Cert.ProjRefIdeal.Read.val_main_v6_eq (StableHlo.launchContents m' c (Proc.devRef .tc Cert.ProjRefIdeal.main_arg0)) (StableHlo.launchContents m' c (Proc.devRef .tc Cert.ProjRefIdeal.main_arg1))).trans ?_
    rw [h0, h1]
    exact ref_v _ _
  · rw [final8]
    refine (Cert.ProjRefIdeal.Read.val_main_v19_eq (StableHlo.launchContents m' c (Proc.devRef .tc Cert.ProjRefIdeal.main_arg0)) (StableHlo.launchContents m' c (Proc.devRef .tc Cert.ProjRefIdeal.main_arg1))).trans ?_
    rw [h0, h1]
    exact ref_kb _ _
  · rw [final9]
    refine (Cert.ProjRefIdeal.Read.val_main_v20_eq (StableHlo.launchContents m' c (Proc.devRef .tc Cert.ProjRefIdeal.main_arg0)) (StableHlo.launchContents m' c (Proc.devRef .tc Cert.ProjRefIdeal.main_arg1))).trans ?_
    rw [h0, h1]
    exact ref_vb _ _
  · rw [final10]
    refine (Cert.ProjRefIdeal.Read.val_main_v12_eq (StableHlo.launchContents m' c (Proc.devRef .tc Cert.ProjRefIdeal.main_arg0)) (StableHlo.launchContents m' c (Proc.devRef .tc Cert.ProjRefIdeal.main_arg1))).trans ?_
    rw [h0, h1]
    exact ref_u _ _
  · rw [final11]
    refine (Cert.ProjRefIdeal.Read.val_main_v15_eq (StableHlo.launchContents m' c (Proc.devRef .tc Cert.ProjRefIdeal.main_arg0)) (StableHlo.launchContents m' c (Proc.devRef .tc Cert.ProjRefIdeal.main_arg1)) (StableHlo.launchContents m' c (Proc.devRef .tc Cert.ProjRefIdeal.main_arg2))).trans ?_
    rw [h0, h1, h2]
    exact ref_lf _ _ _
  · refine (Cert.ProjRefIdeal.Read.val_main_v21_eq _ _ _).trans ?_
    have e : Cert.ProjRefIdeal.Read.val_main_v21 (F := Ideal) (StableHlo.launchContents m' c (Proc.devRef .tc Cert.ProjRefIdeal.main_arg0)) (StableHlo.launchContents m' c (Proc.devRef .tc Cert.ProjRefIdeal.main_arg1)) (StableHlo.launchContents m' c (Proc.devRef .tc Cert.ProjRefIdeal.main_arg2))
        = Cert.ProjRefIdeal.Read.val_main_v21 (F := Ideal) (argX m c) (argW m c) (argF m c) := by
      rw [h0, h1, h2]
    exact e.trans ((ref_lft (argX m c) (argW m c) (argF m c)).trans (final12 m c).symm)

end Cert.ProjVal

end
-- ==== Proof.ProjSVec.lean ====
/-
The body of the samples' projection, at an index.
-/
module

public import proofs.«01_k».proof.Proof.ProjOut
public import proofs.«01_k».proof.Proof.Gen.ProjSIdeal.Value

@[expose] public section

set_option maxRecDepth 16384

noncomputable section

open Idealize.ShloMosaic Idealize.ShloMosaic.TcCoe Idealize.SL.Sem
open Idealize.ShloMosaic.Pipeline (Dat)

namespace Cert.ProjSVal

open Cert.ProjVal (lsig scale zero_bits lsig_of_neg zero_si)

open Cert.ProjSIdeal Cert.ProjSIdeal.Gen

theorem pay6_apply (v0 : Vec Ideal S256x1024 .f32) (r : Fin 256) (d : Fin 1024) :
    (k0_pay6 (F := Ideal) v0 (ix2 r d) : EReal) = v0 (ix2 r d) := by
  unfold k0_pay6
  pointwise

theorem pay7_apply (v0 : Vec Ideal S256x1024 .f32) (w : Vec Ideal S1024x512 .bf16) (r : Fin 256) (o : Fin 512) :
    (k0_pay7 (F := Ideal) v0 w (ix2 r o) : EReal) = (∑ d : Fin 1024, v0 (ix2 r d) * w (ix2 d o) : EReal) * scale := by
  unfold k0_pay7
  simp only [← pay6_apply v0]
  generalize k0_pay6 (F := Ideal) v0 = xb
  pointwise
  rfl

theorem pay8_apply (v0 : Vec Ideal S256x1024 .f32) (w : Vec Ideal S1024x512 .bf16) (r : Fin 256) (o : Fin 512) :
    (k0_pay8 (F := Ideal) v0 w (ix2 r o) : EReal) = (∑ d : Fin 1024, v0 (ix2 r d) * w (ix2 d o) : EReal) := by
  unfold k0_pay8
  simp only [← pay6_apply v0]
  generalize k0_pay6 (F := Ideal) v0 = xb
  pointwise

theorem pay2_apply (xb : FVec Ideal S256x1024 .bf16) (w : Vec Ideal S512x1024 .bf16) (r : Fin 256) (o : Fin 512) :
    (k0_pay2 (F := Ideal) xb w (ix2 r o) : EReal) = (∑ d : Fin 1024, xb (ix2 r d) * w (ix2 o d) : EReal) := by
  unfold k0_pay2
  pointwise
theorem pay4_apply (xb : FVec Ideal S256x1024 .bf16) (w : Vec Ideal S512x1024 .bf16) (r : Fin 256) (o : Fin 512) :
    (k0_pay4 (F := Ideal) xb w (ix2 r o) : EReal) = (∑ d : Fin 1024, xb (ix2 r d) * w (ix2 o d) : EReal) := by
  unfold k0_pay4
  pointwise
theorem pay3_apply (xb : FVec Ideal S256x1024 .bf16) (w : Vec Ideal S512x1024 .bf16) (r : Fin 256) (o : Fin 512) :
    (k0_pay3 (F := Ideal) xb w (ix2 r o) : EReal) = (∑ d : Fin 1024, xb (ix2 r d) * w (ix2 o d) : EReal) := by
  unfold k0_pay3
  rw [← pay2_apply]
  generalize k0_pay2 (F := Ideal) xb w = z
  pointwise
theorem pay5_apply (xb : FVec Ideal S256x1024 .bf16) (w : Vec Ideal S512x1024 .bf16) (r : Fin 256) (o : Fin 512) :
    (k0_pay5 (F := Ideal) xb w (ix2 r o) : EReal) = (∑ d : Fin 1024, xb (ix2 r d) * w (ix2 o d) : EReal) := by
  unfold k0_pay5
  rw [← pay4_apply]
  generalize k0_pay4 (F := Ideal) xb w = z
  pointwise

theorem pay1_apply (v0 : Vec Ideal S256x1024 .f32) (w : Vec Ideal S1024x128 .bf16) (b : Vec Ideal S1x128 .f32) (r : Fin 256) (o : Fin 128) :
    (k0_pay1 (F := Ideal) (k0_pay9 (F := Ideal) v0 w b) (ix2 r o) : EReal)
      = lsig ((∑ d : Fin 1024, v0 (ix2 r d) * w (ix2 d o) : EReal) + b (ix2 0 o)) := by
  refine Eq.trans ?_ (lsig_of_neg _ _ (zero_sub _))
  unfold k0_pay1 k0_pay9
  simp only [← pay6_apply v0]
  generalize k0_pay6 (F := Ideal) v0 = xb
  pointwise
  simp
  exact congrArg (fun a : EReal => max (-_) 0 + Ideal.log1p (Ideal.exp (-a))) (congrArg (max _) (neg_neg _))

end Cert.ProjSVal

end
-- ==== Proof.ProjSOut.lean ====
/-
The samples' projection as plain mathematics over its three arrays, and the kernel's arrays read as it.
-/
module

public import proofs.«01_k».proof.Proof.ProjSVec

@[expose] public section

set_option maxRecDepth 16384

noncomputable section

open Idealize.ShloMosaic Idealize.ShloMosaic.TcCoe Idealize.SL.Sem
open Idealize.ShloMosaic.Pipeline (Dat)

namespace Cert.ProjSVal

open Cert.ProjVal (lsig scale zero_bits lsig_of_neg zero_si)

open Cert.ProjSIdeal Cert.ProjSIdeal.Gen Cert.ProjSIdeal.Value

section
variable (x : Vec Ideal S32x8x1024 .f32) (w : Vec Ideal S1x1024x2056 .f32) (bf : Vec Ideal S1x8 .f32)

/-- The sample and the position of a row. -/
def smp (r : Fin 256) : Fin 32 := ⟨r.val / 8, by omega⟩
def stp (r : Fin 256) : Fin 8 := ⟨r.val % 8, by omega⟩
/-- The projected rows, all columns. -/
def pz (r : Fin 256) (j : Fin 2056) : EReal := ∑ d : Fin 1024, x (ix3 (smp r) (stp r) d) * w (ix3 0 d j)

/-- The scaled queries. -/
def qS (r : Fin 256) (o : Fin 512) : EReal := pz x w r ⟨o, by omega⟩ * scale
def kS (r : Fin 256) (o : Fin 512) : EReal := pz x w r ⟨512 + o, by omega⟩
def vS (r : Fin 256) (o : Fin 512) : EReal := pz x w r ⟨1024 + o, by omega⟩
/-- The columns of the pooling. -/
def uS (r : Fin 256) (o : Fin 512) : EReal := pz x w r ⟨1544 + o, by omega⟩
/-- The forget gates before the log-sigmoid, over a whole row of lanes. -/
def zS (r : Fin 256) (o : Fin 128) : EReal :=
  if h : o.val < 8 then pz x w r ⟨1536 + o, by omega⟩ + bf (ix2 0 ⟨o, h⟩) else 0
def lfS (r : Fin 256) (o : Fin 128) : EReal := lsig (zS x w bf r o)
end

section
variable (x0 : Vec Ideal S256x1024 .f32) (x1 : Vec Ideal S1024x1152 .bf16) (x2 : Vec Ideal S1040x1024 .bf16)
variable (x3 : Vec Ideal S1x128 .f32)

def qO (r : Fin 256) (o : Fin 512) : EReal := (∑ d : Fin 1024, x0 (ix2 r d) * x1 (ix2 d ⟨o, by omega⟩)) * scale
def uO (r : Fin 256) (o : Fin 512) : EReal := ∑ d : Fin 1024, x0 (ix2 r d) * x1 (ix2 d ⟨512 + o, by omega⟩)
def lfO (r : Fin 256) (o : Fin 128) : EReal := lsig ((∑ d : Fin 1024, x0 (ix2 r d) * x1 (ix2 d ⟨1024 + o, by omega⟩)) + x3 (ix2 0 o))
def kO (r : Fin 256) (o : Fin 512) : EReal := ∑ d : Fin 1024, x0 (ix2 r d) * x2 (ix2 ⟨o, by omega⟩ d)
def vO (r : Fin 256) (o : Fin 512) : EReal := ∑ d : Fin 1024, x0 (ix2 r d) * x2 (ix2 ⟨512 + o, by omega⟩ d)

theorem ld0 (r : Fin 256) (d : Fin 1024) : View.ld x0 r0_0 (ix2 r d) = x0 (ix2 r d) := by pointwise
theorem ld1 (d : Fin 1024) (o : Fin 512) : View.ld x1 r0_1 (ix2 d o) = x1 (ix2 d ⟨o, by omega⟩) := by pointwise
theorem ld3 (d : Fin 1024) (o : Fin 512) : View.ld x1 r0_3 (ix2 d o) = x1 (ix2 d ⟨512 + o, by omega⟩) := by pointwise
theorem ld4 (d : Fin 1024) (o : Fin 128) : View.ld x1 r0_4 (ix2 d o) = x1 (ix2 d ⟨1024 + o, by omega⟩) := by pointwise
theorem ld5 (o : Fin 128) : View.ld x3 r0_5 (ix2 0 o) = x3 (ix2 0 o) := by pointwise
theorem ld7 (o : Fin 512) (d : Fin 1024) : View.ld x2 r0_7 (ix2 o d) = x2 (ix2 ⟨o, by omega⟩ d) := by pointwise
theorem ld8 (o : Fin 512) (d : Fin 1024) : View.ld x2 r0_8 (ix2 o d) = x2 (ix2 ⟨512 + o, by omega⟩ d) := by pointwise

theorem pay10_apply (r : Fin 256) (d : Fin 1024) : (k0_pay10 (F := Ideal) x0 x1 x2 x3 (ix2 r d) : EReal) = x0 (ix2 r d) := by
  unfold k0_pay10
  exact (pay6_apply _ r d).trans (ld0 x0 r d)

theorem pc4 (r : Fin 256) (o : Fin 512) : (k0_pay7 (F := Ideal) (View.ld x0 r0_0) (View.ld x1 r0_1) (ix2 r o) : EReal) = qO x0 x1 r o :=
  (pay7_apply _ _ r o).trans (congrArg (fun z : EReal => z * scale) (Finset.sum_congr rfl fun d _ => congrArg₂ (· * ·) (ld0 x0 r d) (ld1 x1 d o)))
theorem pc9 (r : Fin 256) (o : Fin 512) : (k0_pay8 (F := Ideal) (View.ld x0 r0_0) (View.ld x1 r0_3) (ix2 r o) : EReal) = uO x0 x1 r o :=
  (pay8_apply _ _ r o).trans (Finset.sum_congr rfl fun d _ => congrArg₂ (· * ·) (ld0 x0 r d) (ld3 x1 d o))
theorem pc10 (r : Fin 256) (o : Fin 128) : (k0_pay1 (F := Ideal) (k0_pay9 (F := Ideal) (View.ld x0 r0_0) (View.ld x1 r0_4) (View.ld x3 r0_5)) (ix2 r o) : EReal) = lfO x0 x1 x3 r o :=
  (pay1_apply _ _ _ r o).trans (congrArg lsig (congrArg₂ (· + ·) (Finset.sum_congr rfl fun d _ => congrArg₂ (· * ·) (ld0 x0 r d) (ld4 x1 d o)) (ld5 x3 o)))
theorem pc5 (r : Fin 256) (o : Fin 512) : (k0_pay2 (F := Ideal) (k0_pay10 (F := Ideal) x0 x1 x2 x3) (View.ld x2 r0_7) (ix2 r o) : EReal) = kO x0 x2 r o :=
  (pay2_apply _ _ r o).trans (Finset.sum_congr rfl fun d _ => congrArg₂ (· * ·) (pay10_apply x0 x1 x2 x3 r d) (ld7 x2 o d))
theorem pc6 (r : Fin 256) (o : Fin 512) : (k0_pay4 (F := Ideal) (k0_pay10 (F := Ideal) x0 x1 x2 x3) (View.ld x2 r0_8) (ix2 r o) : EReal) = vO x0 x2 r o :=
  (pay4_apply _ _ r o).trans (Finset.sum_congr rfl fun d _ => congrArg₂ (· * ·) (pay10_apply x0 x1 x2 x3 r d) (ld8 x2 o d))
theorem pc7 (r : Fin 256) (o : Fin 512) : (k0_pay3 (F := Ideal) (k0_pay10 (F := Ideal) x0 x1 x2 x3) (View.ld x2 r0_7) (ix2 r o) : EReal) = kO x0 x2 r o :=
  (pay3_apply _ _ r o).trans (Finset.sum_congr rfl fun d _ => congrArg₂ (· * ·) (pay10_apply x0 x1 x2 x3 r d) (ld7 x2 o d))
theorem pc8 (r : Fin 256) (o : Fin 512) : (k0_pay5 (F := Ideal) (k0_pay10 (F := Ideal) x0 x1 x2 x3) (View.ld x2 r0_8) (ix2 r o) : EReal) = vO x0 x2 r o :=
  (pay5_apply _ _ r o).trans (Finset.sum_congr rfl fun d _ => congrArg₂ (· * ·) (pay10_apply x0 x1 x2 x3 r d) (ld8 x2 o d))

theorem out4_apply (r : Fin 256) (o : Fin 512) : (out0_4 (F := Ideal) x0 x1 x2 x3 (ix2 r o) : EReal) = qO x0 x1 r o := by
  have key : out0_4 (F := Ideal) x0 x1 x2 x3 = fun y => qO x0 x1 ⟨(y 0).val, (y 0).isLt⟩ ⟨(y 1).val, (y 1).isLt⟩ := by
    unfold out0_4
    funext y
    canon_tiles y h
    idx_vars y
    refine (pc4 x0 x1 y0 y1).trans ?_
    exact congrArg₂ (qO x0 x1) (Fin.ext h0.symm) (Fin.ext h1.symm)
  rw [key]
  rfl

theorem out5_apply (r : Fin 256) (o : Fin 512) : (out0_5 (F := Ideal) x0 x1 x2 x3 (ix2 r o) : EReal) = kO x0 x2 r o := by
  have key : out0_5 (F := Ideal) x0 x1 x2 x3 = fun y => kO x0 x2 ⟨(y 0).val, (y 0).isLt⟩ ⟨(y 1).val, (y 1).isLt⟩ := by
    unfold out0_5
    funext y
    canon_tiles y h
    idx_vars y
    refine (pc5 x0 x1 x2 x3 y0 y1).trans ?_
    exact congrArg₂ (kO x0 x2) (Fin.ext h0.symm) (Fin.ext h1.symm)
  rw [key]
  rfl

theorem out6_apply (r : Fin 256) (o : Fin 512) : (out0_6 (F := Ideal) x0 x1 x2 x3 (ix2 r o) : EReal) = vO x0 x2 r o := by
  have key : out0_6 (F := Ideal) x0 x1 x2 x3 = fun y => vO x0 x2 ⟨(y 0).val, (y 0).isLt⟩ ⟨(y 1).val, (y 1).isLt⟩ := by
    unfold out0_6
    funext y
    canon_tiles y h
    idx_vars y
    refine (pc6 x0 x1 x2 x3 y0 y1).trans ?_
    exact congrArg₂ (vO x0 x2) (Fin.ext h0.symm) (Fin.ext h1.symm)
  rw [key]
  rfl

theorem out7_apply (r : Fin 256) (o : Fin 512) : (out0_7 (F := Ideal) x0 x1 x2 x3 (ix2 r o) : EReal) = kO x0 x2 r o := by
  have key : out0_7 (F := Ideal) x0 x1 x2 x3 = fun y => kO x0 x2 ⟨(y 0).val, (y 0).isLt⟩ ⟨(y 1).val, (y 1).isLt⟩ := by
    unfold out0_7
    funext y
    canon_tiles y h
    idx_vars y
    refine (pc7 x0 x1 x2 x3 y0 y1).trans ?_
    exact congrArg₂ (kO x0 x2) (Fin.ext h0.symm) (Fin.ext h1.symm)
  rw [key]
  rfl

theorem out8_apply (r : Fin 256) (o : Fin 512) : (out0_8 (F := Ideal) x0 x1 x2 x3 (ix2 r o) : EReal) = vO x0 x2 r o := by
  have key : out0_8 (F := Ideal) x0 x1 x2 x3 = fun y => vO x0 x2 ⟨(y 0).val, (y 0).isLt⟩ ⟨(y 1).val, (y 1).isLt⟩ := by
    unfold out0_8
    funext y
    canon_tiles y h
    idx_vars y
    refine (pc8 x0 x1 x2 x3 y0 y1).trans ?_
    exact congrArg₂ (vO x0 x2) (Fin.ext h0.symm) (Fin.ext h1.symm)
  rw [key]
  rfl

theorem out9_apply (r : Fin 256) (o : Fin 512) : (out0_9 (F := Ideal) x0 x1 x2 x3 (ix2 r o) : EReal) = uO x0 x1 r o := by
  have key : out0_9 (F := Ideal) x0 x1 x2 x3 = fun y => uO x0 x1 ⟨(y 0).val, (y 0).isLt⟩ ⟨(y 1).val, (y 1).isLt⟩ := by
    unfold out0_9
    funext y
    canon_tiles y h
    idx_vars y
    refine (pc9 x0 x1 y0 y1).trans ?_
    exact congrArg₂ (uO x0 x1) (Fin.ext h0.symm) (Fin.ext h1.symm)
  rw [key]
  rfl

theorem out10_apply (r : Fin 256) (o : Fin 128) : (out0_10 (F := Ideal) x0 x1 x2 x3 (ix2 r o) : EReal) = lfO x0 x1 x3 r o := by
  have key : out0_10 (F := Ideal) x0 x1 x2 x3 = fun y => lfO x0 x1 x3 ⟨(y 0).val, (y 0).isLt⟩ ⟨(y 1).val, (y 1).isLt⟩ := by
    unfold out0_10
    funext y
    canon_tiles y h
    idx_vars y
    refine (pc10 x0 x1 x3 y0 y1).trans ?_
    exact congrArg₂ (lfO x0 x1 x3) (Fin.ext h0.symm) (Fin.ext h1.symm)
  rw [key]
  rfl

end

variable (m : (ℓ : Loc nD τ sig) → Buf (Elt Ideal) ℓ)

abbrev argX (c : Dev nD) : Vec Ideal S32x8x1024 .f32 := m ((c : Thread nD τ).loc main_arg0)
abbrev argW (c : Dev nD) : Vec Ideal S1x1024x2056 .f32 := m ((c : Thread nD τ).loc main_arg1)
abbrev argF (c : Dev nD) : Vec Ideal S1x8 .f32 := m ((c : Thread nD τ).loc main_arg2)

theorem cat_f (a b : FVec Ideal S1024x512 .f32) (e : FVec Ideal S1024x128 .f32) (d : Fin 1024) (o : Fin 128) :
    (truncf .bf16 (concatenate S1024x1152 1 [⟨S1024x512, a⟩, ⟨S1024x512, b⟩, ⟨S1024x128, e⟩] concatenates_S1024x512_S1024x512_S1024x128_S1024x1152_d1) bitsLt_bf16_f32 : FVec Ideal S1024x1152 .bf16) (ix2 d ⟨1024 + o, by omega⟩) = e (ix2 d o) := by
  pointwise
  rw [dif_neg (show ¬ 1024 + o.val < 512 by omega), dif_neg (show ¬ 1024 + o.val - 512 < 512 by omega)]
  exact congrArg (fun j => e (ix2 d j)) (Fin.ext (by show 1024 + o.val - 512 - 512 = o.val; omega))

theorem V6_q (c : Dev nD) (d : Fin 1024) (o : Fin 512) : V m c main_v6 (ix2 d ⟨o, by omega⟩) = argW m c (ix3 0 d ⟨o, by omega⟩) := by
  simp only [V, hostOps0, hostOps0_1, hostOps0_2, hostOps0_3, hostOps0_4, hostOps0_5, hostOps0_6, List.flatten_cons, List.flatten_nil, List.append_nil, List.cons_append, List.nil_append]
  after_results
  pointwise
  after_results_simp
  pointwise
theorem V6_u (c : Dev nD) (d : Fin 1024) (o : Fin 512) : V m c main_v6 (ix2 d ⟨512 + o, by omega⟩) = argW m c (ix3 0 d ⟨1544 + o, by omega⟩) := by
  simp only [V, hostOps0, hostOps0_1, hostOps0_2, hostOps0_3, hostOps0_4, hostOps0_5, hostOps0_6, List.flatten_cons, List.flatten_nil, List.append_nil, List.cons_append, List.nil_append]
  after_results
  pointwise
  after_results_simp
  pointwise
theorem V6_f (c : Dev nD) (d : Fin 1024) (o : Fin 128) : (V m c main_v6 (ix2 d ⟨1024 + o, by omega⟩) : EReal) = if h : o.val < 8 then (argW m c (ix3 0 d ⟨1536 + o, by omega⟩) : EReal) else 0 := by
  simp only [V, hostOps0, hostOps0_1, hostOps0_2, hostOps0_3, hostOps0_4, hostOps0_5, hostOps0_6, List.flatten_cons, List.flatten_nil, List.append_nil, List.cons_append, List.nil_append]
  after_results
  refine (cat_f _ _ _ d o).trans ?_
  dsimp only [Matrix.cons_val]
  after_results_simp
  simp -implicitDefEqProofs only [StableHlo.TRef.toBuf, StableHlo.TRef.ofBuf, cast_cast, cast_eq]
  pointwise
  by_cases h : o.val < 8
  · rw [dif_pos h, dif_pos h]
  · rw [dif_neg h, dif_neg h]
    exact zero_si
theorem V12_k (c : Dev nD) (o : Fin 512) (d : Fin 1024) : V m c main_v12 (ix2 ⟨o, by omega⟩ d) = argW m c (ix3 0 d ⟨512 + o, by omega⟩) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  exact dif_pos (by omega)
theorem V12_v (c : Dev nD) (o : Fin 512) (d : Fin 1024) : V m c main_v12 (ix2 ⟨512 + o, by omega⟩ d) = argW m c (ix3 0 d ⟨1024 + o, by omega⟩) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  refine (dif_pos (by omega)).trans ?_
  exact congrArg (fun j => argW m c (ix3 0 d j)) (Fin.ext (by show 512 + (512 + o.val) = 1024 + o.val; omega))
theorem V15_apply (c : Dev nD) (o : Fin 128) : (V m c main_v15 (ix2 0 o) : EReal) = if h : o.val < 8 then (argF m c (ix2 0 ⟨o, h⟩) : EReal) else 0 := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  pointwise
  by_cases h : o.val < 8
  · rw [dif_pos h, dif_pos h]
  · rw [dif_neg h, dif_neg h]
    exact zero_si
theorem V16_apply (c : Dev nD) (r : Fin 256) (d : Fin 1024) : V m c main_v16 (ix2 r d) = argX m c (ix3 (smp r) (stp r) d) := by
  simp only [V, hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  unfold smp stp
  pointwise

end Cert.ProjSVal

end
-- ==== Proof.ProjSArr.lean ====
/-
The arrays of the samples' projection after the run.
-/
module

public import proofs.«01_k».proof.Proof.ProjSOut

@[expose] public section

set_option maxRecDepth 16384

noncomputable section

open Idealize.ShloMosaic Idealize.ShloMosaic.TcCoe Idealize.SL.Sem
open Idealize.ShloMosaic.Pipeline (Dat)

namespace Cert.ProjSVal

open Cert.ProjVal (lsig scale zero_bits lsig_of_neg zero_si)

open Cert.ProjSIdeal Cert.ProjSIdeal.Gen Cert.ProjSIdeal.Value

variable (m : (ℓ : Loc nD τ sig) → Buf (Elt Ideal) ℓ) (c : Dev nD) (t : Fin cfg0.N)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem iblk0 (r : Fin 256) (d : Fin 1024) : iblk m c 0 t (ix2 r d) = argX m c (ix3 (smp r) (stp r) d) := by
  rw [← V16_apply m c r d]
  blk_ext [iblk, idx0 t]
theorem iblk1 (d : Fin 1024) (j : Fin 1152) : iblk m c 1 t (ix2 d j) = V m c main_v6 (ix2 d j) := by
  blk_ext [iblk, idx1 t]
theorem iblk2 (j : Fin 1040) (d : Fin 1024) : iblk m c 2 t (ix2 j d) = V m c main_v12 (ix2 j d) := by
  blk_ext [iblk, idx2 t]
theorem iblk3 (o : Fin 128) : iblk m c 3 t (ix2 0 o) = V m c main_v15 (ix2 0 o) := by
  blk_ext [iblk, idx3 t]

theorem qO_eq (r : Fin 256) (o : Fin 512) : qO (iblk m c 0 t) (iblk m c 1 t) r o = qS (argX m c) (argW m c) r o :=
  congrArg (fun z : EReal => z * scale) (Finset.sum_congr (M := EReal) rfl fun d _ =>
    congrArg₂ (fun a b : EReal => a * b) (iblk0 m c t r d) ((iblk1 m c t d _).trans (V6_q m c d o)))
theorem uO_eq (r : Fin 256) (o : Fin 512) : uO (iblk m c 0 t) (iblk m c 1 t) r o = uS (argX m c) (argW m c) r o :=
  Finset.sum_congr (M := EReal) rfl fun d _ => congrArg₂ (fun a b : EReal => a * b) (iblk0 m c t r d) ((iblk1 m c t d _).trans (V6_u m c d o))
theorem kO_eq (r : Fin 256) (o : Fin 512) : kO (iblk m c 0 t) (iblk m c 2 t) r o = kS (argX m c) (argW m c) r o :=
  Finset.sum_congr (M := EReal) rfl fun d _ => congrArg₂ (fun a b : EReal => a * b) (iblk0 m c t r d) ((iblk2 m c t _ d).trans (V12_k m c o d))
theorem vO_eq (r : Fin 256) (o : Fin 512) : vO (iblk m c 0 t) (iblk m c 2 t) r o = vS (argX m c) (argW m c) r o :=
  Finset.sum_congr (M := EReal) rfl fun d _ => congrArg₂ (fun a b : EReal => a * b) (iblk0 m c t r d) ((iblk2 m c t _ d).trans (V12_v m c o d))

/-- The lanes past the eight heads hold zero, since their columns and biases do. -/
theorem zO_eq (r : Fin 256) (o : Fin 128) : ((∑ d : Fin 1024, argX m c (ix3 (smp r) (stp r) d)
      * (if h : o.val < 8 then (argW m c (ix3 0 d ⟨1536 + o, by omega⟩) : EReal) else 0))
      + (if h : o.val < 8 then (argF m c (ix2 0 ⟨o, h⟩) : EReal) else 0) : EReal)
    = zS (argX m c) (argW m c) (argF m c) r o := by
  unfold zS pz
  by_cases h : o.val < 8
  · simp only [dif_pos h]
  · simp only [dif_neg h, mul_zero, Finset.sum_const_zero, add_zero]
theorem lfO_eq (r : Fin 256) (o : Fin 128) : lfO (iblk m c 0 t) (iblk m c 1 t) (iblk m c 3 t) r o
    = lfS (argX m c) (argW m c) (argF m c) r o :=
  congrArg lsig ((congrArg₂ (fun a b : EReal => a + b) (Finset.sum_congr (M := EReal) rfl fun d _ =>
    congrArg₂ (fun a b : EReal => a * b) (iblk0 m c t r d) ((iblk1 m c t d _).trans (V6_f m c d o)))
    ((iblk3 m c t o).trans (V15_apply m c o))).trans (zO_eq m c r o))

theorem final4 : (dats m 0 c).arrAt 4 cfg0.N = (fun i => qS (argX m c) (argW m c) (i 0) (i 1)) := by
  refine (dats m 0 c).arrAt_eq_of_covers 4 _ (by decide +kernel) fun t hf y => ?_
  blk_simp
  rw [after0_4]
  idx_vars y
  rw [out4_apply, qO_eq]
  have e : ((cfg0.win 4).blk t).view.emb (ix2 y0 y1) = ix2 y0 y1 := by
    blk_ext [idx4 t]
  exact (congrArg (fun i : S256x512.Idx => qS (argX m c) (argW m c) (i 0) (i 1)) e).symm

theorem final5 : (dats m 0 c).arrAt 5 cfg0.N = (fun i => kS (argX m c) (argW m c) (i 0) (i 1)) := by
  refine (dats m 0 c).arrAt_eq_of_covers 5 _ (by decide +kernel) fun t hf y => ?_
  blk_simp
  rw [after0_5]
  idx_vars y
  rw [out5_apply, kO_eq]
  have e : ((cfg0.win 5).blk t).view.emb (ix2 y0 y1) = ix2 y0 y1 := by
    blk_ext [idx5 t]
  exact (congrArg (fun i : S256x512.Idx => kS (argX m c) (argW m c) (i 0) (i 1)) e).symm

theorem final6 : (dats m 0 c).arrAt 6 cfg0.N = (fun i => vS (argX m c) (argW m c) (i 0) (i 1)) := by
  refine (dats m 0 c).arrAt_eq_of_covers 6 _ (by decide +kernel) fun t hf y => ?_
  blk_simp
  rw [after0_6]
  idx_vars y
  rw [out6_apply, vO_eq]
  have e : ((cfg0.win 6).blk t).view.emb (ix2 y0 y1) = ix2 y0 y1 := by
    blk_ext [idx6 t]
  exact (congrArg (fun i : S256x512.Idx => vS (argX m c) (argW m c) (i 0) (i 1)) e).symm

theorem final7 : (dats m 0 c).arrAt 7 cfg0.N = (fun i => kS (argX m c) (argW m c) (i 0) (i 1)) := by
  refine (dats m 0 c).arrAt_eq_of_covers 7 _ (by decide +kernel) fun t hf y => ?_
  blk_simp
  rw [after0_7]
  idx_vars y
  rw [out7_apply, kO_eq]
  have e : ((cfg0.win 7).blk t).view.emb (ix2 y0 y1) = ix2 y0 y1 := by
    blk_ext [idx7 t]
  exact (congrArg (fun i : S256x512.Idx => kS (argX m c) (argW m c) (i 0) (i 1)) e).symm

theorem final8 : (dats m 0 c).arrAt 8 cfg0.N = (fun i => vS (argX m c) (argW m c) (i 0) (i 1)) := by
  refine (dats m 0 c).arrAt_eq_of_covers 8 _ (by decide +kernel) fun t hf y => ?_
  blk_simp
  rw [after0_8]
  idx_vars y
  rw [out8_apply, vO_eq]
  have e : ((cfg0.win 8).blk t).view.emb (ix2 y0 y1) = ix2 y0 y1 := by
    blk_ext [idx8 t]
  exact (congrArg (fun i : S256x512.Idx => vS (argX m c) (argW m c) (i 0) (i 1)) e).symm

theorem final9 : (dats m 0 c).arrAt 9 cfg0.N = (fun i => uS (argX m c) (argW m c) (i 0) (i 1)) := by
  refine (dats m 0 c).arrAt_eq_of_covers 9 _ (by decide +kernel) fun t hf y => ?_
  blk_simp
  rw [after0_9]
  idx_vars y
  rw [out9_apply, uO_eq]
  have e : ((cfg0.win 9).blk t).view.emb (ix2 y0 y1) = ix2 y0 y1 := by
    blk_ext [idx9 t]
  exact (congrArg (fun i : S256x512.Idx => uS (argX m c) (argW m c) (i 0) (i 1)) e).symm

theorem final10 : (dats m 0 c).arrAt 10 cfg0.N = (fun i => lfS (argX m c) (argW m c) (argF m c) (i 0) (i 1)) := by
  refine (dats m 0 c).arrAt_eq_of_covers 10 _ (by decide +kernel) fun t hf y => ?_
  blk_simp
  rw [after0_10]
  idx_vars y
  rw [out10_apply, lfO_eq]
  have e : ((cfg0.win 10).blk t).view.emb (ix2 y0 y1) = ix2 y0 y1 := by
    blk_ext [idx10 t]
  exact (congrArg (fun i : S256x128.Idx => lfS (argX m c) (argW m c) (argF m c) (i 0) (i 1)) e).symm

end Cert.ProjSVal

end
-- ==== Proof.ProjSRefVal.lean ====
/-
The reference of the samples' projection, read entry by entry.
-/
module

public import proofs.«01_k».proof.Proof.ProjSOut
public import proofs.«01_k».proof.Proof.ProjRefVal
public import proofs.«01_k».proof.Proof.Gen.ProjSRefIdeal.Run
public import proofs.«01_k».proof.Proof.Gen.ProjSRefIdeal.Read

@[expose] public section

set_option maxRecDepth 16384

noncomputable section

open Idealize.ShloMosaic Idealize.ShloMosaic.TcCoe Idealize.SL.Sem
open Idealize.ShloMosaic.Pipeline (Dat)

namespace Cert.ProjSVal

open Cert.ProjVal (lsig scale zero_bits lsig_of_neg zero_si)

open Cert.ProjSRefIdeal Cert.ProjSRefIdeal.Gen Cert.ProjSRefIdeal.Read

variable (x : Vec Ideal S32x8x1024 .f32) (w : Vec Ideal S1x1024x2056 .f32) (bf : Vec Ideal S1x8 .f32)
variable (r : Fin 256)

theorem r2_apply (j : Fin 2056) : val_main_v2 (F := Ideal) x w (ix2 r j) = pz x w r j := by
  have e2 : idx_main_v2 (ix2 r j) = ix3 (smp r) (stp r) j :=
    funext fun a => Fin.ext (match a with
      | ⟨0, _⟩ => by show (r.val * 2056 + j.val) / 16448 = r.val / 8; omega
      | ⟨1, _⟩ => by show (r.val * 2056 + j.val) / 2056 % 8 = r.val % 8; omega
      | ⟨2, _⟩ => by show (r.val * 2056 + j.val) % 2056 = j.val; omega)
  have el : ∀ d : Fin 1024, lidx_main_v1 (ix3 (smp r) (stp r) j) d = ix3 (smp r) (stp r) d := fun d =>
    funext fun a => match a with | ⟨0, _⟩ => rfl | ⟨1, _⟩ => rfl | ⟨2, _⟩ => rfl
  have er : ∀ d : Fin 1024, idx_main_v0 (ridx_main_v1 (ix3 (smp r) (stp r) j) d) = ix3 0 d j := fun d =>
    funext fun a => Fin.ext (match a with
      | ⟨0, _⟩ => rfl
      | ⟨1, _⟩ => by show (d.val * 2056 + j.val) / 2056 % 1024 = d.val; omega
      | ⟨2, _⟩ => by show (d.val * 2056 + j.val) % 2056 = j.val; omega)
  rw [val_main_v2_apply, e2, val_main_v1_apply]
  simp only [val_main_v0_apply, el, er]
  rfl

theorem r3_apply (o : Fin 512) : val_main_v3 (F := Ideal) x w (ix2 r o) = pz x w r ⟨o, by omega⟩ := by
  have e : idx_main_v3 (ix2 r o) = ix2 r ⟨o, by omega⟩ :=
    funext fun a => Fin.ext (match a with
      | ⟨0, _⟩ => by show (_ : ℕ) = r.val; simp
      | ⟨1, _⟩ => by show (_ : ℕ) = o.val; simp)
  rw [val_main_v3_apply, e, r2_apply]
theorem r4_apply (o : Fin 512) : val_main_v4 (F := Ideal) x w (ix2 r o) = kS x w r o := by
  have e : idx_main_v4 (ix2 r o) = ix2 r ⟨512 + o, by omega⟩ :=
    funext fun a => Fin.ext (match a with
      | ⟨0, _⟩ => by show (_ : ℕ) = r.val; simp
      | ⟨1, _⟩ => by show (_ : ℕ) = 512 + o.val; simp)
  rw [val_main_v4_apply, e, r2_apply]
  rfl
theorem r5_apply (o : Fin 512) : val_main_v5 (F := Ideal) x w (ix2 r o) = vS x w r o := by
  have e : idx_main_v5 (ix2 r o) = ix2 r ⟨1024 + o, by omega⟩ :=
    funext fun a => Fin.ext (match a with
      | ⟨0, _⟩ => by show (_ : ℕ) = r.val; simp
      | ⟨1, _⟩ => by show (_ : ℕ) = 1024 + o.val; simp)
  rw [val_main_v5_apply, e, r2_apply]
  rfl
theorem r11_apply (o : Fin 512) : val_main_v11 (F := Ideal) x w (ix2 r o) = uS x w r o := by
  have e : idx_main_v11 (ix2 r o) = ix2 r ⟨1544 + o, by omega⟩ :=
    funext fun a => Fin.ext (match a with
      | ⟨0, _⟩ => by show (_ : ℕ) = r.val; simp
      | ⟨1, _⟩ => by show (_ : ℕ) = 1544 + o.val; simp)
  rw [val_main_v11_apply, e, r2_apply]
  rfl
theorem r16_apply (o : Fin 512) : val_main_v16 (F := Ideal) x w (ix2 r o) = qS x w r o := by
  rw [val_main_v16_apply, val_main_v15_apply, val_main_v14_apply, r3_apply]
  rfl

/-- The forget gates before the log-sigmoid. -/
theorem r10_apply (o : Fin 8) : val_main_v10 (F := Ideal) x w bf (ix2 r o) = (pz x w r ⟨1536 + o, by omega⟩ + bf (ix2 0 o) : EReal) := by
  have e : idx_main_v6 (ix2 r o) = ix2 r ⟨1536 + o, by omega⟩ :=
    funext fun a => Fin.ext (match a with
      | ⟨0, _⟩ => by show (_ : ℕ) = r.val; simp
      | ⟨1, _⟩ => by show (_ : ℕ) = 1536 + o.val; simp)
  have e2 : idx_main_v7 (idx_main_v8 (idx_main_v9 (ix2 r o))) = ix2 0 o :=
    funext fun a => Fin.ext (match a with
      | ⟨0, _⟩ => rfl
      | ⟨1, _⟩ => by show (_ : ℕ) = o.val; simp <;> omega)
  rw [val_main_v10_apply, val_main_v6_apply, e, r2_apply, val_main_v9_apply, val_main_v8_apply, val_main_v7_apply, e2]
  rfl

theorem r12_apply (o : Fin 128) : val_main_v12 (F := Ideal) x w bf (ix2 r o) = zS x w bf r o := by
  unfold zS val_main_v12
  by_cases h : o.val < 8
  · rw [dif_pos h]
    refine Eq.trans ?_ (r10_apply x w bf r ⟨o, h⟩)
    generalize val_main_v10 (F := Ideal) x w bf = y
    pointwise
    rw [dif_pos h]
  · rw [dif_neg h]
    refine Eq.trans ?_ zero_si
    generalize val_main_v10 (F := Ideal) x w bf = y
    pointwise
    rw [dif_neg h]
    rfl

theorem r13_apply (o : Fin 128) : val_main_v13 (F := Ideal) x w bf (ix2 r o) = lfS x w bf r o := by
  unfold lfS
  refine Eq.trans ?_ (Cert.ProjVal.lsig_ref _)
  rw [← r12_apply]
  rw [val_main_v13_apply, val_main_call1_v1_apply, val_main_call1_call0_v4_apply, val_main_call1_call0_v6_apply, val_main_call1_call0_v11_apply,
    val_main_call1_call0_v10_apply, val_main_call1_call0_v9_apply, val_main_call1_call0_v8_apply, val_main_call1_call0_v7_apply,
    val_main_call1_call0_v5_apply, val_main_call1_call0_v3_apply, val_main_call1_call0_v2_apply, val_main_call1_call0_v1_apply,
    val_main_call1_call0_v0_apply, val_main_call1_v0_apply]
  generalize val_main_v12 (F := Ideal) x w bf (ix2 r o) = z
  rfl

/-! ## Whole arrays -/

theorem ref_q : val_main_v16 (F := Ideal) x w = fun i => qS x w (i 0) (i 1) := by
  funext y
  idx_vars y
  exact r16_apply x w y0 y1
theorem ref_k : val_main_v4 (F := Ideal) x w = fun i => kS x w (i 0) (i 1) := by
  funext y
  idx_vars y
  exact r4_apply x w y0 y1
theorem ref_v : val_main_v5 (F := Ideal) x w = fun i => vS x w (i 0) (i 1) := by
  funext y
  idx_vars y
  exact r5_apply x w y0 y1
theorem ref_u : val_main_v11 (F := Ideal) x w = fun i => uS x w (i 0) (i 1) := by
  funext y
  idx_vars y
  exact r11_apply x w y0 y1
theorem ref_kb : val_main_v17 (F := Ideal) x w = fun i => kS x w (i 0) (i 1) := ref_k x w
theorem ref_vb : val_main_v18 (F := Ideal) x w = fun i => vS x w (i 0) (i 1) := ref_v x w
theorem ref_lf : val_main_v13 (F := Ideal) x w bf = fun i => lfS x w bf (i 0) (i 1) := by
  funext y
  idx_vars y
  exact r13_apply x w bf y0 y1

end Cert.ProjSVal

end
-- ==== Proof.ProjSClaim.lean ====
/-
The claims about the samples' projection.
-/
module

public import proofs.«01_k».proof.Defs
public import proofs.«01_k».proof.Proof.ProjSArr
public import proofs.«01_k».proof.Proof.ProjSRefVal
public import proofs.«01_k».proof.Proof.Gen.ProjS.Frame
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjSVal

theorem frame_p : Cert.quiescent_ProjS := fun m ρ _ => Cert.ProjS.Gen.frame m ρ
theorem frame_pi : Cert.quiescent_ProjSIdeal := fun m ρ _ => Cert.ProjSIdeal.Gen.frame m ρ
theorem frame_ri : Cert.quiescent_ProjSRefIdeal := fun m ρ _ =>
  (θ_run Cert.ProjSRefIdeal.defs _ _).mono (fun r h => ⟨fun c => (h c).2.2.2.2.2.2.2,
      Idealize.ShloMosaic.sem_eq_zero_of_no_sems (by decide) r.2⟩)
    (Cert.ProjSRefIdeal.Value.run (F := Ideal) m ρ)

theorem preserves : Cert.preserves_ProjS_ProjSIdeal := trivial

set_option maxHeartbeats 2000000 in
/-- The kernel's results are the reference's. -/
theorem algebraic : Cert.algebraic_ProjSIdeal_ProjSRefIdeal := by
  intro m ρ m' ρ' _ hagree
  refine ⟨_, _, _, _, _, _, _, Cert.ProjSIdeal.Value.run_blocks (F := Ideal) m ρ, ?_⟩
  have h0 : ∀ c, StableHlo.launchContents m' c (Proc.devRef .tc Cert.ProjSRefIdeal.main_arg0) = argX m c := fun c => (hagree c).1
  have h1 : ∀ c, StableHlo.launchContents m' c (Proc.devRef .tc Cert.ProjSRefIdeal.main_arg1) = argW m c := fun c => (hagree c).2.1
  have h2 : ∀ c, StableHlo.launchContents m' c (Proc.devRef .tc Cert.ProjSRefIdeal.main_arg2) = argF m c := fun c => (hagree c).2.2
  refine (θ_run Cert.ProjSRefIdeal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩)
    (Cert.ProjSRefIdeal.Value.run (F := Ideal) m' ρ')
  · rw [final4]
    refine (Cert.ProjSRefIdeal.Read.val_main_v16_eq (StableHlo.launchContents m' c (Proc.devRef .tc Cert.ProjSRefIdeal.main_arg0)) (StableHlo.launchContents m' c (Proc.devRef .tc Cert.ProjSRefIdeal.main_arg1))).trans ?_
    rw [h0, h1]
    exact ref_q _ _
  · rw [final5]
    refine (Cert.ProjSRefIdeal.Read.val_main_v4_eq (StableHlo.launchContents m' c (Proc.devRef .tc Cert.ProjSRefIdeal.main_arg0)) (StableHlo.launchContents m' c (Proc.devRef .tc Cert.ProjSRefIdeal.main_arg1))).trans ?_
    rw [h0, h1]
    exact ref_k _ _
  · rw [final6]
    refine (Cert.ProjSRefIdeal.Read.val_main_v5_eq (StableHlo.launchContents m' c (Proc.devRef .tc Cert.ProjSRefIdeal.main_arg0)) (StableHlo.launchContents m' c (Proc.devRef .tc Cert.ProjSRefIdeal.main_arg1))).trans ?_
    rw [h0, h1]
    exact ref_v _ _
  · rw [final7]
    refine (Cert.ProjSRefIdeal.Read.val_main_v17_eq (StableHlo.launchContents m' c (Proc.devRef .tc Cert.ProjSRefIdeal.main_arg0)) (StableHlo.launchContents m' c (Proc.devRef .tc Cert.ProjSRefIdeal.main_arg1))).trans ?_
    rw [h0, h1]
    exact ref_kb _ _
  · rw [final8]
    refine (Cert.ProjSRefIdeal.Read.val_main_v18_eq (StableHlo.launchContents m' c (Proc.devRef .tc Cert.ProjSRefIdeal.main_arg0)) (StableHlo.launchContents m' c (Proc.devRef .tc Cert.ProjSRefIdeal.main_arg1))).trans ?_
    rw [h0, h1]
    exact ref_vb _ _
  · rw [final9]
    refine (Cert.ProjSRefIdeal.Read.val_main_v11_eq (StableHlo.launchContents m' c (Proc.devRef .tc Cert.ProjSRefIdeal.main_arg0)) (StableHlo.launchContents m' c (Proc.devRef .tc Cert.ProjSRefIdeal.main_arg1))).trans ?_
    rw [h0, h1]
    exact ref_u _ _
  · rw [final10]
    refine (Cert.ProjSRefIdeal.Read.val_main_v13_eq (StableHlo.launchContents m' c (Proc.devRef .tc Cert.ProjSRefIdeal.main_arg0)) (StableHlo.launchContents m' c (Proc.devRef .tc Cert.ProjSRefIdeal.main_arg1)) (StableHlo.launchContents m' c (Proc.devRef .tc Cert.ProjSRefIdeal.main_arg2))).trans ?_
    rw [h0, h1, h2]
    exact ref_lf _ _ _

end Cert.ProjSVal

end
-- ==== Proof.FfnSVec.lean ====
/-
The samples' feed-forward block, one column tile at a time: the up-projected rows, the rows before them kept in the state, the
convolution over three of them, and the step of the down projection.
-/
module

public import proofs.«01_k».proof.Proof.Gen.FfnSIdeal.Value
public import proofs.«01_k».proof.Proof.FfnChunk

@[expose] public section

set_option maxRecDepth 16384

noncomputable section

open Idealize.ShloMosaic Idealize.ShloMosaic.TcCoe Idealize.SL.Sem
open Idealize.ShloMosaic.Pipeline (Dat)

namespace Cert.FfnSVal

open Cert.FfnSIdeal Cert.FfnSIdeal.Gen
open Cert.FfnVal (geluS lnS alph half ga gb eps wid meanS varS)

/-- The window of eight rows at offset `j` of the ten rows of a sequence: the state's two, then the tile's eight. -/
theorem covAt (m : Memref sig .tc .vmem S32x16x256 .f32) (L : List (View.Piece (Elt Ideal) S32x16x256 .f32))
    (h3 : FVec Ideal S32x8x256 .f32) (st : FVec Ideal S32x2x256 .f32) (j : ℕ)
    (hj : ∀ a, (![0, 6 + j, 0] : Fin 3 → ℕ) a + S32x8x256.size a ≤ S32x16x256.size a) (s : Fin 32) (a : Fin 8) (k : Fin 256) :
    m.view.readCov (⟨Rect.unit (s := S32x16x256) ![0, 8, 0] S32x8x256.size inb_S32x16x256_S32x8x256_0_8_0, h3⟩
      :: ⟨Rect.unit (s := S32x16x256) ![0, 6, 0] S32x2x256.size inb_S32x16x256_S32x2x256_0_6_0, st⟩ :: L)
      (Rect.unit (s := S32x16x256) ![0, 6 + j, 0] S32x8x256.size hj).toLoadRect (ix3 s a k)
    = if h : 2 ≤ j + a then h3 (ix3 s ⟨j + a - 2, by have : 6 + j + 8 ≤ 16 := hj 1; omega⟩ k) else st (ix3 s ⟨j + a, by omega⟩ k) := by
  have hj1 : 6 + j + 8 ≤ 16 := hj 1
  unfold View.readCov
  rw [View.readAt_eq_ld, View.read_writes_junk_eq_canon]
  show View.canon _ ((Rect.unit (s := S32x16x256) ![0, 6 + j, 0] S32x8x256.size hj).emb (ix3 s a k)) = _
  split
  · next h =>
    have e : (Rect.unit (s := S32x16x256) ![0, 6 + j, 0] S32x8x256.size hj).emb (ix3 s a k)
        = (Rect.unit (s := S32x16x256) ![0, 8, 0] S32x8x256.size inb_S32x16x256_S32x8x256_0_8_0).emb (ix3 s ⟨j + a - 2, by omega⟩ k) := by
      funext b
      fin_cases b <;> apply Fin.ext
      · rfl
      · show 6 + j + 1 * (a : ℕ) = 8 + 1 * (j + a - 2)
        omega
      · rfl
    rw [e]
    exact View.canon_cons_emb _ _ _ _
  · next h =>
    have e : (Rect.unit (s := S32x16x256) ![0, 6 + j, 0] S32x8x256.size hj).emb (ix3 s a k)
        = (Rect.unit (s := S32x16x256) ![0, 6, 0] S32x2x256.size inb_S32x16x256_S32x2x256_0_6_0).emb (ix3 s ⟨j + a, by omega⟩ k) := by
      funext b
      fin_cases b <;> apply Fin.ext
      · rfl
      · show 6 + j + 1 * (a : ℕ) = 6 + 1 * (j + a)
        omega
      · rfl
    rw [e, View.canon_cons_of_not_mem]
    · exact View.canon_cons_emb _ _ _ _
    · intro hm
      have hm0 := (Rect.mem_set_unit (s := S32x16x256) (off := ![0, 8, 0]) (size := S32x8x256.size)
        (inb := inb_S32x16x256_S32x8x256_0_8_0)).1 hm
      have hm1 : 8 ≤ 6 + 1 * (j + (a : ℕ)) := (hm0 1).1
      omega

theorem flat_apply (v : FVec Ideal S32x8x256 .f32) (r k : Fin 256) :
    shapeCast S256x256 v shapeCasts_S32x8x256_S256x256 (ix2 r k) = v (ix3 ⟨r / 8, by omega⟩ ⟨r % 8, by omega⟩ k) := by
  pointwise

/-- The up-projected rows of a column tile. -/
def hV (xb : FVec Ideal S256x1024 .bf16) (W : Vec Ideal S1024x256 .bf16) (B : Vec Ideal S1x256 .f32) : FVec Ideal S256x256 .f32 :=
  addf (matmul (φ₂ := .bf16) dot_S256x1024_S1024x256_S256x256_1_0_0_1_n_n none xb
      (shapeCast S1024x256 W shapeCasts_S1024x256_S1024x256) (constant S256x256 .f32 0x00000000#32))
    (broadcastTo S256x256 (shapeCast S1x256 B shapeCasts_S1x256_S1x256) broadcasts_S1x256_S256x256)

def h3V (h : FVec Ideal S256x256 .f32) : FVec Ideal S32x8x256 .f32 :=
  shapeCast S32x8x256 (shapeCast S32x8x256 h shapeCasts_S256x256_S32x8x256) shapeCasts_S32x8x256_S32x8x256

def stV (s : Vec Ideal S32x2x256 .f32) : FVec Ideal S32x2x256 .f32 :=
  shapeCast S32x2x256 (shapeCast S32x2x256 s shapeCasts_S32x2x256_S32x2x256) shapeCasts_S32x2x256_S32x2x256

theorem hV_apply (xb : FVec Ideal S256x1024 .bf16) (W : Vec Ideal S1024x256 .bf16) (B : Vec Ideal S1x256 .f32) (r k : Fin 256) :
    (hV xb W B (ix2 r k) : EReal) = (∑ d : Fin 1024, xb (ix2 r d) * W (ix2 d k) : EReal) + B (ix2 0 k) := by
  unfold hV
  pointwise

theorem h3V_apply (h : FVec Ideal S256x256 .f32) (s : Fin 32) (a : Fin 8) (k : Fin 256) :
    h3V h (ix3 s a k) = h (ix2 ⟨s * 8 + a, by omega⟩ k) := by
  unfold h3V
  pointwise

theorem stV_apply (s : Vec Ideal S32x2x256 .f32) (b : Fin 32) (a : Fin 2) (k : Fin 256) : stV s (ix3 b a k) = s (ix3 b a k) := by
  unfold stV
  pointwise

def rowV (w : Vec Ideal S1x256 .f32) : FVec Ideal S256x256 .f32 :=
  broadcastTo S256x256 (shapeCast S1x256 w shapeCasts_S1x256_S1x256) broadcasts_S1x256_S256x256

/-- The convolution over the row and the two rows before it. -/
def convV (t0 t1 t2 : FVec Ideal S32x8x256 .f32) (b w0 w1 w2 : Vec Ideal S1x256 .f32) : FVec Ideal S256x256 .f32 :=
  addf (addf (addf (rowV b) (mulf (shapeCast S256x256 t0 shapeCasts_S32x8x256_S256x256) (rowV w0)))
    (mulf (shapeCast S256x256 t1 shapeCasts_S32x8x256_S256x256) (rowV w1)))
    (mulf (shapeCast S256x256 t2 shapeCasts_S32x8x256_S256x256) (rowV w2))

def geluV (g : FVec Ideal S256x256 .f32) : FVec Ideal S256x256 .f32 :=
  mulf g (mulf (broadcast S256x256 (Scalar.ofBits .f32 0x3F000000#32))
    (addf (broadcast S256x256 (Scalar.ofBits .f32 0x3F800000#32))
      (tanh (mulf (broadcast S256x256 (Scalar.ofBits .f32 0x3F4C422A#32))
        (addf g (mulf (broadcast S256x256 (Scalar.ofBits .f32 0x3D372713#32)) (mulf g (mulf g g))))))))

def stepV (acc : FVec Ideal S256x1024 .f32) (g v : FVec Ideal S256x256 .f32) (D : Vec Ideal S256x1024 .bf16) :
    FVec Ideal S256x1024 .f32 :=
  addf acc (matmul (φ₂ := .bf16) dot_S256x256_S256x1024_S256x1024_1_0_0_1_n_n none (truncf .bf16 (mulf (geluV g) v) bitsLt_bf16_f32)
    (shapeCast S256x1024 D shapeCasts_S256x1024_S256x1024) (constant S256x1024 .f32 0x00000000#32))

theorem convV_apply (t0 t1 t2 : FVec Ideal S32x8x256 .f32) (b w0 w1 w2 : Vec Ideal S1x256 .f32) (r k : Fin 256) :
    convV t0 t1 t2 b w0 w1 w2 (ix2 r k) = ((b (ix2 0 k) + t0 (ix3 ⟨r / 8, by omega⟩ ⟨r % 8, by omega⟩ k) * w0 (ix2 0 k)
      + t1 (ix3 ⟨r / 8, by omega⟩ ⟨r % 8, by omega⟩ k) * w1 (ix2 0 k) + t2 (ix3 ⟨r / 8, by omega⟩ ⟨r % 8, by omega⟩ k) * w2 (ix2 0 k) : EReal)) := by
  unfold convV rowV
  pointwise

theorem stepV_apply (acc : FVec Ideal S256x1024 .f32) (g v : FVec Ideal S256x256 .f32) (D : Vec Ideal S256x1024 .bf16)
    (r : Fin 256) (o : Fin 1024) :
    stepV acc g v D (ix2 r o) = ((acc (ix2 r o) + ∑ k : Fin 256, geluS (g (ix2 r k)) * v (ix2 r k) * D (ix2 k o) : EReal)) := by
  unfold stepV geluV
  pointwise
  rfl

/-- The normalization of the sum of the rows and what the block added. -/
def cenV (x acc : FVec Ideal S256x1024 .f32) : FVec Ideal S256x1024 .f32 :=
  subf (addf (mulf (broadcast S256x1024 (Scalar.ofBits .f32 0x3F9837F0#32)) x) acc)
    (broadcastTo S256x1024 (divf (shapeCast S256x1 (multiReduction .add [1] S256
        (addf (mulf (broadcast S256x1024 (Scalar.ofBits .f32 0x3F9837F0#32)) x) acc) 0x00000000#32 reduces_S256x1024_S256 (.inl rfl) rfl)
      shapeCasts_S256_S256x1) (broadcast S256x1 (Scalar.ofBits .f32 0x44800000#32))) broadcasts_S256x1_S256x1024)

theorem ln_apply (x acc : FVec Ideal S256x1024 .f32) (g b : Vec Ideal S1x1024 .f32) (r : Fin 256) (o : Fin 1024) :
    k0_pay1 (F := Ideal) (k0_pay168 (F := Ideal) g) (k0_pay169 (F := Ideal) b) (cenV x acc) (mulf (cenV x acc) (cenV x acc)) (ix2 r o)
      = lnS (fun d => (alph * x (ix2 r d) + acc (ix2 r d) : EReal)) (g (ix2 0 o)) (b (ix2 0 o)) o := by
  unfold k0_pay1 k0_pay168 k0_pay169 cenV
  pointwise
  rfl

/-! ## The same from the blocks -/

section
variable (x0 : Vec Ideal S256x1024 .f32) (x1 : Vec Ideal S32x2x5632 .f32) (x2 : Vec Ideal S1024x5632 .bf16)
  (x3 : Vec Ideal S1x5632 .f32) (x4 : Vec Ideal S3x5632 .f32) (x5 : Vec Ideal S1x5632 .f32) (x6 : Vec Ideal S2816x1024 .bf16)
  (x7 x8 : Vec Ideal S1x1024 .f32)

/-- The up-projected row. -/
def upS (r : Fin 256) (f : Fin 5632) : EReal := (∑ d : Fin 1024, x0 (ix2 r d) * (x2 (ix2 d f) : EReal)) + x3 (ix2 0 f)

/-- Row `q` of the ten rows of a sequence: the state's two, then its eight up-projected ones. -/
def hS (s : Fin 32) (q : ℕ) (f : Fin 5632) : EReal :=
  if h : 2 ≤ q ∧ q < 10 then upS x0 x2 x3 ⟨s * 8 + (q - 2), by omega⟩ f else x1 (ix3 s ⟨q % 2, by omega⟩ f)

def convS (r : Fin 256) (f : Fin 5632) : EReal :=
  x5 (ix2 0 f) + hS x0 x1 x2 x3 ⟨r / 8, by omega⟩ (r % 8) f * x4 (ix2 0 f)
    + hS x0 x1 x2 x3 ⟨r / 8, by omega⟩ (1 + r % 8) f * x4 (ix2 1 f) + hS x0 x1 x2 x3 ⟨r / 8, by omega⟩ (2 + r % 8) f * x4 (ix2 2 f)

def actS (r : Fin 256) (f : Fin 2816) : EReal :=
  geluS (convS x0 x1 x2 x3 x4 x5 r ⟨f, by omega⟩) * convS x0 x1 x2 x3 x4 x5 r ⟨2816 + f, by omega⟩

/-! Reading a column range of a block. -/

theorem rdX {m : Memref sig .tc .vmem S256x1024 .f32} (hm : m.IsWhole) (r : Fin 256) (d : Fin 1024) :
    View.readAt (Elt Ideal) m.view (Rect.unit (s := S256x1024) ![0, 0] S256x1024.size inb_S256x1024_S256x1024_0_0).toLoadRect
      (hm.unread x0) (ix2 r d) = x0 (ix2 r d) := by
  rw [View.readAt_eq_ld, hm.read_unread]
  pointwise

theorem rdW {m : Memref sig .tc .vmem S1024x5632 .bf16} (hm : m.IsWhole) (n : ℕ)
    (h : ∀ a, (![0, n] : Fin 2 → ℕ) a + S1024x256.size a ≤ S1024x5632.size a) (d : Fin 1024) (k : Fin 256) :
    View.readAt (Elt Ideal) m.view (Rect.unit (s := S1024x5632) ![0, n] S1024x256.size h).toLoadRect (hm.unread x2) (ix2 d k)
      = x2 (ix2 d ⟨n + k, by have : n + 256 ≤ 5632 := h 1; omega⟩) := by
  rw [View.readAt_eq_ld, hm.read_unread]
  pointwise

theorem rdB (x : Vec Ideal S1x5632 .f32) {m : Memref sig .tc .vmem S1x5632 .f32} (hm : m.IsWhole) (n : ℕ)
    (h : ∀ a, (![0, n] : Fin 2 → ℕ) a + S1x256.size a ≤ S1x5632.size a) (k : Fin 256) :
    View.readAt (Elt Ideal) m.view (Rect.unit (s := S1x5632) ![0, n] S1x256.size h).toLoadRect (hm.unread x) (ix2 0 k)
      = x (ix2 0 ⟨n + k, by have : n + 256 ≤ 5632 := h 1; omega⟩) := by
  rw [View.readAt_eq_ld, hm.read_unread]
  pointwise

theorem rdC {m : Memref sig .tc .vmem S3x5632 .f32} (hm : m.IsWhole) (j n : ℕ)
    (h : ∀ a, (![j, n] : Fin 2 → ℕ) a + S1x256.size a ≤ S3x5632.size a) (k : Fin 256) :
    View.readAt (Elt Ideal) m.view (Rect.unit (s := S3x5632) ![j, n] S1x256.size h).toLoadRect (hm.unread x4) (ix2 0 k)
      = x4 (ix2 ⟨j, by have : j + 1 ≤ 3 := h 0; omega⟩ ⟨n + k, by have : n + 256 ≤ 5632 := h 1; omega⟩) := by
  rw [View.readAt_eq_ld, hm.read_unread]
  pointwise

theorem rdS {m : Memref sig .tc .vmem S32x2x5632 .f32} (hm : m.IsWhole) (n : ℕ)
    (h : ∀ a, (![0, 0, n] : Fin 3 → ℕ) a + S32x2x256.size a ≤ S32x2x5632.size a) (s : Fin 32) (a : Fin 2) (k : Fin 256) :
    View.readAt (Elt Ideal) m.view (Rect.unit (s := S32x2x5632) ![0, 0, n] S32x2x256.size h).toLoadRect (hm.unread x1) (ix3 s a k)
      = x1 (ix3 s a ⟨n + k, by have : n + 256 ≤ 5632 := h 2; omega⟩) := by
  rw [View.readAt_eq_ld, hm.read_unread]
  pointwise

theorem rdD {m : Memref sig .tc .vmem S2816x1024 .bf16} (hm : m.IsWhole) (n : ℕ)
    (h : ∀ a, (![n, 0] : Fin 2 → ℕ) a + S256x1024.size a ≤ S2816x1024.size a) (k : Fin 256) (o : Fin 1024) :
    View.readAt (Elt Ideal) m.view (Rect.unit (s := S2816x1024) ![n, 0] S256x1024.size h).toLoadRect (hm.unread x6) (ix2 k o)
      = x6 (ix2 ⟨n + k, by have : n + 256 ≤ 2816 := h 0; omega⟩ o) := by
  rw [View.readAt_eq_ld, hm.read_unread]
  pointwise

theorem rdG (x : Vec Ideal S1x1024 .f32) {m : Memref sig .tc .vmem S1x1024 .f32} (hm : m.IsWhole) (o : Fin 1024) :
    View.readAt (Elt Ideal) m.view (Rect.unit (s := S1x1024) ![0, 0] S1x1024.size inb_S1x1024_S1x1024_0_0).toLoadRect (hm.unread x) (ix2 0 o)
      = x (ix2 0 o) := by
  rw [View.readAt_eq_ld, hm.read_unread]
  pointwise

theorem up_read (xb : FVec Ideal S256x1024 .bf16) (W : Vec Ideal S1024x256 .bf16) (B : Vec Ideal S1x256 .f32) (f : Fin 256 → Fin 5632)
    (hx : ∀ r d, (xb (ix2 r d) : EReal) = x0 (ix2 r d)) (hW : ∀ d k, W (ix2 d k) = x2 (ix2 d (f k))) (hB : ∀ k, B (ix2 0 k) = x3 (ix2 0 (f k)))
    (r k : Fin 256) : hV xb W B (ix2 r k) = upS x0 x2 x3 r (f k) := by
  rw [hV_apply]
  unfold upS
  simp only [hx, hW, hB]

theorem win_read (m : Memref sig .tc .vmem S32x16x256 .f32) (L : List (View.Piece (Elt Ideal) S32x16x256 .f32))
    (h : FVec Ideal S256x256 .f32) (st : Vec Ideal S32x2x256 .f32) (f : Fin 256 → Fin 5632)
    (hh : ∀ r k, h (ix2 r k) = upS x0 x2 x3 r (f k)) (hs : ∀ s a k, st (ix3 s a k) = x1 (ix3 s a (f k))) (j : ℕ)
    (hj : ∀ a, (![0, 6 + j, 0] : Fin 3 → ℕ) a + S32x8x256.size a ≤ S32x16x256.size a) (s : Fin 32) (a : Fin 8) (k : Fin 256) :
    m.view.readCov (⟨Rect.unit (s := S32x16x256) ![0, 8, 0] S32x8x256.size inb_S32x16x256_S32x8x256_0_8_0, h3V h⟩
      :: ⟨Rect.unit (s := S32x16x256) ![0, 6, 0] S32x2x256.size inb_S32x16x256_S32x2x256_0_6_0, stV st⟩ :: L)
      (Rect.unit (s := S32x16x256) ![0, 6 + j, 0] S32x8x256.size hj).toLoadRect (ix3 s a k)
    = hS x0 x1 x2 x3 s (j + a) (f k) := by
  have hj1 : 6 + j + 8 ≤ 16 := hj 1
  rw [covAt]
  unfold hS
  by_cases h2 : 2 ≤ j + (a : ℕ)
  · rw [dif_pos h2, dif_pos ⟨h2, by omega⟩, h3V_apply, hh]
  · rw [dif_neg h2, dif_neg (fun q => h2 q.1), stV_apply, hs]
    exact congrArg (fun q => x1 (ix3 s q (f k))) (Fin.ext (Nat.mod_eq_of_lt (by omega)).symm)

theorem conv_read (t0 t1 t2 : FVec Ideal S32x8x256 .f32) (b w0 w1 w2 : Vec Ideal S1x256 .f32) (f : Fin 256 → Fin 5632)
    (h0 : ∀ s a k, t0 (ix3 s a k) = hS x0 x1 x2 x3 s (0 + a) (f k)) (h1 : ∀ s a k, t1 (ix3 s a k) = hS x0 x1 x2 x3 s (1 + a) (f k))
    (h2 : ∀ s a k, t2 (ix3 s a k) = hS x0 x1 x2 x3 s (2 + a) (f k)) (hb : ∀ k, b (ix2 0 k) = x5 (ix2 0 (f k)))
    (e0 : ∀ k, w0 (ix2 0 k) = x4 (ix2 0 (f k))) (e1 : ∀ k, w1 (ix2 0 k) = x4 (ix2 1 (f k)))
    (e2 : ∀ k, w2 (ix2 0 k) = x4 (ix2 2 (f k))) (r k : Fin 256) :
    convV t0 t1 t2 b w0 w1 w2 (ix2 r k) = convS x0 x1 x2 x3 x4 x5 r (f k) := by
  rw [convV_apply, h0, h1, h2, hb, e0, e1, e2, Nat.zero_add]
  rfl

theorem step_read (acc : FVec Ideal S256x1024 .f32) (g v : FVec Ideal S256x256 .f32) (D : Vec Ideal S256x1024 .bf16)
    (n : ℕ) (hn : n + 256 ≤ 2816) (fg fv : Fin 256 → Fin 5632)
    (hg : ∀ r k, g (ix2 r k) = convS x0 x1 x2 x3 x4 x5 r (fg k)) (hv : ∀ r k, v (ix2 r k) = convS x0 x1 x2 x3 x4 x5 r (fv k))
    (hfg : ∀ k, (fg k).val = n + k) (hfv : ∀ k, (fv k).val = 2816 + (n + k))
    (hD : ∀ (k : Fin 256) (o : Fin 1024), D (ix2 k o) = x6 (ix2 ⟨n + k, by omega⟩ o)) (r : Fin 256) (o : Fin 1024) :
    (stepV acc g v D (ix2 r o) : EReal) = acc (ix2 r o)
      + ∑ k : Fin 256, actS x0 x1 x2 x3 x4 x5 r ⟨n + k, by omega⟩ * (x6 (ix2 ⟨n + k, by omega⟩ o) : EReal) := by
  rw [stepV_apply]
  congr 1
  refine Finset.sum_congr rfl fun k _ => ?_
  rw [hg, hv, hD, show fg k = ⟨n + k, by omega⟩ from Fin.ext (hfg k), show fv k = ⟨2816 + (n + k), by omega⟩ from Fin.ext (hfv k)]
  rfl

end

end Cert.FfnSVal

end
-- ==== Proof.FfnSChunk.lean ====
/-
What the samples' feed-forward body keeps tile after tile: the windows over a sequence's rows, and the down projection's sum.
-/
module

public import proofs.«01_k».proof.Proof.FfnSVec

@[expose] public section

set_option maxRecDepth 16384

noncomputable section

open Idealize.ShloMosaic Idealize.ShloMosaic.TcCoe Idealize.SL.Sem
open Idealize.ShloMosaic.Pipeline (Dat)

namespace Cert.FfnSVal

open Cert.FfnSIdeal Cert.FfnSIdeal.Gen

section
variable (c : Dev nD) (arg0 : Memref sig .tc .vmem S256x1024 .f32) (harg0 : arg0.IsWhole) (arg1 : Memref sig .tc .vmem S32x2x5632 .f32) (harg1 : arg1.IsWhole) (arg2 : Memref sig .tc .vmem S1024x5632 .bf16) (harg2 : arg2.IsWhole) (arg3 : Memref sig .tc .vmem S1x5632 .f32) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x5632 .f32) (harg10 : arg10.IsWhole) (arg11 : Memref sig .tc .vmem S32x16x256 .f32) (harg11 : arg11.IsWhole)
  (x0 : Vec Ideal S256x1024 .f32) (x1 : Vec Ideal S32x2x5632 .f32) (x2 : Vec Ideal S1024x5632 .bf16) (x3 : Vec Ideal S1x5632 .f32) (x4 : Vec Ideal S3x5632 .f32) (x5 : Vec Ideal S1x5632 .f32) (x6 : Vec Ideal S2816x1024 .bf16) (x7 : Vec Ideal S1x1024 .f32) (x8 : Vec Ideal S1x1024 .f32)

theorem v20_at (s : Fin 32) (a : Fin 8) (k : Fin 256) :
    kernelRun0_A.sl.v20 (F := Ideal) c arg0 harg0 arg1 harg1 arg2 harg2 arg3 harg3 arg11 x0 x1 x2 x3 (ix3 s a k) = hS x0 x1 x2 x3 s (0 + a) ⟨0 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 0] S1024x256.size inb_S1024x5632_S1024x256_0_0).toLoadRect (harg2.unread x2))
      (View.readAt (Elt Ideal) arg3.view (Rect.unit (s := S1x5632) ![0, 0] S1x256.size inb_S1x5632_S1x256_0_0).toLoadRect (harg3.unread x3)))
    (View.readAt (Elt Ideal) arg1.view (Rect.unit (s := S32x2x5632) ![0, 0, 0] S32x2x256.size inb_S32x2x5632_S32x2x256_0_0_0).toLoadRect (harg1.unread x1)) (fun k => ⟨0 + k, by omega⟩)
    (up_read x0 x2 x3 _ _ _ _ (rdX x0 harg0) (rdW x2 harg2 0 _) (rdB x3 harg3 0 _)) (rdS x1 harg1 0 _) 0 _ s a k

theorem v22_at (s : Fin 32) (a : Fin 8) (k : Fin 256) :
    kernelRun0_A.sl.v22 (F := Ideal) c arg0 harg0 arg1 harg1 arg2 harg2 arg3 harg3 arg11 x0 x1 x2 x3 (ix3 s a k) = hS x0 x1 x2 x3 s (1 + a) ⟨0 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 0] S1024x256.size inb_S1024x5632_S1024x256_0_0).toLoadRect (harg2.unread x2))
      (View.readAt (Elt Ideal) arg3.view (Rect.unit (s := S1x5632) ![0, 0] S1x256.size inb_S1x5632_S1x256_0_0).toLoadRect (harg3.unread x3)))
    (View.readAt (Elt Ideal) arg1.view (Rect.unit (s := S32x2x5632) ![0, 0, 0] S32x2x256.size inb_S32x2x5632_S32x2x256_0_0_0).toLoadRect (harg1.unread x1)) (fun k => ⟨0 + k, by omega⟩)
    (up_read x0 x2 x3 _ _ _ _ (rdX x0 harg0) (rdW x2 harg2 0 _) (rdB x3 harg3 0 _)) (rdS x1 harg1 0 _) 1 _ s a k

theorem v24_at (s : Fin 32) (a : Fin 8) (k : Fin 256) :
    kernelRun0_A.sl.v24 (F := Ideal) c arg0 harg0 arg1 harg1 arg2 harg2 arg3 harg3 arg11 x0 x1 x2 x3 (ix3 s a k) = hS x0 x1 x2 x3 s (2 + a) ⟨0 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 0] S1024x256.size inb_S1024x5632_S1024x256_0_0).toLoadRect (harg2.unread x2))
      (View.readAt (Elt Ideal) arg3.view (Rect.unit (s := S1x5632) ![0, 0] S1x256.size inb_S1x5632_S1x256_0_0).toLoadRect (harg3.unread x3)))
    (View.readAt (Elt Ideal) arg1.view (Rect.unit (s := S32x2x5632) ![0, 0, 0] S32x2x256.size inb_S32x2x5632_S32x2x256_0_0_0).toLoadRect (harg1.unread x1)) (fun k => ⟨0 + k, by omega⟩)
    (up_read x0 x2 x3 _ _ _ _ (rdX x0 harg0) (rdW x2 harg2 0 _) (rdB x3 harg3 0 _)) (rdS x1 harg1 0 _) 2 _ s a k

theorem v43_at (s : Fin 32) (a : Fin 8) (k : Fin 256) :
    kernelRun0_A.sl.v43 (F := Ideal) c arg0 harg0 arg1 harg1 arg2 harg2 arg3 harg3 arg11 x0 x1 x2 x3 (ix3 s a k) = hS x0 x1 x2 x3 s (0 + a) ⟨2816 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2816] S1024x256.size inb_S1024x5632_S1024x256_0_2816).toLoadRect (harg2.unread x2))
      (View.readAt (Elt Ideal) arg3.view (Rect.unit (s := S1x5632) ![0, 2816] S1x256.size inb_S1x5632_S1x256_0_2816).toLoadRect (harg3.unread x3)))
    (View.readAt (Elt Ideal) arg1.view (Rect.unit (s := S32x2x5632) ![0, 0, 2816] S32x2x256.size inb_S32x2x5632_S32x2x256_0_0_2816).toLoadRect (harg1.unread x1)) (fun k => ⟨2816 + k, by omega⟩)
    (up_read x0 x2 x3 _ _ _ _ (rdX x0 harg0) (rdW x2 harg2 2816 _) (rdB x3 harg3 2816 _)) (rdS x1 harg1 2816 _) 0 _ s a k

theorem v45_at (s : Fin 32) (a : Fin 8) (k : Fin 256) :
    kernelRun0_A.sl.v45 (F := Ideal) c arg0 harg0 arg1 harg1 arg2 harg2 arg3 harg3 arg11 x0 x1 x2 x3 (ix3 s a k) = hS x0 x1 x2 x3 s (1 + a) ⟨2816 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2816] S1024x256.size inb_S1024x5632_S1024x256_0_2816).toLoadRect (harg2.unread x2))
      (View.readAt (Elt Ideal) arg3.view (Rect.unit (s := S1x5632) ![0, 2816] S1x256.size inb_S1x5632_S1x256_0_2816).toLoadRect (harg3.unread x3)))
    (View.readAt (Elt Ideal) arg1.view (Rect.unit (s := S32x2x5632) ![0, 0, 2816] S32x2x256.size inb_S32x2x5632_S32x2x256_0_0_2816).toLoadRect (harg1.unread x1)) (fun k => ⟨2816 + k, by omega⟩)
    (up_read x0 x2 x3 _ _ _ _ (rdX x0 harg0) (rdW x2 harg2 2816 _) (rdB x3 harg3 2816 _)) (rdS x1 harg1 2816 _) 1 _ s a k

theorem v47_at (s : Fin 32) (a : Fin 8) (k : Fin 256) :
    kernelRun0_A.sl.v47 (F := Ideal) c arg0 harg0 arg1 harg1 arg2 harg2 arg3 harg3 arg11 x0 x1 x2 x3 (ix3 s a k) = hS x0 x1 x2 x3 s (2 + a) ⟨2816 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2816] S1024x256.size inb_S1024x5632_S1024x256_0_2816).toLoadRect (harg2.unread x2))
      (View.readAt (Elt Ideal) arg3.view (Rect.unit (s := S1x5632) ![0, 2816] S1x256.size inb_S1x5632_S1x256_0_2816).toLoadRect (harg3.unread x3)))
    (View.readAt (Elt Ideal) arg1.view (Rect.unit (s := S32x2x5632) ![0, 0, 2816] S32x2x256.size inb_S32x2x5632_S32x2x256_0_0_2816).toLoadRect (harg1.unread x1)) (fun k => ⟨2816 + k, by omega⟩)
    (up_read x0 x2 x3 _ _ _ _ (rdX x0 harg0) (rdW x2 harg2 2816 _) (rdB x3 harg3 2816 _)) (rdS x1 harg1 2816 _) 2 _ s a k

theorem acc0_eq : kernelRun0_A.sl.r_11 (F := Ideal) c arg0 harg0 arg1 harg1 arg2 harg2 arg3 harg3 arg4 harg4 arg5 harg5 arg6 harg6 arg11 x0 x1 x2 x3 x4 x5 x6 =
    stepV (k0_pay3 (F := Ideal))
      (convV (kernelRun0_A.sl.v20 (F := Ideal) c arg0 harg0 arg1 harg1 arg2 harg2 arg3 harg3 arg11 x0 x1 x2 x3) (kernelRun0_A.sl.v22 (F := Ideal) c arg0 harg0 arg1 harg1 arg2 harg2 arg3 harg3 arg11 x0 x1 x2 x3)
        (kernelRun0_A.sl.v24 (F := Ideal) c arg0 harg0 arg1 harg1 arg2 harg2 arg3 harg3 arg11 x0 x1 x2 x3)
        (View.readAt (Elt Ideal) arg5.view (Rect.unit (s := S1x5632) ![0, 0] S1x256.size inb_S1x5632_S1x256_0_0).toLoadRect (harg5.unread x5)) (View.readAt (Elt Ideal) arg4.view (Rect.unit (s := S3x5632) ![0, 0] S1x256.size inb_S3x5632_S1x256_0_0).toLoadRect (harg4.unread x4))
        (View.readAt (Elt Ideal) arg4.view (Rect.unit (s := S3x5632) ![1, 0] S1x256.size inb_S3x5632_S1x256_1_0).toLoadRect (harg4.unread x4)) (View.readAt (Elt Ideal) arg4.view (Rect.unit (s := S3x5632) ![2, 0] S1x256.size inb_S3x5632_S1x256_2_0).toLoadRect (harg4.unread x4)))
      (convV (kernelRun0_A.sl.v43 (F := Ideal) c arg0 harg0 arg1 harg1 arg2 harg2 arg3 harg3 arg11 x0 x1 x2 x3) (kernelRun0_A.sl.v45 (F := Ideal) c arg0 harg0 arg1 harg1 arg2 harg2 arg3 harg3 arg11 x0 x1 x2 x3)
        (kernelRun0_A.sl.v47 (F := Ideal) c arg0 harg0 arg1 harg1 arg2 harg2 arg3 harg3 arg11 x0 x1 x2 x3)
        (View.readAt (Elt Ideal) arg5.view (Rect.unit (s := S1x5632) ![0, 2816] S1x256.size inb_S1x5632_S1x256_0_2816).toLoadRect (harg5.unread x5)) (View.readAt (Elt Ideal) arg4.view (Rect.unit (s := S3x5632) ![0, 2816] S1x256.size inb_S3x5632_S1x256_0_2816).toLoadRect (harg4.unread x4))
        (View.readAt (Elt Ideal) arg4.view (Rect.unit (s := S3x5632) ![1, 2816] S1x256.size inb_S3x5632_S1x256_1_2816).toLoadRect (harg4.unread x4)) (View.readAt (Elt Ideal) arg4.view (Rect.unit (s := S3x5632) ![2, 2816] S1x256.size inb_S3x5632_S1x256_2_2816).toLoadRect (harg4.unread x4)))
      (View.readAt (Elt Ideal) arg6.view (Rect.unit (s := S2816x1024) ![0, 0] S256x1024.size inb_S2816x1024_S256x1024_0_0).toLoadRect (harg6.unread x6)) := rfl

theorem acc0_apply (r : Fin 256) (o : Fin 1024) : (kernelRun0_A.sl.r_11 (F := Ideal) c arg0 harg0 arg1 harg1 arg2 harg2 arg3 harg3 arg4 harg4 arg5 harg5 arg6 harg6 arg11 x0 x1 x2 x3 x4 x5 x6 (ix2 r o) : EReal) = (k0_pay3 (F := Ideal)) (ix2 r o)
      + ∑ k : Fin 256, actS x0 x1 x2 x3 x4 x5 r ⟨0 + k, by omega⟩ * (x6 (ix2 ⟨0 + k, by omega⟩ o) : EReal) := by
  rw [acc0_eq]
  exact step_read x0 x1 x2 x3 x4 x5 x6 _ _ _ _ 0 (by omega) (fun k => ⟨0 + k, by omega⟩) (fun k => ⟨2816 + k, by omega⟩)
    (conv_read x0 x1 x2 x3 x4 x5 _ _ _ _ _ _ _ (fun k => ⟨0 + k, by omega⟩) (v20_at c arg0 harg0 arg1 harg1 arg2 harg2 arg3 harg3 arg11 x0 x1 x2 x3) (v22_at c arg0 harg0 arg1 harg1 arg2 harg2 arg3 harg3 arg11 x0 x1 x2 x3) (v24_at c arg0 harg0 arg1 harg1 arg2 harg2 arg3 harg3 arg11 x0 x1 x2 x3)
      (rdB x5 harg5 0 _) (rdC x4 harg4 0 0 _) (rdC x4 harg4 1 0 _) (rdC x4 harg4 2 0 _))
    (conv_read x0 x1 x2 x3 x4 x5 _ _ _ _ _ _ _ (fun k => ⟨2816 + k, by omega⟩) (v43_at c arg0 harg0 arg1 harg1 arg2 harg2 arg3 harg3 arg11 x0 x1 x2 x3) (v45_at c arg0 harg0 arg1 harg1 arg2 harg2 arg3 harg3 arg11 x0 x1 x2 x3) (v47_at c arg0 harg0 arg1 harg1 arg2 harg2 arg3 harg3 arg11 x0 x1 x2 x3)
      (rdB x5 harg5 2816 _) (rdC x4 harg4 0 2816 _) (rdC x4 harg4 1 2816 _) (rdC x4 harg4 2 2816 _))
    (fun k => rfl) (fun k => by show 2816 + (k : ℕ) = 2816 + (0 + k); omega) (rdD x6 harg6 0 _) r o

theorem v121_at (s : Fin 32) (a : Fin 8) (k : Fin 256) :
    kernelRun0_A.sl.v121 (F := Ideal) c arg0 harg0 arg1 harg1 arg2 harg2 arg3 harg3 arg11 x0 x1 x2 x3 (ix3 s a k) = hS x0 x1 x2 x3 s (0 + a) ⟨256 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 256] S1024x256.size inb_S1024x5632_S1024x256_0_256).toLoadRect (harg2.unread x2))
      (View.readAt (Elt Ideal) arg3.view (Rect.unit (s := S1x5632) ![0, 256] S1x256.size inb_S1x5632_S1x256_0_256).toLoadRect (harg3.unread x3)))
    (View.readAt (Elt Ideal) arg1.view (Rect.unit (s := S32x2x5632) ![0, 0, 256] S32x2x256.size inb_S32x2x5632_S32x2x256_0_0_256).toLoadRect (harg1.unread x1)) (fun k => ⟨256 + k, by omega⟩)
    (up_read x0 x2 x3 _ _ _ _ (rdX x0 harg0) (rdW x2 harg2 256 _) (rdB x3 harg3 256 _)) (rdS x1 harg1 256 _) 0 _ s a k

theorem v123_at (s : Fin 32) (a : Fin 8) (k : Fin 256) :
    kernelRun0_A.sl.v123 (F := Ideal) c arg0 harg0 arg1 harg1 arg2 harg2 arg3 harg3 arg11 x0 x1 x2 x3 (ix3 s a k) = hS x0 x1 x2 x3 s (1 + a) ⟨256 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 256] S1024x256.size inb_S1024x5632_S1024x256_0_256).toLoadRect (harg2.unread x2))
      (View.readAt (Elt Ideal) arg3.view (Rect.unit (s := S1x5632) ![0, 256] S1x256.size inb_S1x5632_S1x256_0_256).toLoadRect (harg3.unread x3)))
    (View.readAt (Elt Ideal) arg1.view (Rect.unit (s := S32x2x5632) ![0, 0, 256] S32x2x256.size inb_S32x2x5632_S32x2x256_0_0_256).toLoadRect (harg1.unread x1)) (fun k => ⟨256 + k, by omega⟩)
    (up_read x0 x2 x3 _ _ _ _ (rdX x0 harg0) (rdW x2 harg2 256 _) (rdB x3 harg3 256 _)) (rdS x1 harg1 256 _) 1 _ s a k

theorem v125_at (s : Fin 32) (a : Fin 8) (k : Fin 256) :
    kernelRun0_A.sl.v125 (F := Ideal) c arg0 harg0 arg1 harg1 arg2 harg2 arg3 harg3 arg11 x0 x1 x2 x3 (ix3 s a k) = hS x0 x1 x2 x3 s (2 + a) ⟨256 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 256] S1024x256.size inb_S1024x5632_S1024x256_0_256).toLoadRect (harg2.unread x2))
      (View.readAt (Elt Ideal) arg3.view (Rect.unit (s := S1x5632) ![0, 256] S1x256.size inb_S1x5632_S1x256_0_256).toLoadRect (harg3.unread x3)))
    (View.readAt (Elt Ideal) arg1.view (Rect.unit (s := S32x2x5632) ![0, 0, 256] S32x2x256.size inb_S32x2x5632_S32x2x256_0_0_256).toLoadRect (harg1.unread x1)) (fun k => ⟨256 + k, by omega⟩)
    (up_read x0 x2 x3 _ _ _ _ (rdX x0 harg0) (rdW x2 harg2 256 _) (rdB x3 harg3 256 _)) (rdS x1 harg1 256 _) 2 _ s a k

theorem v144_at (s : Fin 32) (a : Fin 8) (k : Fin 256) :
    kernelRun0_A.sl.v144 (F := Ideal) c arg0 harg0 arg1 harg1 arg2 harg2 arg3 harg3 arg11 x0 x1 x2 x3 (ix3 s a k) = hS x0 x1 x2 x3 s (0 + a) ⟨3072 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3072] S1024x256.size inb_S1024x5632_S1024x256_0_3072).toLoadRect (harg2.unread x2))
      (View.readAt (Elt Ideal) arg3.view (Rect.unit (s := S1x5632) ![0, 3072] S1x256.size inb_S1x5632_S1x256_0_3072).toLoadRect (harg3.unread x3)))
    (View.readAt (Elt Ideal) arg1.view (Rect.unit (s := S32x2x5632) ![0, 0, 3072] S32x2x256.size inb_S32x2x5632_S32x2x256_0_0_3072).toLoadRect (harg1.unread x1)) (fun k => ⟨3072 + k, by omega⟩)
    (up_read x0 x2 x3 _ _ _ _ (rdX x0 harg0) (rdW x2 harg2 3072 _) (rdB x3 harg3 3072 _)) (rdS x1 harg1 3072 _) 0 _ s a k

theorem v146_at (s : Fin 32) (a : Fin 8) (k : Fin 256) :
    kernelRun0_A.sl.v146 (F := Ideal) c arg0 harg0 arg1 harg1 arg2 harg2 arg3 harg3 arg11 x0 x1 x2 x3 (ix3 s a k) = hS x0 x1 x2 x3 s (1 + a) ⟨3072 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3072] S1024x256.size inb_S1024x5632_S1024x256_0_3072).toLoadRect (harg2.unread x2))
      (View.readAt (Elt Ideal) arg3.view (Rect.unit (s := S1x5632) ![0, 3072] S1x256.size inb_S1x5632_S1x256_0_3072).toLoadRect (harg3.unread x3)))
    (View.readAt (Elt Ideal) arg1.view (Rect.unit (s := S32x2x5632) ![0, 0, 3072] S32x2x256.size inb_S32x2x5632_S32x2x256_0_0_3072).toLoadRect (harg1.unread x1)) (fun k => ⟨3072 + k, by omega⟩)
    (up_read x0 x2 x3 _ _ _ _ (rdX x0 harg0) (rdW x2 harg2 3072 _) (rdB x3 harg3 3072 _)) (rdS x1 harg1 3072 _) 1 _ s a k

theorem v148_at (s : Fin 32) (a : Fin 8) (k : Fin 256) :
    kernelRun0_A.sl.v148 (F := Ideal) c arg0 harg0 arg1 harg1 arg2 harg2 arg3 harg3 arg11 x0 x1 x2 x3 (ix3 s a k) = hS x0 x1 x2 x3 s (2 + a) ⟨3072 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3072] S1024x256.size inb_S1024x5632_S1024x256_0_3072).toLoadRect (harg2.unread x2))
      (View.readAt (Elt Ideal) arg3.view (Rect.unit (s := S1x5632) ![0, 3072] S1x256.size inb_S1x5632_S1x256_0_3072).toLoadRect (harg3.unread x3)))
    (View.readAt (Elt Ideal) arg1.view (Rect.unit (s := S32x2x5632) ![0, 0, 3072] S32x2x256.size inb_S32x2x5632_S32x2x256_0_0_3072).toLoadRect (harg1.unread x1)) (fun k => ⟨3072 + k, by omega⟩)
    (up_read x0 x2 x3 _ _ _ _ (rdX x0 harg0) (rdW x2 harg2 3072 _) (rdB x3 harg3 3072 _)) (rdS x1 harg1 3072 _) 2 _ s a k

theorem acc1_eq : kernelRun0_A.sl.r_21 (F := Ideal) c arg0 harg0 arg1 harg1 arg2 harg2 arg3 harg3 arg4 harg4 arg5 harg5 arg6 harg6 arg11 x0 x1 x2 x3 x4 x5 x6 =
    stepV (kernelRun0_A.sl.r_11 (F := Ideal) c arg0 harg0 arg1 harg1 arg2 harg2 arg3 harg3 arg4 harg4 arg5 harg5 arg6 harg6 arg11 x0 x1 x2 x3 x4 x5 x6)
      (convV (kernelRun0_A.sl.v121 (F := Ideal) c arg0 harg0 arg1 harg1 arg2 harg2 arg3 harg3 arg11 x0 x1 x2 x3) (kernelRun0_A.sl.v123 (F := Ideal) c arg0 harg0 arg1 harg1 arg2 harg2 arg3 harg3 arg11 x0 x1 x2 x3)
        (kernelRun0_A.sl.v125 (F := Ideal) c arg0 harg0 arg1 harg1 arg2 harg2 arg3 harg3 arg11 x0 x1 x2 x3)
        (View.readAt (Elt Ideal) arg5.view (Rect.unit (s := S1x5632) ![0, 256] S1x256.size inb_S1x5632_S1x256_0_256).toLoadRect (harg5.unread x5)) (View.readAt (Elt Ideal) arg4.view (Rect.unit (s := S3x5632) ![0, 256] S1x256.size inb_S3x5632_S1x256_0_256).toLoadRect (harg4.unread x4))
        (View.readAt (Elt Ideal) arg4.view (Rect.unit (s := S3x5632) ![1, 256] S1x256.size inb_S3x5632_S1x256_1_256).toLoadRect (harg4.unread x4)) (View.readAt (Elt Ideal) arg4.view (Rect.unit (s := S3x5632) ![2, 256] S1x256.size inb_S3x5632_S1x256_2_256).toLoadRect (harg4.unread x4)))
      (convV (kernelRun0_A.sl.v144 (F := Ideal) c arg0 harg0 arg1 harg1 arg2 harg2 arg3 harg3 arg11 x0 x1 x2 x3) (kernelRun0_A.sl.v146 (F := Ideal) c arg0 harg0 arg1 harg1 arg2 harg2 arg3 harg3 arg11 x0 x1 x2 x3)
        (kernelRun0_A.sl.v148 (F := Ideal) c arg0 harg0 arg1 harg1 arg2 harg2 arg3 harg3 arg11 x0 x1 x2 x3)
        (View.readAt (Elt Ideal) arg5.view (Rect.unit (s := S1x5632) ![0, 3072] S1x256.size inb_S1x5632_S1x256_0_3072).toLoadRect (harg5.unread x5)) (View.readAt (Elt Ideal) arg4.view (Rect.unit (s := S3x5632) ![0, 3072] S1x256.size inb_S3x5632_S1x256_0_3072).toLoadRect (harg4.unread x4))
        (View.readAt (Elt Ideal) arg4.view (Rect.unit (s := S3x5632) ![1, 3072] S1x256.size inb_S3x5632_S1x256_1_3072).toLoadRect (harg4.unread x4)) (View.readAt (Elt Ideal) arg4.view (Rect.unit (s := S3x5632) ![2, 3072] S1x256.size inb_S3x5632_S1x256_2_3072).toLoadRect (harg4.unread x4)))
      (View.readAt (Elt Ideal) arg6.view (Rect.unit (s := S2816x1024) ![256, 0] S256x1024.size inb_S2816x1024_S256x1024_256_0).toLoadRect (harg6.unread x6)) := rfl

theorem acc1_apply (r : Fin 256) (o : Fin 1024) : (kernelRun0_A.sl.r_21 (F := Ideal) c arg0 harg0 arg1 harg1 arg2 harg2 arg3 harg3 arg4 harg4 arg5 harg5 arg6 harg6 arg11 x0 x1 x2 x3 x4 x5 x6 (ix2 r o) : EReal) = (kernelRun0_A.sl.r_11 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨256 + k, by omega⟩ * (x6 (ix2 ⟨256 + k, by omega⟩ o) : EReal) := by
  rw [acc1_eq]
  exact step_read x0 x1 x2 x3 x4 x5 x6 _ _ _ _ 256 (by omega) (fun k => ⟨256 + k, by omega⟩) (fun k => ⟨3072 + k, by omega⟩)
    (conv_read x0 x1 x2 x3 x4 x5 _ _ _ _ _ _ _ (fun k => ⟨256 + k, by omega⟩) (v121_at c arg0 harg0 arg1 harg1 arg2 harg2 arg3 harg3 arg11 x0 x1 x2 x3) (v123_at c arg0 harg0 arg1 harg1 arg2 harg2 arg3 harg3 arg11 x0 x1 x2 x3) (v125_at c arg0 harg0 arg1 harg1 arg2 harg2 arg3 harg3 arg11 x0 x1 x2 x3)
      (rdB x5 harg5 256 _) (rdC x4 harg4 0 256 _) (rdC x4 harg4 1 256 _) (rdC x4 harg4 2 256 _))
    (conv_read x0 x1 x2 x3 x4 x5 _ _ _ _ _ _ _ (fun k => ⟨3072 + k, by omega⟩) (v144_at c arg0 harg0 arg1 harg1 arg2 harg2 arg3 harg3 arg11 x0 x1 x2 x3) (v146_at c arg0 harg0 arg1 harg1 arg2 harg2 arg3 harg3 arg11 x0 x1 x2 x3) (v148_at c arg0 harg0 arg1 harg1 arg2 harg2 arg3 harg3 arg11 x0 x1 x2 x3)
      (rdB x5 harg5 3072 _) (rdC x4 harg4 0 3072 _) (rdC x4 harg4 1 3072 _) (rdC x4 harg4 2 3072 _))
    (fun k => rfl) (fun k => by show 3072 + (k : ℕ) = 2816 + (256 + k); omega) (rdD x6 harg6 256 _) r o

theorem v222_at (s : Fin 32) (a : Fin 8) (k : Fin 256) :
    kernelRun0_A.sl.v222 (F := Ideal) c arg0 harg0 arg1 harg1 arg2 harg2 arg3 harg3 arg11 x0 x1 x2 x3 (ix3 s a k) = hS x0 x1 x2 x3 s (0 + a) ⟨512 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 512] S1024x256.size inb_S1024x5632_S1024x256_0_512).toLoadRect (harg2.unread x2))
      (View.readAt (Elt Ideal) arg3.view (Rect.unit (s := S1x5632) ![0, 512] S1x256.size inb_S1x5632_S1x256_0_512).toLoadRect (harg3.unread x3)))
    (View.readAt (Elt Ideal) arg1.view (Rect.unit (s := S32x2x5632) ![0, 0, 512] S32x2x256.size inb_S32x2x5632_S32x2x256_0_0_512).toLoadRect (harg1.unread x1)) (fun k => ⟨512 + k, by omega⟩)
    (up_read x0 x2 x3 _ _ _ _ (rdX x0 harg0) (rdW x2 harg2 512 _) (rdB x3 harg3 512 _)) (rdS x1 harg1 512 _) 0 _ s a k

theorem v224_at (s : Fin 32) (a : Fin 8) (k : Fin 256) :
    kernelRun0_A.sl.v224 (F := Ideal) c arg0 harg0 arg1 harg1 arg2 harg2 arg3 harg3 arg11 x0 x1 x2 x3 (ix3 s a k) = hS x0 x1 x2 x3 s (1 + a) ⟨512 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 512] S1024x256.size inb_S1024x5632_S1024x256_0_512).toLoadRect (harg2.unread x2))
      (View.readAt (Elt Ideal) arg3.view (Rect.unit (s := S1x5632) ![0, 512] S1x256.size inb_S1x5632_S1x256_0_512).toLoadRect (harg3.unread x3)))
    (View.readAt (Elt Ideal) arg1.view (Rect.unit (s := S32x2x5632) ![0, 0, 512] S32x2x256.size inb_S32x2x5632_S32x2x256_0_0_512).toLoadRect (harg1.unread x1)) (fun k => ⟨512 + k, by omega⟩)
    (up_read x0 x2 x3 _ _ _ _ (rdX x0 harg0) (rdW x2 harg2 512 _) (rdB x3 harg3 512 _)) (rdS x1 harg1 512 _) 1 _ s a k

theorem v226_at (s : Fin 32) (a : Fin 8) (k : Fin 256) :
    kernelRun0_A.sl.v226 (F := Ideal) c arg0 harg0 arg1 harg1 arg2 harg2 arg3 harg3 arg11 x0 x1 x2 x3 (ix3 s a k) = hS x0 x1 x2 x3 s (2 + a) ⟨512 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 512] S1024x256.size inb_S1024x5632_S1024x256_0_512).toLoadRect (harg2.unread x2))
      (View.readAt (Elt Ideal) arg3.view (Rect.unit (s := S1x5632) ![0, 512] S1x256.size inb_S1x5632_S1x256_0_512).toLoadRect (harg3.unread x3)))
    (View.readAt (Elt Ideal) arg1.view (Rect.unit (s := S32x2x5632) ![0, 0, 512] S32x2x256.size inb_S32x2x5632_S32x2x256_0_0_512).toLoadRect (harg1.unread x1)) (fun k => ⟨512 + k, by omega⟩)
    (up_read x0 x2 x3 _ _ _ _ (rdX x0 harg0) (rdW x2 harg2 512 _) (rdB x3 harg3 512 _)) (rdS x1 harg1 512 _) 2 _ s a k

theorem v245_at (s : Fin 32) (a : Fin 8) (k : Fin 256) :
    kernelRun0_A.sl.v245 (F := Ideal) c arg0 harg0 arg1 harg1 arg2 harg2 arg3 harg3 arg11 x0 x1 x2 x3 (ix3 s a k) = hS x0 x1 x2 x3 s (0 + a) ⟨3328 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3328] S1024x256.size inb_S1024x5632_S1024x256_0_3328).toLoadRect (harg2.unread x2))
      (View.readAt (Elt Ideal) arg3.view (Rect.unit (s := S1x5632) ![0, 3328] S1x256.size inb_S1x5632_S1x256_0_3328).toLoadRect (harg3.unread x3)))
    (View.readAt (Elt Ideal) arg1.view (Rect.unit (s := S32x2x5632) ![0, 0, 3328] S32x2x256.size inb_S32x2x5632_S32x2x256_0_0_3328).toLoadRect (harg1.unread x1)) (fun k => ⟨3328 + k, by omega⟩)
    (up_read x0 x2 x3 _ _ _ _ (rdX x0 harg0) (rdW x2 harg2 3328 _) (rdB x3 harg3 3328 _)) (rdS x1 harg1 3328 _) 0 _ s a k

theorem v247_at (s : Fin 32) (a : Fin 8) (k : Fin 256) :
    kernelRun0_A.sl.v247 (F := Ideal) c arg0 harg0 arg1 harg1 arg2 harg2 arg3 harg3 arg11 x0 x1 x2 x3 (ix3 s a k) = hS x0 x1 x2 x3 s (1 + a) ⟨3328 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3328] S1024x256.size inb_S1024x5632_S1024x256_0_3328).toLoadRect (harg2.unread x2))
      (View.readAt (Elt Ideal) arg3.view (Rect.unit (s := S1x5632) ![0, 3328] S1x256.size inb_S1x5632_S1x256_0_3328).toLoadRect (harg3.unread x3)))
    (View.readAt (Elt Ideal) arg1.view (Rect.unit (s := S32x2x5632) ![0, 0, 3328] S32x2x256.size inb_S32x2x5632_S32x2x256_0_0_3328).toLoadRect (harg1.unread x1)) (fun k => ⟨3328 + k, by omega⟩)
    (up_read x0 x2 x3 _ _ _ _ (rdX x0 harg0) (rdW x2 harg2 3328 _) (rdB x3 harg3 3328 _)) (rdS x1 harg1 3328 _) 1 _ s a k

theorem v249_at (s : Fin 32) (a : Fin 8) (k : Fin 256) :
    kernelRun0_A.sl.v249 (F := Ideal) c arg0 harg0 arg1 harg1 arg2 harg2 arg3 harg3 arg11 x0 x1 x2 x3 (ix3 s a k) = hS x0 x1 x2 x3 s (2 + a) ⟨3328 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3328] S1024x256.size inb_S1024x5632_S1024x256_0_3328).toLoadRect (harg2.unread x2))
      (View.readAt (Elt Ideal) arg3.view (Rect.unit (s := S1x5632) ![0, 3328] S1x256.size inb_S1x5632_S1x256_0_3328).toLoadRect (harg3.unread x3)))
    (View.readAt (Elt Ideal) arg1.view (Rect.unit (s := S32x2x5632) ![0, 0, 3328] S32x2x256.size inb_S32x2x5632_S32x2x256_0_0_3328).toLoadRect (harg1.unread x1)) (fun k => ⟨3328 + k, by omega⟩)
    (up_read x0 x2 x3 _ _ _ _ (rdX x0 harg0) (rdW x2 harg2 3328 _) (rdB x3 harg3 3328 _)) (rdS x1 harg1 3328 _) 2 _ s a k

theorem acc2_eq : kernelRun0_A.sl.r_31 (F := Ideal) c arg0 harg0 arg1 harg1 arg2 harg2 arg3 harg3 arg4 harg4 arg5 harg5 arg6 harg6 arg11 x0 x1 x2 x3 x4 x5 x6 =
    stepV (kernelRun0_A.sl.r_21 (F := Ideal) c arg0 harg0 arg1 harg1 arg2 harg2 arg3 harg3 arg4 harg4 arg5 harg5 arg6 harg6 arg11 x0 x1 x2 x3 x4 x5 x6)
      (convV (kernelRun0_A.sl.v222 (F := Ideal) c arg0 harg0 arg1 harg1 arg2 harg2 arg3 harg3 arg11 x0 x1 x2 x3) (kernelRun0_A.sl.v224 (F := Ideal) c arg0 harg0 arg1 harg1 arg2 harg2 arg3 harg3 arg11 x0 x1 x2 x3)
        (kernelRun0_A.sl.v226 (F := Ideal) c arg0 harg0 arg1 harg1 arg2 harg2 arg3 harg3 arg11 x0 x1 x2 x3)
        (View.readAt (Elt Ideal) arg5.view (Rect.unit (s := S1x5632) ![0, 512] S1x256.size inb_S1x5632_S1x256_0_512).toLoadRect (harg5.unread x5)) (View.readAt (Elt Ideal) arg4.view (Rect.unit (s := S3x5632) ![0, 512] S1x256.size inb_S3x5632_S1x256_0_512).toLoadRect (harg4.unread x4))
        (View.readAt (Elt Ideal) arg4.view (Rect.unit (s := S3x5632) ![1, 512] S1x256.size inb_S3x5632_S1x256_1_512).toLoadRect (harg4.unread x4)) (View.readAt (Elt Ideal) arg4.view (Rect.unit (s := S3x5632) ![2, 512] S1x256.size inb_S3x5632_S1x256_2_512).toLoadRect (harg4.unread x4)))
      (convV (kernelRun0_A.sl.v245 (F := Ideal) c arg0 harg0 arg1 harg1 arg2 harg2 arg3 harg3 arg11 x0 x1 x2 x3) (kernelRun0_A.sl.v247 (F := Ideal) c arg0 harg0 arg1 harg1 arg2 harg2 arg3 harg3 arg11 x0 x1 x2 x3)
        (kernelRun0_A.sl.v249 (F := Ideal) c arg0 harg0 arg1 harg1 arg2 harg2 arg3 harg3 arg11 x0 x1 x2 x3)
        (View.readAt (Elt Ideal) arg5.view (Rect.unit (s := S1x5632) ![0, 3328] S1x256.size inb_S1x5632_S1x256_0_3328).toLoadRect (harg5.unread x5)) (View.readAt (Elt Ideal) arg4.view (Rect.unit (s := S3x5632) ![0, 3328] S1x256.size inb_S3x5632_S1x256_0_3328).toLoadRect (harg4.unread x4))
        (View.readAt (Elt Ideal) arg4.view (Rect.unit (s := S3x5632) ![1, 3328] S1x256.size inb_S3x5632_S1x256_1_3328).toLoadRect (harg4.unread x4)) (View.readAt (Elt Ideal) arg4.view (Rect.unit (s := S3x5632) ![2, 3328] S1x256.size inb_S3x5632_S1x256_2_3328).toLoadRect (harg4.unread x4)))
      (View.readAt (Elt Ideal) arg6.view (Rect.unit (s := S2816x1024) ![512, 0] S256x1024.size inb_S2816x1024_S256x1024_512_0).toLoadRect (harg6.unread x6)) := rfl

theorem acc2_apply (r : Fin 256) (o : Fin 1024) : (kernelRun0_A.sl.r_31 (F := Ideal) c arg0 harg0 arg1 harg1 arg2 harg2 arg3 harg3 arg4 harg4 arg5 harg5 arg6 harg6 arg11 x0 x1 x2 x3 x4 x5 x6 (ix2 r o) : EReal) = (kernelRun0_A.sl.r_21 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨512 + k, by omega⟩ * (x6 (ix2 ⟨512 + k, by omega⟩ o) : EReal) := by
  rw [acc2_eq]
  exact step_read x0 x1 x2 x3 x4 x5 x6 _ _ _ _ 512 (by omega) (fun k => ⟨512 + k, by omega⟩) (fun k => ⟨3328 + k, by omega⟩)
    (conv_read x0 x1 x2 x3 x4 x5 _ _ _ _ _ _ _ (fun k => ⟨512 + k, by omega⟩) (v222_at c arg0 harg0 arg1 harg1 arg2 harg2 arg3 harg3 arg11 x0 x1 x2 x3) (v224_at c arg0 harg0 arg1 harg1 arg2 harg2 arg3 harg3 arg11 x0 x1 x2 x3) (v226_at c arg0 harg0 arg1 harg1 arg2 harg2 arg3 harg3 arg11 x0 x1 x2 x3)
      (rdB x5 harg5 512 _) (rdC x4 harg4 0 512 _) (rdC x4 harg4 1 512 _) (rdC x4 harg4 2 512 _))
    (conv_read x0 x1 x2 x3 x4 x5 _ _ _ _ _ _ _ (fun k => ⟨3328 + k, by omega⟩) (v245_at c arg0 harg0 arg1 harg1 arg2 harg2 arg3 harg3 arg11 x0 x1 x2 x3) (v247_at c arg0 harg0 arg1 harg1 arg2 harg2 arg3 harg3 arg11 x0 x1 x2 x3) (v249_at c arg0 harg0 arg1 harg1 arg2 harg2 arg3 harg3 arg11 x0 x1 x2 x3)
      (rdB x5 harg5 3328 _) (rdC x4 harg4 0 3328 _) (rdC x4 harg4 1 3328 _) (rdC x4 harg4 2 3328 _))
    (fun k => rfl) (fun k => by show 3328 + (k : ℕ) = 2816 + (512 + k); omega) (rdD x6 harg6 512 _) r o

theorem v323_at (s : Fin 32) (a : Fin 8) (k : Fin 256) :
    kernelRun0_A.sl.v323 (F := Ideal) c arg0 harg0 arg1 harg1 arg2 harg2 arg3 harg3 arg11 x0 x1 x2 x3 (ix3 s a k) = hS x0 x1 x2 x3 s (0 + a) ⟨768 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 768] S1024x256.size inb_S1024x5632_S1024x256_0_768).toLoadRect (harg2.unread x2))
      (View.readAt (Elt Ideal) arg3.view (Rect.unit (s := S1x5632) ![0, 768] S1x256.size inb_S1x5632_S1x256_0_768).toLoadRect (harg3.unread x3)))
    (View.readAt (Elt Ideal) arg1.view (Rect.unit (s := S32x2x5632) ![0, 0, 768] S32x2x256.size inb_S32x2x5632_S32x2x256_0_0_768).toLoadRect (harg1.unread x1)) (fun k => ⟨768 + k, by omega⟩)
    (up_read x0 x2 x3 _ _ _ _ (rdX x0 harg0) (rdW x2 harg2 768 _) (rdB x3 harg3 768 _)) (rdS x1 harg1 768 _) 0 _ s a k

theorem v325_at (s : Fin 32) (a : Fin 8) (k : Fin 256) :
    kernelRun0_A.sl.v325 (F := Ideal) c arg0 harg0 arg1 harg1 arg2 harg2 arg3 harg3 arg11 x0 x1 x2 x3 (ix3 s a k) = hS x0 x1 x2 x3 s (1 + a) ⟨768 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 768] S1024x256.size inb_S1024x5632_S1024x256_0_768).toLoadRect (harg2.unread x2))
      (View.readAt (Elt Ideal) arg3.view (Rect.unit (s := S1x5632) ![0, 768] S1x256.size inb_S1x5632_S1x256_0_768).toLoadRect (harg3.unread x3)))
    (View.readAt (Elt Ideal) arg1.view (Rect.unit (s := S32x2x5632) ![0, 0, 768] S32x2x256.size inb_S32x2x5632_S32x2x256_0_0_768).toLoadRect (harg1.unread x1)) (fun k => ⟨768 + k, by omega⟩)
    (up_read x0 x2 x3 _ _ _ _ (rdX x0 harg0) (rdW x2 harg2 768 _) (rdB x3 harg3 768 _)) (rdS x1 harg1 768 _) 1 _ s a k

theorem v327_at (s : Fin 32) (a : Fin 8) (k : Fin 256) :
    kernelRun0_A.sl.v327 (F := Ideal) c arg0 harg0 arg1 harg1 arg2 harg2 arg3 harg3 arg11 x0 x1 x2 x3 (ix3 s a k) = hS x0 x1 x2 x3 s (2 + a) ⟨768 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 768] S1024x256.size inb_S1024x5632_S1024x256_0_768).toLoadRect (harg2.unread x2))
      (View.readAt (Elt Ideal) arg3.view (Rect.unit (s := S1x5632) ![0, 768] S1x256.size inb_S1x5632_S1x256_0_768).toLoadRect (harg3.unread x3)))
    (View.readAt (Elt Ideal) arg1.view (Rect.unit (s := S32x2x5632) ![0, 0, 768] S32x2x256.size inb_S32x2x5632_S32x2x256_0_0_768).toLoadRect (harg1.unread x1)) (fun k => ⟨768 + k, by omega⟩)
    (up_read x0 x2 x3 _ _ _ _ (rdX x0 harg0) (rdW x2 harg2 768 _) (rdB x3 harg3 768 _)) (rdS x1 harg1 768 _) 2 _ s a k

theorem v346_at (s : Fin 32) (a : Fin 8) (k : Fin 256) :
    kernelRun0_A.sl.v346 (F := Ideal) c arg0 harg0 arg1 harg1 arg2 harg2 arg3 harg3 arg11 x0 x1 x2 x3 (ix3 s a k) = hS x0 x1 x2 x3 s (0 + a) ⟨3584 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3584] S1024x256.size inb_S1024x5632_S1024x256_0_3584).toLoadRect (harg2.unread x2))
      (View.readAt (Elt Ideal) arg3.view (Rect.unit (s := S1x5632) ![0, 3584] S1x256.size inb_S1x5632_S1x256_0_3584).toLoadRect (harg3.unread x3)))
    (View.readAt (Elt Ideal) arg1.view (Rect.unit (s := S32x2x5632) ![0, 0, 3584] S32x2x256.size inb_S32x2x5632_S32x2x256_0_0_3584).toLoadRect (harg1.unread x1)) (fun k => ⟨3584 + k, by omega⟩)
    (up_read x0 x2 x3 _ _ _ _ (rdX x0 harg0) (rdW x2 harg2 3584 _) (rdB x3 harg3 3584 _)) (rdS x1 harg1 3584 _) 0 _ s a k

theorem v348_at (s : Fin 32) (a : Fin 8) (k : Fin 256) :
    kernelRun0_A.sl.v348 (F := Ideal) c arg0 harg0 arg1 harg1 arg2 harg2 arg3 harg3 arg11 x0 x1 x2 x3 (ix3 s a k) = hS x0 x1 x2 x3 s (1 + a) ⟨3584 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3584] S1024x256.size inb_S1024x5632_S1024x256_0_3584).toLoadRect (harg2.unread x2))
      (View.readAt (Elt Ideal) arg3.view (Rect.unit (s := S1x5632) ![0, 3584] S1x256.size inb_S1x5632_S1x256_0_3584).toLoadRect (harg3.unread x3)))
    (View.readAt (Elt Ideal) arg1.view (Rect.unit (s := S32x2x5632) ![0, 0, 3584] S32x2x256.size inb_S32x2x5632_S32x2x256_0_0_3584).toLoadRect (harg1.unread x1)) (fun k => ⟨3584 + k, by omega⟩)
    (up_read x0 x2 x3 _ _ _ _ (rdX x0 harg0) (rdW x2 harg2 3584 _) (rdB x3 harg3 3584 _)) (rdS x1 harg1 3584 _) 1 _ s a k

theorem v350_at (s : Fin 32) (a : Fin 8) (k : Fin 256) :
    kernelRun0_A.sl.v350 (F := Ideal) c arg0 harg0 arg1 harg1 arg2 harg2 arg3 harg3 arg11 x0 x1 x2 x3 (ix3 s a k) = hS x0 x1 x2 x3 s (2 + a) ⟨3584 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3584] S1024x256.size inb_S1024x5632_S1024x256_0_3584).toLoadRect (harg2.unread x2))
      (View.readAt (Elt Ideal) arg3.view (Rect.unit (s := S1x5632) ![0, 3584] S1x256.size inb_S1x5632_S1x256_0_3584).toLoadRect (harg3.unread x3)))
    (View.readAt (Elt Ideal) arg1.view (Rect.unit (s := S32x2x5632) ![0, 0, 3584] S32x2x256.size inb_S32x2x5632_S32x2x256_0_0_3584).toLoadRect (harg1.unread x1)) (fun k => ⟨3584 + k, by omega⟩)
    (up_read x0 x2 x3 _ _ _ _ (rdX x0 harg0) (rdW x2 harg2 3584 _) (rdB x3 harg3 3584 _)) (rdS x1 harg1 3584 _) 2 _ s a k

theorem acc3_eq : kernelRun0_A.sl.r_41 (F := Ideal) c arg0 harg0 arg1 harg1 arg2 harg2 arg3 harg3 arg4 harg4 arg5 harg5 arg6 harg6 arg11 x0 x1 x2 x3 x4 x5 x6 =
    stepV (kernelRun0_A.sl.r_31 (F := Ideal) c arg0 harg0 arg1 harg1 arg2 harg2 arg3 harg3 arg4 harg4 arg5 harg5 arg6 harg6 arg11 x0 x1 x2 x3 x4 x5 x6)
      (convV (kernelRun0_A.sl.v323 (F := Ideal) c arg0 harg0 arg1 harg1 arg2 harg2 arg3 harg3 arg11 x0 x1 x2 x3) (kernelRun0_A.sl.v325 (F := Ideal) c arg0 harg0 arg1 harg1 arg2 harg2 arg3 harg3 arg11 x0 x1 x2 x3)
        (kernelRun0_A.sl.v327 (F := Ideal) c arg0 harg0 arg1 harg1 arg2 harg2 arg3 harg3 arg11 x0 x1 x2 x3)
        (View.readAt (Elt Ideal) arg5.view (Rect.unit (s := S1x5632) ![0, 768] S1x256.size inb_S1x5632_S1x256_0_768).toLoadRect (harg5.unread x5)) (View.readAt (Elt Ideal) arg4.view (Rect.unit (s := S3x5632) ![0, 768] S1x256.size inb_S3x5632_S1x256_0_768).toLoadRect (harg4.unread x4))
        (View.readAt (Elt Ideal) arg4.view (Rect.unit (s := S3x5632) ![1, 768] S1x256.size inb_S3x5632_S1x256_1_768).toLoadRect (harg4.unread x4)) (View.readAt (Elt Ideal) arg4.view (Rect.unit (s := S3x5632) ![2, 768] S1x256.size inb_S3x5632_S1x256_2_768).toLoadRect (harg4.unread x4)))
      (convV (kernelRun0_A.sl.v346 (F := Ideal) c arg0 harg0 arg1 harg1 arg2 harg2 arg3 harg3 arg11 x0 x1 x2 x3) (kernelRun0_A.sl.v348 (F := Ideal) c arg0 harg0 arg1 harg1 arg2 harg2 arg3 harg3 arg11 x0 x1 x2 x3)
        (kernelRun0_A.sl.v350 (F := Ideal) c arg0 harg0 arg1 harg1 arg2 harg2 arg3 harg3 arg11 x0 x1 x2 x3)
        (View.readAt (Elt Ideal) arg5.view (Rect.unit (s := S1x5632) ![0, 3584] S1x256.size inb_S1x5632_S1x256_0_3584).toLoadRect (harg5.unread x5)) (View.readAt (Elt Ideal) arg4.view (Rect.unit (s := S3x5632) ![0, 3584] S1x256.size inb_S3x5632_S1x256_0_3584).toLoadRect (harg4.unread x4))
        (View.readAt (Elt Ideal) arg4.view (Rect.unit (s := S3x5632) ![1, 3584] S1x256.size inb_S3x5632_S1x256_1_3584).toLoadRect (harg4.unread x4)) (View.readAt (Elt Ideal) arg4.view (Rect.unit (s := S3x5632) ![2, 3584] S1x256.size inb_S3x5632_S1x256_2_3584).toLoadRect (harg4.unread x4)))
      (View.readAt (Elt Ideal) arg6.view (Rect.unit (s := S2816x1024) ![768, 0] S256x1024.size inb_S2816x1024_S256x1024_768_0).toLoadRect (harg6.unread x6)) := rfl

theorem acc3_apply (r : Fin 256) (o : Fin 1024) : (kernelRun0_A.sl.r_41 (F := Ideal) c arg0 harg0 arg1 harg1 arg2 harg2 arg3 harg3 arg4 harg4 arg5 harg5 arg6 harg6 arg11 x0 x1 x2 x3 x4 x5 x6 (ix2 r o) : EReal) = (kernelRun0_A.sl.r_31 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨768 + k, by omega⟩ * (x6 (ix2 ⟨768 + k, by omega⟩ o) : EReal) := by
  rw [acc3_eq]
  exact step_read x0 x1 x2 x3 x4 x5 x6 _ _ _ _ 768 (by omega) (fun k => ⟨768 + k, by omega⟩) (fun k => ⟨3584 + k, by omega⟩)
    (conv_read x0 x1 x2 x3 x4 x5 _ _ _ _ _ _ _ (fun k => ⟨768 + k, by omega⟩) (v323_at c arg0 harg0 arg1 harg1 arg2 harg2 arg3 harg3 arg11 x0 x1 x2 x3) (v325_at c arg0 harg0 arg1 harg1 arg2 harg2 arg3 harg3 arg11 x0 x1 x2 x3) (v327_at c arg0 harg0 arg1 harg1 arg2 harg2 arg3 harg3 arg11 x0 x1 x2 x3)
      (rdB x5 harg5 768 _) (rdC x4 harg4 0 768 _) (rdC x4 harg4 1 768 _) (rdC x4 harg4 2 768 _))
    (conv_read x0 x1 x2 x3 x4 x5 _ _ _ _ _ _ _ (fun k => ⟨3584 + k, by omega⟩) (v346_at c arg0 harg0 arg1 harg1 arg2 harg2 arg3 harg3 arg11 x0 x1 x2 x3) (v348_at c arg0 harg0 arg1 harg1 arg2 harg2 arg3 harg3 arg11 x0 x1 x2 x3) (v350_at c arg0 harg0 arg1 harg1 arg2 harg2 arg3 harg3 arg11 x0 x1 x2 x3)
      (rdB x5 harg5 3584 _) (rdC x4 harg4 0 3584 _) (rdC x4 harg4 1 3584 _) (rdC x4 harg4 2 3584 _))
    (fun k => rfl) (fun k => by show 3584 + (k : ℕ) = 2816 + (768 + k); omega) (rdD x6 harg6 768 _) r o

theorem v424_at (s : Fin 32) (a : Fin 8) (k : Fin 256) :
    kernelRun0_A.sl.v424 (F := Ideal) c arg0 harg0 arg1 harg1 arg2 harg2 arg3 harg3 arg11 x0 x1 x2 x3 (ix3 s a k) = hS x0 x1 x2 x3 s (0 + a) ⟨1024 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1024] S1024x256.size inb_S1024x5632_S1024x256_0_1024).toLoadRect (harg2.unread x2))
      (View.readAt (Elt Ideal) arg3.view (Rect.unit (s := S1x5632) ![0, 1024] S1x256.size inb_S1x5632_S1x256_0_1024).toLoadRect (harg3.unread x3)))
    (View.readAt (Elt Ideal) arg1.view (Rect.unit (s := S32x2x5632) ![0, 0, 1024] S32x2x256.size inb_S32x2x5632_S32x2x256_0_0_1024).toLoadRect (harg1.unread x1)) (fun k => ⟨1024 + k, by omega⟩)
    (up_read x0 x2 x3 _ _ _ _ (rdX x0 harg0) (rdW x2 harg2 1024 _) (rdB x3 harg3 1024 _)) (rdS x1 harg1 1024 _) 0 _ s a k

theorem v426_at (s : Fin 32) (a : Fin 8) (k : Fin 256) :
    kernelRun0_A.sl.v426 (F := Ideal) c arg0 harg0 arg1 harg1 arg2 harg2 arg3 harg3 arg11 x0 x1 x2 x3 (ix3 s a k) = hS x0 x1 x2 x3 s (1 + a) ⟨1024 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1024] S1024x256.size inb_S1024x5632_S1024x256_0_1024).toLoadRect (harg2.unread x2))
      (View.readAt (Elt Ideal) arg3.view (Rect.unit (s := S1x5632) ![0, 1024] S1x256.size inb_S1x5632_S1x256_0_1024).toLoadRect (harg3.unread x3)))
    (View.readAt (Elt Ideal) arg1.view (Rect.unit (s := S32x2x5632) ![0, 0, 1024] S32x2x256.size inb_S32x2x5632_S32x2x256_0_0_1024).toLoadRect (harg1.unread x1)) (fun k => ⟨1024 + k, by omega⟩)
    (up_read x0 x2 x3 _ _ _ _ (rdX x0 harg0) (rdW x2 harg2 1024 _) (rdB x3 harg3 1024 _)) (rdS x1 harg1 1024 _) 1 _ s a k

theorem v428_at (s : Fin 32) (a : Fin 8) (k : Fin 256) :
    kernelRun0_A.sl.v428 (F := Ideal) c arg0 harg0 arg1 harg1 arg2 harg2 arg3 harg3 arg11 x0 x1 x2 x3 (ix3 s a k) = hS x0 x1 x2 x3 s (2 + a) ⟨1024 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1024] S1024x256.size inb_S1024x5632_S1024x256_0_1024).toLoadRect (harg2.unread x2))
      (View.readAt (Elt Ideal) arg3.view (Rect.unit (s := S1x5632) ![0, 1024] S1x256.size inb_S1x5632_S1x256_0_1024).toLoadRect (harg3.unread x3)))
    (View.readAt (Elt Ideal) arg1.view (Rect.unit (s := S32x2x5632) ![0, 0, 1024] S32x2x256.size inb_S32x2x5632_S32x2x256_0_0_1024).toLoadRect (harg1.unread x1)) (fun k => ⟨1024 + k, by omega⟩)
    (up_read x0 x2 x3 _ _ _ _ (rdX x0 harg0) (rdW x2 harg2 1024 _) (rdB x3 harg3 1024 _)) (rdS x1 harg1 1024 _) 2 _ s a k

theorem v447_at (s : Fin 32) (a : Fin 8) (k : Fin 256) :
    kernelRun0_A.sl.v447 (F := Ideal) c arg0 harg0 arg1 harg1 arg2 harg2 arg3 harg3 arg11 x0 x1 x2 x3 (ix3 s a k) = hS x0 x1 x2 x3 s (0 + a) ⟨3840 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3840] S1024x256.size inb_S1024x5632_S1024x256_0_3840).toLoadRect (harg2.unread x2))
      (View.readAt (Elt Ideal) arg3.view (Rect.unit (s := S1x5632) ![0, 3840] S1x256.size inb_S1x5632_S1x256_0_3840).toLoadRect (harg3.unread x3)))
    (View.readAt (Elt Ideal) arg1.view (Rect.unit (s := S32x2x5632) ![0, 0, 3840] S32x2x256.size inb_S32x2x5632_S32x2x256_0_0_3840).toLoadRect (harg1.unread x1)) (fun k => ⟨3840 + k, by omega⟩)
    (up_read x0 x2 x3 _ _ _ _ (rdX x0 harg0) (rdW x2 harg2 3840 _) (rdB x3 harg3 3840 _)) (rdS x1 harg1 3840 _) 0 _ s a k

theorem v449_at (s : Fin 32) (a : Fin 8) (k : Fin 256) :
    kernelRun0_A.sl.v449 (F := Ideal) c arg0 harg0 arg1 harg1 arg2 harg2 arg3 harg3 arg11 x0 x1 x2 x3 (ix3 s a k) = hS x0 x1 x2 x3 s (1 + a) ⟨3840 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3840] S1024x256.size inb_S1024x5632_S1024x256_0_3840).toLoadRect (harg2.unread x2))
      (View.readAt (Elt Ideal) arg3.view (Rect.unit (s := S1x5632) ![0, 3840] S1x256.size inb_S1x5632_S1x256_0_3840).toLoadRect (harg3.unread x3)))
    (View.readAt (Elt Ideal) arg1.view (Rect.unit (s := S32x2x5632) ![0, 0, 3840] S32x2x256.size inb_S32x2x5632_S32x2x256_0_0_3840).toLoadRect (harg1.unread x1)) (fun k => ⟨3840 + k, by omega⟩)
    (up_read x0 x2 x3 _ _ _ _ (rdX x0 harg0) (rdW x2 harg2 3840 _) (rdB x3 harg3 3840 _)) (rdS x1 harg1 3840 _) 1 _ s a k

theorem v451_at (s : Fin 32) (a : Fin 8) (k : Fin 256) :
    kernelRun0_A.sl.v451 (F := Ideal) c arg0 harg0 arg1 harg1 arg2 harg2 arg3 harg3 arg11 x0 x1 x2 x3 (ix3 s a k) = hS x0 x1 x2 x3 s (2 + a) ⟨3840 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3840] S1024x256.size inb_S1024x5632_S1024x256_0_3840).toLoadRect (harg2.unread x2))
      (View.readAt (Elt Ideal) arg3.view (Rect.unit (s := S1x5632) ![0, 3840] S1x256.size inb_S1x5632_S1x256_0_3840).toLoadRect (harg3.unread x3)))
    (View.readAt (Elt Ideal) arg1.view (Rect.unit (s := S32x2x5632) ![0, 0, 3840] S32x2x256.size inb_S32x2x5632_S32x2x256_0_0_3840).toLoadRect (harg1.unread x1)) (fun k => ⟨3840 + k, by omega⟩)
    (up_read x0 x2 x3 _ _ _ _ (rdX x0 harg0) (rdW x2 harg2 3840 _) (rdB x3 harg3 3840 _)) (rdS x1 harg1 3840 _) 2 _ s a k

theorem acc4_eq : kernelRun0_A.sl.r_51 (F := Ideal) c arg0 harg0 arg1 harg1 arg2 harg2 arg3 harg3 arg4 harg4 arg5 harg5 arg6 harg6 arg11 x0 x1 x2 x3 x4 x5 x6 =
    stepV (kernelRun0_A.sl.r_41 (F := Ideal) c arg0 harg0 arg1 harg1 arg2 harg2 arg3 harg3 arg4 harg4 arg5 harg5 arg6 harg6 arg11 x0 x1 x2 x3 x4 x5 x6)
      (convV (kernelRun0_A.sl.v424 (F := Ideal) c arg0 harg0 arg1 harg1 arg2 harg2 arg3 harg3 arg11 x0 x1 x2 x3) (kernelRun0_A.sl.v426 (F := Ideal) c arg0 harg0 arg1 harg1 arg2 harg2 arg3 harg3 arg11 x0 x1 x2 x3)
        (kernelRun0_A.sl.v428 (F := Ideal) c arg0 harg0 arg1 harg1 arg2 harg2 arg3 harg3 arg11 x0 x1 x2 x3)
        (View.readAt (Elt Ideal) arg5.view (Rect.unit (s := S1x5632) ![0, 1024] S1x256.size inb_S1x5632_S1x256_0_1024).toLoadRect (harg5.unread x5)) (View.readAt (Elt Ideal) arg4.view (Rect.unit (s := S3x5632) ![0, 1024] S1x256.size inb_S3x5632_S1x256_0_1024).toLoadRect (harg4.unread x4))
        (View.readAt (Elt Ideal) arg4.view (Rect.unit (s := S3x5632) ![1, 1024] S1x256.size inb_S3x5632_S1x256_1_1024).toLoadRect (harg4.unread x4)) (View.readAt (Elt Ideal) arg4.view (Rect.unit (s := S3x5632) ![2, 1024] S1x256.size inb_S3x5632_S1x256_2_1024).toLoadRect (harg4.unread x4)))
      (convV (kernelRun0_A.sl.v447 (F := Ideal) c arg0 harg0 arg1 harg1 arg2 harg2 arg3 harg3 arg11 x0 x1 x2 x3) (kernelRun0_A.sl.v449 (F := Ideal) c arg0 harg0 arg1 harg1 arg2 harg2 arg3 harg3 arg11 x0 x1 x2 x3)
        (kernelRun0_A.sl.v451 (F := Ideal) c arg0 harg0 arg1 harg1 arg2 harg2 arg3 harg3 arg11 x0 x1 x2 x3)
        (View.readAt (Elt Ideal) arg5.view (Rect.unit (s := S1x5632) ![0, 3840] S1x256.size inb_S1x5632_S1x256_0_3840).toLoadRect (harg5.unread x5)) (View.readAt (Elt Ideal) arg4.view (Rect.unit (s := S3x5632) ![0, 3840] S1x256.size inb_S3x5632_S1x256_0_3840).toLoadRect (harg4.unread x4))
        (View.readAt (Elt Ideal) arg4.view (Rect.unit (s := S3x5632) ![1, 3840] S1x256.size inb_S3x5632_S1x256_1_3840).toLoadRect (harg4.unread x4)) (View.readAt (Elt Ideal) arg4.view (Rect.unit (s := S3x5632) ![2, 3840] S1x256.size inb_S3x5632_S1x256_2_3840).toLoadRect (harg4.unread x4)))
      (View.readAt (Elt Ideal) arg6.view (Rect.unit (s := S2816x1024) ![1024, 0] S256x1024.size inb_S2816x1024_S256x1024_1024_0).toLoadRect (harg6.unread x6)) := rfl

theorem acc4_apply (r : Fin 256) (o : Fin 1024) : (kernelRun0_A.sl.r_51 (F := Ideal) c arg0 harg0 arg1 harg1 arg2 harg2 arg3 harg3 arg4 harg4 arg5 harg5 arg6 harg6 arg11 x0 x1 x2 x3 x4 x5 x6 (ix2 r o) : EReal) = (kernelRun0_A.sl.r_41 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨1024 + k, by omega⟩ * (x6 (ix2 ⟨1024 + k, by omega⟩ o) : EReal) := by
  rw [acc4_eq]
  exact step_read x0 x1 x2 x3 x4 x5 x6 _ _ _ _ 1024 (by omega) (fun k => ⟨1024 + k, by omega⟩) (fun k => ⟨3840 + k, by omega⟩)
    (conv_read x0 x1 x2 x3 x4 x5 _ _ _ _ _ _ _ (fun k => ⟨1024 + k, by omega⟩) (v424_at c arg0 harg0 arg1 harg1 arg2 harg2 arg3 harg3 arg11 x0 x1 x2 x3) (v426_at c arg0 harg0 arg1 harg1 arg2 harg2 arg3 harg3 arg11 x0 x1 x2 x3) (v428_at c arg0 harg0 arg1 harg1 arg2 harg2 arg3 harg3 arg11 x0 x1 x2 x3)
      (rdB x5 harg5 1024 _) (rdC x4 harg4 0 1024 _) (rdC x4 harg4 1 1024 _) (rdC x4 harg4 2 1024 _))
    (conv_read x0 x1 x2 x3 x4 x5 _ _ _ _ _ _ _ (fun k => ⟨3840 + k, by omega⟩) (v447_at c arg0 harg0 arg1 harg1 arg2 harg2 arg3 harg3 arg11 x0 x1 x2 x3) (v449_at c arg0 harg0 arg1 harg1 arg2 harg2 arg3 harg3 arg11 x0 x1 x2 x3) (v451_at c arg0 harg0 arg1 harg1 arg2 harg2 arg3 harg3 arg11 x0 x1 x2 x3)
      (rdB x5 harg5 3840 _) (rdC x4 harg4 0 3840 _) (rdC x4 harg4 1 3840 _) (rdC x4 harg4 2 3840 _))
    (fun k => rfl) (fun k => by show 3840 + (k : ℕ) = 2816 + (1024 + k); omega) (rdD x6 harg6 1024 _) r o

theorem v525_at (s : Fin 32) (a : Fin 8) (k : Fin 256) :
    kernelRun0_A.sl.v525 (F := Ideal) c arg0 harg0 arg1 harg1 arg2 harg2 arg3 harg3 arg11 x0 x1 x2 x3 (ix3 s a k) = hS x0 x1 x2 x3 s (0 + a) ⟨1280 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1280] S1024x256.size inb_S1024x5632_S1024x256_0_1280).toLoadRect (harg2.unread x2))
      (View.readAt (Elt Ideal) arg3.view (Rect.unit (s := S1x5632) ![0, 1280] S1x256.size inb_S1x5632_S1x256_0_1280).toLoadRect (harg3.unread x3)))
    (View.readAt (Elt Ideal) arg1.view (Rect.unit (s := S32x2x5632) ![0, 0, 1280] S32x2x256.size inb_S32x2x5632_S32x2x256_0_0_1280).toLoadRect (harg1.unread x1)) (fun k => ⟨1280 + k, by omega⟩)
    (up_read x0 x2 x3 _ _ _ _ (rdX x0 harg0) (rdW x2 harg2 1280 _) (rdB x3 harg3 1280 _)) (rdS x1 harg1 1280 _) 0 _ s a k

theorem v527_at (s : Fin 32) (a : Fin 8) (k : Fin 256) :
    kernelRun0_A.sl.v527 (F := Ideal) c arg0 harg0 arg1 harg1 arg2 harg2 arg3 harg3 arg11 x0 x1 x2 x3 (ix3 s a k) = hS x0 x1 x2 x3 s (1 + a) ⟨1280 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1280] S1024x256.size inb_S1024x5632_S1024x256_0_1280).toLoadRect (harg2.unread x2))
      (View.readAt (Elt Ideal) arg3.view (Rect.unit (s := S1x5632) ![0, 1280] S1x256.size inb_S1x5632_S1x256_0_1280).toLoadRect (harg3.unread x3)))
    (View.readAt (Elt Ideal) arg1.view (Rect.unit (s := S32x2x5632) ![0, 0, 1280] S32x2x256.size inb_S32x2x5632_S32x2x256_0_0_1280).toLoadRect (harg1.unread x1)) (fun k => ⟨1280 + k, by omega⟩)
    (up_read x0 x2 x3 _ _ _ _ (rdX x0 harg0) (rdW x2 harg2 1280 _) (rdB x3 harg3 1280 _)) (rdS x1 harg1 1280 _) 1 _ s a k

theorem v529_at (s : Fin 32) (a : Fin 8) (k : Fin 256) :
    kernelRun0_A.sl.v529 (F := Ideal) c arg0 harg0 arg1 harg1 arg2 harg2 arg3 harg3 arg11 x0 x1 x2 x3 (ix3 s a k) = hS x0 x1 x2 x3 s (2 + a) ⟨1280 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1280] S1024x256.size inb_S1024x5632_S1024x256_0_1280).toLoadRect (harg2.unread x2))
      (View.readAt (Elt Ideal) arg3.view (Rect.unit (s := S1x5632) ![0, 1280] S1x256.size inb_S1x5632_S1x256_0_1280).toLoadRect (harg3.unread x3)))
    (View.readAt (Elt Ideal) arg1.view (Rect.unit (s := S32x2x5632) ![0, 0, 1280] S32x2x256.size inb_S32x2x5632_S32x2x256_0_0_1280).toLoadRect (harg1.unread x1)) (fun k => ⟨1280 + k, by omega⟩)
    (up_read x0 x2 x3 _ _ _ _ (rdX x0 harg0) (rdW x2 harg2 1280 _) (rdB x3 harg3 1280 _)) (rdS x1 harg1 1280 _) 2 _ s a k

theorem v548_at (s : Fin 32) (a : Fin 8) (k : Fin 256) :
    kernelRun0_A.sl.v548 (F := Ideal) c arg0 harg0 arg1 harg1 arg2 harg2 arg3 harg3 arg11 x0 x1 x2 x3 (ix3 s a k) = hS x0 x1 x2 x3 s (0 + a) ⟨4096 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4096] S1024x256.size inb_S1024x5632_S1024x256_0_4096).toLoadRect (harg2.unread x2))
      (View.readAt (Elt Ideal) arg3.view (Rect.unit (s := S1x5632) ![0, 4096] S1x256.size inb_S1x5632_S1x256_0_4096).toLoadRect (harg3.unread x3)))
    (View.readAt (Elt Ideal) arg1.view (Rect.unit (s := S32x2x5632) ![0, 0, 4096] S32x2x256.size inb_S32x2x5632_S32x2x256_0_0_4096).toLoadRect (harg1.unread x1)) (fun k => ⟨4096 + k, by omega⟩)
    (up_read x0 x2 x3 _ _ _ _ (rdX x0 harg0) (rdW x2 harg2 4096 _) (rdB x3 harg3 4096 _)) (rdS x1 harg1 4096 _) 0 _ s a k

theorem v550_at (s : Fin 32) (a : Fin 8) (k : Fin 256) :
    kernelRun0_A.sl.v550 (F := Ideal) c arg0 harg0 arg1 harg1 arg2 harg2 arg3 harg3 arg11 x0 x1 x2 x3 (ix3 s a k) = hS x0 x1 x2 x3 s (1 + a) ⟨4096 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4096] S1024x256.size inb_S1024x5632_S1024x256_0_4096).toLoadRect (harg2.unread x2))
      (View.readAt (Elt Ideal) arg3.view (Rect.unit (s := S1x5632) ![0, 4096] S1x256.size inb_S1x5632_S1x256_0_4096).toLoadRect (harg3.unread x3)))
    (View.readAt (Elt Ideal) arg1.view (Rect.unit (s := S32x2x5632) ![0, 0, 4096] S32x2x256.size inb_S32x2x5632_S32x2x256_0_0_4096).toLoadRect (harg1.unread x1)) (fun k => ⟨4096 + k, by omega⟩)
    (up_read x0 x2 x3 _ _ _ _ (rdX x0 harg0) (rdW x2 harg2 4096 _) (rdB x3 harg3 4096 _)) (rdS x1 harg1 4096 _) 1 _ s a k

theorem v552_at (s : Fin 32) (a : Fin 8) (k : Fin 256) :
    kernelRun0_A.sl.v552 (F := Ideal) c arg0 harg0 arg1 harg1 arg2 harg2 arg3 harg3 arg11 x0 x1 x2 x3 (ix3 s a k) = hS x0 x1 x2 x3 s (2 + a) ⟨4096 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4096] S1024x256.size inb_S1024x5632_S1024x256_0_4096).toLoadRect (harg2.unread x2))
      (View.readAt (Elt Ideal) arg3.view (Rect.unit (s := S1x5632) ![0, 4096] S1x256.size inb_S1x5632_S1x256_0_4096).toLoadRect (harg3.unread x3)))
    (View.readAt (Elt Ideal) arg1.view (Rect.unit (s := S32x2x5632) ![0, 0, 4096] S32x2x256.size inb_S32x2x5632_S32x2x256_0_0_4096).toLoadRect (harg1.unread x1)) (fun k => ⟨4096 + k, by omega⟩)
    (up_read x0 x2 x3 _ _ _ _ (rdX x0 harg0) (rdW x2 harg2 4096 _) (rdB x3 harg3 4096 _)) (rdS x1 harg1 4096 _) 2 _ s a k

theorem acc5_eq : kernelRun0_A.sl.r_61 (F := Ideal) c arg0 harg0 arg1 harg1 arg2 harg2 arg3 harg3 arg4 harg4 arg5 harg5 arg6 harg6 arg11 x0 x1 x2 x3 x4 x5 x6 =
    stepV (kernelRun0_A.sl.r_51 (F := Ideal) c arg0 harg0 arg1 harg1 arg2 harg2 arg3 harg3 arg4 harg4 arg5 harg5 arg6 harg6 arg11 x0 x1 x2 x3 x4 x5 x6)
      (convV (kernelRun0_A.sl.v525 (F := Ideal) c arg0 harg0 arg1 harg1 arg2 harg2 arg3 harg3 arg11 x0 x1 x2 x3) (kernelRun0_A.sl.v527 (F := Ideal) c arg0 harg0 arg1 harg1 arg2 harg2 arg3 harg3 arg11 x0 x1 x2 x3)
        (kernelRun0_A.sl.v529 (F := Ideal) c arg0 harg0 arg1 harg1 arg2 harg2 arg3 harg3 arg11 x0 x1 x2 x3)
        (View.readAt (Elt Ideal) arg5.view (Rect.unit (s := S1x5632) ![0, 1280] S1x256.size inb_S1x5632_S1x256_0_1280).toLoadRect (harg5.unread x5)) (View.readAt (Elt Ideal) arg4.view (Rect.unit (s := S3x5632) ![0, 1280] S1x256.size inb_S3x5632_S1x256_0_1280).toLoadRect (harg4.unread x4))
        (View.readAt (Elt Ideal) arg4.view (Rect.unit (s := S3x5632) ![1, 1280] S1x256.size inb_S3x5632_S1x256_1_1280).toLoadRect (harg4.unread x4)) (View.readAt (Elt Ideal) arg4.view (Rect.unit (s := S3x5632) ![2, 1280] S1x256.size inb_S3x5632_S1x256_2_1280).toLoadRect (harg4.unread x4)))
      (convV (kernelRun0_A.sl.v548 (F := Ideal) c arg0 harg0 arg1 harg1 arg2 harg2 arg3 harg3 arg11 x0 x1 x2 x3) (kernelRun0_A.sl.v550 (F := Ideal) c arg0 harg0 arg1 harg1 arg2 harg2 arg3 harg3 arg11 x0 x1 x2 x3)
        (kernelRun0_A.sl.v552 (F := Ideal) c arg0 harg0 arg1 harg1 arg2 harg2 arg3 harg3 arg11 x0 x1 x2 x3)
        (View.readAt (Elt Ideal) arg5.view (Rect.unit (s := S1x5632) ![0, 4096] S1x256.size inb_S1x5632_S1x256_0_4096).toLoadRect (harg5.unread x5)) (View.readAt (Elt Ideal) arg4.view (Rect.unit (s := S3x5632) ![0, 4096] S1x256.size inb_S3x5632_S1x256_0_4096).toLoadRect (harg4.unread x4))
        (View.readAt (Elt Ideal) arg4.view (Rect.unit (s := S3x5632) ![1, 4096] S1x256.size inb_S3x5632_S1x256_1_4096).toLoadRect (harg4.unread x4)) (View.readAt (Elt Ideal) arg4.view (Rect.unit (s := S3x5632) ![2, 4096] S1x256.size inb_S3x5632_S1x256_2_4096).toLoadRect (harg4.unread x4)))
      (View.readAt (Elt Ideal) arg6.view (Rect.unit (s := S2816x1024) ![1280, 0] S256x1024.size inb_S2816x1024_S256x1024_1280_0).toLoadRect (harg6.unread x6)) := rfl

theorem acc5_apply (r : Fin 256) (o : Fin 1024) : (kernelRun0_A.sl.r_61 (F := Ideal) c arg0 harg0 arg1 harg1 arg2 harg2 arg3 harg3 arg4 harg4 arg5 harg5 arg6 harg6 arg11 x0 x1 x2 x3 x4 x5 x6 (ix2 r o) : EReal) = (kernelRun0_A.sl.r_51 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨1280 + k, by omega⟩ * (x6 (ix2 ⟨1280 + k, by omega⟩ o) : EReal) := by
  rw [acc5_eq]
  exact step_read x0 x1 x2 x3 x4 x5 x6 _ _ _ _ 1280 (by omega) (fun k => ⟨1280 + k, by omega⟩) (fun k => ⟨4096 + k, by omega⟩)
    (conv_read x0 x1 x2 x3 x4 x5 _ _ _ _ _ _ _ (fun k => ⟨1280 + k, by omega⟩) (v525_at c arg0 harg0 arg1 harg1 arg2 harg2 arg3 harg3 arg11 x0 x1 x2 x3) (v527_at c arg0 harg0 arg1 harg1 arg2 harg2 arg3 harg3 arg11 x0 x1 x2 x3) (v529_at c arg0 harg0 arg1 harg1 arg2 harg2 arg3 harg3 arg11 x0 x1 x2 x3)
      (rdB x5 harg5 1280 _) (rdC x4 harg4 0 1280 _) (rdC x4 harg4 1 1280 _) (rdC x4 harg4 2 1280 _))
    (conv_read x0 x1 x2 x3 x4 x5 _ _ _ _ _ _ _ (fun k => ⟨4096 + k, by omega⟩) (v548_at c arg0 harg0 arg1 harg1 arg2 harg2 arg3 harg3 arg11 x0 x1 x2 x3) (v550_at c arg0 harg0 arg1 harg1 arg2 harg2 arg3 harg3 arg11 x0 x1 x2 x3) (v552_at c arg0 harg0 arg1 harg1 arg2 harg2 arg3 harg3 arg11 x0 x1 x2 x3)
      (rdB x5 harg5 4096 _) (rdC x4 harg4 0 4096 _) (rdC x4 harg4 1 4096 _) (rdC x4 harg4 2 4096 _))
    (fun k => rfl) (fun k => by show 4096 + (k : ℕ) = 2816 + (1280 + k); omega) (rdD x6 harg6 1280 _) r o

theorem v626_at (s : Fin 32) (a : Fin 8) (k : Fin 256) :
    kernelRun0_A.sl.v626 (F := Ideal) c arg0 harg0 arg1 harg1 arg2 harg2 arg3 harg3 arg11 x0 x1 x2 x3 (ix3 s a k) = hS x0 x1 x2 x3 s (0 + a) ⟨1536 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1536] S1024x256.size inb_S1024x5632_S1024x256_0_1536).toLoadRect (harg2.unread x2))
      (View.readAt (Elt Ideal) arg3.view (Rect.unit (s := S1x5632) ![0, 1536] S1x256.size inb_S1x5632_S1x256_0_1536).toLoadRect (harg3.unread x3)))
    (View.readAt (Elt Ideal) arg1.view (Rect.unit (s := S32x2x5632) ![0, 0, 1536] S32x2x256.size inb_S32x2x5632_S32x2x256_0_0_1536).toLoadRect (harg1.unread x1)) (fun k => ⟨1536 + k, by omega⟩)
    (up_read x0 x2 x3 _ _ _ _ (rdX x0 harg0) (rdW x2 harg2 1536 _) (rdB x3 harg3 1536 _)) (rdS x1 harg1 1536 _) 0 _ s a k

theorem v628_at (s : Fin 32) (a : Fin 8) (k : Fin 256) :
    kernelRun0_A.sl.v628 (F := Ideal) c arg0 harg0 arg1 harg1 arg2 harg2 arg3 harg3 arg11 x0 x1 x2 x3 (ix3 s a k) = hS x0 x1 x2 x3 s (1 + a) ⟨1536 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1536] S1024x256.size inb_S1024x5632_S1024x256_0_1536).toLoadRect (harg2.unread x2))
      (View.readAt (Elt Ideal) arg3.view (Rect.unit (s := S1x5632) ![0, 1536] S1x256.size inb_S1x5632_S1x256_0_1536).toLoadRect (harg3.unread x3)))
    (View.readAt (Elt Ideal) arg1.view (Rect.unit (s := S32x2x5632) ![0, 0, 1536] S32x2x256.size inb_S32x2x5632_S32x2x256_0_0_1536).toLoadRect (harg1.unread x1)) (fun k => ⟨1536 + k, by omega⟩)
    (up_read x0 x2 x3 _ _ _ _ (rdX x0 harg0) (rdW x2 harg2 1536 _) (rdB x3 harg3 1536 _)) (rdS x1 harg1 1536 _) 1 _ s a k

theorem v630_at (s : Fin 32) (a : Fin 8) (k : Fin 256) :
    kernelRun0_A.sl.v630 (F := Ideal) c arg0 harg0 arg1 harg1 arg2 harg2 arg3 harg3 arg11 x0 x1 x2 x3 (ix3 s a k) = hS x0 x1 x2 x3 s (2 + a) ⟨1536 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1536] S1024x256.size inb_S1024x5632_S1024x256_0_1536).toLoadRect (harg2.unread x2))
      (View.readAt (Elt Ideal) arg3.view (Rect.unit (s := S1x5632) ![0, 1536] S1x256.size inb_S1x5632_S1x256_0_1536).toLoadRect (harg3.unread x3)))
    (View.readAt (Elt Ideal) arg1.view (Rect.unit (s := S32x2x5632) ![0, 0, 1536] S32x2x256.size inb_S32x2x5632_S32x2x256_0_0_1536).toLoadRect (harg1.unread x1)) (fun k => ⟨1536 + k, by omega⟩)
    (up_read x0 x2 x3 _ _ _ _ (rdX x0 harg0) (rdW x2 harg2 1536 _) (rdB x3 harg3 1536 _)) (rdS x1 harg1 1536 _) 2 _ s a k

theorem v649_at (s : Fin 32) (a : Fin 8) (k : Fin 256) :
    kernelRun0_A.sl.v649 (F := Ideal) c arg0 harg0 arg1 harg1 arg2 harg2 arg3 harg3 arg11 x0 x1 x2 x3 (ix3 s a k) = hS x0 x1 x2 x3 s (0 + a) ⟨4352 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4352] S1024x256.size inb_S1024x5632_S1024x256_0_4352).toLoadRect (harg2.unread x2))
      (View.readAt (Elt Ideal) arg3.view (Rect.unit (s := S1x5632) ![0, 4352] S1x256.size inb_S1x5632_S1x256_0_4352).toLoadRect (harg3.unread x3)))
    (View.readAt (Elt Ideal) arg1.view (Rect.unit (s := S32x2x5632) ![0, 0, 4352] S32x2x256.size inb_S32x2x5632_S32x2x256_0_0_4352).toLoadRect (harg1.unread x1)) (fun k => ⟨4352 + k, by omega⟩)
    (up_read x0 x2 x3 _ _ _ _ (rdX x0 harg0) (rdW x2 harg2 4352 _) (rdB x3 harg3 4352 _)) (rdS x1 harg1 4352 _) 0 _ s a k

theorem v651_at (s : Fin 32) (a : Fin 8) (k : Fin 256) :
    kernelRun0_A.sl.v651 (F := Ideal) c arg0 harg0 arg1 harg1 arg2 harg2 arg3 harg3 arg11 x0 x1 x2 x3 (ix3 s a k) = hS x0 x1 x2 x3 s (1 + a) ⟨4352 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4352] S1024x256.size inb_S1024x5632_S1024x256_0_4352).toLoadRect (harg2.unread x2))
      (View.readAt (Elt Ideal) arg3.view (Rect.unit (s := S1x5632) ![0, 4352] S1x256.size inb_S1x5632_S1x256_0_4352).toLoadRect (harg3.unread x3)))
    (View.readAt (Elt Ideal) arg1.view (Rect.unit (s := S32x2x5632) ![0, 0, 4352] S32x2x256.size inb_S32x2x5632_S32x2x256_0_0_4352).toLoadRect (harg1.unread x1)) (fun k => ⟨4352 + k, by omega⟩)
    (up_read x0 x2 x3 _ _ _ _ (rdX x0 harg0) (rdW x2 harg2 4352 _) (rdB x3 harg3 4352 _)) (rdS x1 harg1 4352 _) 1 _ s a k

theorem v653_at (s : Fin 32) (a : Fin 8) (k : Fin 256) :
    kernelRun0_A.sl.v653 (F := Ideal) c arg0 harg0 arg1 harg1 arg2 harg2 arg3 harg3 arg11 x0 x1 x2 x3 (ix3 s a k) = hS x0 x1 x2 x3 s (2 + a) ⟨4352 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4352] S1024x256.size inb_S1024x5632_S1024x256_0_4352).toLoadRect (harg2.unread x2))
      (View.readAt (Elt Ideal) arg3.view (Rect.unit (s := S1x5632) ![0, 4352] S1x256.size inb_S1x5632_S1x256_0_4352).toLoadRect (harg3.unread x3)))
    (View.readAt (Elt Ideal) arg1.view (Rect.unit (s := S32x2x5632) ![0, 0, 4352] S32x2x256.size inb_S32x2x5632_S32x2x256_0_0_4352).toLoadRect (harg1.unread x1)) (fun k => ⟨4352 + k, by omega⟩)
    (up_read x0 x2 x3 _ _ _ _ (rdX x0 harg0) (rdW x2 harg2 4352 _) (rdB x3 harg3 4352 _)) (rdS x1 harg1 4352 _) 2 _ s a k

theorem acc6_eq : kernelRun0_A.sl.r_71 (F := Ideal) c arg0 harg0 arg1 harg1 arg2 harg2 arg3 harg3 arg4 harg4 arg5 harg5 arg6 harg6 arg11 x0 x1 x2 x3 x4 x5 x6 =
    stepV (kernelRun0_A.sl.r_61 (F := Ideal) c arg0 harg0 arg1 harg1 arg2 harg2 arg3 harg3 arg4 harg4 arg5 harg5 arg6 harg6 arg11 x0 x1 x2 x3 x4 x5 x6)
      (convV (kernelRun0_A.sl.v626 (F := Ideal) c arg0 harg0 arg1 harg1 arg2 harg2 arg3 harg3 arg11 x0 x1 x2 x3) (kernelRun0_A.sl.v628 (F := Ideal) c arg0 harg0 arg1 harg1 arg2 harg2 arg3 harg3 arg11 x0 x1 x2 x3)
        (kernelRun0_A.sl.v630 (F := Ideal) c arg0 harg0 arg1 harg1 arg2 harg2 arg3 harg3 arg11 x0 x1 x2 x3)
        (View.readAt (Elt Ideal) arg5.view (Rect.unit (s := S1x5632) ![0, 1536] S1x256.size inb_S1x5632_S1x256_0_1536).toLoadRect (harg5.unread x5)) (View.readAt (Elt Ideal) arg4.view (Rect.unit (s := S3x5632) ![0, 1536] S1x256.size inb_S3x5632_S1x256_0_1536).toLoadRect (harg4.unread x4))
        (View.readAt (Elt Ideal) arg4.view (Rect.unit (s := S3x5632) ![1, 1536] S1x256.size inb_S3x5632_S1x256_1_1536).toLoadRect (harg4.unread x4)) (View.readAt (Elt Ideal) arg4.view (Rect.unit (s := S3x5632) ![2, 1536] S1x256.size inb_S3x5632_S1x256_2_1536).toLoadRect (harg4.unread x4)))
      (convV (kernelRun0_A.sl.v649 (F := Ideal) c arg0 harg0 arg1 harg1 arg2 harg2 arg3 harg3 arg11 x0 x1 x2 x3) (kernelRun0_A.sl.v651 (F := Ideal) c arg0 harg0 arg1 harg1 arg2 harg2 arg3 harg3 arg11 x0 x1 x2 x3)
        (kernelRun0_A.sl.v653 (F := Ideal) c arg0 harg0 arg1 harg1 arg2 harg2 arg3 harg3 arg11 x0 x1 x2 x3)
        (View.readAt (Elt Ideal) arg5.view (Rect.unit (s := S1x5632) ![0, 4352] S1x256.size inb_S1x5632_S1x256_0_4352).toLoadRect (harg5.unread x5)) (View.readAt (Elt Ideal) arg4.view (Rect.unit (s := S3x5632) ![0, 4352] S1x256.size inb_S3x5632_S1x256_0_4352).toLoadRect (harg4.unread x4))
        (View.readAt (Elt Ideal) arg4.view (Rect.unit (s := S3x5632) ![1, 4352] S1x256.size inb_S3x5632_S1x256_1_4352).toLoadRect (harg4.unread x4)) (View.readAt (Elt Ideal) arg4.view (Rect.unit (s := S3x5632) ![2, 4352] S1x256.size inb_S3x5632_S1x256_2_4352).toLoadRect (harg4.unread x4)))
      (View.readAt (Elt Ideal) arg6.view (Rect.unit (s := S2816x1024) ![1536, 0] S256x1024.size inb_S2816x1024_S256x1024_1536_0).toLoadRect (harg6.unread x6)) := rfl

theorem acc6_apply (r : Fin 256) (o : Fin 1024) : (kernelRun0_A.sl.r_71 (F := Ideal) c arg0 harg0 arg1 harg1 arg2 harg2 arg3 harg3 arg4 harg4 arg5 harg5 arg6 harg6 arg11 x0 x1 x2 x3 x4 x5 x6 (ix2 r o) : EReal) = (kernelRun0_A.sl.r_61 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨1536 + k, by omega⟩ * (x6 (ix2 ⟨1536 + k, by omega⟩ o) : EReal) := by
  rw [acc6_eq]
  exact step_read x0 x1 x2 x3 x4 x5 x6 _ _ _ _ 1536 (by omega) (fun k => ⟨1536 + k, by omega⟩) (fun k => ⟨4352 + k, by omega⟩)
    (conv_read x0 x1 x2 x3 x4 x5 _ _ _ _ _ _ _ (fun k => ⟨1536 + k, by omega⟩) (v626_at c arg0 harg0 arg1 harg1 arg2 harg2 arg3 harg3 arg11 x0 x1 x2 x3) (v628_at c arg0 harg0 arg1 harg1 arg2 harg2 arg3 harg3 arg11 x0 x1 x2 x3) (v630_at c arg0 harg0 arg1 harg1 arg2 harg2 arg3 harg3 arg11 x0 x1 x2 x3)
      (rdB x5 harg5 1536 _) (rdC x4 harg4 0 1536 _) (rdC x4 harg4 1 1536 _) (rdC x4 harg4 2 1536 _))
    (conv_read x0 x1 x2 x3 x4 x5 _ _ _ _ _ _ _ (fun k => ⟨4352 + k, by omega⟩) (v649_at c arg0 harg0 arg1 harg1 arg2 harg2 arg3 harg3 arg11 x0 x1 x2 x3) (v651_at c arg0 harg0 arg1 harg1 arg2 harg2 arg3 harg3 arg11 x0 x1 x2 x3) (v653_at c arg0 harg0 arg1 harg1 arg2 harg2 arg3 harg3 arg11 x0 x1 x2 x3)
      (rdB x5 harg5 4352 _) (rdC x4 harg4 0 4352 _) (rdC x4 harg4 1 4352 _) (rdC x4 harg4 2 4352 _))
    (fun k => rfl) (fun k => by show 4352 + (k : ℕ) = 2816 + (1536 + k); omega) (rdD x6 harg6 1536 _) r o

theorem v727_at (s : Fin 32) (a : Fin 8) (k : Fin 256) :
    kernelRun0_A.sl.v727 (F := Ideal) c arg0 harg0 arg1 harg1 arg2 harg2 arg3 harg3 arg11 x0 x1 x2 x3 (ix3 s a k) = hS x0 x1 x2 x3 s (0 + a) ⟨1792 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1792] S1024x256.size inb_S1024x5632_S1024x256_0_1792).toLoadRect (harg2.unread x2))
      (View.readAt (Elt Ideal) arg3.view (Rect.unit (s := S1x5632) ![0, 1792] S1x256.size inb_S1x5632_S1x256_0_1792).toLoadRect (harg3.unread x3)))
    (View.readAt (Elt Ideal) arg1.view (Rect.unit (s := S32x2x5632) ![0, 0, 1792] S32x2x256.size inb_S32x2x5632_S32x2x256_0_0_1792).toLoadRect (harg1.unread x1)) (fun k => ⟨1792 + k, by omega⟩)
    (up_read x0 x2 x3 _ _ _ _ (rdX x0 harg0) (rdW x2 harg2 1792 _) (rdB x3 harg3 1792 _)) (rdS x1 harg1 1792 _) 0 _ s a k

theorem v729_at (s : Fin 32) (a : Fin 8) (k : Fin 256) :
    kernelRun0_A.sl.v729 (F := Ideal) c arg0 harg0 arg1 harg1 arg2 harg2 arg3 harg3 arg11 x0 x1 x2 x3 (ix3 s a k) = hS x0 x1 x2 x3 s (1 + a) ⟨1792 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1792] S1024x256.size inb_S1024x5632_S1024x256_0_1792).toLoadRect (harg2.unread x2))
      (View.readAt (Elt Ideal) arg3.view (Rect.unit (s := S1x5632) ![0, 1792] S1x256.size inb_S1x5632_S1x256_0_1792).toLoadRect (harg3.unread x3)))
    (View.readAt (Elt Ideal) arg1.view (Rect.unit (s := S32x2x5632) ![0, 0, 1792] S32x2x256.size inb_S32x2x5632_S32x2x256_0_0_1792).toLoadRect (harg1.unread x1)) (fun k => ⟨1792 + k, by omega⟩)
    (up_read x0 x2 x3 _ _ _ _ (rdX x0 harg0) (rdW x2 harg2 1792 _) (rdB x3 harg3 1792 _)) (rdS x1 harg1 1792 _) 1 _ s a k

theorem v731_at (s : Fin 32) (a : Fin 8) (k : Fin 256) :
    kernelRun0_A.sl.v731 (F := Ideal) c arg0 harg0 arg1 harg1 arg2 harg2 arg3 harg3 arg11 x0 x1 x2 x3 (ix3 s a k) = hS x0 x1 x2 x3 s (2 + a) ⟨1792 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1792] S1024x256.size inb_S1024x5632_S1024x256_0_1792).toLoadRect (harg2.unread x2))
      (View.readAt (Elt Ideal) arg3.view (Rect.unit (s := S1x5632) ![0, 1792] S1x256.size inb_S1x5632_S1x256_0_1792).toLoadRect (harg3.unread x3)))
    (View.readAt (Elt Ideal) arg1.view (Rect.unit (s := S32x2x5632) ![0, 0, 1792] S32x2x256.size inb_S32x2x5632_S32x2x256_0_0_1792).toLoadRect (harg1.unread x1)) (fun k => ⟨1792 + k, by omega⟩)
    (up_read x0 x2 x3 _ _ _ _ (rdX x0 harg0) (rdW x2 harg2 1792 _) (rdB x3 harg3 1792 _)) (rdS x1 harg1 1792 _) 2 _ s a k

theorem v750_at (s : Fin 32) (a : Fin 8) (k : Fin 256) :
    kernelRun0_A.sl.v750 (F := Ideal) c arg0 harg0 arg1 harg1 arg2 harg2 arg3 harg3 arg11 x0 x1 x2 x3 (ix3 s a k) = hS x0 x1 x2 x3 s (0 + a) ⟨4608 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4608] S1024x256.size inb_S1024x5632_S1024x256_0_4608).toLoadRect (harg2.unread x2))
      (View.readAt (Elt Ideal) arg3.view (Rect.unit (s := S1x5632) ![0, 4608] S1x256.size inb_S1x5632_S1x256_0_4608).toLoadRect (harg3.unread x3)))
    (View.readAt (Elt Ideal) arg1.view (Rect.unit (s := S32x2x5632) ![0, 0, 4608] S32x2x256.size inb_S32x2x5632_S32x2x256_0_0_4608).toLoadRect (harg1.unread x1)) (fun k => ⟨4608 + k, by omega⟩)
    (up_read x0 x2 x3 _ _ _ _ (rdX x0 harg0) (rdW x2 harg2 4608 _) (rdB x3 harg3 4608 _)) (rdS x1 harg1 4608 _) 0 _ s a k

theorem v752_at (s : Fin 32) (a : Fin 8) (k : Fin 256) :
    kernelRun0_A.sl.v752 (F := Ideal) c arg0 harg0 arg1 harg1 arg2 harg2 arg3 harg3 arg11 x0 x1 x2 x3 (ix3 s a k) = hS x0 x1 x2 x3 s (1 + a) ⟨4608 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4608] S1024x256.size inb_S1024x5632_S1024x256_0_4608).toLoadRect (harg2.unread x2))
      (View.readAt (Elt Ideal) arg3.view (Rect.unit (s := S1x5632) ![0, 4608] S1x256.size inb_S1x5632_S1x256_0_4608).toLoadRect (harg3.unread x3)))
    (View.readAt (Elt Ideal) arg1.view (Rect.unit (s := S32x2x5632) ![0, 0, 4608] S32x2x256.size inb_S32x2x5632_S32x2x256_0_0_4608).toLoadRect (harg1.unread x1)) (fun k => ⟨4608 + k, by omega⟩)
    (up_read x0 x2 x3 _ _ _ _ (rdX x0 harg0) (rdW x2 harg2 4608 _) (rdB x3 harg3 4608 _)) (rdS x1 harg1 4608 _) 1 _ s a k

theorem v754_at (s : Fin 32) (a : Fin 8) (k : Fin 256) :
    kernelRun0_A.sl.v754 (F := Ideal) c arg0 harg0 arg1 harg1 arg2 harg2 arg3 harg3 arg11 x0 x1 x2 x3 (ix3 s a k) = hS x0 x1 x2 x3 s (2 + a) ⟨4608 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4608] S1024x256.size inb_S1024x5632_S1024x256_0_4608).toLoadRect (harg2.unread x2))
      (View.readAt (Elt Ideal) arg3.view (Rect.unit (s := S1x5632) ![0, 4608] S1x256.size inb_S1x5632_S1x256_0_4608).toLoadRect (harg3.unread x3)))
    (View.readAt (Elt Ideal) arg1.view (Rect.unit (s := S32x2x5632) ![0, 0, 4608] S32x2x256.size inb_S32x2x5632_S32x2x256_0_0_4608).toLoadRect (harg1.unread x1)) (fun k => ⟨4608 + k, by omega⟩)
    (up_read x0 x2 x3 _ _ _ _ (rdX x0 harg0) (rdW x2 harg2 4608 _) (rdB x3 harg3 4608 _)) (rdS x1 harg1 4608 _) 2 _ s a k

theorem acc7_eq : kernelRun0_A.sl.r_81 (F := Ideal) c arg0 harg0 arg1 harg1 arg2 harg2 arg3 harg3 arg4 harg4 arg5 harg5 arg6 harg6 arg11 x0 x1 x2 x3 x4 x5 x6 =
    stepV (kernelRun0_A.sl.r_71 (F := Ideal) c arg0 harg0 arg1 harg1 arg2 harg2 arg3 harg3 arg4 harg4 arg5 harg5 arg6 harg6 arg11 x0 x1 x2 x3 x4 x5 x6)
      (convV (kernelRun0_A.sl.v727 (F := Ideal) c arg0 harg0 arg1 harg1 arg2 harg2 arg3 harg3 arg11 x0 x1 x2 x3) (kernelRun0_A.sl.v729 (F := Ideal) c arg0 harg0 arg1 harg1 arg2 harg2 arg3 harg3 arg11 x0 x1 x2 x3)
        (kernelRun0_A.sl.v731 (F := Ideal) c arg0 harg0 arg1 harg1 arg2 harg2 arg3 harg3 arg11 x0 x1 x2 x3)
        (View.readAt (Elt Ideal) arg5.view (Rect.unit (s := S1x5632) ![0, 1792] S1x256.size inb_S1x5632_S1x256_0_1792).toLoadRect (harg5.unread x5)) (View.readAt (Elt Ideal) arg4.view (Rect.unit (s := S3x5632) ![0, 1792] S1x256.size inb_S3x5632_S1x256_0_1792).toLoadRect (harg4.unread x4))
        (View.readAt (Elt Ideal) arg4.view (Rect.unit (s := S3x5632) ![1, 1792] S1x256.size inb_S3x5632_S1x256_1_1792).toLoadRect (harg4.unread x4)) (View.readAt (Elt Ideal) arg4.view (Rect.unit (s := S3x5632) ![2, 1792] S1x256.size inb_S3x5632_S1x256_2_1792).toLoadRect (harg4.unread x4)))
      (convV (kernelRun0_A.sl.v750 (F := Ideal) c arg0 harg0 arg1 harg1 arg2 harg2 arg3 harg3 arg11 x0 x1 x2 x3) (kernelRun0_A.sl.v752 (F := Ideal) c arg0 harg0 arg1 harg1 arg2 harg2 arg3 harg3 arg11 x0 x1 x2 x3)
        (kernelRun0_A.sl.v754 (F := Ideal) c arg0 harg0 arg1 harg1 arg2 harg2 arg3 harg3 arg11 x0 x1 x2 x3)
        (View.readAt (Elt Ideal) arg5.view (Rect.unit (s := S1x5632) ![0, 4608] S1x256.size inb_S1x5632_S1x256_0_4608).toLoadRect (harg5.unread x5)) (View.readAt (Elt Ideal) arg4.view (Rect.unit (s := S3x5632) ![0, 4608] S1x256.size inb_S3x5632_S1x256_0_4608).toLoadRect (harg4.unread x4))
        (View.readAt (Elt Ideal) arg4.view (Rect.unit (s := S3x5632) ![1, 4608] S1x256.size inb_S3x5632_S1x256_1_4608).toLoadRect (harg4.unread x4)) (View.readAt (Elt Ideal) arg4.view (Rect.unit (s := S3x5632) ![2, 4608] S1x256.size inb_S3x5632_S1x256_2_4608).toLoadRect (harg4.unread x4)))
      (View.readAt (Elt Ideal) arg6.view (Rect.unit (s := S2816x1024) ![1792, 0] S256x1024.size inb_S2816x1024_S256x1024_1792_0).toLoadRect (harg6.unread x6)) := rfl

theorem acc7_apply (r : Fin 256) (o : Fin 1024) : (kernelRun0_A.sl.r_81 (F := Ideal) c arg0 harg0 arg1 harg1 arg2 harg2 arg3 harg3 arg4 harg4 arg5 harg5 arg6 harg6 arg11 x0 x1 x2 x3 x4 x5 x6 (ix2 r o) : EReal) = (kernelRun0_A.sl.r_71 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨1792 + k, by omega⟩ * (x6 (ix2 ⟨1792 + k, by omega⟩ o) : EReal) := by
  rw [acc7_eq]
  exact step_read x0 x1 x2 x3 x4 x5 x6 _ _ _ _ 1792 (by omega) (fun k => ⟨1792 + k, by omega⟩) (fun k => ⟨4608 + k, by omega⟩)
    (conv_read x0 x1 x2 x3 x4 x5 _ _ _ _ _ _ _ (fun k => ⟨1792 + k, by omega⟩) (v727_at c arg0 harg0 arg1 harg1 arg2 harg2 arg3 harg3 arg11 x0 x1 x2 x3) (v729_at c arg0 harg0 arg1 harg1 arg2 harg2 arg3 harg3 arg11 x0 x1 x2 x3) (v731_at c arg0 harg0 arg1 harg1 arg2 harg2 arg3 harg3 arg11 x0 x1 x2 x3)
      (rdB x5 harg5 1792 _) (rdC x4 harg4 0 1792 _) (rdC x4 harg4 1 1792 _) (rdC x4 harg4 2 1792 _))
    (conv_read x0 x1 x2 x3 x4 x5 _ _ _ _ _ _ _ (fun k => ⟨4608 + k, by omega⟩) (v750_at c arg0 harg0 arg1 harg1 arg2 harg2 arg3 harg3 arg11 x0 x1 x2 x3) (v752_at c arg0 harg0 arg1 harg1 arg2 harg2 arg3 harg3 arg11 x0 x1 x2 x3) (v754_at c arg0 harg0 arg1 harg1 arg2 harg2 arg3 harg3 arg11 x0 x1 x2 x3)
      (rdB x5 harg5 4608 _) (rdC x4 harg4 0 4608 _) (rdC x4 harg4 1 4608 _) (rdC x4 harg4 2 4608 _))
    (fun k => rfl) (fun k => by show 4608 + (k : ℕ) = 2816 + (1792 + k); omega) (rdD x6 harg6 1792 _) r o

theorem v828_at (s : Fin 32) (a : Fin 8) (k : Fin 256) :
    kernelRun0_A.sl.v828 (F := Ideal) c arg0 harg0 arg1 harg1 arg2 harg2 arg3 harg3 arg11 x0 x1 x2 x3 (ix3 s a k) = hS x0 x1 x2 x3 s (0 + a) ⟨2048 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2048] S1024x256.size inb_S1024x5632_S1024x256_0_2048).toLoadRect (harg2.unread x2))
      (View.readAt (Elt Ideal) arg3.view (Rect.unit (s := S1x5632) ![0, 2048] S1x256.size inb_S1x5632_S1x256_0_2048).toLoadRect (harg3.unread x3)))
    (View.readAt (Elt Ideal) arg1.view (Rect.unit (s := S32x2x5632) ![0, 0, 2048] S32x2x256.size inb_S32x2x5632_S32x2x256_0_0_2048).toLoadRect (harg1.unread x1)) (fun k => ⟨2048 + k, by omega⟩)
    (up_read x0 x2 x3 _ _ _ _ (rdX x0 harg0) (rdW x2 harg2 2048 _) (rdB x3 harg3 2048 _)) (rdS x1 harg1 2048 _) 0 _ s a k

theorem v830_at (s : Fin 32) (a : Fin 8) (k : Fin 256) :
    kernelRun0_A.sl.v830 (F := Ideal) c arg0 harg0 arg1 harg1 arg2 harg2 arg3 harg3 arg11 x0 x1 x2 x3 (ix3 s a k) = hS x0 x1 x2 x3 s (1 + a) ⟨2048 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2048] S1024x256.size inb_S1024x5632_S1024x256_0_2048).toLoadRect (harg2.unread x2))
      (View.readAt (Elt Ideal) arg3.view (Rect.unit (s := S1x5632) ![0, 2048] S1x256.size inb_S1x5632_S1x256_0_2048).toLoadRect (harg3.unread x3)))
    (View.readAt (Elt Ideal) arg1.view (Rect.unit (s := S32x2x5632) ![0, 0, 2048] S32x2x256.size inb_S32x2x5632_S32x2x256_0_0_2048).toLoadRect (harg1.unread x1)) (fun k => ⟨2048 + k, by omega⟩)
    (up_read x0 x2 x3 _ _ _ _ (rdX x0 harg0) (rdW x2 harg2 2048 _) (rdB x3 harg3 2048 _)) (rdS x1 harg1 2048 _) 1 _ s a k

theorem v832_at (s : Fin 32) (a : Fin 8) (k : Fin 256) :
    kernelRun0_A.sl.v832 (F := Ideal) c arg0 harg0 arg1 harg1 arg2 harg2 arg3 harg3 arg11 x0 x1 x2 x3 (ix3 s a k) = hS x0 x1 x2 x3 s (2 + a) ⟨2048 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2048] S1024x256.size inb_S1024x5632_S1024x256_0_2048).toLoadRect (harg2.unread x2))
      (View.readAt (Elt Ideal) arg3.view (Rect.unit (s := S1x5632) ![0, 2048] S1x256.size inb_S1x5632_S1x256_0_2048).toLoadRect (harg3.unread x3)))
    (View.readAt (Elt Ideal) arg1.view (Rect.unit (s := S32x2x5632) ![0, 0, 2048] S32x2x256.size inb_S32x2x5632_S32x2x256_0_0_2048).toLoadRect (harg1.unread x1)) (fun k => ⟨2048 + k, by omega⟩)
    (up_read x0 x2 x3 _ _ _ _ (rdX x0 harg0) (rdW x2 harg2 2048 _) (rdB x3 harg3 2048 _)) (rdS x1 harg1 2048 _) 2 _ s a k

theorem v851_at (s : Fin 32) (a : Fin 8) (k : Fin 256) :
    kernelRun0_A.sl.v851 (F := Ideal) c arg0 harg0 arg1 harg1 arg2 harg2 arg3 harg3 arg11 x0 x1 x2 x3 (ix3 s a k) = hS x0 x1 x2 x3 s (0 + a) ⟨4864 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4864] S1024x256.size inb_S1024x5632_S1024x256_0_4864).toLoadRect (harg2.unread x2))
      (View.readAt (Elt Ideal) arg3.view (Rect.unit (s := S1x5632) ![0, 4864] S1x256.size inb_S1x5632_S1x256_0_4864).toLoadRect (harg3.unread x3)))
    (View.readAt (Elt Ideal) arg1.view (Rect.unit (s := S32x2x5632) ![0, 0, 4864] S32x2x256.size inb_S32x2x5632_S32x2x256_0_0_4864).toLoadRect (harg1.unread x1)) (fun k => ⟨4864 + k, by omega⟩)
    (up_read x0 x2 x3 _ _ _ _ (rdX x0 harg0) (rdW x2 harg2 4864 _) (rdB x3 harg3 4864 _)) (rdS x1 harg1 4864 _) 0 _ s a k

theorem v853_at (s : Fin 32) (a : Fin 8) (k : Fin 256) :
    kernelRun0_A.sl.v853 (F := Ideal) c arg0 harg0 arg1 harg1 arg2 harg2 arg3 harg3 arg11 x0 x1 x2 x3 (ix3 s a k) = hS x0 x1 x2 x3 s (1 + a) ⟨4864 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4864] S1024x256.size inb_S1024x5632_S1024x256_0_4864).toLoadRect (harg2.unread x2))
      (View.readAt (Elt Ideal) arg3.view (Rect.unit (s := S1x5632) ![0, 4864] S1x256.size inb_S1x5632_S1x256_0_4864).toLoadRect (harg3.unread x3)))
    (View.readAt (Elt Ideal) arg1.view (Rect.unit (s := S32x2x5632) ![0, 0, 4864] S32x2x256.size inb_S32x2x5632_S32x2x256_0_0_4864).toLoadRect (harg1.unread x1)) (fun k => ⟨4864 + k, by omega⟩)
    (up_read x0 x2 x3 _ _ _ _ (rdX x0 harg0) (rdW x2 harg2 4864 _) (rdB x3 harg3 4864 _)) (rdS x1 harg1 4864 _) 1 _ s a k

theorem v855_at (s : Fin 32) (a : Fin 8) (k : Fin 256) :
    kernelRun0_A.sl.v855 (F := Ideal) c arg0 harg0 arg1 harg1 arg2 harg2 arg3 harg3 arg11 x0 x1 x2 x3 (ix3 s a k) = hS x0 x1 x2 x3 s (2 + a) ⟨4864 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4864] S1024x256.size inb_S1024x5632_S1024x256_0_4864).toLoadRect (harg2.unread x2))
      (View.readAt (Elt Ideal) arg3.view (Rect.unit (s := S1x5632) ![0, 4864] S1x256.size inb_S1x5632_S1x256_0_4864).toLoadRect (harg3.unread x3)))
    (View.readAt (Elt Ideal) arg1.view (Rect.unit (s := S32x2x5632) ![0, 0, 4864] S32x2x256.size inb_S32x2x5632_S32x2x256_0_0_4864).toLoadRect (harg1.unread x1)) (fun k => ⟨4864 + k, by omega⟩)
    (up_read x0 x2 x3 _ _ _ _ (rdX x0 harg0) (rdW x2 harg2 4864 _) (rdB x3 harg3 4864 _)) (rdS x1 harg1 4864 _) 2 _ s a k

theorem acc8_eq : kernelRun0_A.sl.r_91 (F := Ideal) c arg0 harg0 arg1 harg1 arg2 harg2 arg3 harg3 arg4 harg4 arg5 harg5 arg6 harg6 arg11 x0 x1 x2 x3 x4 x5 x6 =
    stepV (kernelRun0_A.sl.r_81 (F := Ideal) c arg0 harg0 arg1 harg1 arg2 harg2 arg3 harg3 arg4 harg4 arg5 harg5 arg6 harg6 arg11 x0 x1 x2 x3 x4 x5 x6)
      (convV (kernelRun0_A.sl.v828 (F := Ideal) c arg0 harg0 arg1 harg1 arg2 harg2 arg3 harg3 arg11 x0 x1 x2 x3) (kernelRun0_A.sl.v830 (F := Ideal) c arg0 harg0 arg1 harg1 arg2 harg2 arg3 harg3 arg11 x0 x1 x2 x3)
        (kernelRun0_A.sl.v832 (F := Ideal) c arg0 harg0 arg1 harg1 arg2 harg2 arg3 harg3 arg11 x0 x1 x2 x3)
        (View.readAt (Elt Ideal) arg5.view (Rect.unit (s := S1x5632) ![0, 2048] S1x256.size inb_S1x5632_S1x256_0_2048).toLoadRect (harg5.unread x5)) (View.readAt (Elt Ideal) arg4.view (Rect.unit (s := S3x5632) ![0, 2048] S1x256.size inb_S3x5632_S1x256_0_2048).toLoadRect (harg4.unread x4))
        (View.readAt (Elt Ideal) arg4.view (Rect.unit (s := S3x5632) ![1, 2048] S1x256.size inb_S3x5632_S1x256_1_2048).toLoadRect (harg4.unread x4)) (View.readAt (Elt Ideal) arg4.view (Rect.unit (s := S3x5632) ![2, 2048] S1x256.size inb_S3x5632_S1x256_2_2048).toLoadRect (harg4.unread x4)))
      (convV (kernelRun0_A.sl.v851 (F := Ideal) c arg0 harg0 arg1 harg1 arg2 harg2 arg3 harg3 arg11 x0 x1 x2 x3) (kernelRun0_A.sl.v853 (F := Ideal) c arg0 harg0 arg1 harg1 arg2 harg2 arg3 harg3 arg11 x0 x1 x2 x3)
        (kernelRun0_A.sl.v855 (F := Ideal) c arg0 harg0 arg1 harg1 arg2 harg2 arg3 harg3 arg11 x0 x1 x2 x3)
        (View.readAt (Elt Ideal) arg5.view (Rect.unit (s := S1x5632) ![0, 4864] S1x256.size inb_S1x5632_S1x256_0_4864).toLoadRect (harg5.unread x5)) (View.readAt (Elt Ideal) arg4.view (Rect.unit (s := S3x5632) ![0, 4864] S1x256.size inb_S3x5632_S1x256_0_4864).toLoadRect (harg4.unread x4))
        (View.readAt (Elt Ideal) arg4.view (Rect.unit (s := S3x5632) ![1, 4864] S1x256.size inb_S3x5632_S1x256_1_4864).toLoadRect (harg4.unread x4)) (View.readAt (Elt Ideal) arg4.view (Rect.unit (s := S3x5632) ![2, 4864] S1x256.size inb_S3x5632_S1x256_2_4864).toLoadRect (harg4.unread x4)))
      (View.readAt (Elt Ideal) arg6.view (Rect.unit (s := S2816x1024) ![2048, 0] S256x1024.size inb_S2816x1024_S256x1024_2048_0).toLoadRect (harg6.unread x6)) := rfl

theorem acc8_apply (r : Fin 256) (o : Fin 1024) : (kernelRun0_A.sl.r_91 (F := Ideal) c arg0 harg0 arg1 harg1 arg2 harg2 arg3 harg3 arg4 harg4 arg5 harg5 arg6 harg6 arg11 x0 x1 x2 x3 x4 x5 x6 (ix2 r o) : EReal) = (kernelRun0_A.sl.r_81 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨2048 + k, by omega⟩ * (x6 (ix2 ⟨2048 + k, by omega⟩ o) : EReal) := by
  rw [acc8_eq]
  exact step_read x0 x1 x2 x3 x4 x5 x6 _ _ _ _ 2048 (by omega) (fun k => ⟨2048 + k, by omega⟩) (fun k => ⟨4864 + k, by omega⟩)
    (conv_read x0 x1 x2 x3 x4 x5 _ _ _ _ _ _ _ (fun k => ⟨2048 + k, by omega⟩) (v828_at c arg0 harg0 arg1 harg1 arg2 harg2 arg3 harg3 arg11 x0 x1 x2 x3) (v830_at c arg0 harg0 arg1 harg1 arg2 harg2 arg3 harg3 arg11 x0 x1 x2 x3) (v832_at c arg0 harg0 arg1 harg1 arg2 harg2 arg3 harg3 arg11 x0 x1 x2 x3)
      (rdB x5 harg5 2048 _) (rdC x4 harg4 0 2048 _) (rdC x4 harg4 1 2048 _) (rdC x4 harg4 2 2048 _))
    (conv_read x0 x1 x2 x3 x4 x5 _ _ _ _ _ _ _ (fun k => ⟨4864 + k, by omega⟩) (v851_at c arg0 harg0 arg1 harg1 arg2 harg2 arg3 harg3 arg11 x0 x1 x2 x3) (v853_at c arg0 harg0 arg1 harg1 arg2 harg2 arg3 harg3 arg11 x0 x1 x2 x3) (v855_at c arg0 harg0 arg1 harg1 arg2 harg2 arg3 harg3 arg11 x0 x1 x2 x3)
      (rdB x5 harg5 4864 _) (rdC x4 harg4 0 4864 _) (rdC x4 harg4 1 4864 _) (rdC x4 harg4 2 4864 _))
    (fun k => rfl) (fun k => by show 4864 + (k : ℕ) = 2816 + (2048 + k); omega) (rdD x6 harg6 2048 _) r o

theorem v929_at (s : Fin 32) (a : Fin 8) (k : Fin 256) :
    kernelRun0_A.sl.v929 (F := Ideal) c arg0 harg0 arg1 harg1 arg2 harg2 arg3 harg3 arg11 x0 x1 x2 x3 (ix3 s a k) = hS x0 x1 x2 x3 s (0 + a) ⟨2304 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2304] S1024x256.size inb_S1024x5632_S1024x256_0_2304).toLoadRect (harg2.unread x2))
      (View.readAt (Elt Ideal) arg3.view (Rect.unit (s := S1x5632) ![0, 2304] S1x256.size inb_S1x5632_S1x256_0_2304).toLoadRect (harg3.unread x3)))
    (View.readAt (Elt Ideal) arg1.view (Rect.unit (s := S32x2x5632) ![0, 0, 2304] S32x2x256.size inb_S32x2x5632_S32x2x256_0_0_2304).toLoadRect (harg1.unread x1)) (fun k => ⟨2304 + k, by omega⟩)
    (up_read x0 x2 x3 _ _ _ _ (rdX x0 harg0) (rdW x2 harg2 2304 _) (rdB x3 harg3 2304 _)) (rdS x1 harg1 2304 _) 0 _ s a k

theorem v931_at (s : Fin 32) (a : Fin 8) (k : Fin 256) :
    kernelRun0_A.sl.v931 (F := Ideal) c arg0 harg0 arg1 harg1 arg2 harg2 arg3 harg3 arg11 x0 x1 x2 x3 (ix3 s a k) = hS x0 x1 x2 x3 s (1 + a) ⟨2304 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2304] S1024x256.size inb_S1024x5632_S1024x256_0_2304).toLoadRect (harg2.unread x2))
      (View.readAt (Elt Ideal) arg3.view (Rect.unit (s := S1x5632) ![0, 2304] S1x256.size inb_S1x5632_S1x256_0_2304).toLoadRect (harg3.unread x3)))
    (View.readAt (Elt Ideal) arg1.view (Rect.unit (s := S32x2x5632) ![0, 0, 2304] S32x2x256.size inb_S32x2x5632_S32x2x256_0_0_2304).toLoadRect (harg1.unread x1)) (fun k => ⟨2304 + k, by omega⟩)
    (up_read x0 x2 x3 _ _ _ _ (rdX x0 harg0) (rdW x2 harg2 2304 _) (rdB x3 harg3 2304 _)) (rdS x1 harg1 2304 _) 1 _ s a k

theorem v933_at (s : Fin 32) (a : Fin 8) (k : Fin 256) :
    kernelRun0_A.sl.v933 (F := Ideal) c arg0 harg0 arg1 harg1 arg2 harg2 arg3 harg3 arg11 x0 x1 x2 x3 (ix3 s a k) = hS x0 x1 x2 x3 s (2 + a) ⟨2304 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2304] S1024x256.size inb_S1024x5632_S1024x256_0_2304).toLoadRect (harg2.unread x2))
      (View.readAt (Elt Ideal) arg3.view (Rect.unit (s := S1x5632) ![0, 2304] S1x256.size inb_S1x5632_S1x256_0_2304).toLoadRect (harg3.unread x3)))
    (View.readAt (Elt Ideal) arg1.view (Rect.unit (s := S32x2x5632) ![0, 0, 2304] S32x2x256.size inb_S32x2x5632_S32x2x256_0_0_2304).toLoadRect (harg1.unread x1)) (fun k => ⟨2304 + k, by omega⟩)
    (up_read x0 x2 x3 _ _ _ _ (rdX x0 harg0) (rdW x2 harg2 2304 _) (rdB x3 harg3 2304 _)) (rdS x1 harg1 2304 _) 2 _ s a k

theorem v952_at (s : Fin 32) (a : Fin 8) (k : Fin 256) :
    kernelRun0_A.sl.v952 (F := Ideal) c arg0 harg0 arg1 harg1 arg2 harg2 arg3 harg3 arg11 x0 x1 x2 x3 (ix3 s a k) = hS x0 x1 x2 x3 s (0 + a) ⟨5120 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5120] S1024x256.size inb_S1024x5632_S1024x256_0_5120).toLoadRect (harg2.unread x2))
      (View.readAt (Elt Ideal) arg3.view (Rect.unit (s := S1x5632) ![0, 5120] S1x256.size inb_S1x5632_S1x256_0_5120).toLoadRect (harg3.unread x3)))
    (View.readAt (Elt Ideal) arg1.view (Rect.unit (s := S32x2x5632) ![0, 0, 5120] S32x2x256.size inb_S32x2x5632_S32x2x256_0_0_5120).toLoadRect (harg1.unread x1)) (fun k => ⟨5120 + k, by omega⟩)
    (up_read x0 x2 x3 _ _ _ _ (rdX x0 harg0) (rdW x2 harg2 5120 _) (rdB x3 harg3 5120 _)) (rdS x1 harg1 5120 _) 0 _ s a k

theorem v954_at (s : Fin 32) (a : Fin 8) (k : Fin 256) :
    kernelRun0_A.sl.v954 (F := Ideal) c arg0 harg0 arg1 harg1 arg2 harg2 arg3 harg3 arg11 x0 x1 x2 x3 (ix3 s a k) = hS x0 x1 x2 x3 s (1 + a) ⟨5120 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5120] S1024x256.size inb_S1024x5632_S1024x256_0_5120).toLoadRect (harg2.unread x2))
      (View.readAt (Elt Ideal) arg3.view (Rect.unit (s := S1x5632) ![0, 5120] S1x256.size inb_S1x5632_S1x256_0_5120).toLoadRect (harg3.unread x3)))
    (View.readAt (Elt Ideal) arg1.view (Rect.unit (s := S32x2x5632) ![0, 0, 5120] S32x2x256.size inb_S32x2x5632_S32x2x256_0_0_5120).toLoadRect (harg1.unread x1)) (fun k => ⟨5120 + k, by omega⟩)
    (up_read x0 x2 x3 _ _ _ _ (rdX x0 harg0) (rdW x2 harg2 5120 _) (rdB x3 harg3 5120 _)) (rdS x1 harg1 5120 _) 1 _ s a k

theorem v956_at (s : Fin 32) (a : Fin 8) (k : Fin 256) :
    kernelRun0_A.sl.v956 (F := Ideal) c arg0 harg0 arg1 harg1 arg2 harg2 arg3 harg3 arg11 x0 x1 x2 x3 (ix3 s a k) = hS x0 x1 x2 x3 s (2 + a) ⟨5120 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5120] S1024x256.size inb_S1024x5632_S1024x256_0_5120).toLoadRect (harg2.unread x2))
      (View.readAt (Elt Ideal) arg3.view (Rect.unit (s := S1x5632) ![0, 5120] S1x256.size inb_S1x5632_S1x256_0_5120).toLoadRect (harg3.unread x3)))
    (View.readAt (Elt Ideal) arg1.view (Rect.unit (s := S32x2x5632) ![0, 0, 5120] S32x2x256.size inb_S32x2x5632_S32x2x256_0_0_5120).toLoadRect (harg1.unread x1)) (fun k => ⟨5120 + k, by omega⟩)
    (up_read x0 x2 x3 _ _ _ _ (rdX x0 harg0) (rdW x2 harg2 5120 _) (rdB x3 harg3 5120 _)) (rdS x1 harg1 5120 _) 2 _ s a k

theorem acc9_eq : kernelRun0_A.sl.r_101 (F := Ideal) c arg0 harg0 arg1 harg1 arg2 harg2 arg3 harg3 arg4 harg4 arg5 harg5 arg6 harg6 arg11 x0 x1 x2 x3 x4 x5 x6 =
    stepV (kernelRun0_A.sl.r_91 (F := Ideal) c arg0 harg0 arg1 harg1 arg2 harg2 arg3 harg3 arg4 harg4 arg5 harg5 arg6 harg6 arg11 x0 x1 x2 x3 x4 x5 x6)
      (convV (kernelRun0_A.sl.v929 (F := Ideal) c arg0 harg0 arg1 harg1 arg2 harg2 arg3 harg3 arg11 x0 x1 x2 x3) (kernelRun0_A.sl.v931 (F := Ideal) c arg0 harg0 arg1 harg1 arg2 harg2 arg3 harg3 arg11 x0 x1 x2 x3)
        (kernelRun0_A.sl.v933 (F := Ideal) c arg0 harg0 arg1 harg1 arg2 harg2 arg3 harg3 arg11 x0 x1 x2 x3)
        (View.readAt (Elt Ideal) arg5.view (Rect.unit (s := S1x5632) ![0, 2304] S1x256.size inb_S1x5632_S1x256_0_2304).toLoadRect (harg5.unread x5)) (View.readAt (Elt Ideal) arg4.view (Rect.unit (s := S3x5632) ![0, 2304] S1x256.size inb_S3x5632_S1x256_0_2304).toLoadRect (harg4.unread x4))
        (View.readAt (Elt Ideal) arg4.view (Rect.unit (s := S3x5632) ![1, 2304] S1x256.size inb_S3x5632_S1x256_1_2304).toLoadRect (harg4.unread x4)) (View.readAt (Elt Ideal) arg4.view (Rect.unit (s := S3x5632) ![2, 2304] S1x256.size inb_S3x5632_S1x256_2_2304).toLoadRect (harg4.unread x4)))
      (convV (kernelRun0_A.sl.v952 (F := Ideal) c arg0 harg0 arg1 harg1 arg2 harg2 arg3 harg3 arg11 x0 x1 x2 x3) (kernelRun0_A.sl.v954 (F := Ideal) c arg0 harg0 arg1 harg1 arg2 harg2 arg3 harg3 arg11 x0 x1 x2 x3)
        (kernelRun0_A.sl.v956 (F := Ideal) c arg0 harg0 arg1 harg1 arg2 harg2 arg3 harg3 arg11 x0 x1 x2 x3)
        (View.readAt (Elt Ideal) arg5.view (Rect.unit (s := S1x5632) ![0, 5120] S1x256.size inb_S1x5632_S1x256_0_5120).toLoadRect (harg5.unread x5)) (View.readAt (Elt Ideal) arg4.view (Rect.unit (s := S3x5632) ![0, 5120] S1x256.size inb_S3x5632_S1x256_0_5120).toLoadRect (harg4.unread x4))
        (View.readAt (Elt Ideal) arg4.view (Rect.unit (s := S3x5632) ![1, 5120] S1x256.size inb_S3x5632_S1x256_1_5120).toLoadRect (harg4.unread x4)) (View.readAt (Elt Ideal) arg4.view (Rect.unit (s := S3x5632) ![2, 5120] S1x256.size inb_S3x5632_S1x256_2_5120).toLoadRect (harg4.unread x4)))
      (View.readAt (Elt Ideal) arg6.view (Rect.unit (s := S2816x1024) ![2304, 0] S256x1024.size inb_S2816x1024_S256x1024_2304_0).toLoadRect (harg6.unread x6)) := rfl

theorem acc9_apply (r : Fin 256) (o : Fin 1024) : (kernelRun0_A.sl.r_101 (F := Ideal) c arg0 harg0 arg1 harg1 arg2 harg2 arg3 harg3 arg4 harg4 arg5 harg5 arg6 harg6 arg11 x0 x1 x2 x3 x4 x5 x6 (ix2 r o) : EReal) = (kernelRun0_A.sl.r_91 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨2304 + k, by omega⟩ * (x6 (ix2 ⟨2304 + k, by omega⟩ o) : EReal) := by
  rw [acc9_eq]
  exact step_read x0 x1 x2 x3 x4 x5 x6 _ _ _ _ 2304 (by omega) (fun k => ⟨2304 + k, by omega⟩) (fun k => ⟨5120 + k, by omega⟩)
    (conv_read x0 x1 x2 x3 x4 x5 _ _ _ _ _ _ _ (fun k => ⟨2304 + k, by omega⟩) (v929_at c arg0 harg0 arg1 harg1 arg2 harg2 arg3 harg3 arg11 x0 x1 x2 x3) (v931_at c arg0 harg0 arg1 harg1 arg2 harg2 arg3 harg3 arg11 x0 x1 x2 x3) (v933_at c arg0 harg0 arg1 harg1 arg2 harg2 arg3 harg3 arg11 x0 x1 x2 x3)
      (rdB x5 harg5 2304 _) (rdC x4 harg4 0 2304 _) (rdC x4 harg4 1 2304 _) (rdC x4 harg4 2 2304 _))
    (conv_read x0 x1 x2 x3 x4 x5 _ _ _ _ _ _ _ (fun k => ⟨5120 + k, by omega⟩) (v952_at c arg0 harg0 arg1 harg1 arg2 harg2 arg3 harg3 arg11 x0 x1 x2 x3) (v954_at c arg0 harg0 arg1 harg1 arg2 harg2 arg3 harg3 arg11 x0 x1 x2 x3) (v956_at c arg0 harg0 arg1 harg1 arg2 harg2 arg3 harg3 arg11 x0 x1 x2 x3)
      (rdB x5 harg5 5120 _) (rdC x4 harg4 0 5120 _) (rdC x4 harg4 1 5120 _) (rdC x4 harg4 2 5120 _))
    (fun k => rfl) (fun k => by show 5120 + (k : ℕ) = 2816 + (2304 + k); omega) (rdD x6 harg6 2304 _) r o

theorem v1030_at (s : Fin 32) (a : Fin 8) (k : Fin 256) :
    kernelRun0_A.sl.v1030 (F := Ideal) c arg0 harg0 arg1 harg1 arg2 harg2 arg3 harg3 arg11 x0 x1 x2 x3 (ix3 s a k) = hS x0 x1 x2 x3 s (0 + a) ⟨2560 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2560] S1024x256.size inb_S1024x5632_S1024x256_0_2560).toLoadRect (harg2.unread x2))
      (View.readAt (Elt Ideal) arg3.view (Rect.unit (s := S1x5632) ![0, 2560] S1x256.size inb_S1x5632_S1x256_0_2560).toLoadRect (harg3.unread x3)))
    (View.readAt (Elt Ideal) arg1.view (Rect.unit (s := S32x2x5632) ![0, 0, 2560] S32x2x256.size inb_S32x2x5632_S32x2x256_0_0_2560).toLoadRect (harg1.unread x1)) (fun k => ⟨2560 + k, by omega⟩)
    (up_read x0 x2 x3 _ _ _ _ (rdX x0 harg0) (rdW x2 harg2 2560 _) (rdB x3 harg3 2560 _)) (rdS x1 harg1 2560 _) 0 _ s a k

theorem v1032_at (s : Fin 32) (a : Fin 8) (k : Fin 256) :
    kernelRun0_A.sl.v1032 (F := Ideal) c arg0 harg0 arg1 harg1 arg2 harg2 arg3 harg3 arg11 x0 x1 x2 x3 (ix3 s a k) = hS x0 x1 x2 x3 s (1 + a) ⟨2560 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2560] S1024x256.size inb_S1024x5632_S1024x256_0_2560).toLoadRect (harg2.unread x2))
      (View.readAt (Elt Ideal) arg3.view (Rect.unit (s := S1x5632) ![0, 2560] S1x256.size inb_S1x5632_S1x256_0_2560).toLoadRect (harg3.unread x3)))
    (View.readAt (Elt Ideal) arg1.view (Rect.unit (s := S32x2x5632) ![0, 0, 2560] S32x2x256.size inb_S32x2x5632_S32x2x256_0_0_2560).toLoadRect (harg1.unread x1)) (fun k => ⟨2560 + k, by omega⟩)
    (up_read x0 x2 x3 _ _ _ _ (rdX x0 harg0) (rdW x2 harg2 2560 _) (rdB x3 harg3 2560 _)) (rdS x1 harg1 2560 _) 1 _ s a k

theorem v1034_at (s : Fin 32) (a : Fin 8) (k : Fin 256) :
    kernelRun0_A.sl.v1034 (F := Ideal) c arg0 harg0 arg1 harg1 arg2 harg2 arg3 harg3 arg11 x0 x1 x2 x3 (ix3 s a k) = hS x0 x1 x2 x3 s (2 + a) ⟨2560 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2560] S1024x256.size inb_S1024x5632_S1024x256_0_2560).toLoadRect (harg2.unread x2))
      (View.readAt (Elt Ideal) arg3.view (Rect.unit (s := S1x5632) ![0, 2560] S1x256.size inb_S1x5632_S1x256_0_2560).toLoadRect (harg3.unread x3)))
    (View.readAt (Elt Ideal) arg1.view (Rect.unit (s := S32x2x5632) ![0, 0, 2560] S32x2x256.size inb_S32x2x5632_S32x2x256_0_0_2560).toLoadRect (harg1.unread x1)) (fun k => ⟨2560 + k, by omega⟩)
    (up_read x0 x2 x3 _ _ _ _ (rdX x0 harg0) (rdW x2 harg2 2560 _) (rdB x3 harg3 2560 _)) (rdS x1 harg1 2560 _) 2 _ s a k

theorem v1053_at (s : Fin 32) (a : Fin 8) (k : Fin 256) :
    kernelRun0_A.sl.v1053 (F := Ideal) c arg0 harg0 arg1 harg1 arg2 harg2 arg3 harg3 arg11 x0 x1 x2 x3 (ix3 s a k) = hS x0 x1 x2 x3 s (0 + a) ⟨5376 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5376] S1024x256.size inb_S1024x5632_S1024x256_0_5376).toLoadRect (harg2.unread x2))
      (View.readAt (Elt Ideal) arg3.view (Rect.unit (s := S1x5632) ![0, 5376] S1x256.size inb_S1x5632_S1x256_0_5376).toLoadRect (harg3.unread x3)))
    (View.readAt (Elt Ideal) arg1.view (Rect.unit (s := S32x2x5632) ![0, 0, 5376] S32x2x256.size inb_S32x2x5632_S32x2x256_0_0_5376).toLoadRect (harg1.unread x1)) (fun k => ⟨5376 + k, by omega⟩)
    (up_read x0 x2 x3 _ _ _ _ (rdX x0 harg0) (rdW x2 harg2 5376 _) (rdB x3 harg3 5376 _)) (rdS x1 harg1 5376 _) 0 _ s a k

theorem v1055_at (s : Fin 32) (a : Fin 8) (k : Fin 256) :
    kernelRun0_A.sl.v1055 (F := Ideal) c arg0 harg0 arg1 harg1 arg2 harg2 arg3 harg3 arg11 x0 x1 x2 x3 (ix3 s a k) = hS x0 x1 x2 x3 s (1 + a) ⟨5376 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5376] S1024x256.size inb_S1024x5632_S1024x256_0_5376).toLoadRect (harg2.unread x2))
      (View.readAt (Elt Ideal) arg3.view (Rect.unit (s := S1x5632) ![0, 5376] S1x256.size inb_S1x5632_S1x256_0_5376).toLoadRect (harg3.unread x3)))
    (View.readAt (Elt Ideal) arg1.view (Rect.unit (s := S32x2x5632) ![0, 0, 5376] S32x2x256.size inb_S32x2x5632_S32x2x256_0_0_5376).toLoadRect (harg1.unread x1)) (fun k => ⟨5376 + k, by omega⟩)
    (up_read x0 x2 x3 _ _ _ _ (rdX x0 harg0) (rdW x2 harg2 5376 _) (rdB x3 harg3 5376 _)) (rdS x1 harg1 5376 _) 1 _ s a k

theorem v1057_at (s : Fin 32) (a : Fin 8) (k : Fin 256) :
    kernelRun0_A.sl.v1057 (F := Ideal) c arg0 harg0 arg1 harg1 arg2 harg2 arg3 harg3 arg11 x0 x1 x2 x3 (ix3 s a k) = hS x0 x1 x2 x3 s (2 + a) ⟨5376 + k, by omega⟩ :=
  win_read x0 x1 x2 x3 arg11 _ (hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5376] S1024x256.size inb_S1024x5632_S1024x256_0_5376).toLoadRect (harg2.unread x2))
      (View.readAt (Elt Ideal) arg3.view (Rect.unit (s := S1x5632) ![0, 5376] S1x256.size inb_S1x5632_S1x256_0_5376).toLoadRect (harg3.unread x3)))
    (View.readAt (Elt Ideal) arg1.view (Rect.unit (s := S32x2x5632) ![0, 0, 5376] S32x2x256.size inb_S32x2x5632_S32x2x256_0_0_5376).toLoadRect (harg1.unread x1)) (fun k => ⟨5376 + k, by omega⟩)
    (up_read x0 x2 x3 _ _ _ _ (rdX x0 harg0) (rdW x2 harg2 5376 _) (rdB x3 harg3 5376 _)) (rdS x1 harg1 5376 _) 2 _ s a k

/-- The last sum. -/
def accL : FVec Ideal S256x1024 .f32 := stepV (kernelRun0_A.sl.r_101 (F := Ideal) c arg0 harg0 arg1 harg1 arg2 harg2 arg3 harg3 arg4 harg4 arg5 harg5 arg6 harg6 arg11 x0 x1 x2 x3 x4 x5 x6)
      (convV (kernelRun0_A.sl.v1030 (F := Ideal) c arg0 harg0 arg1 harg1 arg2 harg2 arg3 harg3 arg11 x0 x1 x2 x3) (kernelRun0_A.sl.v1032 (F := Ideal) c arg0 harg0 arg1 harg1 arg2 harg2 arg3 harg3 arg11 x0 x1 x2 x3)
        (kernelRun0_A.sl.v1034 (F := Ideal) c arg0 harg0 arg1 harg1 arg2 harg2 arg3 harg3 arg11 x0 x1 x2 x3)
        (View.readAt (Elt Ideal) arg5.view (Rect.unit (s := S1x5632) ![0, 2560] S1x256.size inb_S1x5632_S1x256_0_2560).toLoadRect (harg5.unread x5)) (View.readAt (Elt Ideal) arg4.view (Rect.unit (s := S3x5632) ![0, 2560] S1x256.size inb_S3x5632_S1x256_0_2560).toLoadRect (harg4.unread x4))
        (View.readAt (Elt Ideal) arg4.view (Rect.unit (s := S3x5632) ![1, 2560] S1x256.size inb_S3x5632_S1x256_1_2560).toLoadRect (harg4.unread x4)) (View.readAt (Elt Ideal) arg4.view (Rect.unit (s := S3x5632) ![2, 2560] S1x256.size inb_S3x5632_S1x256_2_2560).toLoadRect (harg4.unread x4)))
      (convV (kernelRun0_A.sl.v1053 (F := Ideal) c arg0 harg0 arg1 harg1 arg2 harg2 arg3 harg3 arg11 x0 x1 x2 x3) (kernelRun0_A.sl.v1055 (F := Ideal) c arg0 harg0 arg1 harg1 arg2 harg2 arg3 harg3 arg11 x0 x1 x2 x3)
        (kernelRun0_A.sl.v1057 (F := Ideal) c arg0 harg0 arg1 harg1 arg2 harg2 arg3 harg3 arg11 x0 x1 x2 x3)
        (View.readAt (Elt Ideal) arg5.view (Rect.unit (s := S1x5632) ![0, 5376] S1x256.size inb_S1x5632_S1x256_0_5376).toLoadRect (harg5.unread x5)) (View.readAt (Elt Ideal) arg4.view (Rect.unit (s := S3x5632) ![0, 5376] S1x256.size inb_S3x5632_S1x256_0_5376).toLoadRect (harg4.unread x4))
        (View.readAt (Elt Ideal) arg4.view (Rect.unit (s := S3x5632) ![1, 5376] S1x256.size inb_S3x5632_S1x256_1_5376).toLoadRect (harg4.unread x4)) (View.readAt (Elt Ideal) arg4.view (Rect.unit (s := S3x5632) ![2, 5376] S1x256.size inb_S3x5632_S1x256_2_5376).toLoadRect (harg4.unread x4)))
      (View.readAt (Elt Ideal) arg6.view (Rect.unit (s := S2816x1024) ![2560, 0] S256x1024.size inb_S2816x1024_S256x1024_2560_0).toLoadRect (harg6.unread x6))

theorem acc10_apply (r : Fin 256) (o : Fin 1024) : (accL c arg0 harg0 arg1 harg1 arg2 harg2 arg3 harg3 arg4 harg4 arg5 harg5 arg6 harg6 arg11 x0 x1 x2 x3 x4 x5 x6 (ix2 r o) : EReal) = (kernelRun0_A.sl.r_101 (F := Ideal) c arg0 harg0 arg1 harg1 arg2 harg2 arg3 harg3 arg4 harg4 arg5 harg5 arg6 harg6 arg11 x0 x1 x2 x3 x4 x5 x6) (ix2 r o)
      + ∑ k : Fin 256, actS x0 x1 x2 x3 x4 x5 r ⟨2560 + k, by omega⟩ * (x6 (ix2 ⟨2560 + k, by omega⟩ o) : EReal) :=
  step_read x0 x1 x2 x3 x4 x5 x6 _ _ _ _ 2560 (by omega) (fun k => ⟨2560 + k, by omega⟩) (fun k => ⟨5376 + k, by omega⟩)
    (conv_read x0 x1 x2 x3 x4 x5 _ _ _ _ _ _ _ (fun k => ⟨2560 + k, by omega⟩) (v1030_at c arg0 harg0 arg1 harg1 arg2 harg2 arg3 harg3 arg11 x0 x1 x2 x3) (v1032_at c arg0 harg0 arg1 harg1 arg2 harg2 arg3 harg3 arg11 x0 x1 x2 x3) (v1034_at c arg0 harg0 arg1 harg1 arg2 harg2 arg3 harg3 arg11 x0 x1 x2 x3)
      (rdB x5 harg5 2560 _) (rdC x4 harg4 0 2560 _) (rdC x4 harg4 1 2560 _) (rdC x4 harg4 2 2560 _))
    (conv_read x0 x1 x2 x3 x4 x5 _ _ _ _ _ _ _ (fun k => ⟨5376 + k, by omega⟩) (v1053_at c arg0 harg0 arg1 harg1 arg2 harg2 arg3 harg3 arg11 x0 x1 x2 x3) (v1055_at c arg0 harg0 arg1 harg1 arg2 harg2 arg3 harg3 arg11 x0 x1 x2 x3) (v1057_at c arg0 harg0 arg1 harg1 arg2 harg2 arg3 harg3 arg11 x0 x1 x2 x3)
      (rdB x5 harg5 5376 _) (rdC x4 harg4 0 5376 _) (rdC x4 harg4 1 5376 _) (rdC x4 harg4 2 5376 _))
    (fun k => rfl) (fun k => by show 5376 + (k : ℕ) = 2816 + (2560 + k); omega) (rdD x6 harg6 2560 _) r o

end

end Cert.FfnSVal

end
-- ==== Proof.FfnSOut.lean ====
/-
The two output blocks of the samples' feed-forward kernel, entry by entry.
-/
module

public import proofs.«01_k».proof.Proof.FfnSChunk
public import proofs.«01_k».proof.Proof.FfnOut

@[expose] public section

set_option maxRecDepth 16384

noncomputable section

open Idealize.ShloMosaic Idealize.ShloMosaic.TcCoe Idealize.SL.Sem
open Idealize.ShloMosaic.Pipeline (Dat)

namespace Cert.FfnSVal

open Cert.FfnSIdeal Cert.FfnSIdeal.Gen
open Cert.FfnVal (geluS lnS alph)

section
variable (c : Dev nD) (arg0 : Memref sig .tc .vmem S256x1024 .f32) (harg0 : arg0.IsWhole) (arg1 : Memref sig .tc .vmem S32x2x5632 .f32) (harg1 : arg1.IsWhole) (arg2 : Memref sig .tc .vmem S1024x5632 .bf16) (harg2 : arg2.IsWhole) (arg3 : Memref sig .tc .vmem S1x5632 .f32) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x5632 .f32) (harg10 : arg10.IsWhole) (arg11 : Memref sig .tc .vmem S32x16x256 .f32) (harg11 : arg11.IsWhole)
  (x0 : Vec Ideal S256x1024 .f32) (x1 : Vec Ideal S32x2x5632 .f32) (x2 : Vec Ideal S1024x5632 .bf16) (x3 : Vec Ideal S1x5632 .f32) (x4 : Vec Ideal S3x5632 .f32) (x5 : Vec Ideal S1x5632 .f32) (x6 : Vec Ideal S2816x1024 .bf16) (x7 : Vec Ideal S1x1024 .f32) (x8 : Vec Ideal S1x1024 .f32)

/-- What the body stores into the second block, the last store first. -/
theorem pieces10 : (kernelRun0_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8).2.1 = [
    ⟨Rect.unit (s := S256x5632) ![0, 5376] S256x256.size inb_S256x5632_S256x256_0_5376,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5376] S1024x256.size inb_S1024x5632_S1024x256_0_5376).toLoadRect (harg2.unread x2))
        (View.readAt (Elt Ideal) arg3.view (Rect.unit (s := S1x5632) ![0, 5376] S1x256.size inb_S1x5632_S1x256_0_5376).toLoadRect (harg3.unread x3))⟩,
    ⟨Rect.unit (s := S256x5632) ![0, 2560] S256x256.size inb_S256x5632_S256x256_0_2560,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2560] S1024x256.size inb_S1024x5632_S1024x256_0_2560).toLoadRect (harg2.unread x2))
        (View.readAt (Elt Ideal) arg3.view (Rect.unit (s := S1x5632) ![0, 2560] S1x256.size inb_S1x5632_S1x256_0_2560).toLoadRect (harg3.unread x3))⟩,
    ⟨Rect.unit (s := S256x5632) ![0, 5120] S256x256.size inb_S256x5632_S256x256_0_5120,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 5120] S1024x256.size inb_S1024x5632_S1024x256_0_5120).toLoadRect (harg2.unread x2))
        (View.readAt (Elt Ideal) arg3.view (Rect.unit (s := S1x5632) ![0, 5120] S1x256.size inb_S1x5632_S1x256_0_5120).toLoadRect (harg3.unread x3))⟩,
    ⟨Rect.unit (s := S256x5632) ![0, 2304] S256x256.size inb_S256x5632_S256x256_0_2304,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2304] S1024x256.size inb_S1024x5632_S1024x256_0_2304).toLoadRect (harg2.unread x2))
        (View.readAt (Elt Ideal) arg3.view (Rect.unit (s := S1x5632) ![0, 2304] S1x256.size inb_S1x5632_S1x256_0_2304).toLoadRect (harg3.unread x3))⟩,
    ⟨Rect.unit (s := S256x5632) ![0, 4864] S256x256.size inb_S256x5632_S256x256_0_4864,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4864] S1024x256.size inb_S1024x5632_S1024x256_0_4864).toLoadRect (harg2.unread x2))
        (View.readAt (Elt Ideal) arg3.view (Rect.unit (s := S1x5632) ![0, 4864] S1x256.size inb_S1x5632_S1x256_0_4864).toLoadRect (harg3.unread x3))⟩,
    ⟨Rect.unit (s := S256x5632) ![0, 2048] S256x256.size inb_S256x5632_S256x256_0_2048,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2048] S1024x256.size inb_S1024x5632_S1024x256_0_2048).toLoadRect (harg2.unread x2))
        (View.readAt (Elt Ideal) arg3.view (Rect.unit (s := S1x5632) ![0, 2048] S1x256.size inb_S1x5632_S1x256_0_2048).toLoadRect (harg3.unread x3))⟩,
    ⟨Rect.unit (s := S256x5632) ![0, 4608] S256x256.size inb_S256x5632_S256x256_0_4608,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4608] S1024x256.size inb_S1024x5632_S1024x256_0_4608).toLoadRect (harg2.unread x2))
        (View.readAt (Elt Ideal) arg3.view (Rect.unit (s := S1x5632) ![0, 4608] S1x256.size inb_S1x5632_S1x256_0_4608).toLoadRect (harg3.unread x3))⟩,
    ⟨Rect.unit (s := S256x5632) ![0, 1792] S256x256.size inb_S256x5632_S256x256_0_1792,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1792] S1024x256.size inb_S1024x5632_S1024x256_0_1792).toLoadRect (harg2.unread x2))
        (View.readAt (Elt Ideal) arg3.view (Rect.unit (s := S1x5632) ![0, 1792] S1x256.size inb_S1x5632_S1x256_0_1792).toLoadRect (harg3.unread x3))⟩,
    ⟨Rect.unit (s := S256x5632) ![0, 4352] S256x256.size inb_S256x5632_S256x256_0_4352,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4352] S1024x256.size inb_S1024x5632_S1024x256_0_4352).toLoadRect (harg2.unread x2))
        (View.readAt (Elt Ideal) arg3.view (Rect.unit (s := S1x5632) ![0, 4352] S1x256.size inb_S1x5632_S1x256_0_4352).toLoadRect (harg3.unread x3))⟩,
    ⟨Rect.unit (s := S256x5632) ![0, 1536] S256x256.size inb_S256x5632_S256x256_0_1536,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1536] S1024x256.size inb_S1024x5632_S1024x256_0_1536).toLoadRect (harg2.unread x2))
        (View.readAt (Elt Ideal) arg3.view (Rect.unit (s := S1x5632) ![0, 1536] S1x256.size inb_S1x5632_S1x256_0_1536).toLoadRect (harg3.unread x3))⟩,
    ⟨Rect.unit (s := S256x5632) ![0, 4096] S256x256.size inb_S256x5632_S256x256_0_4096,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 4096] S1024x256.size inb_S1024x5632_S1024x256_0_4096).toLoadRect (harg2.unread x2))
        (View.readAt (Elt Ideal) arg3.view (Rect.unit (s := S1x5632) ![0, 4096] S1x256.size inb_S1x5632_S1x256_0_4096).toLoadRect (harg3.unread x3))⟩,
    ⟨Rect.unit (s := S256x5632) ![0, 1280] S256x256.size inb_S256x5632_S256x256_0_1280,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1280] S1024x256.size inb_S1024x5632_S1024x256_0_1280).toLoadRect (harg2.unread x2))
        (View.readAt (Elt Ideal) arg3.view (Rect.unit (s := S1x5632) ![0, 1280] S1x256.size inb_S1x5632_S1x256_0_1280).toLoadRect (harg3.unread x3))⟩,
    ⟨Rect.unit (s := S256x5632) ![0, 3840] S256x256.size inb_S256x5632_S256x256_0_3840,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3840] S1024x256.size inb_S1024x5632_S1024x256_0_3840).toLoadRect (harg2.unread x2))
        (View.readAt (Elt Ideal) arg3.view (Rect.unit (s := S1x5632) ![0, 3840] S1x256.size inb_S1x5632_S1x256_0_3840).toLoadRect (harg3.unread x3))⟩,
    ⟨Rect.unit (s := S256x5632) ![0, 1024] S256x256.size inb_S256x5632_S256x256_0_1024,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 1024] S1024x256.size inb_S1024x5632_S1024x256_0_1024).toLoadRect (harg2.unread x2))
        (View.readAt (Elt Ideal) arg3.view (Rect.unit (s := S1x5632) ![0, 1024] S1x256.size inb_S1x5632_S1x256_0_1024).toLoadRect (harg3.unread x3))⟩,
    ⟨Rect.unit (s := S256x5632) ![0, 3584] S256x256.size inb_S256x5632_S256x256_0_3584,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3584] S1024x256.size inb_S1024x5632_S1024x256_0_3584).toLoadRect (harg2.unread x2))
        (View.readAt (Elt Ideal) arg3.view (Rect.unit (s := S1x5632) ![0, 3584] S1x256.size inb_S1x5632_S1x256_0_3584).toLoadRect (harg3.unread x3))⟩,
    ⟨Rect.unit (s := S256x5632) ![0, 768] S256x256.size inb_S256x5632_S256x256_0_768,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 768] S1024x256.size inb_S1024x5632_S1024x256_0_768).toLoadRect (harg2.unread x2))
        (View.readAt (Elt Ideal) arg3.view (Rect.unit (s := S1x5632) ![0, 768] S1x256.size inb_S1x5632_S1x256_0_768).toLoadRect (harg3.unread x3))⟩,
    ⟨Rect.unit (s := S256x5632) ![0, 3328] S256x256.size inb_S256x5632_S256x256_0_3328,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3328] S1024x256.size inb_S1024x5632_S1024x256_0_3328).toLoadRect (harg2.unread x2))
        (View.readAt (Elt Ideal) arg3.view (Rect.unit (s := S1x5632) ![0, 3328] S1x256.size inb_S1x5632_S1x256_0_3328).toLoadRect (harg3.unread x3))⟩,
    ⟨Rect.unit (s := S256x5632) ![0, 512] S256x256.size inb_S256x5632_S256x256_0_512,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 512] S1024x256.size inb_S1024x5632_S1024x256_0_512).toLoadRect (harg2.unread x2))
        (View.readAt (Elt Ideal) arg3.view (Rect.unit (s := S1x5632) ![0, 512] S1x256.size inb_S1x5632_S1x256_0_512).toLoadRect (harg3.unread x3))⟩,
    ⟨Rect.unit (s := S256x5632) ![0, 3072] S256x256.size inb_S256x5632_S256x256_0_3072,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 3072] S1024x256.size inb_S1024x5632_S1024x256_0_3072).toLoadRect (harg2.unread x2))
        (View.readAt (Elt Ideal) arg3.view (Rect.unit (s := S1x5632) ![0, 3072] S1x256.size inb_S1x5632_S1x256_0_3072).toLoadRect (harg3.unread x3))⟩,
    ⟨Rect.unit (s := S256x5632) ![0, 256] S256x256.size inb_S256x5632_S256x256_0_256,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 256] S1024x256.size inb_S1024x5632_S1024x256_0_256).toLoadRect (harg2.unread x2))
        (View.readAt (Elt Ideal) arg3.view (Rect.unit (s := S1x5632) ![0, 256] S1x256.size inb_S1x5632_S1x256_0_256).toLoadRect (harg3.unread x3))⟩,
    ⟨Rect.unit (s := S256x5632) ![0, 2816] S256x256.size inb_S256x5632_S256x256_0_2816,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 2816] S1024x256.size inb_S1024x5632_S1024x256_0_2816).toLoadRect (harg2.unread x2))
        (View.readAt (Elt Ideal) arg3.view (Rect.unit (s := S1x5632) ![0, 2816] S1x256.size inb_S1x5632_S1x256_0_2816).toLoadRect (harg3.unread x3))⟩,
    ⟨Rect.unit (s := S256x5632) ![0, 0] S256x256.size inb_S256x5632_S256x256_0_0,
      hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, 0] S1024x256.size inb_S1024x5632_S1024x256_0_0).toLoadRect (harg2.unread x2))
        (View.readAt (Elt Ideal) arg3.view (Rect.unit (s := S1x5632) ![0, 0] S1x256.size inb_S1x5632_S1x256_0_0).toLoadRect (harg3.unread x3))⟩] := by
  simp only [kernelRun0_A]
  rfl

/-- What the body stores into the first block. -/
theorem pieces9 : (kernelRun0_A (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8).1 = [
    ⟨Rect.unit (s := S256x1024) ![0, 0] S256x1024.size inb_S256x1024_S256x1024_0_0,
      k0_pay1 (F := Ideal) (k0_pay168 (F := Ideal) (View.readAt (Elt Ideal) arg7.view (Rect.unit (s := S1x1024) ![0, 0] S1x1024.size inb_S1x1024_S1x1024_0_0).toLoadRect (harg7.unread x7)))
        (k0_pay169 (F := Ideal) (View.readAt (Elt Ideal) arg8.view (Rect.unit (s := S1x1024) ![0, 0] S1x1024.size inb_S1x1024_S1x1024_0_0).toLoadRect (harg8.unread x8)))
        (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6))
        (mulf (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6)) (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6)))⟩] := by
  simp only [kernelRun0_A]
  rfl

theorem pay3_apply (r : Fin 256) (o : Fin 1024) : (k0_pay3 (F := Ideal) (ix2 r o) : EReal) = 0 := by
  unfold k0_pay3
  pointwise

theorem acc_apply (r : Fin 256) (o : Fin 1024) : (accL c arg0 harg0 arg1 harg1 arg2 harg2 arg3 harg3 arg4 harg4 arg5 harg5 arg6 harg6 arg11 x0 x1 x2 x3 x4 x5 x6 (ix2 r o) : EReal)
    = ∑ f : Fin 2816, actS x0 x1 x2 x3 x4 x5 r f * (x6 (ix2 f o) : EReal) := by
  rw [acc10_apply, acc9_apply, acc8_apply, acc7_apply, acc6_apply, acc5_apply, acc4_apply, acc3_apply, acc2_apply, acc1_apply, acc0_apply, pay3_apply]
  exact Cert.FfnVal.sum_tiles fun f => actS x0 x1 x2 x3 x4 x5 r f * (x6 (ix2 f o) : EReal)

/-- An entry of the first output block. -/
def outS (r : Fin 256) (o : Fin 1024) : EReal :=
  lnS (fun d => alph * (x0 (ix2 r d) : EReal) + ∑ f : Fin 2816, actS x0 x1 x2 x3 x4 x5 r f * (x6 (ix2 f d) : EReal))
    (x7 (ix2 0 o)) (x8 (ix2 0 o)) o

theorem pc9 (r : Fin 256) (o : Fin 1024) : (k0_pay1 (F := Ideal) (k0_pay168 (F := Ideal) (View.readAt (Elt Ideal) arg7.view (Rect.unit (s := S1x1024) ![0, 0] S1x1024.size inb_S1x1024_S1x1024_0_0).toLoadRect (harg7.unread x7)))
        (k0_pay169 (F := Ideal) (View.readAt (Elt Ideal) arg8.view (Rect.unit (s := S1x1024) ![0, 0] S1x1024.size inb_S1x1024_S1x1024_0_0).toLoadRect (harg8.unread x8)))
        (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6))
        (mulf (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6)) (cenV (View.readAt (Elt Ideal) arg0.view (Rect.unit (s := S256x1024) ![0, 0] S256x1024.size inb_S256x1024_S256x1024_0_0).toLoadRect (harg0.unread x0)) (accL c arg0 harg0 arg1 harg1 arg2 harg2 arg3 harg3 arg4 harg4 arg5 harg5 arg6 harg6 arg11 x0 x1 x2 x3 x4 x5 x6))) (ix2 r o) : EReal)
    = outS x0 x1 x2 x3 x4 x5 x6 x7 x8 r o := by
  unfold outS
  rw [ln_apply]
  refine congr (congr (congr (congrArg lnS (funext fun d => ?_)) (rdG x7 harg7 o)) (rdG x8 harg8 o)) rfl
  rw [acc_apply]
  exact congrArg (fun z : EReal => alph * z + _) (rdX x0 harg0 r d)

theorem pc10 (col : ℕ) (hw : ∀ a, (![0, col] : Fin 2 → ℕ) a + S1024x256.size a ≤ S1024x5632.size a)
    (hb : ∀ a, (![0, col] : Fin 2 → ℕ) a + S1x256.size a ≤ S1x5632.size a) (y' : S256x5632.Idx) (y : S256x256.Idx)
    (h0 : (y' 0).val = 0 + (y 0).val) (h1 : (y' 1).val = col + (y 1).val) :
    hV (k0_pay2 (F := Ideal) (View.readAt (Elt Ideal) arg0.view (Rect.unit (s := S256x1024) ![0, 0] S256x1024.size inb_S256x1024_S256x1024_0_0).toLoadRect (harg0.unread x0))) (View.readAt (Elt Ideal) arg2.view (Rect.unit (s := S1024x5632) ![0, col] S1024x256.size hw).toLoadRect (harg2.unread x2))
      (View.readAt (Elt Ideal) arg3.view (Rect.unit (s := S1x5632) ![0, col] S1x256.size hb).toLoadRect (harg3.unread x3)) y
    = upS x0 x2 x3 ⟨(y' 0).val, (y' 0).isLt⟩ ⟨(y' 1).val, (y' 1).isLt⟩ := by
  have hc : col + 256 ≤ 5632 := hb 1
  idx_vars y
  refine (up_read x0 x2 x3 _ _ _ (fun k => ⟨col + k, by omega⟩) (rdX x0 harg0) (rdW x2 harg2 col _) (rdB x3 harg3 col _) y0 y1).trans ?_
  exact congrArg₂ (upS x0 x2 x3) (Fin.ext (h0.trans (Nat.zero_add _)).symm) (Fin.ext h1.symm)

theorem out9_apply (r : Fin 256) (o : Fin 1024) : (out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 (ix2 r o) : EReal)
    = outS x0 x1 x2 x3 x4 x5 x6 x7 x8 r o := by
  have key : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8
      = fun y => outS x0 x1 x2 x3 x4 x5 x6 x7 x8 ⟨(y 0).val, (y 0).isLt⟩ ⟨(y 1).val, (y 1).isLt⟩ := by
    unfold out0_A_9
    rw [pieces9, View.read_writes_junk_eq_canon]
    funext y
    canon_tiles y h
    idx_vars y
    refine (pc9 c arg0 harg0 arg1 harg1 arg2 harg2 arg3 harg3 arg4 harg4 arg5 harg5 arg6 harg6 arg7 harg7 arg8 harg8 arg11 x0 x1 x2 x3 x4 x5 x6 x7 x8 y0 y1).trans ?_
    exact congrArg₂ (outS x0 x1 x2 x3 x4 x5 x6 x7 x8) (Fin.ext h0.symm) (Fin.ext h1.symm)
  rw [key]
  rfl

theorem out10_apply (r : Fin 256) (f : Fin 5632) : (out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8 (ix2 r f) : EReal)
    = upS x0 x2 x3 r f := by
  have key : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 x8
      = fun y => upS x0 x2 x3 ⟨(y 0).val, (y 0).isLt⟩ ⟨(y 1).val, (y 1).isLt⟩ := by
    unfold out0_A_10
    rw [pieces10, View.read_writes_junk_eq_canon]
    funext y
    canon_tiles y h
    · exact pc10 arg0 harg0 arg2 harg2 arg3 harg3 x0 x2 x3 5376 _ _ _ _ (by omega) (by omega)
    · exact pc10 arg0 harg0 arg2 harg2 arg3 harg3 x0 x2 x3 2560 _ _ _ _ (by omega) (by omega)
    · exact pc10 arg0 harg0 arg2 harg2 arg3 harg3 x0 x2 x3 5120 _ _ _ _ (by omega) (by omega)
    · exact pc10 arg0 harg0 arg2 harg2 arg3 harg3 x0 x2 x3 2304 _ _ _ _ (by omega) (by omega)
    · exact pc10 arg0 harg0 arg2 harg2 arg3 harg3 x0 x2 x3 4864 _ _ _ _ (by omega) (by omega)
    · exact pc10 arg0 harg0 arg2 harg2 arg3 harg3 x0 x2 x3 2048 _ _ _ _ (by omega) (by omega)
    · exact pc10 arg0 harg0 arg2 harg2 arg3 harg3 x0 x2 x3 4608 _ _ _ _ (by omega) (by omega)
    · exact pc10 arg0 harg0 arg2 harg2 arg3 harg3 x0 x2 x3 1792 _ _ _ _ (by omega) (by omega)
    · exact pc10 arg0 harg0 arg2 harg2 arg3 harg3 x0 x2 x3 4352 _ _ _ _ (by omega) (by omega)
    · exact pc10 arg0 harg0 arg2 harg2 arg3 harg3 x0 x2 x3 1536 _ _ _ _ (by omega) (by omega)
    · exact pc10 arg0 harg0 arg2 harg2 arg3 harg3 x0 x2 x3 4096 _ _ _ _ (by omega) (by omega)
    · exact pc10 arg0 harg0 arg2 harg2 arg3 harg3 x0 x2 x3 1280 _ _ _ _ (by omega) (by omega)
    · exact pc10 arg0 harg0 arg2 harg2 arg3 harg3 x0 x2 x3 3840 _ _ _ _ (by omega) (by omega)
    · exact pc10 arg0 harg0 arg2 harg2 arg3 harg3 x0 x2 x3 1024 _ _ _ _ (by omega) (by omega)
    · exact pc10 arg0 harg0 arg2 harg2 arg3 harg3 x0 x2 x3 3584 _ _ _ _ (by omega) (by omega)
    · exact pc10 arg0 harg0 arg2 harg2 arg3 harg3 x0 x2 x3 768 _ _ _ _ (by omega) (by omega)
    · exact pc10 arg0 harg0 arg2 harg2 arg3 harg3 x0 x2 x3 3328 _ _ _ _ (by omega) (by omega)
    · exact pc10 arg0 harg0 arg2 harg2 arg3 harg3 x0 x2 x3 512 _ _ _ _ (by omega) (by omega)
    · exact pc10 arg0 harg0 arg2 harg2 arg3 harg3 x0 x2 x3 3072 _ _ _ _ (by omega) (by omega)
    · exact pc10 arg0 harg0 arg2 harg2 arg3 harg3 x0 x2 x3 256 _ _ _ _ (by omega) (by omega)
    · exact pc10 arg0 harg0 arg2 harg2 arg3 harg3 x0 x2 x3 2816 _ _ _ _ (by omega) (by omega)
    · exact pc10 arg0 harg0 arg2 harg2 arg3 harg3 x0 x2 x3 0 _ _ _ _ (by omega) (by omega)
  rw [key]
  rfl

end

end Cert.FfnSVal

end
-- ==== Proof.FfnSSpec.lean ====
/-
The samples' feed-forward block as plain mathematics over its nine arrays, and the kernel's two arrays read as it.
-/
module

public import proofs.«01_k».proof.Proof.FfnSOut
public import proofs.«01_k».proof.Proof.Gen.FfnSIdeal.Value

@[expose] public section

set_option maxRecDepth 16384

noncomputable section

open Idealize.ShloMosaic Idealize.ShloMosaic.TcCoe Idealize.SL.Sem
open Idealize.ShloMosaic.Pipeline (Dat)

namespace Cert.FfnSVal

open Cert.FfnSIdeal Cert.FfnSIdeal.Gen Cert.FfnSIdeal.Value
open Cert.FfnVal (geluS lnS alph half ga gb eps wid meanS varS)

section
variable (x : Vec Ideal S256x1024 .f32) (st : Vec Ideal S1x32x2x5632 .f32) (wu : Vec Ideal S1x1024x5632 .f32) (bu : Vec Ideal S1x5632 .f32)
variable (wc : Vec Ideal S1x3x5632 .f32) (bc : Vec Ideal S1x5632 .f32) (wd : Vec Ideal S1x2816x1024 .f32) (g be : Vec Ideal S1x1024 .f32)

/-- The up-projected row of a sample's position. -/
def up (s : Fin 32) (t : Fin 8) (f : Fin 5632) : EReal :=
  (∑ d : Fin 1024, x (ix2 ⟨s * 8 + t, by omega⟩ d) * wu (ix3 0 d f)) + bu (ix2 0 f)

/-- The same after the state's two rows. -/
def upP (s : Fin 32) (q : ℕ) (f : Fin 5632) : EReal :=
  if h : 2 ≤ q ∧ q < 10 then up x wu bu s ⟨q - 2, by omega⟩ f else st (ix4 0 s ⟨q % 2, by omega⟩ f)

/-- The convolution over three rows. -/
def conv (s : Fin 32) (t : Fin 8) (f : Fin 5632) : EReal :=
  bc (ix2 0 f) + upP x st wu bu s t f * wc (ix3 0 0 f) + upP x st wu bu s (1 + t) f * wc (ix3 0 1 f)
    + upP x st wu bu s (2 + t) f * wc (ix3 0 2 f)

/-- The gated half. -/
def act (s : Fin 32) (t : Fin 8) (f : Fin 2816) : EReal :=
  geluS (conv x st wu bu wc bc s t ⟨f, by omega⟩) * conv x st wu bu wc bc s t ⟨2816 + f, by omega⟩

/-- The row before its normalization. -/
def pre (s : Fin 32) (t : Fin 8) (d : Fin 1024) : EReal :=
  alph * x (ix2 ⟨s * 8 + t, by omega⟩ d) + ∑ f : Fin 2816, act x st wu bu wc bc s t f * wd (ix3 0 f d)

/-- The normalized row. -/
def yS (s : Fin 32) (t : Fin 8) (o : Fin 1024) : EReal :=
  lnS (pre x st wu bu wc bc wd s t) (g (ix2 0 o)) (be (ix2 0 o)) o
end

/-- A row's sample. -/
def smp (r : Fin 256) : Fin 32 := ⟨r / 8, by omega⟩

/-- A row's position in its sample. -/
def stp (r : Fin 256) : Fin 8 := ⟨r % 8, by omega⟩

theorem row_eq (r : Fin 256) (h : (smp r).val * 8 + (stp r).val < 256) : (⟨smp r * 8 + stp r, h⟩ : Fin 256) = r :=
  Fin.ext (by show r.val / 8 * 8 + r.val % 8 = r.val; omega)

variable (m : (ℓ : Loc nD τ sig) → Buf (Elt Ideal) ℓ)

abbrev argX (c : Dev nD) : Vec Ideal S256x1024 .f32 := m ((c : Thread nD τ).loc main_arg0)
abbrev argS (c : Dev nD) : Vec Ideal S1x32x2x5632 .f32 := m ((c : Thread nD τ).loc main_arg1)
abbrev argWu (c : Dev nD) : Vec Ideal S1x1024x5632 .f32 := m ((c : Thread nD τ).loc main_arg2)
abbrev argBu (c : Dev nD) : Vec Ideal S1x5632 .f32 := m ((c : Thread nD τ).loc main_arg3)
abbrev argWc (c : Dev nD) : Vec Ideal S1x3x5632 .f32 := m ((c : Thread nD τ).loc main_arg4)
abbrev argBc (c : Dev nD) : Vec Ideal S1x5632 .f32 := m ((c : Thread nD τ).loc main_arg5)
abbrev argWd (c : Dev nD) : Vec Ideal S1x2816x1024 .f32 := m ((c : Thread nD τ).loc main_arg6)
abbrev argG (c : Dev nD) : Vec Ideal S1x1024 .f32 := m ((c : Thread nD τ).loc main_arg7)
abbrev argB (c : Dev nD) : Vec Ideal S1x1024 .f32 := m ((c : Thread nD τ).loc main_arg8)

theorem idx0 : ∀ t : Fin cfg0.N, win0_0.index t = ![0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem V0_apply (c : Dev nD) (s : Fin 32) (a : Fin 2) (f : Fin 5632) : V m c main_v0 (ix3 s a f) = argS m c (ix4 0 s a f) := by
  simp only [V, hostOps0]
  after_results
  pointwise
theorem V2_apply (c : Dev nD) (d : Fin 1024) (f : Fin 5632) : V m c main_v2 (ix2 d f) = argWu m c (ix3 0 d f) := by
  simp only [V, hostOps0]
  after_results
  pointwise
theorem V4_apply (c : Dev nD) (f : Fin 5632) : V m c main_v4 (ix2 0 f) = argBu m c (ix2 0 f) := by
  simp only [V, hostOps0]
  after_results
  pointwise
theorem V5_apply (c : Dev nD) (k : Fin 3) (f : Fin 5632) : V m c main_v5 (ix2 k f) = argWc m c (ix3 0 k f) := by
  simp only [V, hostOps0]
  after_results
  pointwise
theorem V7_apply (c : Dev nD) (f : Fin 5632) : V m c main_v7 (ix2 0 f) = argBc m c (ix2 0 f) := by
  simp only [V, hostOps0]
  after_results
  pointwise
theorem V9_apply (c : Dev nD) (f : Fin 2816) (d : Fin 1024) : V m c main_v9 (ix2 f d) = argWd m c (ix3 0 f d) := by
  simp only [V, hostOps0]
  after_results
  pointwise
theorem V11_apply (c : Dev nD) (d : Fin 1024) : V m c main_v11 (ix2 0 d) = argG m c (ix2 0 d) := by
  simp only [V, hostOps0]
  after_results
  pointwise
theorem V13_apply (c : Dev nD) (d : Fin 1024) : V m c main_v13 (ix2 0 d) = argB m c (ix2 0 d) := by
  simp only [V, hostOps0]
  after_results
  pointwise

section
variable (c : Dev nD) (t : Fin cfg0.N)

theorem iblk0 (r : Fin 256) (d : Fin 1024) : iblk m c 0 t (ix2 r d) = argX m c (ix2 r d) := by
  rw [← show V m c main_arg0 = argX m c from V_main_arg0 m c]
  blk_ext [iblk, idx0 t]
theorem iblk1 (s : Fin 32) (a : Fin 2) (f : Fin 5632) : iblk m c 1 t (ix3 s a f) = argS m c (ix4 0 s a f) := by
  rw [← V0_apply]
  blk_ext [iblk, idx1 t]
theorem iblk2 (d : Fin 1024) (f : Fin 5632) : iblk m c 2 t (ix2 d f) = argWu m c (ix3 0 d f) := by
  rw [← V2_apply]
  blk_ext [iblk, idx2 t]
theorem iblk3 (f : Fin 5632) : iblk m c 3 t (ix2 0 f) = argBu m c (ix2 0 f) := by
  rw [← V4_apply]
  blk_ext [iblk, idx3 t]
theorem iblk4 (k : Fin 3) (f : Fin 5632) : iblk m c 4 t (ix2 k f) = argWc m c (ix3 0 k f) := by
  rw [← V5_apply]
  blk_ext [iblk, idx4 t]
theorem iblk5 (f : Fin 5632) : iblk m c 5 t (ix2 0 f) = argBc m c (ix2 0 f) := by
  rw [← V7_apply]
  blk_ext [iblk, idx5 t]
theorem iblk6 (f : Fin 2816) (d : Fin 1024) : iblk m c 6 t (ix2 f d) = argWd m c (ix3 0 f d) := by
  rw [← V9_apply]
  blk_ext [iblk, idx6 t]
theorem iblk7 (d : Fin 1024) : iblk m c 7 t (ix2 0 d) = argG m c (ix2 0 d) := by
  rw [← V11_apply]
  blk_ext [iblk, idx7 t]
theorem iblk8 (d : Fin 1024) : iblk m c 8 t (ix2 0 d) = argB m c (ix2 0 d) := by
  rw [← V13_apply]
  blk_ext [iblk, idx8 t]

theorem upS_eq (s : Fin 32) (q : Fin 8) (f : Fin 5632) :
    upS (iblk m c 0 t) (iblk m c 2 t) (iblk m c 3 t) ⟨s * 8 + q, by omega⟩ f = up (argX m c) (argWu m c) (argBu m c) s q f :=
  congrArg₂ (fun a b : EReal => a + b) (Finset.sum_congr (M := EReal) rfl fun d _ =>
    congrArg₂ (fun a b : EReal => a * b) (iblk0 m c t _ d) (iblk2 m c t d f)) (iblk3 m c t f)

theorem hS_eq (s : Fin 32) (q : ℕ) (f : Fin 5632) :
    hS (iblk m c 0 t) (iblk m c 1 t) (iblk m c 2 t) (iblk m c 3 t) s q f
      = upP (argX m c) (argS m c) (argWu m c) (argBu m c) s q f := by
  unfold hS upP
  by_cases h : 2 ≤ q ∧ q < 10
  · rw [dif_pos h, dif_pos h]
    exact upS_eq m c t s ⟨q - 2, by omega⟩ f
  · rw [dif_neg h, dif_neg h]
    exact iblk1 m c t s _ f

theorem convS_eq (r : Fin 256) (f : Fin 5632) :
    convS (iblk m c 0 t) (iblk m c 1 t) (iblk m c 2 t) (iblk m c 3 t) (iblk m c 4 t) (iblk m c 5 t) r f
      = conv (argX m c) (argS m c) (argWu m c) (argBu m c) (argWc m c) (argBc m c) (smp r) (stp r) f := by
  unfold convS conv
  rw [hS_eq, hS_eq, hS_eq, iblk5, iblk4, iblk4, iblk4]
  rfl

theorem actS_eq (r : Fin 256) (f : Fin 2816) :
    actS (iblk m c 0 t) (iblk m c 1 t) (iblk m c 2 t) (iblk m c 3 t) (iblk m c 4 t) (iblk m c 5 t) r f
      = act (argX m c) (argS m c) (argWu m c) (argBu m c) (argWc m c) (argBc m c) (smp r) (stp r) f := by
  unfold actS act
  rw [convS_eq, convS_eq]

theorem outS_eq (r : Fin 256) (o : Fin 1024) :
    outS (iblk m c 0 t) (iblk m c 1 t) (iblk m c 2 t) (iblk m c 3 t) (iblk m c 4 t) (iblk m c 5 t) (iblk m c 6 t)
        (iblk m c 7 t) (iblk m c 8 t) r o
      = yS (argX m c) (argS m c) (argWu m c) (argBu m c) (argWc m c) (argBc m c) (argWd m c) (argG m c) (argB m c) (smp r) (stp r) o := by
  unfold outS yS
  rw [iblk7, iblk8]
  congr 1
  funext d
  unfold pre
  rw [row_eq]
  have hs : (∑ f : Fin 2816, actS (iblk m c 0 t) (iblk m c 1 t) (iblk m c 2 t) (iblk m c 3 t) (iblk m c 4 t) (iblk m c 5 t) r f
        * (iblk m c 6 t : Vec Ideal S2816x1024 .bf16) (ix2 f d))
      = ∑ f : Fin 2816, act (argX m c) (argS m c) (argWu m c) (argBu m c) (argWc m c) (argBc m c) (smp r) (stp r) f
        * argWd m c (ix3 0 f d) :=
    Finset.sum_congr rfl fun f _ => congrArg₂ (· * ·) (actS_eq m c t r f) (iblk6 m c t f d)
  rw [iblk0]
  exact congrArg (fun z : EReal => alph * argX m c (ix2 r d) + z) hs

theorem outs9 : (outsAt0 m c t).1 = out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]
theorem outs10 : (outsAt0 m c t).2 = out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) := by dsimp only [outsAt0]

end

/-- The first array the kernel leaves. -/
theorem final9 (c : Dev nD) : (dats m 0 c).arrAt 9 cfg0.N
    = (fun i => yS (argX m c) (argS m c) (argWu m c) (argBu m c) (argWc m c) (argBc m c) (argWd m c) (argG m c) (argB m c)
        (smp (i 0)) (stp (i 0)) (i 1)) := by
  refine (dats m 0 c).arrAt_eq_of_covers 9 _ (by decide +kernel) fun t hf y => ?_
  blk_simp
  rw [after0_9]
  idx_vars y
  rw [outs9, out9_apply, outS_eq]
  have e : ((cfg0.win 9).blk t).view.emb (ix2 y0 y1) = ix2 y0 y1 := by
    blk_ext [idx9 t]
  exact (congrArg (fun i : S256x1024.Idx => yS (argX m c) (argS m c) (argWu m c) (argBu m c) (argWc m c) (argBc m c) (argWd m c) (argG m c)
    (argB m c) (smp (i 0)) (stp (i 0)) (i 1)) e).symm

/-- The second array the kernel leaves. -/
theorem final10 (c : Dev nD) : (dats m 0 c).arrAt 10 cfg0.N
    = (fun i => up (argX m c) (argWu m c) (argBu m c) (smp (i 0)) (stp (i 0)) (i 1)) := by
  refine (dats m 0 c).arrAt_eq_of_covers 10 _ (by decide +kernel) fun t hf y => ?_
  blk_simp
  rw [after0_10]
  idx_vars y
  rw [outs10, out10_apply]
  have hu := upS_eq m c t (smp y0) (stp y0) y1
  rw [row_eq] at hu
  refine hu.trans ?_
  have e : ((cfg0.win 10).blk t).view.emb (ix2 y0 y1) = ix2 y0 y1 := by
    blk_ext [idx10 t]
  exact (congrArg (fun i : S256x5632.Idx => up (argX m c) (argWu m c) (argBu m c) (smp (i 0)) (stp (i 0)) (i 1)) e).symm

end Cert.FfnSVal

end
-- ==== Proof.FfnSRefVal.lean ====
/-
The reference of the samples' feed-forward block, read entry by entry.
-/
module

public import proofs.«01_k».proof.Proof.FfnSSpec
public import proofs.«01_k».proof.Proof.FfnRefVal
public import proofs.«01_k».proof.Proof.Gen.FfnSRefIdeal.Run
public import proofs.«01_k».proof.Proof.Gen.FfnSRefIdeal.Read

@[expose] public section

set_option maxRecDepth 16384

noncomputable section

open Idealize.ShloMosaic Idealize.ShloMosaic.TcCoe Idealize.SL.Sem

namespace Cert.FfnSVal

open Cert.FfnSRefIdeal Cert.FfnSRefIdeal.Gen Cert.FfnSRefIdeal.Read
open Cert.FfnVal (geluS lnS alph half ga gb eps wid meanS varS zero_bits one_bits)

variable (x : Vec Ideal S256x1024 .f32) (st : Vec Ideal S1x32x2x5632 .f32) (wu : Vec Ideal S1x1024x5632 .f32) (bu : Vec Ideal S1x5632 .f32)
variable (wc : Vec Ideal S1x3x5632 .f32) (bc : Vec Ideal S1x5632 .f32) (wd : Vec Ideal S1x2816x1024 .f32) (g be : Vec Ideal S1x1024 .f32)
variable (s : Fin 32) (t : Fin 8)

theorem r0_apply (d : Fin 1024) : val_main_v0 (F := Ideal) x (ix3 s t d) = x (ix2 ⟨s * 8 + t, by omega⟩ d) := by
  rw [val_main_v0_apply]
  exact congrArg x (funext fun a => Fin.ext (match a with
    | ⟨0, _⟩ => by show ((s.val * 8 + t.val) * 1024 + d.val) / 1024 = s.val * 8 + t.val; omega
    | ⟨1, _⟩ => by show ((s.val * 8 + t.val) * 1024 + d.val) % 1024 = d.val; omega))

theorem r6_apply (f : Fin 5632) : val_main_v6 (F := Ideal) x wu bu (ix3 s t f) = up x wu bu s t f := by
  have el : ∀ d : Fin 1024, lidx_main_v2 (ix3 s t f) d = ix3 s t d := fun d =>
    funext fun a => match a with | ⟨0, _⟩ => rfl | ⟨1, _⟩ => rfl | ⟨2, _⟩ => rfl
  have er : ∀ d : Fin 1024, idx_main_v1 (ridx_main_v2 (ix3 s t f) d) = ix3 0 d f := fun d =>
    funext fun a => Fin.ext (match a with
      | ⟨0, _⟩ => rfl
      | ⟨1, _⟩ => by show (d.val * 5632 + f.val) / 5632 % 1024 = d.val; omega
      | ⟨2, _⟩ => by show (d.val * 5632 + f.val) % 5632 = f.val; omega)
  have eb : idx_main_v3 (idx_main_v4 (idx_main_v5 (ix3 s t f))) = ix2 0 f :=
    funext fun a => Fin.ext (match a with
      | ⟨0, _⟩ => rfl
      | ⟨1, _⟩ => by show f.val % 5632 = f.val; omega)
  rw [val_main_v6_apply, val_main_v2_apply, val_main_v5_apply, val_main_v4_apply, val_main_v3_apply, eb]
  simp only [val_main_v1_apply, el, er, r0_apply]
  rfl

theorem r8_apply (q : Fin 10) (f : Fin 5632) : val_main_v8 (F := Ideal) x st wu bu (ix3 s q f) = upP x st wu bu s q f := by
  have h7 : ∀ (a : Fin 2), val_main_v7 (F := Ideal) st (ix3 s a f) = st (ix4 0 s a f) := fun a => by
    rw [val_main_v7_apply]
    exact congrArg st (funext fun k => Fin.ext (match k with
      | ⟨0, _⟩ => rfl
      | ⟨1, _⟩ => by show ((s.val * 2 + a.val) * 5632 + f.val) / 11264 % 32 = s.val; omega
      | ⟨2, _⟩ => by show ((s.val * 2 + a.val) * 5632 + f.val) / 5632 % 2 = a.val; omega
      | ⟨3, _⟩ => by show ((s.val * 2 + a.val) * 5632 + f.val) % 5632 = f.val; omega))
  have h6 := fun t => r6_apply x wu bu s t f
  unfold val_main_v8 upP
  generalize val_main_v6 (F := Ideal) x wu bu = y6 at h6 ⊢
  generalize val_main_v7 (F := Ideal) st = y7 at h7 ⊢
  by_cases hq : 2 ≤ q.val
  · rw [dif_pos ⟨hq, q.isLt⟩, ← h6]
    pointwise
    exact dif_neg (by omega)
  · rw [dif_neg (fun h => hq h.1), ← h7]
    pointwise
    refine (dif_pos (by omega)).trans ?_
    exact congrArg (fun a => y7 (ix3 s a f)) (Fin.ext (Nat.mod_eq_of_lt (by omega)).symm)

section
variable (f : Fin 5632)

theorem w0_apply : val_main_v15 (F := Ideal) wc (ix3 s t f) = wc (ix3 0 0 f) := by
  rw [val_main_v15_apply, val_main_v14_apply, val_main_v13_apply, val_main_v12_apply, val_main_v11_apply]
  exact congrArg wc (funext fun a => Fin.ext (match a with
    | ⟨0, _⟩ => rfl
    | ⟨1, _⟩ => by show (0 * 5632 + f.val % 5632) / 5632 % 3 = 0; omega
    | ⟨2, _⟩ => by show (0 * 5632 + f.val % 5632) % 5632 = f.val; omega))
theorem w1_apply : val_main_v25 (F := Ideal) wc (ix3 s t f) = wc (ix3 0 1 f) := by
  rw [val_main_v25_apply, val_main_v24_apply, val_main_v23_apply, val_main_v22_apply, val_main_v21_apply]
  exact congrArg wc (funext fun a => Fin.ext (match a with
    | ⟨0, _⟩ => rfl
    | ⟨1, _⟩ => by show ((1 + 0) * 5632 + f.val % 5632) / 5632 % 3 = 1; omega
    | ⟨2, _⟩ => by show ((1 + 0) * 5632 + f.val % 5632) % 5632 = f.val; omega))
theorem w2_apply : val_main_v33 (F := Ideal) wc (ix3 s t f) = wc (ix3 0 2 f) := by
  rw [val_main_v33_apply, val_main_v32_apply, val_main_v31_apply, val_main_v30_apply, val_main_v29_apply]
  exact congrArg wc (funext fun a => Fin.ext (match a with
    | ⟨0, _⟩ => rfl
    | ⟨1, _⟩ => by show ((2 + 0) * 5632 + f.val % 5632) / 5632 % 3 = 2; omega
    | ⟨2, _⟩ => by show ((2 + 0) * 5632 + f.val % 5632) % 5632 = f.val; omega))
theorem bc_apply : val_main_v18 (F := Ideal) bc (ix3 s t f) = bc (ix2 0 f) := by
  rw [val_main_v18_apply, val_main_v17_apply, val_main_v9_apply]
  exact congrArg bc (funext fun a => Fin.ext (match a with
    | ⟨0, _⟩ => rfl
    | ⟨1, _⟩ => by show f.val % 5632 = f.val; omega))

theorem rconv_apply : val_main_v35 (F := Ideal) x st wu bu wc bc (ix3 s t f) = conv x st wu bu wc bc s t f := by
  have e0 : idx_main_v10 (ix3 s t f) = ix3 s (⟨t, by omega⟩ : Fin 10) f :=
    funext fun a => match a with | ⟨0, _⟩ => rfl | ⟨1, _⟩ => rfl | ⟨2, _⟩ => rfl
  have e1 : idx_main_v20 (ix3 s t f) = ix3 s (⟨1 + t, by omega⟩ : Fin 10) f :=
    funext fun a => Fin.ext (match a with | ⟨0, _⟩ => rfl | ⟨1, _⟩ => rfl | ⟨2, _⟩ => rfl)
  have e2 : idx_main_v28 (ix3 s t f) = ix3 s (⟨2 + t, by omega⟩ : Fin 10) f :=
    funext fun a => Fin.ext (match a with | ⟨0, _⟩ => rfl | ⟨1, _⟩ => rfl | ⟨2, _⟩ => rfl)
  rw [val_main_v35_apply, val_main_v34_apply, val_main_v27_apply, val_main_v26_apply, val_main_v19_apply, val_main_v16_apply,
    val_main_v10_apply, val_main_v20_apply, val_main_v28_apply, e0, e1, e2, r8_apply, r8_apply, r8_apply,
    w0_apply, w1_apply, w2_apply, bc_apply]
  rfl
end

theorem ract_apply (f : Fin 2816) : val_main_v51 (F := Ideal) x st wu bu wc bc (ix3 s t f) = act x st wu bu wc bc s t f := by
  have e0 : idx_main_v36 (ix3 s t f) = ix3 s t (⟨f, by omega⟩ : Fin 5632) :=
    funext fun a => match a with | ⟨0, _⟩ => rfl | ⟨1, _⟩ => rfl | ⟨2, _⟩ => rfl
  have e1 : idx_main_v37 (ix3 s t f) = ix3 s t (⟨2816 + f, by omega⟩ : Fin 5632) :=
    funext fun a => match a with | ⟨0, _⟩ => rfl | ⟨1, _⟩ => rfl | ⟨2, _⟩ => rfl
  have h35 : val_main_v36 (F := Ideal) x st wu bu wc bc (ix3 s t f) = conv x st wu bu wc bc s t ⟨f, by omega⟩ := by
    rw [val_main_v36_apply, e0, rconv_apply]
  have h36 : val_main_v37 (F := Ideal) x st wu bu wc bc (ix3 s t f) = conv x st wu bu wc bc s t ⟨2816 + f, by omega⟩ := by
    rw [val_main_v37_apply, e1, rconv_apply]
  rw [val_main_v51_apply, val_main_v50_apply, val_main_v49_apply, val_main_v48_apply, val_main_cst_2_apply, val_main_v47_apply,
    val_main_v46_apply, val_main_cst_1_apply, val_main_v45_apply, val_main_v44_apply, val_main_v43_apply, val_main_cst_0_apply,
    val_main_v42_apply, val_main_v41_apply, val_main_v40_apply, val_main_cst_apply, val_main_v39_apply, val_main_v38_apply, h35, h36]
  unfold act geluS
  generalize conv x st wu bu wc bc s t ⟨f, _⟩ = z
  generalize conv x st wu bu wc bc s t ⟨2816 + f, _⟩ = w
  show z * (half * (Ideal.ofBits .f32 0x3F800000#32 + Ideal.tanh (ga * (z + gb * (z * z * z))))) * w = _
  rw [one_bits, mul_comm (z * z) z]

theorem rpre_apply (d : Fin 1024) : val_main_v56 (F := Ideal) x st wu bu wc bc wd (ix3 s t d) = pre x st wu bu wc bc wd s t d := by
  have el : ∀ f : Fin 2816, lidx_main_v53 (ix3 s t d) f = ix3 s t f := fun f =>
    funext fun a => match a with | ⟨0, _⟩ => rfl | ⟨1, _⟩ => rfl | ⟨2, _⟩ => rfl
  have er : ∀ f : Fin 2816, idx_main_v52 (ridx_main_v53 (ix3 s t d) f) = ix3 0 f d := fun f =>
    funext fun a => Fin.ext (match a with
      | ⟨0, _⟩ => rfl
      | ⟨1, _⟩ => by show (f.val * 1024 + d.val) / 1024 % 2816 = f.val; omega
      | ⟨2, _⟩ => by show (f.val * 1024 + d.val) % 1024 = d.val; omega)
  rw [val_main_v56_apply, val_main_v55_apply, val_main_v54_apply, val_main_cst_3_apply, val_main_v53_apply]
  simp only [val_main_v52_apply, el, er, ract_apply, r0_apply]
  rfl

theorem rmean_apply : val_main_v60 (F := Ideal) x st wu bu wc bc wd (ix3 s t 0) = meanS (pre x st wu bu wc bc wd s t) := by
  have ei : ∀ d : Fin 1024, idx_main_v57 (idx_main_v58 (ix3 s t 0)) d = ix3 s t d := fun d =>
    funext fun a => match a with | ⟨0, _⟩ => rfl | ⟨1, _⟩ => rfl | ⟨2, _⟩ => rfl
  rw [val_main_v60_apply, val_main_v58_apply, val_main_v57_apply, val_main_cst_4_apply, val_main_v59_apply, val_main_cst_5_apply]
  simp only [ei, rpre_apply]
  unfold meanS
  refine congrArg (Ideal.div · wid) ?_
  exact (congrArg (· + _) zero_bits).trans (zero_add _)

theorem rvar_apply : val_main_v67 (F := Ideal) x st wu bu wc bc wd (ix3 s t 0) = varS (pre x st wu bu wc bc wd s t) := by
  have ei : ∀ d : Fin 1024, idx_main_v64 (idx_main_v65 (ix3 s t 0)) d = ix3 s t d := fun d =>
    funext fun a => match a with | ⟨0, _⟩ => rfl | ⟨1, _⟩ => rfl | ⟨2, _⟩ => rfl
  have em : ∀ d : Fin 1024, idx_main_v61 (ix3 s t d) = ix3 s t 0 := fun d =>
    funext fun a => match a with | ⟨0, _⟩ => rfl | ⟨1, _⟩ => rfl | ⟨2, _⟩ => rfl
  rw [val_main_v67_apply, val_main_v65_apply, val_main_v64_apply, val_main_cst_6_apply, val_main_v66_apply, val_main_cst_7_apply]
  simp only [ei, val_main_v63_apply, val_main_v62_apply, val_main_v61_apply, em, rpre_apply, rmean_apply]
  unfold varS
  refine congrArg (Ideal.div · wid) ?_
  exact (congrArg (· + _) zero_bits).trans (zero_add _)

/-- The reference's first result. -/
theorem ref_y (o : Fin 1024) : val_main_v82 (F := Ideal) x st wu bu wc bc wd g be (ix3 s t o) = yS x st wu bu wc bc wd g be s t o := by
  have e67 : idx_main_v68 (ix3 s t o) = ix3 s t 0 :=
    funext fun a => match a with | ⟨0, _⟩ => rfl | ⟨1, _⟩ => rfl | ⟨2, _⟩ => rfl
  have e72 : idx_main_v73 (ix3 s t o) = ix3 s t 0 :=
    funext fun a => match a with | ⟨0, _⟩ => rfl | ⟨1, _⟩ => rfl | ⟨2, _⟩ => rfl
  have eg : idx_main_v75 (idx_main_v76 (idx_main_v77 (ix3 s t o))) = ix2 0 o :=
    funext fun a => Fin.ext (match a with | ⟨0, _⟩ => rfl | ⟨1, _⟩ => by show o.val % 1024 = o.val; omega)
  have eb : idx_main_v79 (idx_main_v80 (idx_main_v81 (ix3 s t o))) = ix2 0 o :=
    funext fun a => Fin.ext (match a with | ⟨0, _⟩ => rfl | ⟨1, _⟩ => by show o.val % 1024 = o.val; omega)
  rw [val_main_v82_apply, val_main_v78_apply, val_main_v74_apply, val_main_v69_apply, val_main_v68_apply, e67, rmean_apply,
    val_main_v73_apply, e72, val_main_v72_apply, val_main_v71_apply, rvar_apply, val_main_v70_apply, val_main_cst_8_apply,
    val_main_v77_apply, val_main_v76_apply, val_main_v75_apply, eg, val_main_v81_apply, val_main_v80_apply, val_main_v79_apply, eb, rpre_apply]
  rfl

theorem ref_y_fun : val_main_v83 (F := Ideal) x st wu bu wc bc wd g be = fun i => yS x st wu bu wc bc wd g be (smp (i 0)) (stp (i 0)) (i 1) := by
  funext i
  idx_vars i
  have e : idx_main_v83 (ix2 i0 i1) = ix3 (smp i0) (stp i0) i1 := funext fun a => Fin.ext (match a with
    | ⟨0, _⟩ => by show (i0.val * 1024 + i1.val) / 8192 = i0.val / 8; omega
    | ⟨1, _⟩ => by show (i0.val * 1024 + i1.val) / 1024 % 8 = i0.val % 8; omega
    | ⟨2, _⟩ => by show (i0.val * 1024 + i1.val) % 1024 = i1.val; omega)
  rw [val_main_v83_apply, e]
  exact ref_y x st wu bu wc bc wd g be _ _ i1

theorem ref_up_fun : val_main_v84 (F := Ideal) x wu bu = fun i => up x wu bu (smp (i 0)) (stp (i 0)) (i 1) := by
  funext i
  idx_vars i
  have e : idx_main_v84 (ix2 i0 i1) = ix3 (smp i0) (stp i0) i1 := funext fun a => Fin.ext (match a with
    | ⟨0, _⟩ => by show (i0.val * 5632 + i1.val) / 45056 = i0.val / 8; omega
    | ⟨1, _⟩ => by show (i0.val * 5632 + i1.val) / 5632 % 8 = i0.val % 8; omega
    | ⟨2, _⟩ => by show (i0.val * 5632 + i1.val) % 5632 = i1.val; omega)
  rw [val_main_v84_apply, e]
  exact r6_apply x wu bu _ _ i1

end Cert.FfnSVal

end
-- ==== Proof.FfnSClaim.lean ====
/-
The claims about the feed-forward block of the samples.
-/
module

public import proofs.«01_k».proof.Defs
public import proofs.«01_k».proof.Proof.FfnSRefVal
public import proofs.«01_k».proof.Proof.Gen.FfnS.Frame
public import Idealize.ShloMosaic.Lib.Quiescent

@[expose] public section

set_option maxRecDepth 16384

noncomputable section

open Idealize.ShloMosaic Idealize.ShloMosaic.TcCoe Idealize.SL.Sem

namespace Cert.FfnSVal

theorem frame_p : Cert.quiescent_FfnS := fun m ρ _ => Cert.FfnS.Gen.frame m ρ
theorem frame_pi : Cert.quiescent_FfnSIdeal := fun m ρ _ => Cert.FfnSIdeal.Gen.frame m ρ
theorem frame_ri : Cert.quiescent_FfnSRefIdeal := fun m ρ _ =>
  (θ_run Cert.FfnSRefIdeal.defs _ _).mono (fun r h => ⟨fun c => (h c).2.2,
      Idealize.ShloMosaic.sem_eq_zero_of_no_sems (by decide) r.2⟩)
    (Cert.FfnSRefIdeal.Value.run (F := Ideal) m ρ)

theorem preserves : Cert.preserves_FfnS_FfnSIdeal := trivial

set_option maxHeartbeats 2000000 in
/-- The kernel's results are the reference's. -/
theorem algebraic : Cert.algebraic_FfnSIdeal_FfnSRefIdeal := by
  intro m ρ m' ρ' _ hagree
  refine ⟨_, _, Cert.FfnSIdeal.Value.run_blocks (F := Ideal) m ρ, ?_⟩
  refine (θ_run Cert.FfnSRefIdeal.defs _ _).mono (fun _ h c => ⟨(h c).1.trans ?_, (h c).2.1.trans ?_, (h c).2.2⟩)
    (Cert.FfnSRefIdeal.Value.run (F := Ideal) m' ρ')
  · obtain ⟨e0, e1, e2, e3, e4, e5, e6, e7, e8⟩ := hagree c
    rw [final9]
    refine (Cert.FfnSRefIdeal.Read.val_main_v83_eq _).trans ?_
    have h0 : StableHlo.launchContents m' c (Proc.devRef .tc Cert.FfnSRefIdeal.main_arg0) = argX m c := e0
    have h1 : StableHlo.launchContents m' c (Proc.devRef .tc Cert.FfnSRefIdeal.main_arg1) = argS m c := e1
    have h2 : StableHlo.launchContents m' c (Proc.devRef .tc Cert.FfnSRefIdeal.main_arg2) = argWu m c := e2
    have h3 : StableHlo.launchContents m' c (Proc.devRef .tc Cert.FfnSRefIdeal.main_arg3) = argBu m c := e3
    have h4 : StableHlo.launchContents m' c (Proc.devRef .tc Cert.FfnSRefIdeal.main_arg4) = argWc m c := e4
    have h5 : StableHlo.launchContents m' c (Proc.devRef .tc Cert.FfnSRefIdeal.main_arg5) = argBc m c := e5
    have h6 : StableHlo.launchContents m' c (Proc.devRef .tc Cert.FfnSRefIdeal.main_arg6) = argWd m c := e6
    have h7 : StableHlo.launchContents m' c (Proc.devRef .tc Cert.FfnSRefIdeal.main_arg7) = argG m c := e7
    have h8 : StableHlo.launchContents m' c (Proc.devRef .tc Cert.FfnSRefIdeal.main_arg8) = argB m c := e8
    rw [h0, h1, h2, h3, h4, h5, h6, h7, h8]
    exact ref_y_fun _ _ _ _ _ _ _ _ _
  · obtain ⟨e0, e1, e2, e3, e4, e5, e6, e7, e8⟩ := hagree c
    rw [final10]
    refine (Cert.FfnSRefIdeal.Read.val_main_v84_eq _).trans ?_
    have h0 : StableHlo.launchContents m' c (Proc.devRef .tc Cert.FfnSRefIdeal.main_arg0) = argX m c := e0
    have h2 : StableHlo.launchContents m' c (Proc.devRef .tc Cert.FfnSRefIdeal.main_arg2) = argWu m c := e2
    have h3 : StableHlo.launchContents m' c (Proc.devRef .tc Cert.FfnSRefIdeal.main_arg3) = argBu m c := e3
    rw [h0, h2, h3]
    exact ref_up_fun _ _ _

end Cert.FfnSVal

end
-- ==== Proof.lean ====
module

public import proofs.«01_k».proof.Defs
public import proofs.«01_k».proof.Proof.Gen.Attn
public import proofs.«01_k».proof.Proof.Gen.AttnIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.AttnRefIdeal
public import proofs.«01_k».proof.Proof.Gen.Pre_finite_scores
public import proofs.«01_k».proof.Proof.AttnClaim
public import proofs.«01_k».proof.Proof.FfnClaim
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjClaim
public import proofs.«01_k».proof.Proof.Gen.ProjS.Frame
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.ProjSClaim
public import proofs.«01_k».proof.Proof.Gen.FfnS.Frame
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.FfnSClaim
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.Proj.Gen.facts, Cert.ProjIdeal.Gen.facts, Cert.ProjRefIdeal.Gen.facts,
    Cert.ProjS.Gen.facts, Cert.ProjSIdeal.Gen.facts, Cert.ProjSRefIdeal.Gen.facts,
    Cert.FfnS.Gen.facts, Cert.FfnSIdeal.Gen.facts, Cert.FfnSRefIdeal.Gen.facts, Cert.Pre_finite_scores.Gen.facts,
    Cert.AttnVal.frame_p, Cert.AttnVal.frame_pi, Cert.AttnVal.frame_pi', Cert.AttnVal.frame_ri, Cert.AttnVal.frame_ri',
    Cert.FfnVal.frame_p, Cert.FfnVal.frame_pi, Cert.FfnVal.frame_ri,
    Cert.ProjVal.frame_p, Cert.ProjVal.frame_pi, Cert.ProjVal.frame_ri,
    Cert.ProjSVal.frame_p, Cert.ProjSVal.frame_pi, Cert.ProjSVal.frame_ri,
    Cert.FfnSVal.frame_p, Cert.FfnSVal.frame_pi, Cert.FfnSVal.frame_ri,
    Cert.AttnVal.preserves, Cert.AttnVal.algebraic, Cert.FfnVal.preserves, Cert.FfnVal.algebraic,
    Cert.ProjVal.preserves, Cert.ProjVal.algebraic, Cert.ProjSVal.preserves, Cert.ProjSVal.algebraic,
    Cert.FfnSVal.preserves, Cert.FfnSVal.algebraic⟩

end Cert.Proof

end
